-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_laid_out [hPre_laid_out : Cert.Pre_laid_out.Facts] (m : (ℓ : Loc Cert.KernelIdeal.nD Cert.KernelIdeal.τ Cert.KernelIdeal.sig) → Buf (Elt Ideal) ℓ) : Prop :=
  ∀ c : Dev Cert.KernelIdeal.nD,
    (Cert.Pre_laid_out.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_laid_out [hPre_laid_out : Cert.Pre_laid_out.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_laid_out.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_Smp (m : (ℓ : Loc Cert.Smp.nD Cert.Smp.τ Cert.Smp.sig) → Buf (Elt Bits) ℓ) : Prop :=
  True

def Pre_SmpIdeal (m : (ℓ : Loc Cert.SmpIdeal.nD Cert.SmpIdeal.τ Cert.SmpIdeal.sig) → Buf (Elt Ideal) ℓ) : Prop :=
  True

def Pre_SmpReferenceIdeal (m : (ℓ : Loc Cert.SmpReferenceIdeal.nD Cert.SmpReferenceIdeal.τ Cert.SmpReferenceIdeal.sig) → Buf (Elt Ideal) ℓ) : Prop :=
  True

def Pre_SmpIn (m : (ℓ : Loc Cert.SmpIn.nD Cert.SmpIn.τ Cert.SmpIn.sig) → Buf (Elt Bits) ℓ) : Prop :=
  True

def Pre_SmpInIdeal (m : (ℓ : Loc Cert.SmpInIdeal.nD Cert.SmpInIdeal.τ Cert.SmpInIdeal.sig) → Buf (Elt Ideal) ℓ) : Prop :=
  True

def Pre_SmpInReferenceIdeal (m : (ℓ : Loc Cert.SmpInReferenceIdeal.nD Cert.SmpInReferenceIdeal.τ Cert.SmpInReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_laid_out [hKernelIdeal : Cert.KernelIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_laid_out m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_laid_out [hReferenceIdeal : Cert.ReferenceIdeal.Facts] [hPre_laid_out : Cert.Pre_laid_out.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_laid_out m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6)
      ∧ r.2.mem ((c.tc : Thread Cert.InReferenceIdeal.nD Cert.InReferenceIdeal.τ).loc Cert.InReferenceIdeal.main_arg7) = m ((c.tc : Thread Cert.InReferenceIdeal.nD Cert.InReferenceIdeal.τ).loc Cert.InReferenceIdeal.main_arg7))
      ∧ r.2.sem = fun _ => 0)

def quiescent_Smp [hSmp : Cert.Smp.Facts] : Prop :=
  ∀ (m : (ℓ : Loc Cert.Smp.nD Cert.Smp.τ Cert.Smp.sig) → Buf (Elt Bits) ℓ) (g : Dev Cert.Smp.nD → PrngReg), Pre_Smp m →
    θ_run (Cert.Smp.defs (F := Bits)) (onTc (τ := Cert.Smp.τ) (Cert.Smp.main (F := Bits))) ⟨m, fun _ => 0, g⟩ (fun r => (∀ c : Dev Cert.Smp.nD,
      r.2.mem ((c.tc : Thread Cert.Smp.nD Cert.Smp.τ).loc Cert.Smp.main_arg0) = m ((c.tc : Thread Cert.Smp.nD Cert.Smp.τ).loc Cert.Smp.main_arg0)
      ∧ r.2.mem ((c.tc : Thread Cert.Smp.nD Cert.Smp.τ).loc Cert.Smp.main_arg1) = m ((c.tc : Thread Cert.Smp.nD Cert.Smp.τ).loc Cert.Smp.main_arg1)
      ∧ r.2.mem ((c.tc : Thread Cert.Smp.nD Cert.Smp.τ).loc Cert.Smp.main_arg2) = m ((c.tc : Thread Cert.Smp.nD Cert.Smp.τ).loc Cert.Smp.main_arg2)
      ∧ r.2.mem ((c.tc : Thread Cert.Smp.nD Cert.Smp.τ).loc Cert.Smp.main_arg3) = m ((c.tc : Thread Cert.Smp.nD Cert.Smp.τ).loc Cert.Smp.main_arg3)
      ∧ r.2.mem ((c.tc : Thread Cert.Smp.nD Cert.Smp.τ).loc Cert.Smp.main_arg4) = m ((c.tc : Thread Cert.Smp.nD Cert.Smp.τ).loc Cert.Smp.main_arg4)
      ∧ r.2.mem ((c.tc : Thread Cert.Smp.nD Cert.Smp.τ).loc Cert.Smp.main_arg5) = m ((c.tc : Thread Cert.Smp.nD Cert.Smp.τ).loc Cert.Smp.main_arg5)
      ∧ r.2.mem ((c.tc : Thread Cert.Smp.nD Cert.Smp.τ).loc Cert.Smp.main_arg6) = m ((c.tc : Thread Cert.Smp.nD Cert.Smp.τ).loc Cert.Smp.main_arg6)
      ∧ r.2.mem ((c.tc : Thread Cert.Smp.nD Cert.Smp.τ).loc Cert.Smp.main_arg7) = m ((c.tc : Thread Cert.Smp.nD Cert.Smp.τ).loc Cert.Smp.main_arg7)
      ∧ r.2.mem ((c.tc : Thread Cert.Smp.nD Cert.Smp.τ).loc Cert.Smp.main_arg8) = m ((c.tc : Thread Cert.Smp.nD Cert.Smp.τ).loc Cert.Smp.main_arg8))
      ∧ r.2.sem = fun _ => 0)

def quiescent_SmpIdeal [hSmpIdeal : Cert.SmpIdeal.Facts] : Prop :=
  ∀ (m : (ℓ : Loc Cert.SmpIdeal.nD Cert.SmpIdeal.τ Cert.SmpIdeal.sig) → Buf (Elt Ideal) ℓ) (g : Dev Cert.SmpIdeal.nD → PrngReg), Pre_SmpIdeal m →
    θ_run (Cert.SmpIdeal.defs (F := Ideal)) (onTc (τ := Cert.SmpIdeal.τ) (Cert.SmpIdeal.main (F := Ideal))) ⟨m, fun _ => 0, g⟩ (fun r => (∀ c : Dev Cert.SmpIdeal.nD,
      r.2.mem ((c.tc : Thread Cert.SmpIdeal.nD Cert.SmpIdeal.τ).loc Cert.SmpIdeal.main_arg0) = m ((c.tc : Thread Cert.SmpIdeal.nD Cert.SmpIdeal.τ).loc Cert.SmpIdeal.main_arg0)
      ∧ r.2.mem ((c.tc : Thread Cert.SmpIdeal.nD Cert.SmpIdeal.τ).loc Cert.SmpIdeal.main_arg1) = m ((c.tc : Thread Cert.SmpIdeal.nD Cert.SmpIdeal.τ).loc Cert.SmpIdeal.main_arg1)
      ∧ r.2.mem ((c.tc : Thread Cert.SmpIdeal.nD Cert.SmpIdeal.τ).loc Cert.SmpIdeal.main_arg2) = m ((c.tc : Thread Cert.SmpIdeal.nD Cert.SmpIdeal.τ).loc Cert.SmpIdeal.main_arg2)
      ∧ r.2.mem ((c.tc : Thread Cert.SmpIdeal.nD Cert.SmpIdeal.τ).loc Cert.SmpIdeal.main_arg3) = m ((c.tc : Thread Cert.SmpIdeal.nD Cert.SmpIdeal.τ).loc Cert.SmpIdeal.main_arg3)
      ∧ r.2.mem ((c.tc : Thread Cert.SmpIdeal.nD Cert.SmpIdeal.τ).loc Cert.SmpIdeal.main_arg4) = m ((c.tc : Thread Cert.SmpIdeal.nD Cert.SmpIdeal.τ).loc Cert.SmpIdeal.main_arg4)
      ∧ r.2.mem ((c.tc : Thread Cert.SmpIdeal.nD Cert.SmpIdeal.τ).loc Cert.SmpIdeal.main_arg5) = m ((c.tc : Thread Cert.SmpIdeal.nD Cert.SmpIdeal.τ).loc Cert.SmpIdeal.main_arg5)
      ∧ r.2.mem ((c.tc : Thread Cert.SmpIdeal.nD Cert.SmpIdeal.τ).loc Cert.SmpIdeal.main_arg6) = m ((c.tc : Thread Cert.SmpIdeal.nD Cert.SmpIdeal.τ).loc Cert.SmpIdeal.main_arg6)
      ∧ r.2.mem ((c.tc : Thread Cert.SmpIdeal.nD Cert.SmpIdeal.τ).loc Cert.SmpIdeal.main_arg7) = m ((c.tc : Thread Cert.SmpIdeal.nD Cert.SmpIdeal.τ).loc Cert.SmpIdeal.main_arg7)
      ∧ r.2.mem ((c.tc : Thread Cert.SmpIdeal.nD Cert.SmpIdeal.τ).loc Cert.SmpIdeal.main_arg8) = m ((c.tc : Thread Cert.SmpIdeal.nD Cert.SmpIdeal.τ).loc Cert.SmpIdeal.main_arg8))
      ∧ r.2.sem = fun _ => 0)

def quiescent_SmpReferenceIdeal [hSmpReferenceIdeal : Cert.SmpReferenceIdeal.Facts] : Prop :=
  ∀ (m : (ℓ : Loc Cert.SmpReferenceIdeal.nD Cert.SmpReferenceIdeal.τ Cert.SmpReferenceIdeal.sig) → Buf (Elt Ideal) ℓ) (g : Dev Cert.SmpReferenceIdeal.nD → PrngReg), Pre_SmpReferenceIdeal m →
    θ_run (Cert.SmpReferenceIdeal.defs (F := Ideal)) (onTc (τ := Cert.SmpReferenceIdeal.τ) (Cert.SmpReferenceIdeal.main (F := Ideal))) ⟨m, fun _ => 0, g⟩ (fun r => (∀ c : Dev Cert.SmpReferenceIdeal.nD,
      r.2.mem ((c.tc : Thread Cert.SmpReferenceIdeal.nD Cert.SmpReferenceIdeal.τ).loc Cert.SmpReferenceIdeal.main_arg0) = m ((c.tc : Thread Cert.SmpReferenceIdeal.nD Cert.SmpReferenceIdeal.τ).loc Cert.SmpReferenceIdeal.main_arg0)
      ∧ r.2.mem ((c.tc : Thread Cert.SmpReferenceIdeal.nD Cert.SmpReferenceIdeal.τ).loc Cert.SmpReferenceIdeal.main_arg1) = m ((c.tc : Thread Cert.SmpReferenceIdeal.nD Cert.SmpReferenceIdeal.τ).loc Cert.SmpReferenceIdeal.main_arg1)
      ∧ r.2.mem ((c.tc : Thread Cert.SmpReferenceIdeal.nD Cert.SmpReferenceIdeal.τ).loc Cert.SmpReferenceIdeal.main_arg2) = m ((c.tc : Thread Cert.SmpReferenceIdeal.nD Cert.SmpReferenceIdeal.τ).loc Cert.SmpReferenceIdeal.main_arg2)
      ∧ r.2.mem ((c.tc : Thread Cert.SmpReferenceIdeal.nD Cert.SmpReferenceIdeal.τ).loc Cert.SmpReferenceIdeal.main_arg3) = m ((c.tc : Thread Cert.SmpReferenceIdeal.nD Cert.SmpReferenceIdeal.τ).loc Cert.SmpReferenceIdeal.main_arg3)
      ∧ r.2.mem ((c.tc : Thread Cert.SmpReferenceIdeal.nD Cert.SmpReferenceIdeal.τ).loc Cert.SmpReferenceIdeal.main_arg4) = m ((c.tc : Thread Cert.SmpReferenceIdeal.nD Cert.SmpReferenceIdeal.τ).loc Cert.SmpReferenceIdeal.main_arg4)
      ∧ r.2.mem ((c.tc : Thread Cert.SmpReferenceIdeal.nD Cert.SmpReferenceIdeal.τ).loc Cert.SmpReferenceIdeal.main_arg5) = m ((c.tc : Thread Cert.SmpReferenceIdeal.nD Cert.SmpReferenceIdeal.τ).loc Cert.SmpReferenceIdeal.main_arg5)
      ∧ r.2.mem ((c.tc : Thread Cert.SmpReferenceIdeal.nD Cert.SmpReferenceIdeal.τ).loc Cert.SmpReferenceIdeal.main_arg6) = m ((c.tc : Thread Cert.SmpReferenceIdeal.nD Cert.SmpReferenceIdeal.τ).loc Cert.SmpReferenceIdeal.main_arg6)
      ∧ r.2.mem ((c.tc : Thread Cert.SmpReferenceIdeal.nD Cert.SmpReferenceIdeal.τ).loc Cert.SmpReferenceIdeal.main_arg7) = m ((c.tc : Thread Cert.SmpReferenceIdeal.nD Cert.SmpReferenceIdeal.τ).loc Cert.SmpReferenceIdeal.main_arg7)
      ∧ r.2.mem ((c.tc : Thread Cert.SmpReferenceIdeal.nD Cert.SmpReferenceIdeal.τ).loc Cert.SmpReferenceIdeal.main_arg8) = m ((c.tc : Thread Cert.SmpReferenceIdeal.nD Cert.SmpReferenceIdeal.τ).loc Cert.SmpReferenceIdeal.main_arg8))
      ∧ r.2.sem = fun _ => 0)

def quiescent_SmpIn [hSmpIn : Cert.SmpIn.Facts] : Prop :=
  ∀ (m : (ℓ : Loc Cert.SmpIn.nD Cert.SmpIn.τ Cert.SmpIn.sig) → Buf (Elt Bits) ℓ) (g : Dev Cert.SmpIn.nD → PrngReg), Pre_SmpIn m →
    θ_run (Cert.SmpIn.defs (F := Bits)) (onTc (τ := Cert.SmpIn.τ) (Cert.SmpIn.main (F := Bits))) ⟨m, fun _ => 0, g⟩ (fun r => (∀ c : Dev Cert.SmpIn.nD,
      r.2.mem ((c.tc : Thread Cert.SmpIn.nD Cert.SmpIn.τ).loc Cert.SmpIn.main_arg0) = m ((c.tc : Thread Cert.SmpIn.nD Cert.SmpIn.τ).loc Cert.SmpIn.main_arg0)
      ∧ r.2.mem ((c.tc : Thread Cert.SmpIn.nD Cert.SmpIn.τ).loc Cert.SmpIn.main_arg1) = m ((c.tc : Thread Cert.SmpIn.nD Cert.SmpIn.τ).loc Cert.SmpIn.main_arg1)
      ∧ r.2.mem ((c.tc : Thread Cert.SmpIn.nD Cert.SmpIn.τ).loc Cert.SmpIn.main_arg2) = m ((c.tc : Thread Cert.SmpIn.nD Cert.SmpIn.τ).loc Cert.SmpIn.main_arg2)
      ∧ r.2.mem ((c.tc : Thread Cert.SmpIn.nD Cert.SmpIn.τ).loc Cert.SmpIn.main_arg3) = m ((c.tc : Thread Cert.SmpIn.nD Cert.SmpIn.τ).loc Cert.SmpIn.main_arg3)
      ∧ r.2.mem ((c.tc : Thread Cert.SmpIn.nD Cert.SmpIn.τ).loc Cert.SmpIn.main_arg4) = m ((c.tc : Thread Cert.SmpIn.nD Cert.SmpIn.τ).loc Cert.SmpIn.main_arg4)
      ∧ r.2.mem ((c.tc : Thread Cert.SmpIn.nD Cert.SmpIn.τ).loc Cert.SmpIn.main_arg5) = m ((c.tc : Thread Cert.SmpIn.nD Cert.SmpIn.τ).loc Cert.SmpIn.main_arg5)
      ∧ r.2.mem ((c.tc : Thread Cert.SmpIn.nD Cert.SmpIn.τ).loc Cert.SmpIn.main_arg6) = m ((c.tc : Thread Cert.SmpIn.nD Cert.SmpIn.τ).loc Cert.SmpIn.main_arg6)
      ∧ r.2.mem ((c.tc : Thread Cert.SmpIn.nD Cert.SmpIn.τ).loc Cert.SmpIn.main_arg7) = m ((c.tc : Thread Cert.SmpIn.nD Cert.SmpIn.τ).loc Cert.SmpIn.main_arg7)
      ∧ r.2.mem ((c.tc : Thread Cert.SmpIn.nD Cert.SmpIn.τ).loc Cert.SmpIn.main_arg8) = m ((c.tc : Thread Cert.SmpIn.nD Cert.SmpIn.τ).loc Cert.SmpIn.main_arg8))
      ∧ r.2.sem = fun _ => 0)

def quiescent_SmpInIdeal [hSmpInIdeal : Cert.SmpInIdeal.Facts] : Prop :=
  ∀ (m : (ℓ : Loc Cert.SmpInIdeal.nD Cert.SmpInIdeal.τ Cert.SmpInIdeal.sig) → Buf (Elt Ideal) ℓ) (g : Dev Cert.SmpInIdeal.nD → PrngReg), Pre_SmpInIdeal m →
    θ_run (Cert.SmpInIdeal.defs (F := Ideal)) (onTc (τ := Cert.SmpInIdeal.τ) (Cert.SmpInIdeal.main (F := Ideal))) ⟨m, fun _ => 0, g⟩ (fun r => (∀ c : Dev Cert.SmpInIdeal.nD,
      r.2.mem ((c.tc : Thread Cert.SmpInIdeal.nD Cert.SmpInIdeal.τ).loc Cert.SmpInIdeal.main_arg0) = m ((c.tc : Thread Cert.SmpInIdeal.nD Cert.SmpInIdeal.τ).loc Cert.SmpInIdeal.main_arg0)
      ∧ r.2.mem ((c.tc : Thread Cert.SmpInIdeal.nD Cert.SmpInIdeal.τ).loc Cert.SmpInIdeal.main_arg1) = m ((c.tc : Thread Cert.SmpInIdeal.nD Cert.SmpInIdeal.τ).loc Cert.SmpInIdeal.main_arg1)
      ∧ r.2.mem ((c.tc : Thread Cert.SmpInIdeal.nD Cert.SmpInIdeal.τ).loc Cert.SmpInIdeal.main_arg2) = m ((c.tc : Thread Cert.SmpInIdeal.nD Cert.SmpInIdeal.τ).loc Cert.SmpInIdeal.main_arg2)
      ∧ r.2.mem ((c.tc : Thread Cert.SmpInIdeal.nD Cert.SmpInIdeal.τ).loc Cert.SmpInIdeal.main_arg3) = m ((c.tc : Thread Cert.SmpInIdeal.nD Cert.SmpInIdeal.τ).loc Cert.SmpInIdeal.main_arg3)
      ∧ r.2.mem ((c.tc : Thread Cert.SmpInIdeal.nD Cert.SmpInIdeal.τ).loc Cert.SmpInIdeal.main_arg4) = m ((c.tc : Thread Cert.SmpInIdeal.nD Cert.SmpInIdeal.τ).loc Cert.SmpInIdeal.main_arg4)
      ∧ r.2.mem ((c.tc : Thread Cert.SmpInIdeal.nD Cert.SmpInIdeal.τ).loc Cert.SmpInIdeal.main_arg5) = m ((c.tc : Thread Cert.SmpInIdeal.nD Cert.SmpInIdeal.τ).loc Cert.SmpInIdeal.main_arg5)
      ∧ r.2.mem ((c.tc : Thread Cert.SmpInIdeal.nD Cert.SmpInIdeal.τ).loc Cert.SmpInIdeal.main_arg6) = m ((c.tc : Thread Cert.SmpInIdeal.nD Cert.SmpInIdeal.τ).loc Cert.SmpInIdeal.main_arg6)
      ∧ r.2.mem ((c.tc : Thread Cert.SmpInIdeal.nD Cert.SmpInIdeal.τ).loc Cert.SmpInIdeal.main_arg7) = m ((c.tc : Thread Cert.SmpInIdeal.nD Cert.SmpInIdeal.τ).loc Cert.SmpInIdeal.main_arg7)
      ∧ r.2.mem ((c.tc : Thread Cert.SmpInIdeal.nD Cert.SmpInIdeal.τ).loc Cert.SmpInIdeal.main_arg8) = m ((c.tc : Thread Cert.SmpInIdeal.nD Cert.SmpInIdeal.τ).loc Cert.SmpInIdeal.main_arg8))
      ∧ r.2.sem = fun _ => 0)

def quiescent_SmpInReferenceIdeal [hSmpInReferenceIdeal : Cert.SmpInReferenceIdeal.Facts] : Prop :=
  ∀ (m : (ℓ : Loc Cert.SmpInReferenceIdeal.nD Cert.SmpInReferenceIdeal.τ Cert.SmpInReferenceIdeal.sig) → Buf (Elt Ideal) ℓ) (g : Dev Cert.SmpInReferenceIdeal.nD → PrngReg), Pre_SmpInReferenceIdeal m →
    θ_run (Cert.SmpInReferenceIdeal.defs (F := Ideal)) (onTc (τ := Cert.SmpInReferenceIdeal.τ) (Cert.SmpInReferenceIdeal.main (F := Ideal))) ⟨m, fun _ => 0, g⟩ (fun r => (∀ c : Dev Cert.SmpInReferenceIdeal.nD,
      r.2.mem ((c.tc : Thread Cert.SmpInReferenceIdeal.nD Cert.SmpInReferenceIdeal.τ).loc Cert.SmpInReferenceIdeal.main_arg0) = m ((c.tc : Thread Cert.SmpInReferenceIdeal.nD Cert.SmpInReferenceIdeal.τ).loc Cert.SmpInReferenceIdeal.main_arg0)
      ∧ r.2.mem ((c.tc : Thread Cert.SmpInReferenceIdeal.nD Cert.SmpInReferenceIdeal.τ).loc Cert.SmpInReferenceIdeal.main_arg1) = m ((c.tc : Thread Cert.SmpInReferenceIdeal.nD Cert.SmpInReferenceIdeal.τ).loc Cert.SmpInReferenceIdeal.main_arg1)
      ∧ r.2.mem ((c.tc : Thread Cert.SmpInReferenceIdeal.nD Cert.SmpInReferenceIdeal.τ).loc Cert.SmpInReferenceIdeal.main_arg2) = m ((c.tc : Thread Cert.SmpInReferenceIdeal.nD Cert.SmpInReferenceIdeal.τ).loc Cert.SmpInReferenceIdeal.main_arg2)
      ∧ r.2.mem ((c.tc : Thread Cert.SmpInReferenceIdeal.nD Cert.SmpInReferenceIdeal.τ).loc Cert.SmpInReferenceIdeal.main_arg3) = m ((c.tc : Thread Cert.SmpInReferenceIdeal.nD Cert.SmpInReferenceIdeal.τ).loc Cert.SmpInReferenceIdeal.main_arg3)
      ∧ r.2.mem ((c.tc : Thread Cert.SmpInReferenceIdeal.nD Cert.SmpInReferenceIdeal.τ).loc Cert.SmpInReferenceIdeal.main_arg4) = m ((c.tc : Thread Cert.SmpInReferenceIdeal.nD Cert.SmpInReferenceIdeal.τ).loc Cert.SmpInReferenceIdeal.main_arg4)
      ∧ r.2.mem ((c.tc : Thread Cert.SmpInReferenceIdeal.nD Cert.SmpInReferenceIdeal.τ).loc Cert.SmpInReferenceIdeal.main_arg5) = m ((c.tc : Thread Cert.SmpInReferenceIdeal.nD Cert.SmpInReferenceIdeal.τ).loc Cert.SmpInReferenceIdeal.main_arg5)
      ∧ r.2.mem ((c.tc : Thread Cert.SmpInReferenceIdeal.nD Cert.SmpInReferenceIdeal.τ).loc Cert.SmpInReferenceIdeal.main_arg6) = m ((c.tc : Thread Cert.SmpInReferenceIdeal.nD Cert.SmpInReferenceIdeal.τ).loc Cert.SmpInReferenceIdeal.main_arg6)
      ∧ r.2.mem ((c.tc : Thread Cert.SmpInReferenceIdeal.nD Cert.SmpInReferenceIdeal.τ).loc Cert.SmpInReferenceIdeal.main_arg7) = m ((c.tc : Thread Cert.SmpInReferenceIdeal.nD Cert.SmpInReferenceIdeal.τ).loc Cert.SmpInReferenceIdeal.main_arg7)
      ∧ r.2.mem ((c.tc : Thread Cert.SmpInReferenceIdeal.nD Cert.SmpInReferenceIdeal.τ).loc Cert.SmpInReferenceIdeal.main_arg8) = m ((c.tc : Thread Cert.SmpInReferenceIdeal.nD Cert.SmpInReferenceIdeal.τ).loc Cert.SmpInReferenceIdeal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_laid_out [hKernelIdeal : Cert.KernelIdeal.Facts] [hReferenceIdeal : Cert.ReferenceIdeal.Facts] [hPre_laid_out : Cert.Pre_laid_out.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_laid_out m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v4_0)) (v1 : (c : Dev Cert.MixIdeal.nD) → Buf (Elt Ideal) ((c.tc : Thread Cert.MixIdeal.nD Cert.MixIdeal.τ).loc Cert.MixIdeal.main_v4_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4_0) = v0 c
          ∧ r.2.mem ((c.tc : Thread Cert.MixIdeal.nD Cert.MixIdeal.τ).loc Cert.MixIdeal.main_v4_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v45) = v0 c
          ∧ r.2.mem ((c.tc : Thread Cert.MixReferenceIdeal.nD Cert.MixReferenceIdeal.τ).loc Cert.MixReferenceIdeal.main_v46) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)
      ∧ m' ((c.tc : Thread Cert.InReferenceIdeal.nD Cert.InReferenceIdeal.τ).loc Cert.InReferenceIdeal.main_arg3) = m ((c.tc : Thread Cert.InIdeal.nD Cert.InIdeal.τ).loc Cert.InIdeal.main_arg3)
      ∧ m' ((c.tc : Thread Cert.InReferenceIdeal.nD Cert.InReferenceIdeal.τ).loc Cert.InReferenceIdeal.main_arg4) = m ((c.tc : Thread Cert.InIdeal.nD Cert.InIdeal.τ).loc Cert.InIdeal.main_arg4)
      ∧ m' ((c.tc : Thread Cert.InReferenceIdeal.nD Cert.InReferenceIdeal.τ).loc Cert.InReferenceIdeal.main_arg5) = m ((c.tc : Thread Cert.InIdeal.nD Cert.InIdeal.τ).loc Cert.InIdeal.main_arg5)
      ∧ m' ((c.tc : Thread Cert.InReferenceIdeal.nD Cert.InReferenceIdeal.τ).loc Cert.InReferenceIdeal.main_arg6) = m ((c.tc : Thread Cert.InIdeal.nD Cert.InIdeal.τ).loc Cert.InIdeal.main_arg6)
      ∧ m' ((c.tc : Thread Cert.InReferenceIdeal.nD Cert.InReferenceIdeal.τ).loc Cert.InReferenceIdeal.main_arg7) = m ((c.tc : Thread Cert.InIdeal.nD Cert.InIdeal.τ).loc Cert.InIdeal.main_arg7)) →
    ∃ (v0 : (c : Dev Cert.InIdeal.nD) → Buf (Elt Ideal) ((c.tc : Thread Cert.InIdeal.nD Cert.InIdeal.τ).loc Cert.InIdeal.main_v28_0)) (v1 : (c : Dev Cert.InIdeal.nD) → Buf (Elt Ideal) ((c.tc : Thread Cert.InIdeal.nD Cert.InIdeal.τ).loc Cert.InIdeal.main_v28_1)) (v2 : (c : Dev Cert.InIdeal.nD) → Buf (Elt Ideal) ((c.tc : Thread Cert.InIdeal.nD Cert.InIdeal.τ).loc Cert.InIdeal.main_v28_2)) (v3 : (c : Dev Cert.InIdeal.nD) → Buf (Elt Ideal) ((c.tc : Thread Cert.InIdeal.nD Cert.InIdeal.τ).loc Cert.InIdeal.main_v28_3)) (v4 : (c : Dev Cert.InIdeal.nD) → Buf (Elt Ideal) ((c.tc : Thread Cert.InIdeal.nD Cert.InIdeal.τ).loc Cert.InIdeal.main_v28_4)) (v5 : (c : Dev Cert.InIdeal.nD) → Buf (Elt Ideal) ((c.tc : Thread Cert.InIdeal.nD Cert.InIdeal.τ).loc Cert.InIdeal.main_v28_5)) (v6 : (c : Dev Cert.InIdeal.nD) → Buf (Elt Ideal) ((c.tc : Thread Cert.InIdeal.nD Cert.InIdeal.τ).loc Cert.InIdeal.main_v28_6)) (v7 : (c : Dev Cert.InIdeal.nD) → Buf (Elt Ideal) ((c.tc : Thread Cert.InIdeal.nD Cert.InIdeal.τ).loc Cert.InIdeal.main_v28_7)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v28_0) = v0 c
          ∧ r.2.mem ((c.tc : Thread Cert.InIdeal.nD Cert.InIdeal.τ).loc Cert.InIdeal.main_v28_1) = v1 c
          ∧ r.2.mem ((c.tc : Thread Cert.InIdeal.nD Cert.InIdeal.τ).loc Cert.InIdeal.main_v28_2) = v2 c
          ∧ r.2.mem ((c.tc : Thread Cert.InIdeal.nD Cert.InIdeal.τ).loc Cert.InIdeal.main_v28_3) = v3 c
          ∧ r.2.mem ((c.tc : Thread Cert.InIdeal.nD Cert.InIdeal.τ).loc Cert.InIdeal.main_v28_4) = v4 c
          ∧ r.2.mem ((c.tc : Thread Cert.InIdeal.nD Cert.InIdeal.τ).loc Cert.InIdeal.main_v28_5) = v5 c
          ∧ r.2.mem ((c.tc : Thread Cert.InIdeal.nD Cert.InIdeal.τ).loc Cert.InIdeal.main_v28_6) = v6 c
          ∧ r.2.mem ((c.tc : Thread Cert.InIdeal.nD Cert.InIdeal.τ).loc Cert.InIdeal.main_v28_7) = v7 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v157) = v0 c
          ∧ r.2.mem ((c.tc : Thread Cert.InReferenceIdeal.nD Cert.InReferenceIdeal.τ).loc Cert.InReferenceIdeal.main_v160) = v1 c
          ∧ r.2.mem ((c.tc : Thread Cert.InReferenceIdeal.nD Cert.InReferenceIdeal.τ).loc Cert.InReferenceIdeal.main_v163) = v2 c
          ∧ r.2.mem ((c.tc : Thread Cert.InReferenceIdeal.nD Cert.InReferenceIdeal.τ).loc Cert.InReferenceIdeal.main_v164) = v3 c
          ∧ r.2.mem ((c.tc : Thread Cert.InReferenceIdeal.nD Cert.InReferenceIdeal.τ).loc Cert.InReferenceIdeal.main_v165) = v4 c
          ∧ r.2.mem ((c.tc : Thread Cert.InReferenceIdeal.nD Cert.InReferenceIdeal.τ).loc Cert.InReferenceIdeal.main_v50) = v5 c
          ∧ r.2.mem ((c.tc : Thread Cert.InReferenceIdeal.nD Cert.InReferenceIdeal.τ).loc Cert.InReferenceIdeal.main_v166) = v6 c
          ∧ r.2.mem ((c.tc : Thread Cert.InReferenceIdeal.nD Cert.InReferenceIdeal.τ).loc Cert.InReferenceIdeal.main_v167) = v7 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6)
          ∧ r.2.mem ((c.tc : Thread Cert.InReferenceIdeal.nD Cert.InReferenceIdeal.τ).loc Cert.InReferenceIdeal.main_arg7) = m' ((c.tc : Thread Cert.InReferenceIdeal.nD Cert.InReferenceIdeal.τ).loc Cert.InReferenceIdeal.main_arg7))

def preserves_Smp_SmpIdeal : Prop :=
  True

def algebraic_SmpIdeal_SmpReferenceIdeal [hSmpIdeal : Cert.SmpIdeal.Facts] [hSmpReferenceIdeal : Cert.SmpReferenceIdeal.Facts] : Prop :=
  ∀ (m : (ℓ : Loc Cert.SmpIdeal.nD Cert.SmpIdeal.τ Cert.SmpIdeal.sig) → Buf (Elt Ideal) ℓ) (g : Dev Cert.SmpIdeal.nD → PrngReg)
    (m' : (ℓ : Loc Cert.SmpReferenceIdeal.nD Cert.SmpReferenceIdeal.τ Cert.SmpReferenceIdeal.sig) → Buf (Elt Ideal) ℓ) (g' : Dev Cert.SmpReferenceIdeal.nD → PrngReg), Pre_SmpIdeal m →
    (∀ c : Dev Cert.SmpIdeal.nD,
      m' ((c.tc : Thread Cert.SmpReferenceIdeal.nD Cert.SmpReferenceIdeal.τ).loc Cert.SmpReferenceIdeal.main_arg0) = m ((c.tc : Thread Cert.SmpIdeal.nD Cert.SmpIdeal.τ).loc Cert.SmpIdeal.main_arg0)
      ∧ m' ((c.tc : Thread Cert.SmpReferenceIdeal.nD Cert.SmpReferenceIdeal.τ).loc Cert.SmpReferenceIdeal.main_arg1) = m ((c.tc : Thread Cert.SmpIdeal.nD Cert.SmpIdeal.τ).loc Cert.SmpIdeal.main_arg1)
      ∧ m' ((c.tc : Thread Cert.SmpReferenceIdeal.nD Cert.SmpReferenceIdeal.τ).loc Cert.SmpReferenceIdeal.main_arg2) = m ((c.tc : Thread Cert.SmpIdeal.nD Cert.SmpIdeal.τ).loc Cert.SmpIdeal.main_arg2)
      ∧ m' ((c.tc : Thread Cert.SmpReferenceIdeal.nD Cert.SmpReferenceIdeal.τ).loc Cert.SmpReferenceIdeal.main_arg3) = m ((c.tc : Thread Cert.SmpIdeal.nD Cert.SmpIdeal.τ).loc Cert.SmpIdeal.main_arg3)
      ∧ m' ((c.tc : Thread Cert.SmpReferenceIdeal.nD Cert.SmpReferenceIdeal.τ).loc Cert.SmpReferenceIdeal.main_arg4) = m ((c.tc : Thread Cert.SmpIdeal.nD Cert.SmpIdeal.τ).loc Cert.SmpIdeal.main_arg4)
      ∧ m' ((c.tc : Thread Cert.SmpReferenceIdeal.nD Cert.SmpReferenceIdeal.τ).loc Cert.SmpReferenceIdeal.main_arg5) = m ((c.tc : Thread Cert.SmpIdeal.nD Cert.SmpIdeal.τ).loc Cert.SmpIdeal.main_arg5)
      ∧ m' ((c.tc : Thread Cert.SmpReferenceIdeal.nD Cert.SmpReferenceIdeal.τ).loc Cert.SmpReferenceIdeal.main_arg6) = m ((c.tc : Thread Cert.SmpIdeal.nD Cert.SmpIdeal.τ).loc Cert.SmpIdeal.main_arg6)
      ∧ m' ((c.tc : Thread Cert.SmpReferenceIdeal.nD Cert.SmpReferenceIdeal.τ).loc Cert.SmpReferenceIdeal.main_arg7) = m ((c.tc : Thread Cert.SmpIdeal.nD Cert.SmpIdeal.τ).loc Cert.SmpIdeal.main_arg7)
      ∧ m' ((c.tc : Thread Cert.SmpReferenceIdeal.nD Cert.SmpReferenceIdeal.τ).loc Cert.SmpReferenceIdeal.main_arg8) = m ((c.tc : Thread Cert.SmpIdeal.nD Cert.SmpIdeal.τ).loc Cert.SmpIdeal.main_arg8)) →
    ∃ (v0 : (c : Dev Cert.SmpIdeal.nD) → Buf (Elt Ideal) ((c.tc : Thread Cert.SmpIdeal.nD Cert.SmpIdeal.τ).loc Cert.SmpIdeal.main_v4_0)) (v1 : (c : Dev Cert.SmpIdeal.nD) → Buf (Elt Ideal) ((c.tc : Thread Cert.SmpIdeal.nD Cert.SmpIdeal.τ).loc Cert.SmpIdeal.main_v4_1)),
      θ_run (Cert.SmpIdeal.defs (F := Ideal)) (onTc (τ := Cert.SmpIdeal.τ) (Cert.SmpIdeal.main (F := Ideal))) ⟨m, fun _ => 0, g⟩ (fun r => ∀ c : Dev Cert.SmpIdeal.nD,
          r.2.mem ((c.tc : Thread Cert.SmpIdeal.nD Cert.SmpIdeal.τ).loc Cert.SmpIdeal.main_v4_0) = v0 c
          ∧ r.2.mem ((c.tc : Thread Cert.SmpIdeal.nD Cert.SmpIdeal.τ).loc Cert.SmpIdeal.main_v4_1) = v1 c
          ∧ r.2.mem ((c.tc : Thread Cert.SmpIdeal.nD Cert.SmpIdeal.τ).loc Cert.SmpIdeal.main_arg0) = m ((c.tc : Thread Cert.SmpIdeal.nD Cert.SmpIdeal.τ).loc Cert.SmpIdeal.main_arg0)
          ∧ r.2.mem ((c.tc : Thread Cert.SmpIdeal.nD Cert.SmpIdeal.τ).loc Cert.SmpIdeal.main_arg1) = m ((c.tc : Thread Cert.SmpIdeal.nD Cert.SmpIdeal.τ).loc Cert.SmpIdeal.main_arg1)
          ∧ r.2.mem ((c.tc : Thread Cert.SmpIdeal.nD Cert.SmpIdeal.τ).loc Cert.SmpIdeal.main_arg2) = m ((c.tc : Thread Cert.SmpIdeal.nD Cert.SmpIdeal.τ).loc Cert.SmpIdeal.main_arg2)
          ∧ r.2.mem ((c.tc : Thread Cert.SmpIdeal.nD Cert.SmpIdeal.τ).loc Cert.SmpIdeal.main_arg3) = m ((c.tc : Thread Cert.SmpIdeal.nD Cert.SmpIdeal.τ).loc Cert.SmpIdeal.main_arg3)
          ∧ r.2.mem ((c.tc : Thread Cert.SmpIdeal.nD Cert.SmpIdeal.τ).loc Cert.SmpIdeal.main_arg4) = m ((c.tc : Thread Cert.SmpIdeal.nD Cert.SmpIdeal.τ).loc Cert.SmpIdeal.main_arg4)
          ∧ r.2.mem ((c.tc : Thread Cert.SmpIdeal.nD Cert.SmpIdeal.τ).loc Cert.SmpIdeal.main_arg5) = m ((c.tc : Thread Cert.SmpIdeal.nD Cert.SmpIdeal.τ).loc Cert.SmpIdeal.main_arg5)
          ∧ r.2.mem ((c.tc : Thread Cert.SmpIdeal.nD Cert.SmpIdeal.τ).loc Cert.SmpIdeal.main_arg6) = m ((c.tc : Thread Cert.SmpIdeal.nD Cert.SmpIdeal.τ).loc Cert.SmpIdeal.main_arg6)
          ∧ r.2.mem ((c.tc : Thread Cert.SmpIdeal.nD Cert.SmpIdeal.τ).loc Cert.SmpIdeal.main_arg7) = m ((c.tc : Thread Cert.SmpIdeal.nD Cert.SmpIdeal.τ).loc Cert.SmpIdeal.main_arg7)
          ∧ r.2.mem ((c.tc : Thread Cert.SmpIdeal.nD Cert.SmpIdeal.τ).loc Cert.SmpIdeal.main_arg8) = m ((c.tc : Thread Cert.SmpIdeal.nD Cert.SmpIdeal.τ).loc Cert.SmpIdeal.main_arg8))
      ∧ θ_run (Cert.SmpReferenceIdeal.defs (F := Ideal)) (onTc (τ := Cert.SmpReferenceIdeal.τ) (Cert.SmpReferenceIdeal.main (F := Ideal))) ⟨m', fun _ => 0, g'⟩ (fun r => ∀ c : Dev Cert.SmpReferenceIdeal.nD,
          r.2.mem ((c.tc : Thread Cert.SmpReferenceIdeal.nD Cert.SmpReferenceIdeal.τ).loc Cert.SmpReferenceIdeal.main_v45) = v0 c
          ∧ r.2.mem ((c.tc : Thread Cert.SmpReferenceIdeal.nD Cert.SmpReferenceIdeal.τ).loc Cert.SmpReferenceIdeal.main_v46) = v1 c
          ∧ r.2.mem ((c.tc : Thread Cert.SmpReferenceIdeal.nD Cert.SmpReferenceIdeal.τ).loc Cert.SmpReferenceIdeal.main_arg0) = m' ((c.tc : Thread Cert.SmpReferenceIdeal.nD Cert.SmpReferenceIdeal.τ).loc Cert.SmpReferenceIdeal.main_arg0)
          ∧ r.2.mem ((c.tc : Thread Cert.SmpReferenceIdeal.nD Cert.SmpReferenceIdeal.τ).loc Cert.SmpReferenceIdeal.main_arg1) = m' ((c.tc : Thread Cert.SmpReferenceIdeal.nD Cert.SmpReferenceIdeal.τ).loc Cert.SmpReferenceIdeal.main_arg1)
          ∧ r.2.mem ((c.tc : Thread Cert.SmpReferenceIdeal.nD Cert.SmpReferenceIdeal.τ).loc Cert.SmpReferenceIdeal.main_arg2) = m' ((c.tc : Thread Cert.SmpReferenceIdeal.nD Cert.SmpReferenceIdeal.τ).loc Cert.SmpReferenceIdeal.main_arg2)
          ∧ r.2.mem ((c.tc : Thread Cert.SmpReferenceIdeal.nD Cert.SmpReferenceIdeal.τ).loc Cert.SmpReferenceIdeal.main_arg3) = m' ((c.tc : Thread Cert.SmpReferenceIdeal.nD Cert.SmpReferenceIdeal.τ).loc Cert.SmpReferenceIdeal.main_arg3)
          ∧ r.2.mem ((c.tc : Thread Cert.SmpReferenceIdeal.nD Cert.SmpReferenceIdeal.τ).loc Cert.SmpReferenceIdeal.main_arg4) = m' ((c.tc : Thread Cert.SmpReferenceIdeal.nD Cert.SmpReferenceIdeal.τ).loc Cert.SmpReferenceIdeal.main_arg4)
          ∧ r.2.mem ((c.tc : Thread Cert.SmpReferenceIdeal.nD Cert.SmpReferenceIdeal.τ).loc Cert.SmpReferenceIdeal.main_arg5) = m' ((c.tc : Thread Cert.SmpReferenceIdeal.nD Cert.SmpReferenceIdeal.τ).loc Cert.SmpReferenceIdeal.main_arg5)
          ∧ r.2.mem ((c.tc : Thread Cert.SmpReferenceIdeal.nD Cert.SmpReferenceIdeal.τ).loc Cert.SmpReferenceIdeal.main_arg6) = m' ((c.tc : Thread Cert.SmpReferenceIdeal.nD Cert.SmpReferenceIdeal.τ).loc Cert.SmpReferenceIdeal.main_arg6)
          ∧ r.2.mem ((c.tc : Thread Cert.SmpReferenceIdeal.nD Cert.SmpReferenceIdeal.τ).loc Cert.SmpReferenceIdeal.main_arg7) = m' ((c.tc : Thread Cert.SmpReferenceIdeal.nD Cert.SmpReferenceIdeal.τ).loc Cert.SmpReferenceIdeal.main_arg7)
          ∧ r.2.mem ((c.tc : Thread Cert.SmpReferenceIdeal.nD Cert.SmpReferenceIdeal.τ).loc Cert.SmpReferenceIdeal.main_arg8) = m' ((c.tc : Thread Cert.SmpReferenceIdeal.nD Cert.SmpReferenceIdeal.τ).loc Cert.SmpReferenceIdeal.main_arg8))

def preserves_SmpIn_SmpInIdeal : Prop :=
  True

def algebraic_SmpInIdeal_SmpInReferenceIdeal [hSmpInIdeal : Cert.SmpInIdeal.Facts] [hSmpInReferenceIdeal : Cert.SmpInReferenceIdeal.Facts] : Prop :=
  ∀ (m : (ℓ : Loc Cert.SmpInIdeal.nD Cert.SmpInIdeal.τ Cert.SmpInIdeal.sig) → Buf (Elt Ideal) ℓ) (g : Dev Cert.SmpInIdeal.nD → PrngReg)
    (m' : (ℓ : Loc Cert.SmpInReferenceIdeal.nD Cert.SmpInReferenceIdeal.τ Cert.SmpInReferenceIdeal.sig) → Buf (Elt Ideal) ℓ) (g' : Dev Cert.SmpInReferenceIdeal.nD → PrngReg), Pre_SmpInIdeal m →
    (∀ c : Dev Cert.SmpInIdeal.nD,
      m' ((c.tc : Thread Cert.SmpInReferenceIdeal.nD Cert.SmpInReferenceIdeal.τ).loc Cert.SmpInReferenceIdeal.main_arg0) = m ((c.tc : Thread Cert.SmpInIdeal.nD Cert.SmpInIdeal.τ).loc Cert.SmpInIdeal.main_arg0)
      ∧ m' ((c.tc : Thread Cert.SmpInReferenceIdeal.nD Cert.SmpInReferenceIdeal.τ).loc Cert.SmpInReferenceIdeal.main_arg1) = m ((c.tc : Thread Cert.SmpInIdeal.nD Cert.SmpInIdeal.τ).loc Cert.SmpInIdeal.main_arg1)
      ∧ m' ((c.tc : Thread Cert.SmpInReferenceIdeal.nD Cert.SmpInReferenceIdeal.τ).loc Cert.SmpInReferenceIdeal.main_arg2) = m ((c.tc : Thread Cert.SmpInIdeal.nD Cert.SmpInIdeal.τ).loc Cert.SmpInIdeal.main_arg2)
      ∧ m' ((c.tc : Thread Cert.SmpInReferenceIdeal.nD Cert.SmpInReferenceIdeal.τ).loc Cert.SmpInReferenceIdeal.main_arg3) = m ((c.tc : Thread Cert.SmpInIdeal.nD Cert.SmpInIdeal.τ).loc Cert.SmpInIdeal.main_arg3)
      ∧ m' ((c.tc : Thread Cert.SmpInReferenceIdeal.nD Cert.SmpInReferenceIdeal.τ).loc Cert.SmpInReferenceIdeal.main_arg4) = m ((c.tc : Thread Cert.SmpInIdeal.nD Cert.SmpInIdeal.τ).loc Cert.SmpInIdeal.main_arg4)
      ∧ m' ((c.tc : Thread Cert.SmpInReferenceIdeal.nD Cert.SmpInReferenceIdeal.τ).loc Cert.SmpInReferenceIdeal.main_arg5) = m ((c.tc : Thread Cert.SmpInIdeal.nD Cert.SmpInIdeal.τ).loc Cert.SmpInIdeal.main_arg5)
      ∧ m' ((c.tc : Thread Cert.SmpInReferenceIdeal.nD Cert.SmpInReferenceIdeal.τ).loc Cert.SmpInReferenceIdeal.main_arg6) = m ((c.tc : Thread Cert.SmpInIdeal.nD Cert.SmpInIdeal.τ).loc Cert.SmpInIdeal.main_arg6)
      ∧ m' ((c.tc : Thread Cert.SmpInReferenceIdeal.nD Cert.SmpInReferenceIdeal.τ).loc Cert.SmpInReferenceIdeal.main_arg7) = m ((c.tc : Thread Cert.SmpInIdeal.nD Cert.SmpInIdeal.τ).loc Cert.SmpInIdeal.main_arg7)
      ∧ m' ((c.tc : Thread Cert.SmpInReferenceIdeal.nD Cert.SmpInReferenceIdeal.τ).loc Cert.SmpInReferenceIdeal.main_arg8) = m ((c.tc : Thread Cert.SmpInIdeal.nD Cert.SmpInIdeal.τ).loc Cert.SmpInIdeal.main_arg8)) →
    ∃ (v0 : (c : Dev Cert.SmpInIdeal.nD) → Buf (Elt Ideal) ((c.tc : Thread Cert.SmpInIdeal.nD Cert.SmpInIdeal.τ).loc Cert.SmpInIdeal.main_v27_3)) (v1 : (c : Dev Cert.SmpInIdeal.nD) → Buf (Elt Ideal) ((c.tc : Thread Cert.SmpInIdeal.nD Cert.SmpInIdeal.τ).loc Cert.SmpInIdeal.main_v27_4)) (v2 : (c : Dev Cert.SmpInIdeal.nD) → Buf (Elt Ideal) ((c.tc : Thread Cert.SmpInIdeal.nD Cert.SmpInIdeal.τ).loc Cert.SmpInIdeal.main_v27_5)) (v3 : (c : Dev Cert.SmpInIdeal.nD) → Buf (Elt Ideal) ((c.tc : Thread Cert.SmpInIdeal.nD Cert.SmpInIdeal.τ).loc Cert.SmpInIdeal.main_v27_7)),
      θ_run (Cert.SmpInIdeal.defs (F := Ideal)) (onTc (τ := Cert.SmpInIdeal.τ) (Cert.SmpInIdeal.main (F := Ideal))) ⟨m, fun _ => 0, g⟩ (fun r => ∀ c : Dev Cert.SmpInIdeal.nD,
          r.2.mem ((c.tc : Thread Cert.SmpInIdeal.nD Cert.SmpInIdeal.τ).loc Cert.SmpInIdeal.main_v27_3) = v0 c
          ∧ r.2.mem ((c.tc : Thread Cert.SmpInIdeal.nD Cert.SmpInIdeal.τ).loc Cert.SmpInIdeal.main_v27_4) = v1 c
          ∧ r.2.mem ((c.tc : Thread Cert.SmpInIdeal.nD Cert.SmpInIdeal.τ).loc Cert.SmpInIdeal.main_v27_5) = v2 c
          ∧ r.2.mem ((c.tc : Thread Cert.SmpInIdeal.nD Cert.SmpInIdeal.τ).loc Cert.SmpInIdeal.main_v27_7) = v3 c
          ∧ r.2.mem ((c.tc : Thread Cert.SmpInIdeal.nD Cert.SmpInIdeal.τ).loc Cert.SmpInIdeal.main_arg0) = m ((c.tc : Thread Cert.SmpInIdeal.nD Cert.SmpInIdeal.τ).loc Cert.SmpInIdeal.main_arg0)
          ∧ r.2.mem ((c.tc : Thread Cert.SmpInIdeal.nD Cert.SmpInIdeal.τ).loc Cert.SmpInIdeal.main_arg1) = m ((c.tc : Thread Cert.SmpInIdeal.nD Cert.SmpInIdeal.τ).loc Cert.SmpInIdeal.main_arg1)
          ∧ r.2.mem ((c.tc : Thread Cert.SmpInIdeal.nD Cert.SmpInIdeal.τ).loc Cert.SmpInIdeal.main_arg2) = m ((c.tc : Thread Cert.SmpInIdeal.nD Cert.SmpInIdeal.τ).loc Cert.SmpInIdeal.main_arg2)
          ∧ r.2.mem ((c.tc : Thread Cert.SmpInIdeal.nD Cert.SmpInIdeal.τ).loc Cert.SmpInIdeal.main_arg3) = m ((c.tc : Thread Cert.SmpInIdeal.nD Cert.SmpInIdeal.τ).loc Cert.SmpInIdeal.main_arg3)
          ∧ r.2.mem ((c.tc : Thread Cert.SmpInIdeal.nD Cert.SmpInIdeal.τ).loc Cert.SmpInIdeal.main_arg4) = m ((c.tc : Thread Cert.SmpInIdeal.nD Cert.SmpInIdeal.τ).loc Cert.SmpInIdeal.main_arg4)
          ∧ r.2.mem ((c.tc : Thread Cert.SmpInIdeal.nD Cert.SmpInIdeal.τ).loc Cert.SmpInIdeal.main_arg5) = m ((c.tc : Thread Cert.SmpInIdeal.nD Cert.SmpInIdeal.τ).loc Cert.SmpInIdeal.main_arg5)
          ∧ r.2.mem ((c.tc : Thread Cert.SmpInIdeal.nD Cert.SmpInIdeal.τ).loc Cert.SmpInIdeal.main_arg6) = m ((c.tc : Thread Cert.SmpInIdeal.nD Cert.SmpInIdeal.τ).loc Cert.SmpInIdeal.main_arg6)
          ∧ r.2.mem ((c.tc : Thread Cert.SmpInIdeal.nD Cert.SmpInIdeal.τ).loc Cert.SmpInIdeal.main_arg7) = m ((c.tc : Thread Cert.SmpInIdeal.nD Cert.SmpInIdeal.τ).loc Cert.SmpInIdeal.main_arg7)
          ∧ r.2.mem ((c.tc : Thread Cert.SmpInIdeal.nD Cert.SmpInIdeal.τ).loc Cert.SmpInIdeal.main_arg8) = m ((c.tc : Thread Cert.SmpInIdeal.nD Cert.SmpInIdeal.τ).loc Cert.SmpInIdeal.main_arg8))
      ∧ θ_run (Cert.SmpInReferenceIdeal.defs (F := Ideal)) (onTc (τ := Cert.SmpInReferenceIdeal.τ) (Cert.SmpInReferenceIdeal.main (F := Ideal))) ⟨m', fun _ => 0, g'⟩ (fun r => ∀ c : Dev Cert.SmpInReferenceIdeal.nD,
          r.2.mem ((c.tc : Thread Cert.SmpInReferenceIdeal.nD Cert.SmpInReferenceIdeal.τ).loc Cert.SmpInReferenceIdeal.main_v38) = v0 c
          ∧ r.2.mem ((c.tc : Thread Cert.SmpInReferenceIdeal.nD Cert.SmpInReferenceIdeal.τ).loc Cert.SmpInReferenceIdeal.main_v39) = v1 c
          ∧ r.2.mem ((c.tc : Thread Cert.SmpInReferenceIdeal.nD Cert.SmpInReferenceIdeal.τ).loc Cert.SmpInReferenceIdeal.main_v33) = v2 c
          ∧ r.2.mem ((c.tc : Thread Cert.SmpInReferenceIdeal.nD Cert.SmpInReferenceIdeal.τ).loc Cert.SmpInReferenceIdeal.main_v40) = v3 c
          ∧ r.2.mem ((c.tc : Thread Cert.SmpInReferenceIdeal.nD Cert.SmpInReferenceIdeal.τ).loc Cert.SmpInReferenceIdeal.main_arg0) = m' ((c.tc : Thread Cert.SmpInReferenceIdeal.nD Cert.SmpInReferenceIdeal.τ).loc Cert.SmpInReferenceIdeal.main_arg0)
          ∧ r.2.mem ((c.tc : Thread Cert.SmpInReferenceIdeal.nD Cert.SmpInReferenceIdeal.τ).loc Cert.SmpInReferenceIdeal.main_arg1) = m' ((c.tc : Thread Cert.SmpInReferenceIdeal.nD Cert.SmpInReferenceIdeal.τ).loc Cert.SmpInReferenceIdeal.main_arg1)
          ∧ r.2.mem ((c.tc : Thread Cert.SmpInReferenceIdeal.nD Cert.SmpInReferenceIdeal.τ).loc Cert.SmpInReferenceIdeal.main_arg2) = m' ((c.tc : Thread Cert.SmpInReferenceIdeal.nD Cert.SmpInReferenceIdeal.τ).loc Cert.SmpInReferenceIdeal.main_arg2)
          ∧ r.2.mem ((c.tc : Thread Cert.SmpInReferenceIdeal.nD Cert.SmpInReferenceIdeal.τ).loc Cert.SmpInReferenceIdeal.main_arg3) = m' ((c.tc : Thread Cert.SmpInReferenceIdeal.nD Cert.SmpInReferenceIdeal.τ).loc Cert.SmpInReferenceIdeal.main_arg3)
          ∧ r.2.mem ((c.tc : Thread Cert.SmpInReferenceIdeal.nD Cert.SmpInReferenceIdeal.τ).loc Cert.SmpInReferenceIdeal.main_arg4) = m' ((c.tc : Thread Cert.SmpInReferenceIdeal.nD Cert.SmpInReferenceIdeal.τ).loc Cert.SmpInReferenceIdeal.main_arg4)
          ∧ r.2.mem ((c.tc : Thread Cert.SmpInReferenceIdeal.nD Cert.SmpInReferenceIdeal.τ).loc Cert.SmpInReferenceIdeal.main_arg5) = m' ((c.tc : Thread Cert.SmpInReferenceIdeal.nD Cert.SmpInReferenceIdeal.τ).loc Cert.SmpInReferenceIdeal.main_arg5)
          ∧ r.2.mem ((c.tc : Thread Cert.SmpInReferenceIdeal.nD Cert.SmpInReferenceIdeal.τ).loc Cert.SmpInReferenceIdeal.main_arg6) = m' ((c.tc : Thread Cert.SmpInReferenceIdeal.nD Cert.SmpInReferenceIdeal.τ).loc Cert.SmpInReferenceIdeal.main_arg6)
          ∧ r.2.mem ((c.tc : Thread Cert.SmpInReferenceIdeal.nD Cert.SmpInReferenceIdeal.τ).loc Cert.SmpInReferenceIdeal.main_arg7) = m' ((c.tc : Thread Cert.SmpInReferenceIdeal.nD Cert.SmpInReferenceIdeal.τ).loc Cert.SmpInReferenceIdeal.main_arg7)
          ∧ r.2.mem ((c.tc : Thread Cert.SmpInReferenceIdeal.nD Cert.SmpInReferenceIdeal.τ).loc Cert.SmpInReferenceIdeal.main_arg8) = m' ((c.tc : Thread Cert.SmpInReferenceIdeal.nD Cert.SmpInReferenceIdeal.τ).loc Cert.SmpInReferenceIdeal.main_arg8))

def Claim : Prop :=
  ∃ (hKernel : Cert.Kernel.Facts) (hKernelIdeal : Cert.KernelIdeal.Facts) (hReferenceIdeal : Cert.ReferenceIdeal.Facts) (hMix : Cert.Mix.Facts) (hMixIdeal : Cert.MixIdeal.Facts) (hMixReferenceIdeal : Cert.MixReferenceIdeal.Facts) (hIn : Cert.In.Facts) (hInIdeal : Cert.InIdeal.Facts) (hInReferenceIdeal : Cert.InReferenceIdeal.Facts) (hSmp : Cert.Smp.Facts) (hSmpIdeal : Cert.SmpIdeal.Facts) (hSmpReferenceIdeal : Cert.SmpReferenceIdeal.Facts) (hSmpIn : Cert.SmpIn.Facts) (hSmpInIdeal : Cert.SmpInIdeal.Facts) (hSmpInReferenceIdeal : Cert.SmpInReferenceIdeal.Facts) (hPre_laid_out : Cert.Pre_laid_out.Facts),
    quiescent_Kernel (hKernel := hKernel)
    ∧ quiescent_KernelIdeal (hKernelIdeal := hKernelIdeal)
    ∧ quiescent_KernelIdeal_pre_laid_out (hKernelIdeal := hKernelIdeal) (hPre_laid_out := hPre_laid_out)
    ∧ quiescent_ReferenceIdeal (hReferenceIdeal := hReferenceIdeal)
    ∧ quiescent_ReferenceIdeal_pre_laid_out (hReferenceIdeal := hReferenceIdeal) (hPre_laid_out := hPre_laid_out)
    ∧ quiescent_Mix (hMix := hMix)
    ∧ quiescent_MixIdeal (hMixIdeal := hMixIdeal)
    ∧ quiescent_MixReferenceIdeal (hMixReferenceIdeal := hMixReferenceIdeal)
    ∧ quiescent_In (hIn := hIn)
    ∧ quiescent_InIdeal (hInIdeal := hInIdeal)
    ∧ quiescent_InReferenceIdeal (hInReferenceIdeal := hInReferenceIdeal)
    ∧ quiescent_Smp (hSmp := hSmp)
    ∧ quiescent_SmpIdeal (hSmpIdeal := hSmpIdeal)
    ∧ quiescent_SmpReferenceIdeal (hSmpReferenceIdeal := hSmpReferenceIdeal)
    ∧ quiescent_SmpIn (hSmpIn := hSmpIn)
    ∧ quiescent_SmpInIdeal (hSmpInIdeal := hSmpInIdeal)
    ∧ quiescent_SmpInReferenceIdeal (hSmpInReferenceIdeal := hSmpInReferenceIdeal)
    ∧ preserves_Kernel_KernelIdeal
    ∧ algebraic_KernelIdeal_ReferenceIdeal_pre_laid_out (hKernelIdeal := hKernelIdeal) (hReferenceIdeal := hReferenceIdeal) (hPre_laid_out := hPre_laid_out)
    ∧ preserves_Mix_MixIdeal
    ∧ algebraic_MixIdeal_MixReferenceIdeal (hMixIdeal := hMixIdeal) (hMixReferenceIdeal := hMixReferenceIdeal)
    ∧ preserves_In_InIdeal
    ∧ algebraic_InIdeal_InReferenceIdeal (hInIdeal := hInIdeal) (hInReferenceIdeal := hInReferenceIdeal)
    ∧ preserves_Smp_SmpIdeal
    ∧ algebraic_SmpIdeal_SmpReferenceIdeal (hSmpIdeal := hSmpIdeal) (hSmpReferenceIdeal := hSmpReferenceIdeal)
    ∧ preserves_SmpIn_SmpInIdeal
    ∧ algebraic_SmpInIdeal_SmpInReferenceIdeal (hSmpInIdeal := hSmpInIdeal) (hSmpInReferenceIdeal := hSmpInReferenceIdeal)
-- ==== Pre_laid_out.lean ====
abbrev S2x8x16384x128 : Shape := ⟨4, ![2, 8, 16384, 128]⟩
abbrev S_ : Shape := ⟨0, ![]⟩

class Facts : Prop where
  bitsLt_bf16_f32 : FTy.bits .bf16 < FTy.bits .f32
  bcast_S_S2x8x16384x128 : S_.BroadcastsInDim S2x8x16384x128 (![] : Fin 0 → Fin S2x8x16384x128.rank)

variable [Facts]

def fn_part2 {F : FTy → Type} [FloatOps F] (main_v2 : FVec F S2x8x16384x128 .f32) (main_v15 : IVec S2x8x16384x128 1) (main_v33 : IVec S2x8x16384x128 1) (main_v35 : IVec S2x8x16384x128 1) (main_cst_9 : FVec F S_ .f32) : IVec S2x8x16384x128 1 :=
  let main_v36 : FVec F S2x8x16384x128 .f32 := broadcastInDim S2x8x16384x128 ![] bcast_S_S2x8x16384x128 main_cst_9
  let main_v37 : IVec S2x8x16384x128 1 := cmpf .oeq main_v2 main_v36
  let main_v38 : IVec S2x8x16384x128 1 := ori main_v35 main_v37
  let main_v39 : IVec S2x8x16384x128 1 := andi main_v15 main_v33
  let main_v40 : IVec S2x8x16384x128 1 := andi main_v39 main_v38
  main_v40

def fn_part1 {F : FTy → Type} [FloatOps F] (main_v1 : FVec F S2x8x16384x128 .f32) (main_v2 : FVec F S2x8x16384x128 .f32) (main_v3 : IVec S2x8x16384x128 32) (main_v15 : IVec S2x8x16384x128 1) (main_v18 : IVec S2x8x16384x128 1) : IVec S2x8x16384x128 1 :=
  let main_c_3 : IVec S_ 32 := constantI S_ 32 64#32
  let main_v19 : IVec S2x8x16384x128 32 := broadcastInDim S2x8x16384x128 ![] bcast_S_S2x8x16384x128 main_c_3
  let main_v20 : IVec S2x8x16384x128 1 := cmpi .slt main_v3 main_v19
  let main_c_4 : IVec S_ 32 := constantI S_ 32 66#32
  let main_v21 : IVec S2x8x16384x128 32 := broadcastInDim S2x8x16384x128 ![] bcast_S_S2x8x16384x128 main_c_4
  let main_v22 : IVec S2x8x16384x128 1 := cmpi .sgt main_v3 main_v21
  let main_v23 : IVec S2x8x16384x128 1 := ori main_v20 main_v22
  let main_cst_5 : FVec F S_ .f32 := constant S_ .f32 0x3F800000#32
  let main_v24 : FVec F S2x8x16384x128 .f32 := broadcastInDim S2x8x16384x128 ![] bcast_S_S2x8x16384x128 main_cst_5
  let main_v25 : IVec S2x8x16384x128 1 := cmpf .oeq main_v1 main_v24
  let main_v26 : IVec S2x8x16384x128 1 := ori main_v23 main_v25
  let main_v27 : IVec S2x8x16384x128 1 := andi main_v18 main_v26
  let main_c_6 : IVec S_ 32 := constantI S_ 32 70#32
  let main_v28 : IVec S2x8x16384x128 32 := broadcastInDim S2x8x16384x128 ![] bcast_S_S2x8x16384x128 main_c_6
  let main_v29 : IVec S2x8x16384x128 1 := cmpi .slt main_v3 main_v28
  let main_cst_7 : FVec F S_ .f32 := constant S_ .f32 0x00000000#32
  let main_v30 : FVec F S2x8x16384x128 .f32 := broadcastInDim S2x8x16384x128 ![] bcast_S_S2x8x16384x128 main_cst_7
  let main_v31 : IVec S2x8x16384x128 1 := cmpf .oeq main_v1 main_v30
  let main_v32 : IVec S2x8x16384x128 1 := ori main_v29 main_v31
  let main_v33 : IVec S2x8x16384x128 1 := andi main_v27 main_v32
  let main_c_8 : IVec S_ 32 := constantI S_ 32 64#32
  let main_v34 : IVec S2x8x16384x128 32 := broadcastInDim S2x8x16384x128 ![] bcast_S_S2x8x16384x128 main_c_8
  let main_v35 : IVec S2x8x16384x128 1 := cmpi .ne main_v3 main_v34
  let main_cst_9 : FVec F S_ .f32 := constant S_ .f32 0x3F800000#32
  fn_part2 (F := F) main_v2 main_v15 main_v33 main_v35 main_cst_9

def fn {F : FTy → Type} [FloatOps F] (main_arg0 : FVec F S2x8x16384x128 .bf16) (main_arg1 : FVec F S2x8x16384x128 .bf16) (main_arg2 : FVec F S2x8x16384x128 .bf16) : IVec S2x8x16384x128 1 :=
  let main_v0 : FVec F S2x8x16384x128 .f32 := (extf .f32 · bitsLt_bf16_f32) main_arg0
  let main_v1 : FVec F S2x8x16384x128 .f32 := (extf .f32 · bitsLt_bf16_f32) main_arg1
  let main_v2 : FVec F S2x8x16384x128 .f32 := (extf .f32 · bitsLt_bf16_f32) main_arg2
  let main_v3 : IVec S2x8x16384x128 32 := iotaInDim S2x8x16384x128 32 3
  let main_v4 : FVec F S2x8x16384x128 .f32 := Host.absf main_v0
  let main_cst : FVec F S_ .f32 := constant S_ .f32 0x7F800000#32
  let main_v5 : FVec F S2x8x16384x128 .f32 := broadcastInDim S2x8x16384x128 ![] bcast_S_S2x8x16384x128 main_cst
  let main_v6 : IVec S2x8x16384x128 1 := cmpf .olt main_v4 main_v5
  let main_c : IVec S_ 32 := constantI S_ 32 67#32
  let main_v7 : IVec S2x8x16384x128 32 := broadcastInDim S2x8x16384x128 ![] bcast_S_S2x8x16384x128 main_c
  let main_v8 : IVec S2x8x16384x128 1 := cmpi .slt main_v3 main_v7
  let main_c_0 : IVec S_ 32 := constantI S_ 32 69#32
  let main_v9 : IVec S2x8x16384x128 32 := broadcastInDim S2x8x16384x128 ![] bcast_S_S2x8x16384x128 main_c_0
  let main_v10 : IVec S2x8x16384x128 1 := cmpi .sgt main_v3 main_v9
  let main_v11 : IVec S2x8x16384x128 1 := ori main_v8 main_v10
  let main_cst_1 : FVec F S_ .f32 := constant S_ .f32 0x3F800000#32
  let main_v12 : FVec F S2x8x16384x128 .f32 := broadcastInDim S2x8x16384x128 ![] bcast_S_S2x8x16384x128 main_cst_1
  let main_v13 : IVec S2x8x16384x128 1 := cmpf .oeq main_v0 main_v12
  let main_v14 : IVec S2x8x16384x128 1 := ori main_v11 main_v13
  let main_v15 : IVec S2x8x16384x128 1 := andi main_v6 main_v14
  let main_v16 : FVec F S2x8x16384x128 .f32 := Host.absf main_v1
  let main_cst_2 : FVec F S_ .f32 := constant S_ .f32 0x7F800000#32
  let main_v17 : FVec F S2x8x16384x128 .f32 := broadcastInDim S2x8x16384x128 ![] bcast_S_S2x8x16384x128 main_cst_2
  let main_v18 : IVec S2x8x16384x128 1 := cmpf .olt main_v16 main_v17
  fn_part1 (F := F) main_v1 main_v2 main_v3 main_v15 main_v18
-- ==== Kernel.lean ====
abbrev S2x8x16384x128 : Shape := ⟨4, ![2, 8, 16384, 128]⟩
abbrev S2x16384x512 : Shape := ⟨3, ![2, 16384, 512]⟩
abbrev S1x2x1024x128 : Shape := ⟨4, ![1, 2, 1024, 128]⟩
abbrev S1x2x16384x128 : Shape := ⟨4, ![1, 2, 16384, 128]⟩
abbrev S1x1024x128 : Shape := ⟨3, ![1, 1024, 128]⟩
abbrev S1x1x1024x128 : Shape := ⟨4, ![1, 1, 1024, 128]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x16384x128, .bf16⟩
  | .hbm, ⟨3, _⟩ => ⟨S2x16384x512, .bf16⟩
  | .local _ .vmem, ⟨0, _⟩ => ⟨S1x2x1024x128, .bf16⟩
  | .local _ .vmem, ⟨1, _⟩ => ⟨S1x2x1024x128, .bf16⟩
  | .local _ .vmem, ⟨2, _⟩ => ⟨S1x2x16384x128, .bf16⟩
  | .local _ .vmem, ⟨3, _⟩ => ⟨S1x2x16384x128, .bf16⟩
  | .local _ .vmem, ⟨4, _⟩ => ⟨S1x1024x128, .bf16⟩
  | .local _ .vmem, ⟨5, _⟩ => ⟨S1x1024x128, .bf16⟩
  | _, _ => ⟨S2x8x16384x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_15 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c1024_i32_0 : BitVec 32 := 1024#32
  let c0_i32_3 : BitVec 32 := 0#32
  let v8 : BitVec 1 := Scalar.cmpi .sgt c1024_i32_0 c0_i32_3
  let v9 : BitVec 32 := Scalar.extui v8
  let c0_i32_4 : BitVec 32 := 0#32
  let v10 : BitVec 1 := Scalar.cmpi .slt c1024_i32_0 c0_i32_4
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_5 : BitVec 32 := 0#32
  let v15 : BitVec 1 := Scalar.cmpi .ne v14 c0_i32_5
  let v16 : BitVec 1 := Scalar.andi v13 v15
  let v2 : BitVec 32 := Scalar.divsi v1 c1024_i32_0
  let c1_i32 : BitVec 32 := 1#32
  let v17 : BitVec 32 := Scalar.subi v2 c1_i32
  let v18 : BitVec 32 := Scalar.select v16 v17 v2
  let v27 : BitVec 32 := Scalar.subi v18 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_17 : BitVec 32 := 1#32
  ⟨c0_i32_15, v31, c1_i32_17⟩
def k0_mult1 (i : grid0.Coords) (k0_t1 : Fin (k0_t1_loop i).trips) : BitVec 32 :=
  let c0_i32_15 : BitVec 32 := 0#32
  let c1_i32_17 : BitVec 32 := 1#32
  let arg7 : BitVec 32 := Scf.iv c0_i32_15 c1_i32_17 k0_t1
  let c1024_i32_43 : BitVec 32 := 1024#32
  let v99 : BitVec 32 := Scalar.muli arg7 c1024_i32_43
  v99
def k0_off1 (i : grid0.Coords) (k0_t1 : Fin (k0_t1_loop i).trips) : Fin 4 → Nat :=
  let c0_44 : Index := 0#32
  let c0_45 : Index := 0#32
  let c0_i32_15 : BitVec 32 := 0#32
  let c1_i32_17 : BitVec 32 := 1#32
  let arg7 : BitVec 32 := Scf.iv c0_i32_15 c1_i32_17 k0_t1
  let c1024_i32_43 : BitVec 32 := 1024#32
  let v99 : BitVec 32 := Scalar.muli arg7 c1024_i32_43
  let v100 : BitVec 32 := v99
  let v101 : Index := Scalar.indexCast v100
  let c0_46 : Index := 0#32
  ![0, 0, v101.toNat, 0]
def k0_off2 (i : grid0.Coords) (k0_t1 : Fin (k0_t1_loop i).trips) : Fin 4 → Nat :=
  let c0_53 : Index := 0#32
  let c1_54 : Index := 1#32
  let c0_i32_15 : BitVec 32 := 0#32
  let c1_i32_17 : BitVec 32 := 1#32
  let arg7 : BitVec 32 := Scf.iv c0_i32_15 c1_i32_17 k0_t1
  let c1024_i32_43 : BitVec 32 := 1024#32
  let v99 : BitVec 32 := Scalar.muli arg7 c1024_i32_43
  let v100 : BitVec 32 := v99
  let v121 : Index := Scalar.indexCast v100
  let c0_55 : Index := 0#32
  ![0, 1, v121.toNat, 0]
@[reducible] def k0_t2_loop (i : grid0.Coords) : Scf.Loop 32 :=
  let c0_i32_15 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c1024_i32_0 : BitVec 32 := 1024#32
  let c0_i32_3 : BitVec 32 := 0#32
  let v8 : BitVec 1 := Scalar.cmpi .sgt c1024_i32_0 c0_i32_3
  let v9 : BitVec 32 := Scalar.extui v8
  let c0_i32_4 : BitVec 32 := 0#32
  let v10 : BitVec 1 := Scalar.cmpi .slt c1024_i32_0 c0_i32_4
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_5 : BitVec 32 := 0#32
  let v15 : BitVec 1 := Scalar.cmpi .ne v14 c0_i32_5
  let v16 : BitVec 1 := Scalar.andi v13 v15
  let v2 : BitVec 32 := Scalar.divsi v1 c1024_i32_0
  let c1_i32 : BitVec 32 := 1#32
  let v17 : BitVec 32 := Scalar.subi v2 c1_i32
  let v18 : BitVec 32 := Scalar.select v16 v17 v2
  let v27 : BitVec 32 := Scalar.subi v18 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let v28 : BitVec 32 := Scalar.addi c0_i32_15 v27
  let c1_i32_18 : BitVec 32 := 1#32
  ⟨v31, v28, c1_i32_18⟩
def k0_mult2 (i : grid0.Coords) (k0_t2 : Fin (k0_t2_loop i).trips) : BitVec 32 :=
  let c0_i32_15 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c1024_i32_0 : BitVec 32 := 1024#32
  let c0_i32_3 : BitVec 32 := 0#32
  let v8 : BitVec 1 := Scalar.cmpi .sgt c1024_i32_0 c0_i32_3
  let v9 : BitVec 32 := Scalar.extui v8
  let c0_i32_4 : BitVec 32 := 0#32
  let v10 : BitVec 1 := Scalar.cmpi .slt c1024_i32_0 c0_i32_4
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_5 : BitVec 32 := 0#32
  let v15 : BitVec 1 := Scalar.cmpi .ne v14 c0_i32_5
  let v16 : BitVec 1 := Scalar.andi v13 v15
  let v2 : BitVec 32 := Scalar.divsi v1 c1024_i32_0
  let c1_i32 : BitVec 32 := 1#32
  let v17 : BitVec 32 := Scalar.subi v2 c1_i32
  let v18 : BitVec 32 := Scalar.select v16 v17 v2
  let v27 : BitVec 32 := Scalar.subi v18 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg7 : BitVec 32 := Scf.iv v31 c1_i32_18 k0_t2
  let c1024_i32_43 : BitVec 32 := 1024#32
  let v99 : BitVec 32 := Scalar.muli arg7 c1024_i32_43
  v99
def k0_off3 (i : grid0.Coords) (k0_t2 : Fin (k0_t2_loop i).trips) : Fin 4 → Nat :=
  let c0_44 : Index := 0#32
  let c0_45 : Index := 0#32
  let c0_i32_15 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c1024_i32_0 : BitVec 32 := 1024#32
  let c0_i32_3 : BitVec 32 := 0#32
  let v8 : BitVec 1 := Scalar.cmpi .sgt c1024_i32_0 c0_i32_3
  let v9 : BitVec 32 := Scalar.extui v8
  let c0_i32_4 : BitVec 32 := 0#32
  let v10 : BitVec 1 := Scalar.cmpi .slt c1024_i32_0 c0_i32_4
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_5 : BitVec 32 := 0#32
  let v15 : BitVec 1 := Scalar.cmpi .ne v14 c0_i32_5
  let v16 : BitVec 1 := Scalar.andi v13 v15
  let v2 : BitVec 32 := Scalar.divsi v1 c1024_i32_0
  let c1_i32 : BitVec 32 := 1#32
  let v17 : BitVec 32 := Scalar.subi v2 c1_i32
  let v18 : BitVec 32 := Scalar.select v16 v17 v2
  let v27 : BitVec 32 := Scalar.subi v18 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg7 : BitVec 32 := Scf.iv v31 c1_i32_18 k0_t2
  let c1024_i32_43 : BitVec 32 := 1024#32
  let v99 : BitVec 32 := Scalar.muli arg7 c1024_i32_43
  let v100 : BitVec 32 := v99
  let v101 : Index := Scalar.indexCast v100
  let c0_46 : Index := 0#32
  ![0, 0, v101.toNat, 0]
def k0_off4 (i : grid0.Coords) (k0_t2 : Fin (k0_t2_loop i).trips) : Fin 4 → Nat :=
  let c0_53 : Index := 0#32
  let c1_54 : Index := 1#32
  let c0_i32_15 : BitVec 32 := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c1024_i32_0 : BitVec 32 := 1024#32
  let c0_i32_3 : BitVec 32 := 0#32
  let v8 : BitVec 1 := Scalar.cmpi .sgt c1024_i32_0 c0_i32_3
  let v9 : BitVec 32 := Scalar.extui v8
  let c0_i32_4 : BitVec 32 := 0#32
  let v10 : BitVec 1 := Scalar.cmpi .slt c1024_i32_0 c0_i32_4
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_5 : BitVec 32 := 0#32
  let v15 : BitVec 1 := Scalar.cmpi .ne v14 c0_i32_5
  let v16 : BitVec 1 := Scalar.andi v13 v15
  let v2 : BitVec 32 := Scalar.divsi v1 c1024_i32_0
  let c1_i32 : BitVec 32 := 1#32
  let v17 : BitVec 32 := Scalar.subi v2 c1_i32
  let v18 : BitVec 32 := Scalar.select v16 v17 v2
  let v27 : BitVec 32 := Scalar.subi v18 c0_i32_15
  let c1_i32_16 : BitVec 32 := 1#32
  let v29 : BitVec 32 := Scalar.divsi v27 c1_i32_16
  let v30 : BitVec 32 := Scalar.muli v29 c1_i32_16
  let v31 : BitVec 32 := Scalar.addi c0_i32_15 v30
  let c1_i32_18 : BitVec 32 := 1#32
  let arg7 : BitVec 32 := Scf.iv v31 c1_i32_18 k0_t2
  let c1024_i32_43 : BitVec 32 := 1024#32
  let v99 : BitVec 32 := Scalar.muli arg7 c1024_i32_43
  let v100 : BitVec 32 := v99
  let v121 : Index := Scalar.indexCast v100
  let c0_55 : Index := 0#32
  ![0, 1, v121.toNat, 0]
def k0_mult3 (i : grid0.Coords) : BitVec 32 :=
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  v1
def k0_off5 (i : grid0.Coords) : Fin 4 → Nat :=
  let c0_19 : Index := 0#32
  let c0_20 : Index := 0#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let v34 : BitVec 32 := v1
  let v38 : Index := Scalar.indexCast v34
  let c0_21 : Index := 0#32
  ![0, 0, v38.toNat, 0]
def k0_off6 (i : grid0.Coords) : Fin 4 → Nat :=
  let c0_29 : Index := 0#32
  let c1_30 : Index := 1#32
  let c0_i32 : BitVec 32 := 0#32
  let arg2 : BitVec 32 := BitVec.ofNat 32 (i 2).val
  let c1024_i32 : BitVec 32 := 1024#32
  let v0 : BitVec 32 := Scalar.muli arg2 c1024_i32
  let v1 : BitVec 32 := Scalar.addi c0_i32 v0
  let v34 : BitVec 32 := v1
  let v63 : Index := Scalar.indexCast v34
  let c0_31 : Index := 0#32
  ![0, 1, v63.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x2x16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x2x16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8x16384x128 : Shape := ⟨4, ![2, 8, 16384, 128]⟩
abbrev S2x8x16384x64 : Shape := ⟨4, ![2, 8, 16384, 64]⟩
abbrev S2x8x16384x3 : Shape := ⟨4, ![2, 8, 16384, 3]⟩
abbrev S_ : Shape := ⟨0, ![]⟩
abbrev S2x8x16384 : Shape := ⟨3, ![2, 8, 16384]⟩
abbrev S2x8x16384x16384 : Shape := ⟨4, ![2, 8, 16384, 16384]⟩
abbrev S2x8x16384x1 : Shape := ⟨4, ![2, 8, 16384, 1]⟩
abbrev S2x8x1x16384 : Shape := ⟨4, ![2, 8, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x1x16384x16384 : Shape := ⟨4, ![1, 1, 16384, 16384]⟩
abbrev S2x8x64x16384 : Shape := ⟨4, ![2, 8, 64, 16384]⟩
abbrev S2x16384x8x64 : Shape := ⟨4, ![2, 16384, 8, 64]⟩
abbrev S2x16384x512 : Shape := ⟨3, ![2, 16384, 512]⟩

abbrev nBuf : Space → Nat
  | .hbm => 52
  | .vmem => 0
  | .smem => 0
  | _ => 0

abbrev bufTy : (tb : Table) → Fin (tcTables nBuf tb) → BufTy
  | .hbm, ⟨0, _⟩ => ⟨S2x8x16384x128, .bf16⟩
  | .hbm, ⟨1, _⟩ => ⟨S2x8x16384x128, .bf16⟩
  | .hbm, ⟨2, _⟩ => ⟨S2x8x16384x128, .bf16⟩
  | .hbm, ⟨3, _⟩ => ⟨S2x8x16384x128, .f32⟩
  | .hbm, ⟨4, _⟩ => ⟨S2x8x16384x128, .f32⟩
  | .hbm, ⟨5, _⟩ => ⟨S2x8x16384x128, .f32⟩
  | .hbm, ⟨6, _⟩ => ⟨S2x8x16384x64, .f32⟩
  | .hbm, ⟨7, _⟩ => ⟨S2x8x16384x3, .f32⟩
  | .hbm, ⟨8, _⟩ => ⟨S_, .f32⟩
  | .hbm, ⟨9, _⟩ => ⟨S2x8x16384, .f32⟩
  | .hbm, ⟨10, _⟩ => ⟨S2x8x16384x64, .f32⟩
  | .hbm, ⟨11, _⟩ => ⟨S2x8x16384x3, .f32⟩
  | .hbm, ⟨12, _⟩ => ⟨S_, .f32⟩
  | .hbm, ⟨13, _⟩ => ⟨S2x8x16384, .f32⟩
  | .hbm, ⟨14, _⟩ => ⟨S2x8x16384, .f32⟩
  | .hbm, ⟨15, _⟩ => ⟨S2x8x16384x64, .f32⟩
  | .hbm, ⟨16, _⟩ => ⟨S2x8x16384x16384, .f32⟩
  | .hbm, ⟨17, _⟩ => ⟨S2x8x16384x1, .f32⟩
  | .hbm, ⟨18, _⟩ => ⟨S2x8x16384x16384, .f32⟩
  | .hbm, ⟨19, _⟩ => ⟨S2x8x16384x16384, .f32⟩
  | .hbm, ⟨20, _⟩ => ⟨S2x8x1x16384, .f32⟩
  | .hbm, ⟨21, _⟩ => ⟨S2x8x16384x16384, .f32⟩
  | .hbm, ⟨22, _⟩ => ⟨S2x8x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S1x1x16384x16384, .i1⟩
  | .hbm, ⟨30, _⟩ => ⟨S_, .f32⟩
  | .hbm, ⟨31, _⟩ => ⟨S_, .f32⟩
  | .hbm, ⟨32, _⟩ => ⟨S2x8x16384x16384, .i1⟩
  | .hbm, ⟨33, _⟩ => ⟨S2x8x16384x16384, .f32⟩
  | .hbm, ⟨34, _⟩ => ⟨S2x8x16384x16384, .f32⟩
  | .hbm, ⟨35, _⟩ => ⟨S_, .f32⟩
  | .hbm, ⟨36, _⟩ => ⟨S2x8x16384, .f32⟩
  | .hbm, ⟨37, _⟩ => ⟨S2x8x16384x1, .f32⟩
  | .hbm, ⟨38, _⟩ => ⟨S2x8x16384x16384, .f32⟩
  | .hbm, ⟨39, _⟩ => ⟨S2x8x16384x16384, .f32⟩
  | .hbm, ⟨40, _⟩ => ⟨S_, .f32⟩
  | .hbm, ⟨41, _⟩ => ⟨S2x8x16384x16384, .f32⟩
  | .hbm, ⟨42, _⟩ => ⟨S2x8x16384x16384, .f32⟩
  | .hbm, ⟨43, _⟩ => ⟨S_, .f32⟩
  | .hbm, ⟨44, _⟩ => ⟨S2x8x16384, .f32⟩
  | .hbm, ⟨45, _⟩ => ⟨S2x8x16384x1, .f32⟩
  | .hbm, ⟨46, _⟩ => ⟨S2x8x16384x16384, .f32⟩
  | .hbm, ⟨47, _⟩ => ⟨S2x8x16384x16384, .f32⟩
  | .hbm, ⟨48, _⟩ => ⟨S2x8x64x16384, .f32⟩
  | .hbm, ⟨49, _⟩ => ⟨S2x16384x8x64, .f32⟩
  | .hbm, ⟨50, _⟩ => ⟨S2x16384x512, .f32⟩
  | .hbm, ⟨51, _⟩ => ⟨S2x16384x512, .bf16⟩
  | _, _ => ⟨S2x8x16384x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== Mix.lean ====
abbrev S2x16384x1024 : Shape := ⟨3, ![2, 16384, 1024]⟩
abbrev S2x16384x512 : Shape := ⟨3, ![2, 16384, 512]⟩
abbrev S2x2x5632 : Shape := ⟨3, ![2, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S1x2x5632 : Shape := ⟨3, ![1, 2, 5632]⟩
abbrev S1x520x5632 : Shape := ⟨3, ![1, 520, 5632]⟩
abbrev S512x2816 : Shape := ⟨2, ![512, 2816]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 15
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S2x16384x1024, .f32⟩
  | .hbm, ⟨14, _⟩ => ⟨S2x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x2x5632, .f32⟩
  | .local _ .vmem, ⟨7, _⟩ => ⟨S1x2x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x2x5632, .f32⟩
  | .local _ .vmem, ⟨16, _⟩ => ⟨S1x2x5632, .f32⟩
  | .local _ .vmem, ⟨17, _⟩ => ⟨S1x520x5632, .f32⟩
  | .local _ .vmem, ⟨18, _⟩ => ⟨S512x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixIdeal.lean ====
abbrev S2x16384x1024 : Shape := ⟨3, ![2, 16384, 1024]⟩
abbrev S2x16384x512 : Shape := ⟨3, ![2, 16384, 512]⟩
abbrev S2x2x5632 : Shape := ⟨3, ![2, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S1x512x1024 : Shape := ⟨3, ![1, 512, 1024]⟩
abbrev S1x512x512 : Shape := ⟨3, ![1, 512, 512]⟩
abbrev S1x2x5632 : Shape := ⟨3, ![1, 2, 5632]⟩
abbrev S1x520x5632 : Shape := ⟨3, ![1, 520, 5632]⟩
abbrev S512x2816 : Shape := ⟨2, ![512, 2816]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x512x256 : Shape := ⟨3, ![1, 512, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 15
  | .vmem => 19
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S2x16384x1024, .f32⟩
  | .hbm, ⟨14, _⟩ => ⟨S2x2x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x2x5632, .f32⟩
  | .local _ .vmem, ⟨7, _⟩ => ⟨S1x2x5632, .f32⟩
  | .local _ .vmem, ⟨8, _⟩ => ⟨S1024x1024, .bf16⟩
  | .local _ .vmem, ⟨9, _⟩ => ⟨S1x1024, .f32⟩
  | .local _ .vmem, ⟨10, _⟩ => ⟨S1024x5632, .bf16⟩
  | .local _ .vmem, ⟨11, _⟩ => ⟨S3x5632, .f32⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x2x5632, .f32⟩
  | .local _ .vmem, ⟨16, _⟩ => ⟨S1x2x5632, .f32⟩
  | .local _ .vmem, ⟨17, _⟩ => ⟨S1x520x5632, .f32⟩
  | .local _ .vmem, ⟨18, _⟩ => ⟨S512x2816, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixReferenceIdeal.lean ====
abbrev S2x16384x1024 : Shape := ⟨3, ![2, 16384, 1024]⟩
abbrev S2x16384x512 : Shape := ⟨3, ![2, 16384, 512]⟩
abbrev S2x2x5632 : Shape := ⟨3, ![2, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x5632 : Shape := ⟨3, ![2, 16384, 5632]⟩
abbrev S2x16386x5632 : Shape := ⟨3, ![2, 16386, 5632]⟩
abbrev S1x5632 : Shape := ⟨2, ![1, 5632]⟩
abbrev S5632 : Shape := ⟨1, ![5632]⟩
abbrev S1x1x5632 : Shape := ⟨3, ![1, 1, 5632]⟩
abbrev S2x16384x2816 : Shape := ⟨3, ![2, 16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .bf16⟩
  | .hbm, ⟨2, _⟩ => ⟨S2x16384x512, .bf16⟩
  | .hbm, ⟨3, _⟩ => ⟨S2x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S2x16384x512, .f32⟩
  | .hbm, ⟨10, _⟩ => ⟨S2x16384x512, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S2x16384x1024, .f32⟩
  | .hbm, ⟨15, _⟩ => ⟨S_, .f32⟩
  | .hbm, ⟨16, _⟩ => ⟨S2x16384, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S2x16384x1, .f32⟩
  | .hbm, ⟨25, _⟩ => ⟨S2x16384x1024, .f32⟩
  | .hbm, ⟨26, _⟩ => ⟨S2x16384x1024, .f32⟩
  | .hbm, ⟨27, _⟩ => ⟨S1x1x1024, .f32⟩
  | .hbm, ⟨28, _⟩ => ⟨S2x16384x1024, .f32⟩
  | .hbm, ⟨29, _⟩ => ⟨S2x16384x1024, .f32⟩
  | .hbm, ⟨30, _⟩ => ⟨S2x16384x5632, .f32⟩
  | .hbm, ⟨31, _⟩ => ⟨S2x16386x5632, .f32⟩
  | .hbm, ⟨32, _⟩ => ⟨S1x5632, .f32⟩
  | .hbm, ⟨33, _⟩ => ⟨S5632, .f32⟩
  | .hbm, ⟨34, _⟩ => ⟨S2x16384x5632, .f32⟩
  | .hbm, ⟨35, _⟩ => ⟨S1x1x5632, .f32⟩
  | .hbm, ⟨36, _⟩ => ⟨S2x16384x5632, .f32⟩
  | .hbm, ⟨37, _⟩ => ⟨S2x16384x5632, .f32⟩
  | .hbm, ⟨38, _⟩ => ⟨S1x5632, .f32⟩
  | .hbm, ⟨39, _⟩ => ⟨S5632, .f32⟩
  | .hbm, ⟨40, _⟩ => ⟨S2x16384x5632, .f32⟩
  | .hbm, ⟨41, _⟩ => ⟨S1x1x5632, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S1x5632, .f32⟩
  | .hbm, ⟨46, _⟩ => ⟨S5632, .f32⟩
  | .hbm, ⟨47, _⟩ => ⟨S2x16384x5632, .f32⟩
  | .hbm, ⟨48, _⟩ => ⟨S1x1x5632, .f32⟩
  | .hbm, ⟨49, _⟩ => ⟨S2x16384x5632, .f32⟩
  | .hbm, ⟨50, _⟩ => ⟨S2x16384x5632, .f32⟩
  | .hbm, ⟨51, _⟩ => ⟨S2x16384x5632, .f32⟩
  | .hbm, ⟨52, _⟩ => ⟨S2x16384x2816, .f32⟩
  | .hbm, ⟨53, _⟩ => ⟨S2x16384x2816, .f32⟩
  | .hbm, ⟨54, _⟩ => ⟨S2x16384x2816, .f32⟩
  | .hbm, ⟨55, _⟩ => ⟨S_, .f32⟩
  | .hbm, ⟨56, _⟩ => ⟨S2x16384x2816, .f32⟩
  | .hbm, ⟨57, _⟩ => ⟨S2x16384x2816, .f32⟩
  | .hbm, ⟨58, _⟩ => ⟨S_, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2x16384x2816, .f32⟩
  | .hbm, ⟨64, _⟩ => ⟨S2x16384x1024, .f32⟩
  | .hbm, ⟨65, _⟩ => ⟨S2x16384x1024, .f32⟩
  | .hbm, ⟨66, _⟩ => ⟨S2x2x5632, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== In.lean ====
abbrev S2x16384x1024 : Shape := ⟨3, ![2, 16384, 1024]⟩
abbrev S2x2x512 : Shape := ⟨3, ![2, 2, 512]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S3x512 : Shape := ⟨2, ![3, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x1536 : Shape := ⟨2, ![1024, 1536]⟩
abbrev S1024x3072 : Shape := ⟨2, ![1024, 3072]⟩
abbrev S1024x8 : Shape := ⟨2, ![1024, 8]⟩
abbrev S1024x128 : Shape := ⟨2, ![1024, 128]⟩
abbrev S2x1x128 : Shape := ⟨3, ![2, 1, 128]⟩
abbrev S1x1024 : Shape := ⟨2, ![1, 1024]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S2x8x16384x128 : Shape := ⟨4, ![2, 8, 16384, 128]⟩
abbrev S2x16384x512 : Shape := ⟨3, ![2, 16384, 512]⟩
abbrev S2x16384x8 : Shape := ⟨3, ![2, 16384, 8]⟩
abbrev S1x512x1024 : Shape := ⟨3, ![1, 512, 1024]⟩
abbrev S1x2x512 : Shape := ⟨3, ![1, 2, 512]⟩
abbrev S1x1x128 : Shape := ⟨3, ![1, 1, 128]⟩
abbrev S1x8x512x128 : Shape := ⟨4, ![1, 8, 512, 128]⟩
abbrev S1x512x512 : Shape := ⟨3, ![1, 512, 512]⟩
abbrev S1x512x8 : Shape := ⟨3, ![1, 512, 8]⟩
abbrev S1x520x512 : Shape := ⟨3, ![1, 520, 512]⟩
abbrev S512x1024 : Shape := ⟨2, ![512, 1024]⟩
abbrev S1024x512 : Shape := ⟨2, ![1024, 512]⟩
abbrev S512x128 : Shape := ⟨2, ![512, 128]⟩
abbrev S512x8 : Shape := ⟨2, ![512, 8]⟩
abbrev S512x384 : Shape := ⟨2, ![512, 384]⟩
abbrev S1x512x128 : Shape := ⟨3, ![1, 512, 128]⟩
abbrev S1x1x512x128 : Shape := ⟨4, ![1, 1, 512, 128]⟩
abbrev S1x1x512 : Shape := ⟨3, ![1, 1, 512]⟩

abbrev nBuf : Space → Nat
  | .hbm => 70
  | .vmem => 32
  | .smem => 0
  | _ => 0

abbrev bufTy : (tb : Table) → Fin (tcTables nBuf tb) → BufTy
  | .hbm, ⟨0, _⟩ => ⟨S2x16384x1024, .f32⟩
  | .hbm, ⟨1, _⟩ => ⟨S2x2x512, .f32⟩
  | .hbm, ⟨2, _⟩ => ⟨S1024, .f32⟩
  | .hbm, ⟨3, _⟩ => ⟨S1024x3080, .f32⟩
  | .hbm, ⟨4, _⟩ => ⟨S8, .f32⟩
  | .hbm, ⟨5, _⟩ => ⟨S64, .f32⟩
  | .hbm, ⟨6, _⟩ => ⟨S64, .f32⟩
  | .hbm, ⟨7, _⟩ => ⟨S3x512, .f32⟩
  | .hbm, ⟨8, _⟩ => ⟨S512, .i32⟩
  | .hbm, ⟨9, _⟩ => ⟨S_, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512, .i32⟩
  | .hbm, ⟨14, _⟩ => ⟨S_, .i32⟩
  | .hbm, ⟨15, _⟩ => ⟨S512, .i32⟩
  | .hbm, ⟨16, _⟩ => ⟨S512, .i1⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i1⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S512, .i32⟩
  | .hbm, ⟨27, _⟩ => ⟨S512x1, .i32⟩
  | .hbm, ⟨28, _⟩ => ⟨S1x512, .i32⟩
  | .hbm, ⟨29, _⟩ => ⟨S512x512, .i32⟩
  | .hbm, ⟨30, _⟩ => ⟨S512x512, .i32⟩
  | .hbm, ⟨31, _⟩ => ⟨S512x512, .i1⟩
  | .hbm, ⟨32, _⟩ => ⟨S_, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .bf16⟩
  | .hbm, ⟨38, _⟩ => ⟨S1024x1536, .f32⟩
  | .hbm, ⟨39, _⟩ => ⟨S1024x1536, .f32⟩
  | .hbm, ⟨40, _⟩ => ⟨S1024x3072, .f32⟩
  | .hbm, ⟨41, _⟩ => ⟨S1024x3072, .bf16⟩
  | .hbm, ⟨42, _⟩ => ⟨S1024x8, .f32⟩
  | .hbm, ⟨43, _⟩ => ⟨S_, .i32⟩
  | .hbm, ⟨44, _⟩ => ⟨S_, .f32⟩
  | .hbm, ⟨45, _⟩ => ⟨S1024x128, .f32⟩
  | .hbm, ⟨46, _⟩ => ⟨S1024x128, .bf16⟩
  | .hbm, ⟨47, _⟩ => ⟨S_, .f32⟩
  | .hbm, ⟨48, _⟩ => ⟨S2x1x128, .f32⟩
  | .hbm, ⟨49, _⟩ => ⟨S1x1024, .f32⟩
  | .hbm, ⟨50, _⟩ => ⟨S_, .i32⟩
  | .hbm, ⟨51, _⟩ => ⟨S_, .f32⟩
  | .hbm, ⟨52, _⟩ => ⟨S128, .f32⟩
  | .hbm, ⟨53, _⟩ => ⟨S1x128, .f32⟩
  | .hbm, ⟨54, _⟩ => ⟨S1x64, .f32⟩
  | .hbm, ⟨55, _⟩ => ⟨S8x64, .f32⟩
  | .hbm, ⟨56, _⟩ => ⟨S512, .f32⟩
  | .hbm, ⟨57, _⟩ => ⟨S1x512, .f32⟩
  | .hbm, ⟨58, _⟩ => ⟨S1x64, .f32⟩
  | .hbm, ⟨59, _⟩ => ⟨S8x64, .f32⟩
  | .hbm, ⟨60, _⟩ => ⟨S512, .f32⟩
  | .hbm, ⟨61, _⟩ => ⟨S1x512, .f32⟩
  | .hbm, ⟨62, _⟩ => ⟨S2x8x16384x128, .bf16⟩
  | .hbm, ⟨63, _⟩ => ⟨S2x8x16384x128, .bf16⟩
  | .hbm, ⟨64, _⟩ => ⟨S2x8x16384x128, .bf16⟩
  | .hbm, ⟨65, _⟩ => ⟨S2x16384x512, .f32⟩
  | .hbm, ⟨66, _⟩ => ⟨S2x16384x512, .f32⟩
  | .hbm, ⟨67, _⟩ => ⟨S2x16384x8, .f32⟩
  | .hbm, ⟨68, _⟩ => ⟨S2x16384x512, .bf16⟩
  | .hbm, ⟨69, _⟩ => ⟨S2x2x512, .f32⟩
  | .local _ .vmem, ⟨0, _⟩ => ⟨S1x512x1024, .f32⟩
  | .local _ .vmem, ⟨1, _⟩ => ⟨S1x512x1024, .f32⟩
  | .local _ .vmem, ⟨2, _⟩ => ⟨S1x2x512, .f32⟩
  | .local _ .vmem, ⟨3, _⟩ => ⟨S1x2x512, .f32⟩
  | .local _ .vmem, ⟨4, _⟩ => ⟨S1x1x128, .f32⟩
  | .local _ .vmem, ⟨5, _⟩ => ⟨S1x1x128, .f32⟩
  | .local _ .vmem, ⟨6, _⟩ => ⟨S1x1024, .f32⟩
  | .local _ .vmem, ⟨7, _⟩ => ⟨S1024x3072, .bf16⟩
  | .local _ .vmem, ⟨8, _⟩ => ⟨S1024x128, .bf16⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S3x512, .f32⟩
  | .local _ .vmem, ⟨13, _⟩ => ⟨S512x512, .bf16⟩
  | .local _ .vmem, ⟨14, _⟩ => ⟨S1x8x512x128, .bf16⟩
  | .local _ .vmem, ⟨15, _⟩ => ⟨S1x8x512x128, .bf16⟩
  | .local _ .vmem, ⟨16, _⟩ => ⟨S1x8x512x128, .bf16⟩
  | .local _ .vmem, ⟨17, _⟩ => ⟨S1x8x512x128, .bf16⟩
  | .local _ .vmem, ⟨18, _⟩ => ⟨S1x8x512x128, .bf16⟩
  | .local _ .vmem, ⟨19, _⟩ => ⟨S1x8x512x128, .bf16⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x8, .f32⟩
  | .local _ .vmem, ⟨25, _⟩ => ⟨S1x512x8, .f32⟩
  | .local _ .vmem, ⟨26, _⟩ => ⟨S1x512x512, .bf16⟩
  | .local _ .vmem, ⟨27, _⟩ => ⟨S1x512x512, .bf16⟩
  | .local _ .vmem, ⟨28, _⟩ => ⟨S1x2x512, .f32⟩
  | .local _ .vmem, ⟨29, _⟩ => ⟨S1x2x512, .f32⟩
  | .local _ .vmem, ⟨30, _⟩ => ⟨S1x520x512, .f32⟩
  | .local _ .vmem, ⟨31, _⟩ => ⟨S1x1x128, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_c_1 : Ref sig .tc := ⟨.hbm, 43, rfl⟩
abbrev main_call2_v0 : Ref sig .tc := ⟨.hbm, 44, rfl⟩
abbrev main_v14 : Ref sig .tc := ⟨.hbm, 45, rfl⟩
abbrev main_v15 : Ref sig .tc := ⟨.hbm, 46, rfl⟩
abbrev main_cst_2 : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_call3_v0 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_v28_3 : Ref sig .tc := ⟨.hbm, 65, rfl⟩
abbrev main_v28_4 : Ref sig .tc := ⟨.hbm, 66, rfl⟩
abbrev main_v28_5 : Ref sig .tc := ⟨.hbm, 67, rfl⟩
abbrev main_v28_6 : Ref sig .tc := ⟨.hbm, 68, rfl⟩
abbrev main_v28_7 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x8 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== InReferenceIdeal.lean ====
abbrev S2x16384x1024 : Shape := ⟨3, ![2, 16384, 1024]⟩
abbrev S2x2x512 : Shape := ⟨3, ![2, 2, 512]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S3x512 : Shape := ⟨2, ![3, 512]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x3080 : Shape := ⟨3, ![2, 16384, 3080]⟩
abbrev S2x16384x512 : Shape := ⟨3, ![2, 16384, 512]⟩
abbrev S2x16384x8x64 : Shape := ⟨4, ![2, 16384, 8, 64]⟩
abbrev S2x16384x8 : Shape := ⟨3, ![2, 16384, 8]⟩
abbrev S2x16384x8x1 : Shape := ⟨4, ![2, 16384, 8, 1]⟩
abbrev S1x1x1x64 : Shape := ⟨4, ![1, 1, 1, 64]⟩
abbrev S1x1x8 : Shape := ⟨3, ![1, 1, 8]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S1x16384x16384x1 : Shape := ⟨4, ![1, 16384, 16384, 1]⟩
abbrev S2x1x16384x8 : Shape := ⟨4, ![2, 1, 16384, 8]⟩
abbrev S2x16384x16384x8 : Shape := ⟨4, ![2, 16384, 16384, 8]⟩
abbrev S2x16386x512 : Shape := ⟨3, ![2, 16386, 512]⟩
abbrev S1x512 : Shape := ⟨2, ![1, 512]⟩
abbrev S512 : Shape := ⟨1, ![512]⟩
abbrev S1x1x512 : Shape := ⟨3, ![1, 1, 512]⟩
abbrev S2x16384x8x128 : Shape := ⟨4, ![2, 16384, 8, 128]⟩
abbrev S2x8x16384x128 : Shape := ⟨4, ![2, 8, 16384, 128]⟩

abbrev nBuf : Space → Nat
  | .hbm => 257
  | .vmem => 0
  | .smem => 0
  | _ => 0

abbrev hbmTy0_0 (i : Nat) : BufTy := match i % 128 with
  | 0 => ⟨S2x16384x1024, .f32⟩
  | 1 => ⟨S2x2x512, .f32⟩
  | 2 => ⟨S1024, .f32⟩
  | 3 => ⟨S1024x3080, .f32⟩
  | 4 => ⟨S8, .f32⟩
  | 5 => ⟨S64, .f32⟩
  | 6 => ⟨S64, .f32⟩
  | 7 => ⟨S3x512, .f32⟩
  | 8 => ⟨S2x16384x1024, .f32⟩
  | 9 => ⟨S_, .f32⟩
  | 10 => ⟨S2x16384, .f32⟩
  | 11 => ⟨S2x16384x1, .f32⟩
  | 12 => ⟨S_, .f32⟩
  | 13 => ⟨S2x16384x1, .f32⟩
  | 14 => ⟨S2x16384x1, .f32⟩
  | 15 => ⟨S_, .f32⟩
  | 16 => ⟨S2x16384x1, .f32⟩
  | 17 => ⟨S2x16384x1, .f32⟩
  | 18 => ⟨S2x16384x1, .f32⟩
  | 19 => ⟨S2x16384x1024, .f32⟩
  | 20 => ⟨S2x16384x1024, .f32⟩
  | 21 => ⟨S1x1x1024, .f32⟩
  | 22 => ⟨S2x16384x1024, .f32⟩
  | 23 => ⟨S2x16384x1024, .f32⟩
  | 24 => ⟨S2x16384x3080, .f32⟩
  | 25 => ⟨S2x16384x512, .f32⟩
  | 26 => ⟨S2x16384x8x64, .f32⟩
  | 27 => ⟨S2x16384x8x64, .f32⟩
  | 28 => ⟨S_, .f32⟩
  | 29 => ⟨S2x16384x8, .f32⟩
  | 30 => ⟨S2x16384x8x1, .f32⟩
  | 31 => ⟨S_, .f32⟩
  | 32 => ⟨S2x16384x8x1, .f32⟩
  | 33 => ⟨S2x16384x8x1, .f32⟩
  | 34 => ⟨S_, .f32⟩
  | 35 => ⟨S2x16384x8x1, .f32⟩
  | 36 => ⟨S2x16384x8x1, .f32⟩
  | 37 => ⟨S2x16384x8x1, .f32⟩
  | 38 => ⟨S2x16384x8x64, .f32⟩
  | 39 => ⟨S2x16384x8x64, .f32⟩
  | 40 => ⟨S1x1x1x64, .f32⟩
  | 41 => ⟨S2x16384x8x64, .f32⟩
  | 42 => ⟨S2x16384x8x64, .f32⟩
  | 43 => ⟨S2x16384x512, .f32⟩
  | 44 => ⟨S2x16384x8x64, .f32⟩
  | 45 => ⟨S2x16384x8x64, .f32⟩
  | 46 => ⟨S_, .f32⟩
  | 47 => ⟨S2x16384x8, .f32⟩
  | 48 => ⟨S2x16384x8x1, .f32⟩
  | 49 => ⟨S_, .f32⟩
  | 50 => ⟨S2x16384x8x1, .f32⟩
  | 51 => ⟨S2x16384x8x1, .f32⟩
  | 52 => ⟨S_, .f32⟩
  | 53 => ⟨S2x16384x8x1, .f32⟩
  | 54 => ⟨S2x16384x8x1, .f32⟩
  | 55 => ⟨S2x16384x8x1, .f32⟩
  | 56 => ⟨S2x16384x8x64, .f32⟩
  | 57 => ⟨S2x16384x8x64, .f32⟩
  | 58 => ⟨S1x1x1x64, .f32⟩
  | 59 => ⟨S2x16384x8x64, .f32⟩
  | 60 => ⟨S2x16384x8x64, .f32⟩
  | 61 => ⟨S2x16384x512, .f32⟩
  | 62 => ⟨S2x16384x8x64, .f32⟩
  | 63 => ⟨S2x16384x8, .f32⟩
  | 64 => ⟨S1x1x8, .f32⟩
  | 65 => ⟨S2x16384x8, .f32⟩
  | 66 => ⟨S2x16384x8, .f32⟩
  | 67 => ⟨S2x16384x8, .f32⟩
  | 68 => ⟨S_, .f32⟩
  | 69 => ⟨S2x16384x8, .f32⟩
  | 70 => ⟨S2x16384x8, .f32⟩
  | 71 => ⟨S2x16384x8, .f32⟩
  | 72 => ⟨S2x16384x8, .f32⟩
  | 73 => ⟨S2x16384x8, .i1⟩
  | 74 => ⟨S2x16384x8, .f32⟩
  | 75 => ⟨S2x16384x8, .f32⟩
  | 76 => ⟨S2x16384x8, .f32⟩
  | 77 => ⟨S2x16384x8, .f32⟩
  | 78 => ⟨S2x16384x8, .f32⟩
  | 79 => ⟨S2x16384x8, .f32⟩
  | 80 => ⟨S2x16384x8, .f32⟩
  | 81 => ⟨S2x16384x8, .f32⟩
  | 82 => ⟨S2x16384x8, .f32⟩
  | 83 => ⟨S16384, .i32⟩
  | 84 => ⟨S16384x1, .i32⟩
  | 85 => ⟨S1x16384, .i32⟩
  | 86 => ⟨S16384x16384, .i32⟩
  | 87 => ⟨S16384x16384, .i32⟩
  | 88 => ⟨S16384x16384, .i1⟩
  | 89 => ⟨S1x16384x16384x1, .i1⟩
  | 90 => ⟨S2x1x16384x8, .f32⟩
  | 91 => ⟨S_, .f32⟩
  | 92 => ⟨S_, .f32⟩
  | 93 => ⟨S2x16384x16384x8, .i1⟩
  | 94 => ⟨S2x16384x16384x8, .f32⟩
  | 95 => ⟨S2x16384x16384x8, .f32⟩
  | 96 => ⟨S2x16384x16384x8, .f32⟩
  | 97 => ⟨S_, .f32⟩
  | 98 => ⟨S2x16384x8, .f32⟩
  | 99 => ⟨S2x16384x512, .f32⟩
  | 100 => ⟨S2x16384x512, .f32⟩
  | 101 => ⟨S2x16384x512, .f32⟩
  | 102 => ⟨S2x16384x512, .f32⟩
  | 103 => ⟨S2x16386x512, .f32⟩
  | 104 => ⟨S1x512, .f32⟩
  | 105 => ⟨S512, .f32⟩
  | 106 => ⟨S2x16384x512, .f32⟩
  | 107 => ⟨S1x1x512, .f32⟩
  | 108 => ⟨S2x16384x512, .f32⟩
  | 109 => ⟨S2x16384x512, .f32⟩
  | 110 => ⟨S1x512, .f32⟩
  | 111 => ⟨S512, .f32⟩
  | 112 => ⟨S2x16384x512, .f32⟩
  | 113 => ⟨S1x1x512, .f32⟩
  | 114 => ⟨S2x16384x512, .f32⟩
  | 115 => ⟨S2x16384x512, .f32⟩
  | 116 => ⟨S2x16384x512, .f32⟩
  | 117 => ⟨S1x512, .f32⟩
  | 118 => ⟨S512, .f32⟩
  | 119 => ⟨S2x16384x512, .f32⟩
  | 120 => ⟨S1x1x512, .f32⟩
  | 121 => ⟨S2x16384x512, .f32⟩
  | 122 => ⟨S2x16384x512, .f32⟩
  | 123 => ⟨S2x16384x512, .f32⟩
  | 124 => ⟨S2x16384x512, .f32⟩
  | 125 => ⟨S_, .f32⟩
  | 126 => ⟨S2x16384x8, .f32⟩
  | 127 => ⟨S2x16384x8, .f32⟩
  | _ => ⟨S2x16384x1024, .f32⟩

abbrev hbmTy0_1 (i : Nat) : BufTy := match i % 128 with
  | 0 => ⟨S2x16384x8, .bf16⟩
  | 1 => ⟨S2x16384x8, .f32⟩
  | 2 => ⟨S2x16384x8, .f32⟩
  | 3 => ⟨S2x16384x8, .bf16⟩
  | 4 => ⟨S2x16384x8, .f32⟩
  | 5 => ⟨S2x16384x8, .f32⟩
  | 6 => ⟨S2x16384x8, .f32⟩
  | 7 => ⟨S64, .i32⟩
  | 8 => ⟨S_, .f32⟩
  | 9 => ⟨S2x16384x8, .f32⟩
  | 10 => ⟨S_, .i32⟩
  | 11 => ⟨S64, .i32⟩
  | 12 => ⟨S64, .i1⟩
  | 13 => ⟨S2x16384x8x1, .f32⟩
  | 14 => ⟨S_, .f32⟩
  | 15 => ⟨S_, .f32⟩
  | 16 => ⟨S2x16384x8x64, .i1⟩
  | 17 => ⟨S2x16384x8x64, .f32⟩
  | 18 => ⟨S2x16384x8x64, .f32⟩
  | 19 => ⟨S2x16384x8x64, .f32⟩
  | 20 => ⟨S_, .i32⟩
  | 21 => ⟨S64, .i32⟩
  | 22 => ⟨S64, .i1⟩
  | 23 => ⟨S2x16384x8x1, .f32⟩
  | 24 => ⟨S2x16384x8x64, .i1⟩
  | 25 => ⟨S2x16384x8x64, .f32⟩
  | 26 => ⟨S2x16384x8x64, .f32⟩
  | 27 => ⟨S_, .i32⟩
  | 28 => ⟨S64, .i32⟩
  | 29 => ⟨S64, .i1⟩
  | 30 => ⟨S2x16384x8x1, .f32⟩
  | 31 => ⟨S2x16384x8x64, .i1⟩
  | 32 => ⟨S2x16384x8x64, .f32⟩
  | 33 => ⟨S2x16384x8x64, .f32⟩
  | 34 => ⟨S_, .i32⟩
  | 35 => ⟨S64, .i32⟩
  | 36 => ⟨S64, .i1⟩
  | 37 => ⟨S2x16384x8x1, .f32⟩
  | 38 => ⟨S2x16384x8x64, .i1⟩
  | 39 => ⟨S2x16384x8x64, .f32⟩
  | 40 => ⟨S2x16384x8x64, .f32⟩
  | 41 => ⟨S_, .i32⟩
  | 42 => ⟨S64, .i32⟩
  | 43 => ⟨S64, .i1⟩
  | 44 => ⟨S2x16384x8x1, .f32⟩
  | 45 => ⟨S2x16384x8x64, .i1⟩
  | 46 => ⟨S2x16384x8x64, .f32⟩
  | 47 => ⟨S2x16384x8x64, .f32⟩
  | 48 => ⟨S_, .i32⟩
  | 49 => ⟨S64, .i32⟩
  | 50 => ⟨S64, .i1⟩
  | 51 => ⟨S2x16384x8x1, .f32⟩
  | 52 => ⟨S2x16384x8x64, .i1⟩
  | 53 => ⟨S2x16384x8x64, .f32⟩
  | 54 => ⟨S2x16384x8x64, .f32⟩
  | 55 => ⟨S2x16384x8, .f32⟩
  | 56 => ⟨S2x16384x8, .f32⟩
  | 57 => ⟨S2x16384x8, .f32⟩
  | 58 => ⟨S_, .i32⟩
  | 59 => ⟨S64, .i32⟩
  | 60 => ⟨S64, .i1⟩
  | 61 => ⟨S2x16384x8x1, .f32⟩
  | 62 => ⟨S_, .f32⟩
  | 63 => ⟨S_, .f32⟩
  | 64 => ⟨S2x16384x8x64, .i1⟩
  | 65 => ⟨S2x16384x8x64, .f32⟩
  | 66 => ⟨S2x16384x8x64, .f32⟩
  | 67 => ⟨S2x16384x8x64, .f32⟩
  | 68 => ⟨S_, .i32⟩
  | 69 => ⟨S64, .i32⟩
  | 70 => ⟨S64, .i1⟩
  | 71 => ⟨S2x16384x8x1, .f32⟩
  | 72 => ⟨S2x16384x8x64, .i1⟩
  | 73 => ⟨S2x16384x8x64, .f32⟩
  | 74 => ⟨S2x16384x8x64, .f32⟩
  | 75 => ⟨S_, .i32⟩
  | 76 => ⟨S64, .i32⟩
  | 77 => ⟨S64, .i1⟩
  | 78 => ⟨S2x16384x8x1, .f32⟩
  | 79 => ⟨S2x16384x8x64, .i1⟩
  | 80 => ⟨S2x16384x8x64, .f32⟩
  | 81 => ⟨S2x16384x8x64, .f32⟩
  | 82 => ⟨S_, .i32⟩
  | 83 => ⟨S64, .i32⟩
  | 84 => ⟨S64, .i1⟩
  | 85 => ⟨S2x16384x8x1, .f32⟩
  | 86 => ⟨S2x16384x8x64, .i1⟩
  | 87 => ⟨S2x16384x8x64, .f32⟩
  | 88 => ⟨S2x16384x8x64, .f32⟩
  | 89 => ⟨S_, .i32⟩
  | 90 => ⟨S64, .i32⟩
  | 91 => ⟨S64, .i1⟩
  | 92 => ⟨S2x16384x8x1, .f32⟩
  | 93 => ⟨S2x16384x8x64, .i1⟩
  | 94 => ⟨S2x16384x8x64, .f32⟩
  | 95 => ⟨S2x16384x8x64, .f32⟩
  | 96 => ⟨S_, .i32⟩
  | 97 => ⟨S64, .i32⟩
  | 98 => ⟨S64, .i1⟩
  | 99 => ⟨S2x16384x8x1, .f32⟩
  | 100 => ⟨S2x16384x8x64, .i1⟩
  | 101 => ⟨S2x16384x8x64, .f32⟩
  | 102 => ⟨S2x16384x8x64, .f32⟩
  | 103 => ⟨S_, .i32⟩
  | 104 => ⟨S64, .i32⟩
  | 105 => ⟨S64, .i1⟩
  | 106 => ⟨S2x16384x8x1, .f32⟩
  | 107 => ⟨S_, .f32⟩
  | 108 => ⟨S_, .f32⟩
  | 109 => ⟨S2x16384x8x64, .i1⟩
  | 110 => ⟨S2x16384x8x64, .f32⟩
  | 111 => ⟨S2x16384x8x64, .f32⟩
  | 112 => ⟨S2x16384x8x64, .f32⟩
  | 113 => ⟨S_, .f32⟩
  | 114 => ⟨S2x16384x8x64, .f32⟩
  | 115 => ⟨S2x16384x8x64, .f32⟩
  | 116 => ⟨S2x16384x8x128, .f32⟩
  | 117 => ⟨S2x8x16384x128, .f32⟩
  | 118 => ⟨S2x8x16384x128, .bf16⟩
  | 119 => ⟨S2x16384x8x128, .f32⟩
  | 120 => ⟨S2x8x16384x128, .f32⟩
  | 121 => ⟨S2x8x16384x128, .bf16⟩
  | 122 => ⟨S2x16384x8x128, .f32⟩
  | 123 => ⟨S2x8x16384x128, .f32⟩
  | 124 => ⟨S2x8x16384x128, .bf16⟩
  | 125 => ⟨S2x16384x512, .f32⟩
  | 126 => ⟨S2x16384x512, .f32⟩
  | 127 => ⟨S2x16384x512, .bf16⟩
  | _ => ⟨S2x16384x1024, .f32⟩

abbrev hbmTy0_2 (i : Nat) : BufTy := match i % 128 with
  | 0 => ⟨S2x2x512, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_v0 : Ref sig .tc := ⟨.hbm, 67, rfl⟩
abbrev main_call0_call0_cst : Ref sig .tc := ⟨.hbm, 68, rfl⟩
abbrev main_call0_call0_v0 : Ref sig .tc := ⟨.hbm, 69, rfl⟩
abbrev main_call0_call0_v1 : Ref sig .tc := ⟨.hbm, 70, rfl⟩
abbrev main_call0_call0_v2 : Ref sig .tc := ⟨.hbm, 71, rfl⟩
abbrev main_call0_call0_v3 : Ref sig .tc := ⟨.hbm, 72, rfl⟩
abbrev main_call0_call0_v4 : Ref sig .tc := ⟨.hbm, 73, rfl⟩
abbrev main_call0_call0_v5 : Ref sig .tc := ⟨.hbm, 74, rfl⟩
abbrev main_call0_call0_v6 : Ref sig .tc := ⟨.hbm, 75, rfl⟩
abbrev main_call0_call0_v7 : Ref sig .tc := ⟨.hbm, 76, rfl⟩
abbrev main_call0_call0_v8 : Ref sig .tc := ⟨.hbm, 77, rfl⟩
abbrev main_call0_call0_v9 : Ref sig .tc := ⟨.hbm, 78, rfl⟩
abbrev main_call0_call0_v10 : Ref sig .tc := ⟨.hbm, 79, rfl⟩
abbrev main_call0_call0_v11 : Ref sig .tc := ⟨.hbm, 80, rfl⟩
abbrev main_call0_v1 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_8 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_v59 : Ref sig .tc := ⟨.hbm, 96, rfl⟩
abbrev main_cst_9 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_10 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_11 : Ref sig .tc := ⟨.hbm, 136, rfl⟩
abbrev main_v97 : Ref sig .tc := ⟨.hbm, 137, rfl⟩
abbrev main_c : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_12 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_v101 : Ref sig .tc := ⟨.hbm, 147, rfl⟩
abbrev main_c_13 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_call3_v0 : Ref sig .tc := ⟨.hbm, 152, rfl⟩
abbrev main_call3_v1 : Ref sig .tc := ⟨.hbm, 153, rfl⟩
abbrev main_v105 : Ref sig .tc := ⟨.hbm, 154, rfl⟩
abbrev main_c_14 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_call4_v0 : Ref sig .tc := ⟨.hbm, 159, rfl⟩
abbrev main_call4_v1 : Ref sig .tc := ⟨.hbm, 160, rfl⟩
abbrev main_v109 : Ref sig .tc := ⟨.hbm, 161, rfl⟩
abbrev main_c_15 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_call5_v0 : Ref sig .tc := ⟨.hbm, 166, rfl⟩
abbrev main_call5_v1 : Ref sig .tc := ⟨.hbm, 167, rfl⟩
abbrev main_v113 : Ref sig .tc := ⟨.hbm, 168, rfl⟩
abbrev main_c_16 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_call6_v0 : Ref sig .tc := ⟨.hbm, 173, rfl⟩
abbrev main_call6_v1 : Ref sig .tc := ⟨.hbm, 174, rfl⟩
abbrev main_v117 : Ref sig .tc := ⟨.hbm, 175, rfl⟩
abbrev main_c_17 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_call7_v0 : Ref sig .tc := ⟨.hbm, 180, rfl⟩
abbrev main_call7_v1 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_c_18 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_cst_19 : Ref sig .tc := ⟨.hbm, 190, rfl⟩
abbrev main_call8_v0 : Ref sig .tc := ⟨.hbm, 191, rfl⟩
abbrev main_call8_v1 : Ref sig .tc := ⟨.hbm, 192, rfl⟩
abbrev main_call8_v2 : Ref sig .tc := ⟨.hbm, 193, rfl⟩
abbrev main_call8_v3 : Ref sig .tc := ⟨.hbm, 194, rfl⟩
abbrev main_v128 : Ref sig .tc := ⟨.hbm, 195, rfl⟩
abbrev main_c_20 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_call9_v0 : Ref sig .tc := ⟨.hbm, 200, rfl⟩
abbrev main_call9_v1 : Ref sig .tc := ⟨.hbm, 201, rfl⟩
abbrev main_v132 : Ref sig .tc := ⟨.hbm, 202, rfl⟩
abbrev main_c_21 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_call10_v0 : Ref sig .tc := ⟨.hbm, 207, rfl⟩
abbrev main_call10_v1 : Ref sig .tc := ⟨.hbm, 208, rfl⟩
abbrev main_v136 : Ref sig .tc := ⟨.hbm, 209, rfl⟩
abbrev main_c_22 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_call11_v0 : Ref sig .tc := ⟨.hbm, 214, rfl⟩
abbrev main_call11_v1 : Ref sig .tc := ⟨.hbm, 215, rfl⟩
abbrev main_v140 : Ref sig .tc := ⟨.hbm, 216, rfl⟩
abbrev main_c_23 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_call12_v0 : Ref sig .tc := ⟨.hbm, 221, rfl⟩
abbrev main_call12_v1 : Ref sig .tc := ⟨.hbm, 222, rfl⟩
abbrev main_v144 : Ref sig .tc := ⟨.hbm, 223, rfl⟩
abbrev main_c_24 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_call13_v0 : Ref sig .tc := ⟨.hbm, 228, rfl⟩
abbrev main_call13_v1 : Ref sig .tc := ⟨.hbm, 229, rfl⟩
abbrev main_v148 : Ref sig .tc := ⟨.hbm, 230, rfl⟩
abbrev main_c_25 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_cst_26 : Ref sig .tc := ⟨.hbm, 235, rfl⟩
abbrev main_call14_v0 : Ref sig .tc := ⟨.hbm, 236, rfl⟩
abbrev main_call14_v1 : Ref sig .tc := ⟨.hbm, 237, rfl⟩
abbrev main_call14_v2 : Ref sig .tc := ⟨.hbm, 238, rfl⟩
abbrev main_call14_v3 : Ref sig .tc := ⟨.hbm, 239, rfl⟩
abbrev main_v152 : Ref sig .tc := ⟨.hbm, 240, rfl⟩
abbrev main_cst_27 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_v167 : Ref sig .tc := ⟨.hbm, 256, rfl⟩

abbrev nD : Nat := 1
abbrev τ : Topo := Topo.v7x

variable {F : FTy → Type} [FloatOps F]
-- ==== Smp.lean ====
abbrev S8x64x1024 : Shape := ⟨3, ![8, 64, 1024]⟩
abbrev S8x64x512 : Shape := ⟨3, ![8, 64, 512]⟩
abbrev S8x2x5632 : Shape := ⟨3, ![8, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S1x1024 : Shape := ⟨2, ![1, 1024]⟩
abbrev S8x72x5632 : Shape := ⟨3, ![8, 72, 5632]⟩
abbrev S512x2816 : Shape := ⟨2, ![512, 2816]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x64x256 : Shape := ⟨3, ![8, 64, 256]⟩
abbrev S3x256 : Shape := ⟨2, ![3, 256]⟩
abbrev S1x256 : Shape := ⟨2, ![1, 256]⟩
abbrev S1x1x256 : Shape := ⟨3, ![1, 1, 256]⟩

abbrev nBuf : Space → Nat
  | .hbm => 15
  | .vmem => 13
  | .smem => 0
  | _ => 0

abbrev bufTy : (tb : Table) → Fin (tcTables nBuf tb) → BufTy
  | .hbm, ⟨0, _⟩ => ⟨S8x64x1024, .f32⟩
  | .hbm, ⟨1, _⟩ => ⟨S8x64x512, .bf16⟩
  | .hbm, ⟨2, _⟩ => ⟨S8x64x512, .bf16⟩
  | .hbm, ⟨3, _⟩ => ⟨S8x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S1024x1024, .bf16⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S8x64x1024, .f32⟩
  | .hbm, ⟨14, _⟩ => ⟨S8x2x5632, .f32⟩
  | .local _ .vmem, ⟨0, _⟩ => ⟨S8x64x1024, .f32⟩
  | .local _ .vmem, ⟨1, _⟩ => ⟨S8x64x512, .bf16⟩
  | .local _ .vmem, ⟨2, _⟩ => ⟨S8x64x512, .bf16⟩
  | .local _ .vmem, ⟨3, _⟩ => ⟨S8x2x5632, .f32⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S2816x1024, .bf16⟩
  | .local _ .vmem, ⟨9, _⟩ => ⟨S8x64x1024, .f32⟩
  | .local _ .vmem, ⟨10, _⟩ => ⟨S8x2x5632, .f32⟩
  | .local _ .vmem, ⟨11, _⟩ => ⟨S8x72x5632, .f32⟩
  | .local _ .vmem, ⟨12, _⟩ => ⟨S512x2816, .bf16⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S8x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S8x2x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S8x2x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]
-- ==== SmpReferenceIdeal.lean ====
abbrev S8x64x1024 : Shape := ⟨3, ![8, 64, 1024]⟩
abbrev S8x64x512 : Shape := ⟨3, ![8, 64, 512]⟩
abbrev S8x2x5632 : Shape := ⟨3, ![8, 2, 5632]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x64x5632 : Shape := ⟨3, ![8, 64, 5632]⟩
abbrev S8x66x5632 : Shape := ⟨3, ![8, 66, 5632]⟩
abbrev S1x5632 : Shape := ⟨2, ![1, 5632]⟩
abbrev S5632 : Shape := ⟨1, ![5632]⟩
abbrev S1x1x5632 : Shape := ⟨3, ![1, 1, 5632]⟩
abbrev S8x64x2816 : Shape := ⟨3, ![8, 64, 2816]⟩

abbrev nBuf : Space → Nat
  | .hbm => 67
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x64x512, .bf16⟩
  | .hbm, ⟨2, _⟩ => ⟨S8x64x512, .bf16⟩
  | .hbm, ⟨3, _⟩ => ⟨S8x2x5632, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S3x5632, .f32⟩
  | .hbm, ⟨8, _⟩ => ⟨S2816x1024, .f32⟩
  | .hbm, ⟨9, _⟩ => ⟨S8x64x512, .f32⟩
  | .hbm, ⟨10, _⟩ => ⟨S8x64x512, .f32⟩
  | .hbm, ⟨11, _⟩ => ⟨S8x64x1024, .f32⟩
  | .hbm, ⟨12, _⟩ => ⟨S8x64x1024, .f32⟩
  | .hbm, ⟨13, _⟩ => ⟨S8x64x1024, .f32⟩
  | .hbm, ⟨14, _⟩ => ⟨S8x64x1024, .f32⟩
  | .hbm, ⟨15, _⟩ => ⟨S_, .f32⟩
  | .hbm, ⟨16, _⟩ => ⟨S8x64, .f32⟩
  | .hbm, ⟨17, _⟩ => ⟨S8x64x1, .f32⟩
  | .hbm, ⟨18, _⟩ => ⟨S_, .f32⟩
  | .hbm, ⟨19, _⟩ => ⟨S8x64x1, .f32⟩
  | .hbm, ⟨20, _⟩ => ⟨S8x64x1, .f32⟩
  | .hbm, ⟨21, _⟩ => ⟨S_, .f32⟩
  | .hbm, ⟨22, _⟩ => ⟨S8x64x1, .f32⟩
  | .hbm, ⟨23, _⟩ => ⟨S8x64x1, .f32⟩
  | .hbm, ⟨24, _⟩ => ⟨S8x64x1, .f32⟩
  | .hbm, ⟨25, _⟩ => ⟨S8x64x1024, .f32⟩
  | .hbm, ⟨26, _⟩ => ⟨S8x64x1024, .f32⟩
  | .hbm, ⟨27, _⟩ => ⟨S1x1x1024, .f32⟩
  | .hbm, ⟨28, _⟩ => ⟨S8x64x1024, .f32⟩
  | .hbm, ⟨29, _⟩ => ⟨S8x64x1024, .f32⟩
  | .hbm, ⟨30, _⟩ => ⟨S8x64x5632, .f32⟩
  | .hbm, ⟨31, _⟩ => ⟨S8x66x5632, .f32⟩
  | .hbm, ⟨32, _⟩ => ⟨S1x5632, .f32⟩
  | .hbm, ⟨33, _⟩ => ⟨S5632, .f32⟩
  | .hbm, ⟨34, _⟩ => ⟨S8x64x5632, .f32⟩
  | .hbm, ⟨35, _⟩ => ⟨S1x1x5632, .f32⟩
  | .hbm, ⟨36, _⟩ => ⟨S8x64x5632, .f32⟩
  | .hbm, ⟨37, _⟩ => ⟨S8x64x5632, .f32⟩
  | .hbm, ⟨38, _⟩ => ⟨S1x5632, .f32⟩
  | .hbm, ⟨39, _⟩ => ⟨S5632, .f32⟩
  | .hbm, ⟨40, _⟩ => ⟨S8x64x5632, .f32⟩
  | .hbm, ⟨41, _⟩ => ⟨S1x1x5632, .f32⟩
  | .hbm, ⟨42, _⟩ => ⟨S8x64x5632, .f32⟩
  | .hbm, ⟨43, _⟩ => ⟨S8x64x5632, .f32⟩
  | .hbm, ⟨44, _⟩ => ⟨S8x64x5632, .f32⟩
  | .hbm, ⟨45, _⟩ => ⟨S1x5632, .f32⟩
  | .hbm, ⟨46, _⟩ => ⟨S5632, .f32⟩
  | .hbm, ⟨47, _⟩ => ⟨S8x64x5632, .f32⟩
  | .hbm, ⟨48, _⟩ => ⟨S1x1x5632, .f32⟩
  | .hbm, ⟨49, _⟩ => ⟨S8x64x5632, .f32⟩
  | .hbm, ⟨50, _⟩ => ⟨S8x64x5632, .f32⟩
  | .hbm, ⟨51, _⟩ => ⟨S8x64x5632, .f32⟩
  | .hbm, ⟨52, _⟩ => ⟨S8x64x2816, .f32⟩
  | .hbm, ⟨53, _⟩ => ⟨S8x64x2816, .f32⟩
  | .hbm, ⟨54, _⟩ => ⟨S8x64x2816, .f32⟩
  | .hbm, ⟨55, _⟩ => ⟨S_, .f32⟩
  | .hbm, ⟨56, _⟩ => ⟨S8x64x2816, .f32⟩
  | .hbm, ⟨57, _⟩ => ⟨S8x64x2816, .f32⟩
  | .hbm, ⟨58, _⟩ => ⟨S_, .f32⟩
  | .hbm, ⟨59, _⟩ => ⟨S8x64x2816, .f32⟩
  | .hbm, ⟨60, _⟩ => ⟨S8x64x2816, .f32⟩
  | .hbm, ⟨61, _⟩ => ⟨S8x64x2816, .f32⟩
  | .hbm, ⟨62, _⟩ => ⟨S8x64x2816, .f32⟩
  | .hbm, ⟨63, _⟩ => ⟨S8x64x2816, .f32⟩
  | .hbm, ⟨64, _⟩ => ⟨S8x64x1024, .f32⟩
  | .hbm, ⟨65, _⟩ => ⟨S8x64x1024, .f32⟩
  | .hbm, ⟨66, _⟩ => ⟨S8x2x5632, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== SmpIn.lean ====
abbrev S8x64x1024 : Shape := ⟨3, ![8, 64, 1024]⟩
abbrev S8x2x512 : Shape := ⟨3, ![8, 2, 512]⟩
abbrev S8x1x128 : Shape := ⟨3, ![8, 1, 128]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S3x512 : Shape := ⟨2, ![3, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1024x1536 : Shape := ⟨2, ![1024, 1536]⟩
abbrev S1024x3072 : Shape := ⟨2, ![1024, 3072]⟩
abbrev S1024x8 : Shape := ⟨2, ![1024, 8]⟩
abbrev S1024x128 : Shape := ⟨2, ![1024, 128]⟩
abbrev S1x1024 : Shape := ⟨2, ![1, 1024]⟩
abbrev S128 : Shape := ⟨1, ![128]⟩
abbrev S1x128 : Shape := ⟨2, ![1, 128]⟩
abbrev S1x64 : Shape := ⟨2, ![1, 64]⟩
abbrev S8x64 : Shape := ⟨2, ![8, 64]⟩
abbrev S8x8x64x128 : Shape := ⟨4, ![8, 8, 64, 128]⟩
abbrev S8x64x512 : Shape := ⟨3, ![8, 64, 512]⟩
abbrev S8x64x8 : Shape := ⟨3, ![8, 64, 8]⟩
abbrev S8x72x512 : Shape := ⟨3, ![8, 72, 512]⟩
abbrev S512x1024 : Shape := ⟨2, ![512, 1024]⟩
abbrev S1024x512 : Shape := ⟨2, ![1024, 512]⟩
abbrev S512x128 : Shape := ⟨2, ![512, 128]⟩
abbrev S512x8 : Shape := ⟨2, ![512, 8]⟩
abbrev S64x64 : Shape := ⟨2, ![64, 64]⟩
abbrev S512x384 : Shape := ⟨2, ![512, 384]⟩
abbrev S64x384 : Shape := ⟨2, ![64, 384]⟩
abbrev S64x128 : Shape := ⟨2, ![64, 128]⟩
abbrev S1x1x128 : Shape := ⟨3, ![1, 1, 128]⟩
abbrev S8x64x128 : Shape := ⟨3, ![8, 64, 128]⟩
abbrev S8x1x64x128 : Shape := ⟨4, ![8, 1, 64, 128]⟩
abbrev S1x1x512 : Shape := ⟨3, ![1, 1, 512]⟩

abbrev nBuf : Space → Nat
  | .hbm => 69
  | .vmem => 21
  | .smem => 0
  | _ => 0

abbrev bufTy : (tb : Table) → Fin (tcTables nBuf tb) → BufTy
  | .hbm, ⟨0, _⟩ => ⟨S8x64x1024, .f32⟩
  | .hbm, ⟨1, _⟩ => ⟨S8x2x512, .f32⟩
  | .hbm, ⟨2, _⟩ => ⟨S8x1x128, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S64, .f32⟩
  | .hbm, ⟨7, _⟩ => ⟨S64, .f32⟩
  | .hbm, ⟨8, _⟩ => ⟨S3x512, .f32⟩
  | .hbm, ⟨9, _⟩ => ⟨S512, .i32⟩
  | .hbm, ⟨10, _⟩ => ⟨S_, .i32⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S_, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .bf16⟩
  | .hbm, ⟨39, _⟩ => ⟨S1024x1536, .f32⟩
  | .hbm, ⟨40, _⟩ => ⟨S1024x1536, .f32⟩
  | .hbm, ⟨41, _⟩ => ⟨S1024x3072, .f32⟩
  | .hbm, ⟨42, _⟩ => ⟨S1024x3072, .bf16⟩
  | .hbm, ⟨43, _⟩ => ⟨S1024x8, .f32⟩
  | .hbm, ⟨44, _⟩ => ⟨S_, .i32⟩
  | .hbm, ⟨45, _⟩ => ⟨S_, .f32⟩
  | .hbm, ⟨46, _⟩ => ⟨S1024x128, .f32⟩
  | .hbm, ⟨47, _⟩ => ⟨S1024x128, .bf16⟩
  | .hbm, ⟨48, _⟩ => ⟨S1x1024, .f32⟩
  | .hbm, ⟨49, _⟩ => ⟨S_, .i32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S1x64, .f32⟩
  | .hbm, ⟨54, _⟩ => ⟨S8x64, .f32⟩
  | .hbm, ⟨55, _⟩ => ⟨S512, .f32⟩
  | .hbm, ⟨56, _⟩ => ⟨S1x512, .f32⟩
  | .hbm, ⟨57, _⟩ => ⟨S1x64, .f32⟩
  | .hbm, ⟨58, _⟩ => ⟨S8x64, .f32⟩
  | .hbm, ⟨59, _⟩ => ⟨S512, .f32⟩
  | .hbm, ⟨60, _⟩ => ⟨S1x512, .f32⟩
  | .hbm, ⟨61, _⟩ => ⟨S8x8x64x128, .bf16⟩
  | .hbm, ⟨62, _⟩ => ⟨S8x8x64x128, .bf16⟩
  | .hbm, ⟨63, _⟩ => ⟨S8x8x64x128, .bf16⟩
  | .hbm, ⟨64, _⟩ => ⟨S8x64x512, .f32⟩
  | .hbm, ⟨65, _⟩ => ⟨S8x64x512, .f32⟩
  | .hbm, ⟨66, _⟩ => ⟨S8x64x8, .f32⟩
  | .hbm, ⟨67, _⟩ => ⟨S8x64x512, .bf16⟩
  | .hbm, ⟨68, _⟩ => ⟨S8x2x512, .f32⟩
  | .local _ .vmem, ⟨0, _⟩ => ⟨S8x64x1024, .f32⟩
  | .local _ .vmem, ⟨1, _⟩ => ⟨S8x2x512, .f32⟩
  | .local _ .vmem, ⟨2, _⟩ => ⟨S8x1x128, .f32⟩
  | .local _ .vmem, ⟨3, _⟩ => ⟨S1x1024, .f32⟩
  | .local _ .vmem, ⟨4, _⟩ => ⟨S1024x3072, .bf16⟩
  | .local _ .vmem, ⟨5, _⟩ => ⟨S1024x128, .bf16⟩
  | .local _ .vmem, ⟨6, _⟩ => ⟨S1x128, .f32⟩
  | .local _ .vmem, ⟨7, _⟩ => ⟨S1x512, .f32⟩
  | .local _ .vmem, ⟨8, _⟩ => ⟨S1x512, .f32⟩
  | .local _ .vmem, ⟨9, _⟩ => ⟨S3x512, .f32⟩
  | .local _ .vmem, ⟨10, _⟩ => ⟨S512x512, .bf16⟩
  | .local _ .vmem, ⟨11, _⟩ => ⟨S8x8x64x128, .bf16⟩
  | .local _ .vmem, ⟨12, _⟩ => ⟨S8x8x64x128, .bf16⟩
  | .local _ .vmem, ⟨13, _⟩ => ⟨S8x8x64x128, .bf16⟩
  | .local _ .vmem, ⟨14, _⟩ => ⟨S8x64x512, .f32⟩
  | .local _ .vmem, ⟨15, _⟩ => ⟨S8x64x512, .f32⟩
  | .local _ .vmem, ⟨16, _⟩ => ⟨S8x64x8, .f32⟩
  | .local _ .vmem, ⟨17, _⟩ => ⟨S8x64x512, .bf16⟩
  | .local _ .vmem, ⟨18, _⟩ => ⟨S8x2x512, .f32⟩
  | .local _ .vmem, ⟨19, _⟩ => ⟨S8x72x512, .f32⟩
  | .local _ .vmem, ⟨20, _⟩ => ⟨S8x1x128, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_cst : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_c_1 : Ref sig .tc := ⟨.hbm, 44, rfl⟩
abbrev main_call2_v0 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_2 : Ref sig .tc := ⟨.hbm, 49, rfl⟩
abbrev main_call3_v0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27_0 : Ref sig .tc := ⟨.hbm, 61, rfl⟩
abbrev main_v27_1 : Ref sig .tc := ⟨.hbm, 62, rfl⟩
abbrev main_v27_2 : Ref sig .tc := ⟨.hbm, 63, rfl⟩
abbrev main_v27_3 : Ref sig .tc := ⟨.hbm, 64, rfl⟩
abbrev main_v27_4 : Ref sig .tc := ⟨.hbm, 65, rfl⟩
abbrev main_v27_5 : Ref sig .tc := ⟨.hbm, 66, rfl⟩
abbrev main_v27_6 : Ref sig .tc := ⟨.hbm, 67, rfl⟩
abbrev main_v27_7 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S8x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x8x64x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S8x8x64x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S8x8x64x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S8x64x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S8x64x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S8x64x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S8x64x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S8x2x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, false]
-- ==== SmpInReferenceIdeal.lean ====
abbrev S8x64x1024 : Shape := ⟨3, ![8, 64, 1024]⟩
abbrev S8x2x512 : Shape := ⟨3, ![8, 2, 512]⟩
abbrev S8x1x128 : Shape := ⟨3, ![8, 1, 128]⟩
abbrev S1024 : Shape := ⟨1, ![1024]⟩
abbrev S1024x3080 : Shape := ⟨2, ![1024, 3080]⟩
abbrev S8 : Shape := ⟨1, ![8]⟩
abbrev S64 : Shape := ⟨1, ![64]⟩
abbrev S3x512 : Shape := ⟨2, ![3, 512]⟩
abbrev S_ : Shape := ⟨0, ![]⟩
abbrev S8x64 : Shape := ⟨2, ![8, 64]⟩
abbrev S8x64x1 : Shape := ⟨3, ![8, 64, 1]⟩
abbrev S1x1x1024 : Shape := ⟨3, ![1, 1, 1024]⟩
abbrev S8x64x3080 : Shape := ⟨3, ![8, 64, 3080]⟩
abbrev S8x64x512 : Shape := ⟨3, ![8, 64, 512]⟩
abbrev S8x64x8x64 : Shape := ⟨4, ![8, 64, 8, 64]⟩
abbrev S8x64x8 : Shape := ⟨3, ![8, 64, 8]⟩
abbrev S8x64x8x1 : Shape := ⟨4, ![8, 64, 8, 1]⟩
abbrev S1x1x1x64 : Shape := ⟨4, ![1, 1, 1, 64]⟩
abbrev S1x1x8 : Shape := ⟨3, ![1, 1, 8]⟩
abbrev S8x66x512 : Shape := ⟨3, ![8, 66, 512]⟩

abbrev nBuf : Space → Nat
  | .hbm => 71
  | .vmem => 0
  | .smem => 0
  | _ => 0

abbrev bufTy : (tb : Table) → Fin (tcTables nBuf tb) → BufTy
  | .hbm, ⟨0, _⟩ => ⟨S8x64x1024, .f32⟩
  | .hbm, ⟨1, _⟩ => ⟨S8x2x512, .f32⟩
  | .hbm, ⟨2, _⟩ => ⟨S8x1x128, .f32⟩
  | .hbm, ⟨3, _⟩ => ⟨S1024, .f32⟩
  | .hbm, ⟨4, _⟩ => ⟨S1024x3080, .f32⟩
  | .hbm, ⟨5, _⟩ => ⟨S8, .f32⟩
  | .hbm, ⟨6, _⟩ => ⟨S64, .f32⟩
  | .hbm, ⟨7, _⟩ => ⟨S64, .f32⟩
  | .hbm, ⟨8, _⟩ => ⟨S3x512, .f32⟩
  | .hbm, ⟨9, _⟩ => ⟨S8x64x1024, .f32⟩
  | .hbm, ⟨10, _⟩ => ⟨S_, .f32⟩
  | .hbm, ⟨11, _⟩ => ⟨S8x64, .f32⟩
  | .hbm, ⟨12, _⟩ => ⟨S8x64x1, .f32⟩
  | .hbm, ⟨13, _⟩ => ⟨S_, .f32⟩
  | .hbm, ⟨14, _⟩ => ⟨S8x64x1, .f32⟩
  | .hbm, ⟨15, _⟩ => ⟨S8x64x1, .f32⟩
  | .hbm, ⟨16, _⟩ => ⟨S_, .f32⟩
  | .hbm, ⟨17, _⟩ => ⟨S8x64x1, .f32⟩
  | .hbm, ⟨18, _⟩ => ⟨S8x64x1, .f32⟩
  | .hbm, ⟨19, _⟩ => ⟨S8x64x1, .f32⟩
  | .hbm, ⟨20, _⟩ => ⟨S8x64x1024, .f32⟩
  | .hbm, ⟨21, _⟩ => ⟨S8x64x1024, .f32⟩
  | .hbm, ⟨22, _⟩ => ⟨S1x1x1024, .f32⟩
  | .hbm, ⟨23, _⟩ => ⟨S8x64x1024, .f32⟩
  | .hbm, ⟨24, _⟩ => ⟨S8x64x1024, .f32⟩
  | .hbm, ⟨25, _⟩ => ⟨S8x64x3080, .f32⟩
  | .hbm, ⟨26, _⟩ => ⟨S8x64x512, .f32⟩
  | .hbm, ⟨27, _⟩ => ⟨S8x64x8x64, .f32⟩
  | .hbm, ⟨28, _⟩ => ⟨S8x64x8x64, .f32⟩
  | .hbm, ⟨29, _⟩ => ⟨S_, .f32⟩
  | .hbm, ⟨30, _⟩ => ⟨S8x64x8, .f32⟩
  | .hbm, ⟨31, _⟩ => ⟨S8x64x8x1, .f32⟩
  | .hbm, ⟨32, _⟩ => ⟨S_, .f32⟩
  | .hbm, ⟨33, _⟩ => ⟨S8x64x8x1, .f32⟩
  | .hbm, ⟨34, _⟩ => ⟨S8x64x8x1, .f32⟩
  | .hbm, ⟨35, _⟩ => ⟨S_, .f32⟩
  | .hbm, ⟨36, _⟩ => ⟨S8x64x8x1, .f32⟩
  | .hbm, ⟨37, _⟩ => ⟨S8x64x8x1, .f32⟩
  | .hbm, ⟨38, _⟩ => ⟨S8x64x8x1, .f32⟩
  | .hbm, ⟨39, _⟩ => ⟨S8x64x8x64, .f32⟩
  | .hbm, ⟨40, _⟩ => ⟨S8x64x8x64, .f32⟩
  | .hbm, ⟨41, _⟩ => ⟨S1x1x1x64, .f32⟩
  | .hbm, ⟨42, _⟩ => ⟨S8x64x8x64, .f32⟩
  | .hbm, ⟨43, _⟩ => ⟨S8x64x8x64, .f32⟩
  | .hbm, ⟨44, _⟩ => ⟨S8x64x8, .f32⟩
  | .hbm, ⟨45, _⟩ => ⟨S1x1x8, .f32⟩
  | .hbm, ⟨46, _⟩ => ⟨S8x64x8, .f32⟩
  | .hbm, ⟨47, _⟩ => ⟨S8x64x8, .f32⟩
  | .hbm, ⟨48, _⟩ => ⟨S8x64x8, .f32⟩
  | .hbm, ⟨49, _⟩ => ⟨S_, .f32⟩
  | .hbm, ⟨50, _⟩ => ⟨S8x64x8, .f32⟩
  | .hbm, ⟨51, _⟩ => ⟨S8x64x8, .f32⟩
  | .hbm, ⟨52, _⟩ => ⟨S8x64x8, .f32⟩
  | .hbm, ⟨53, _⟩ => ⟨S8x64x8, .f32⟩
  | .hbm, ⟨54, _⟩ => ⟨S8x64x8, .i1⟩
  | .hbm, ⟨55, _⟩ => ⟨S8x64x8, .f32⟩
  | .hbm, ⟨56, _⟩ => ⟨S8x64x8, .f32⟩
  | .hbm, ⟨57, _⟩ => ⟨S8x64x8, .f32⟩
  | .hbm, ⟨58, _⟩ => ⟨S8x64x8, .f32⟩
  | .hbm, ⟨59, _⟩ => ⟨S8x64x8, .f32⟩
  | .hbm, ⟨60, _⟩ => ⟨S8x64x8, .f32⟩
  | .hbm, ⟨61, _⟩ => ⟨S8x64x8, .f32⟩
  | .hbm, ⟨62, _⟩ => ⟨S8x64x8, .f32⟩
  | .hbm, ⟨63, _⟩ => ⟨S8x64x8, .f32⟩
  | .hbm, ⟨64, _⟩ => ⟨S8x64x512, .f32⟩
  | .hbm, ⟨65, _⟩ => ⟨S8x64x512, .f32⟩
  | .hbm, ⟨66, _⟩ => ⟨S8x64x512, .f32⟩
  | .hbm, ⟨67, _⟩ => ⟨S8x66x512, .f32⟩
  | .hbm, ⟨68, _⟩ => ⟨S8x64x512, .f32⟩
  | .hbm, ⟨69, _⟩ => ⟨S8x64x512, .f32⟩
  | .hbm, ⟨70, _⟩ => ⟨S8x2x512, .f32⟩
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_call0_cst : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_call0_v2 : Ref sig .tc := ⟨.hbm, 52, rfl⟩
abbrev main_call0_call0_v3 : Ref sig .tc := ⟨.hbm, 53, rfl⟩
abbrev main_call0_call0_v4 : Ref sig .tc := ⟨.hbm, 54, rfl⟩
abbrev main_call0_call0_v5 : Ref sig .tc := ⟨.hbm, 55, rfl⟩
abbrev main_call0_call0_v6 : Ref sig .tc := ⟨.hbm, 56, rfl⟩
abbrev main_call0_call0_v7 : Ref sig .tc := ⟨.hbm, 57, rfl⟩
abbrev main_call0_call0_v8 : Ref sig .tc := ⟨.hbm, 58, rfl⟩
abbrev main_call0_call0_v9 : Ref sig .tc := ⟨.hbm, 59, rfl⟩
abbrev main_call0_call0_v10 : Ref sig .tc := ⟨.hbm, 60, rfl⟩
abbrev main_call0_call0_v11 : Ref sig .tc := ⟨.hbm, 61, rfl⟩
abbrev main_call0_v1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Proof.Word.lean ====
module

public import Idealize.ShloMosaic.Lib.Pipeline.ValueKit
public import Idealize.ShloMosaic.Lib.Pointwise

@[expose] public section

namespace Cert.Attn
open Idealize.ShloMosaic

/-- A small natural number's word is that number, read as a signed one. -/
theorem toInt_ofNat' (a : ℕ) (ha : a < 2 ^ 31) : (BitVec.ofNat 32 a).toInt = a := by
  rw [BitVec.toInt_eq_toNat_of_lt] <;> rw [BitVec.toNat_ofNat] <;> omega

/-- Small natural numbers compare as signed words the way they compare as numbers. -/
theorem sge_ofNat (a b : ℕ) (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [BitVec.sle_eq_decide, toInt_ofNat' a ha, toInt_ofNat' b hb]
  simp

/-- Likewise for the strict order. -/
theorem slt_ofNat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_ofNat' a ha, toInt_ofNat' b hb]
  simp

/-- A choice by the bit of a decided statement is an `if`. -/
theorem select_ofBool {α : Type} (p : Prop) [Decidable p] (x y : α) :
    Scalar.select (BitVec.ofBool (decide p)) x y = if p then x else y := by
  by_cases h : p
  · rw [decide_eq_true h, if_pos h]; rfl
  · rw [decide_eq_false h, if_neg h]; rfl

/-- The bit pattern of minus infinity. -/
theorem negInf : Ideal.ofBits .f32 0xFF800000#32 = ⊥ := by
  simp [Ideal.ofBits, Ideal.ieee]

/-- The bit pattern of two. -/
theorem two : Ideal.ofBits .f32 0x40000000#32 = ((2 : ℝ) : EReal) := by
  simp [Ideal.ofBits, Ideal.ieee, -EReal.coe_mul]
  norm_num

end Cert.Attn
-- ==== Proof.Pay.lean ====
module

public import proofs.«01_k».proof.Proof.Gen.KernelIdeal.Skeleton
public import proofs.«01_k».proof.Proof.Word

/-! What one block step of the attention computes, read at an entry: scores, running maximum, accumulator. -/

set_option maxRecDepth 16384

@[expose] public section
noncomputable section

namespace Cert.Attn
open Idealize.ShloMosaic Idealize.ShloMosaic.TcCoe Idealize.SL.Sem
open Cert.KernelIdeal Cert.KernelIdeal.Gen

/-- The named mask is minus infinity. -/
theorem mask : (Named.named κ "mask" 0xF149F2CA#32 : Ideal .f32) = ⊥ := rfl

/-- A score of a whole block: the product of the query's row and the key's row. -/
theorem pay2_at (q : FVec Ideal S1024x128 .bf16) (kb : FVec Ideal S1x1x1024x128 .bf16) (r k : Fin 1024) :
    k0_pay2 (F := Ideal) q kb (ix2 r k) = ∑ l : Fin 128, q (ix2 r l) * kb (ix4 0 0 k l) := by
  pointwise [k0_pay2]

/-- The new running maximum of a whole block. -/
theorem pay3_at (q : FVec Ideal S1024x128 .bf16) (m : FVec Ideal S1024x1 .f32) (kb : FVec Ideal S1x1x1024x128 .bf16) (r : Fin 1024) :
    k0_pay3 (F := Ideal) q m kb (ix2 r 0) = max (m (ix2 r 0))
      ((Finset.univ : Finset (Fin 1024)).fold max ⊥ fun k => ∑ l : Fin 128, q (ix2 r l) * kb (ix4 0 0 k l)) := by
  pointwise [k0_pay3, k0_pay2]
  rw [negInf]

/-- The new accumulator of a whole block. -/
theorem pay4_at (q : FVec Ideal S1024x128 .bf16) (m : FVec Ideal S1024x1 .f32) (a : FVec Ideal S1024x128 .f32)
    (kb vb : FVec Ideal S1x1x1024x128 .bf16) (r : Fin 1024) (d : Fin 128) :
    k0_pay4 (F := Ideal) q m a kb vb (ix2 r d)
      = Ideal.exp2 (m (ix2 r 0) - k0_pay3 (F := Ideal) q m kb (ix2 r 0)) * a (ix2 r d)
        + ∑ k : Fin 1024, Ideal.exp2 ((∑ l : Fin 128, q (ix2 r l) * kb (ix4 0 0 k l))
            - k0_pay3 (F := Ideal) q m kb (ix2 r 0)) * vb (ix4 0 0 k d) := by
  pointwise [k0_pay4, k0_pay2]
  rfl

/-- A score of the diagonal block: minus infinity where the key comes after the query. -/
theorem pay26_at (q : FVec Ideal S1024x128 .bf16) (kb : FVec Ideal S1x1x1024x128 .bf16) (r k : Fin 1024) :
    k0_pay26 (F := Ideal) q kb (ix2 r k)
      = if (k : ℕ) ≤ r then ∑ l : Fin 128, q (ix2 r l) * kb (ix4 0 0 k l) else ⊥ := by
  pointwise [k0_pay26, k0_pay24]
  rw [sge_ofNat _ _ (by omega) (by omega), select_ofBool, mask]

/-- The new running maximum of the diagonal block. -/
theorem pay27_at (q : FVec Ideal S1024x128 .bf16) (m : FVec Ideal S1024x1 .f32) (kb : FVec Ideal S1x1x1024x128 .bf16) (r : Fin 1024) :
    k0_pay27 (F := Ideal) q m kb (ix2 r 0) = max (m (ix2 r 0))
      ((Finset.univ : Finset (Fin 1024)).fold max ⊥ fun k : Fin 1024 =>
        if (k : ℕ) ≤ r then ∑ l : Fin 128, q (ix2 r l) * kb (ix4 0 0 k l) else ⊥) := by
  have e : k0_pay27 (F := Ideal) q m kb (ix2 r 0) = max (m (ix2 r 0))
      ((Finset.univ : Finset (Fin 1024)).fold max (Ideal.ofBits .f32 0xFF800000#32) fun k => k0_pay26 (F := Ideal) q kb (ix2 r k)) := by
    pointwise [k0_pay27]
  rw [e, negInf]
  simp only [pay26_at]

/-- The accumulator of the diagonal block. -/
def diag (q : FVec Ideal S1024x128 .bf16) (m : FVec Ideal S1024x1 .f32) (a : FVec Ideal S1024x128 .f32)
    (kb vb : FVec Ideal S1x1x1024x128 .bf16) (r : Fin 1024) (d : Fin 128) : EReal :=
  Ideal.exp2 (m (ix2 r 0) - k0_pay27 (F := Ideal) q m kb (ix2 r 0)) * a (ix2 r d)
    + ∑ k : Fin 1024, Ideal.exp2 ((if (k : ℕ) ≤ r then ∑ l : Fin 128, q (ix2 r l) * kb (ix4 0 0 k l) else ⊥)
        - k0_pay27 (F := Ideal) q m kb (ix2 r 0)) * vb (ix4 0 0 k d)

/-- The first head's result: the accumulator over its denominator lane. -/
theorem pay25_at (q : FVec Ideal S1024x128 .bf16) (m : FVec Ideal S1024x1 .f32) (a : FVec Ideal S1024x128 .f32)
    (kb vb : FVec Ideal S1x1x1024x128 .bf16) (r : Fin 1024) (d : Fin 128) :
    k0_pay25 (F := Ideal) q m a kb vb (ix2 r d) = Ideal.div (diag q m a kb vb r d) (diag q m a kb vb r 64) := by
  have e : k0_pay25 (F := Ideal) q m a kb vb
      = (have v59 : FVec Ideal S1024x128 .f32 := addf (mulf (broadcastTo S1024x128 (exp2 (subf m (k0_pay27 q m kb)))
            broadcasts_S1024x1_S1024x128) a)
          (matmul dot_S1024x1024_S1024x128_S1024x128_1_0_0_1_n_n none (k0_pay28 q m kb)
            (shapeCast S1024x128 vb shapeCasts_S1x1x1024x128_S1024x128) (constant S1024x128 .f32 0x00000000#32))
        divf v59 (broadcastTo S1024x128 (extractStridedSlice S1024x1 ![0, 64] v59 slices_S1024x128_o0_64_S1024x1)
          broadcasts_S1024x1_S1024x128)) := rfl
  rw [e]
  simp only [diag, ← pay26_at]
  pointwise [k0_pay28]
  rfl

/-- The stored block: lanes below 64 are the first head's result, the others the second head's. -/
theorem pay1_at (q : FVec Ideal S1024x128 .bf16) (m : FVec Ideal S1024x1 .f32) (a : FVec Ideal S1024x128 .f32)
    (kb vb : FVec Ideal S1x1x1024x128 .bf16) (o : FVec Ideal S1024x128 .f32) (r : Fin 1024) (c : Fin 128) :
    k0_pay1 (F := Ideal) m a o (k0_pay27 q m kb) (k0_pay28 q m kb) vb (ix3 0 r c)
      = if h : (c : ℕ) < 64 then o (ix2 r c)
        else Ideal.div (diag q m a kb vb r ⟨c - 64, by omega⟩) (diag q m a kb vb r 64) := by
  simp only [diag, ← pay26_at]
  pointwise [k0_pay28, k0_pay1]
  rw [slt_ofNat _ _ (by omega) (by omega), select_ofBool]
  by_cases h : (c : ℕ) < 64
  · rw [if_pos h, dif_pos h]
  · rw [if_neg h, dif_neg h]
    have e : (⟨((c : ℕ) + 128 - 64) % 128, by omega⟩ : Fin 128) = ⟨c - 64, by omega⟩ := Fin.ext (by show _ % 128 = _ - 64; omega)
    simp only [e]
    rfl

end Cert.Attn
-- ==== Proof.Online.lean ====
module

public import Idealize.ShloMosaic.Lib.Pipeline.ValueKit
public import Idealize.ShloMosaic.Lib.Pointwise

/-! The softmax-weighted sum of one query, taken block by block, over the extended reals.

A score is a real number, or `⊥` for a key the query does not see. `acc s v U` is the weighted sum over
the keys `U`, the weights taken relative to the greatest score of `U`. -/

@[expose] public section

namespace Cert.Online
open Idealize.ShloMosaic

/-- A finite extended real times a sum: a nonnegative real factor goes into every term. -/
theorem mul_sum {ι : Type} (U : Finset ι) (f : ι → EReal) (c : EReal) (h0 : 0 ≤ c) (ht : c ≠ ⊤) :
    c * ∑ k ∈ U, f k = ∑ k ∈ U, c * f k := by
  classical
  induction U using Finset.induction_on with
  | empty => simp
  | insert a U ha ih =>
    rw [Finset.sum_insert ha, Finset.sum_insert ha, EReal.left_distrib_of_nonneg_of_ne_top h0 ht, ih]

/-- A sum of real numbers, read in the extended reals. -/
theorem coe_sum {ι : Type} (U : Finset ι) (f : ι → ℝ) : ((∑ k ∈ U, f k : ℝ) : EReal) = ∑ k ∈ U, (f k : EReal) := by
  classical
  induction U using Finset.induction_on with
  | empty => simp
  | insert a U ha ih => rw [Finset.sum_insert ha, Finset.sum_insert ha, EReal.coe_add, ih]

/-- The power of two is not negative. -/
theorem exp2_nonneg (x : EReal) : 0 ≤ Ideal.exp2 x := by
  induction x with
  | bot => simp
  | top => simp
  | coe r => rw [Ideal.exp2_coe]; exact_mod_cast (Real.rpow_pos_of_pos (by norm_num) r).le

/-- The power of two of anything but `⊤` is not `⊤`. -/
theorem exp2_ne_top {x : EReal} (h : x ≠ ⊤) : Ideal.exp2 x ≠ ⊤ := by
  induction x with
  | bot => simp
  | top => exact absurd rfl h
  | coe r => rw [Ideal.exp2_coe]; exact EReal.coe_ne_top _

/-- The power of two as a real number. -/
theorem exp2_toReal {x : EReal} (h : x ≠ ⊤) : ∃ r : ℝ, 0 ≤ r ∧ Ideal.exp2 x = (r : EReal) := by
  refine ⟨(Ideal.exp2 x).toReal, EReal.toReal_nonneg (exp2_nonneg x), ?_⟩
  exact (EReal.coe_toReal (exp2_ne_top h) (ne_of_gt (lt_of_lt_of_le EReal.bot_lt_zero (exp2_nonneg x)))).symm

/-- Two to a power is the power of two. -/
theorem pow_two (x : EReal) : Ideal.pow ((2 : ℝ) : EReal) x = Ideal.exp2 x := by
  induction x with
  | bot => rw [Ideal.pow_coe_bot]; norm_num
  | top => rw [Ideal.pow_coe_top]; norm_num
  | coe r => rw [Ideal.pow_coe_coe, Ideal.exp2_coe]

/-- Two differences that meet at a real number multiply to the difference of the ends. -/
theorem exp2_mul (x : EReal) (b c : ℝ) (hx : x ≠ ⊤) :
    Ideal.exp2 ((b : EReal) - (c : EReal)) * Ideal.exp2 (x - (b : EReal)) = Ideal.exp2 (x - (c : EReal)) := by
  induction x with
  | bot => simp
  | top => exact absurd rfl hx
  | coe a =>
    rw [← EReal.coe_sub, ← EReal.coe_sub, ← EReal.coe_sub, Ideal.exp2_coe, Ideal.exp2_coe, Ideal.exp2_coe,
      ← EReal.coe_mul]
    congr 1
    show (2 : ℝ) ^ (b - c) * (2 : ℝ) ^ (a - b) = (2 : ℝ) ^ (a - c)
    rw [← Real.rpow_add (by norm_num)]; congr 1; ring

/-- The weighted sum over the keys `U`, relative to their greatest score. -/
noncomputable def acc (s v : ℕ → EReal) (U : Finset ℕ) : EReal := ∑ k ∈ U, Ideal.exp2 (s k - U.sup s) * v k

/-- The greatest of scores below `⊤` is below `⊤`. -/
theorem sup_ne_top (s : ℕ → EReal) (hs : ∀ k, s k ≠ ⊤) (U : Finset ℕ) : U.sup s ≠ ⊤ :=
  ne_of_lt ((Finset.sup_lt_iff (by exact bot_lt_top)).2 fun k _ => lt_top_iff_ne_top.2 (hs k))

/-- A difference whose first term is below `⊤` and whose second is real or below it is below `⊤`. -/
theorem sub_sup_ne_top (s : ℕ → EReal) (hs : ∀ k, s k ≠ ⊤) (U : Finset ℕ) (k : ℕ) (hk : k ∈ U) :
    s k - U.sup s ≠ ⊤ := by
  by_cases hb : s k = ⊥
  · rw [hb]; simp
  · have hle : s k ≤ U.sup s := Finset.le_sup hk
    have h0 : s k - U.sup s ≤ 0 := EReal.sub_nonpos.2 hle
    exact ne_of_lt (lt_of_le_of_lt h0 EReal.zero_lt_top)

/-- THE BLOCK STEP: adding the keys `T` rescales the old sum by the power of two of the old maximum less
the new one, and adds the new keys' terms. -/
theorem acc_union (s v : ℕ → EReal) (hs : ∀ k, s k ≠ ⊤) (U T : Finset ℕ) (hd : Disjoint U T) :
    acc s v (U ∪ T) = Ideal.exp2 (U.sup s - (U ∪ T).sup s) * acc s v U
      + ∑ k ∈ T, Ideal.exp2 (s k - (U ∪ T).sup s) * v k := by
  unfold acc
  rw [Finset.sum_union hd]
  congr 1
  have hle : U.sup s ≤ (U ∪ T).sup s := Finset.sup_mono Finset.subset_union_left
  have htop := sup_ne_top s hs (U ∪ T)
  generalize (U ∪ T).sup s = M' at hle htop ⊢
  by_cases hb : U.sup s = ⊥
  · have hk : ∀ k ∈ U, s k = ⊥ := fun k h => le_bot_iff.1 (hb ▸ Finset.le_sup h)
    rw [Finset.sum_eq_zero, hb]
    · simp
    · intro k h; rw [hk k h]; simp
  · have ht := sup_ne_top s hs U
    obtain ⟨a, ha⟩ : ∃ a : ℝ, U.sup s = (a : EReal) := ⟨_, (EReal.coe_toReal ht hb).symm⟩
    have hb' : M' ≠ ⊥ := fun h => hb (le_bot_iff.1 (h ▸ hle))
    obtain ⟨c, rfl⟩ : ∃ c : ℝ, M' = (c : EReal) := ⟨_, (EReal.coe_toReal htop hb').symm⟩
    rw [ha, mul_sum _ _ _ (exp2_nonneg _)
      (exp2_ne_top (by rw [← EReal.coe_sub]; exact EReal.coe_ne_top _))]
    exact Finset.sum_congr rfl fun k _ => by rw [← mul_assoc, exp2_mul _ _ _ (hs k)]

/-- Keys the query does not see change nothing. -/
theorem acc_subset (s v : ℕ → EReal) (U W : Finset ℕ) (hUW : U ⊆ W) (h : ∀ k ∈ W, k ∉ U → s k = ⊥) :
    U.sup s = W.sup s ∧ acc s v U = acc s v W := by
  have hsup : U.sup s = W.sup s := by
    refine le_antisymm (Finset.sup_mono hUW) (Finset.sup_le fun k hk => ?_)
    by_cases hkU : k ∈ U
    · exact Finset.le_sup hkU
    · rw [h k hk hkU]; exact bot_le
  refine ⟨hsup, ?_⟩
  unfold acc
  rw [hsup]
  exact Finset.sum_subset hUW fun k hk hkU => by rw [h k hk hkU]; simp

/-- THE QUOTIENT: the weighted sum divided by the sum of the weights is the sum of the values, each times its
normalised weight. -/
theorem quotient (s v : ℕ → EReal) (hs : ∀ k, s k ≠ ⊤) (W : Finset ℕ) (k₀ : ℕ) (hk : k₀ ∈ W) (h0 : s k₀ ≠ ⊥) :
    Ideal.div (acc s v W) (acc s (fun _ => 1) W)
      = ∑ k ∈ W, v k * Ideal.div (Ideal.exp2 (s k - W.sup s)) (∑ k ∈ W, Ideal.exp2 (s k - W.sup s)) := by
  unfold acc
  simp only [mul_one]
  choose! E hE0 hE using fun k (hk : k ∈ W) => exp2_toReal (sub_sup_ne_top s hs W k hk)
  have hsum : ∑ k ∈ W, Ideal.exp2 (s k - W.sup s) = ((∑ k ∈ W, E k : ℝ) : EReal) := by
    rw [coe_sum]; exact Finset.sum_congr rfl hE
  have hpos : 0 < E k₀ := by
    have hb : W.sup s ≠ ⊥ := fun hb => h0 (le_bot_iff.1 (hb ▸ Finset.le_sup hk))
    have e := hE k₀ hk
    rw [← EReal.coe_toReal (hs k₀) h0, ← EReal.coe_toReal (sup_ne_top s hs W) hb, ← EReal.coe_sub,
      Ideal.exp2_coe] at e
    rw [← EReal.coe_eq_coe_iff.1 e]
    exact Real.rpow_pos_of_pos (by norm_num) _
  have hL : 0 < ∑ k ∈ W, E k := Finset.sum_pos' hE0 ⟨k₀, hk, hpos⟩
  rw [hsum, Ideal.div_coe hL.ne', mul_comm, mul_sum]
  · refine Finset.sum_congr rfl fun k _ => ?_
    rw [Ideal.div_coe hL.ne', ← mul_assoc, mul_comm _ (v k), mul_comm (Ideal.exp2 _)]
  · exact_mod_cast (by positivity : (0:ℝ) ≤ 1 / ∑ k ∈ W, E k)
  · exact EReal.coe_ne_top _

/-- A fold of `max` from `⊥` over the first `n` numbers is their supremum. -/
theorem fold_max (n : ℕ) (f : ℕ → EReal) :
    (Finset.univ : Finset (Fin n)).fold max ⊥ (fun k : Fin n => f k) = (Finset.range n).sup f := by
  have : (Finset.univ : Finset (Fin n)).fold max ⊥ (fun k : Fin n => f k) = Finset.univ.sup (fun k : Fin n => f k) := rfl
  rw [this]
  refine le_antisymm (Finset.sup_le fun k _ => Finset.le_sup (f := f) (Finset.mem_range.2 k.2))
    (Finset.sup_le fun k hk => ?_)
  exact Finset.le_sup (f := fun k : Fin n => f k) (Finset.mem_univ ⟨k, Finset.mem_range.1 hk⟩)

/-- The keys of block `j`: `w` keys from `w * j` on. -/
def blk (w j : ℕ) : Finset ℕ := Finset.Ico (w * j) (w * (j + 1))

/-- The first blocks and the next one are disjoint. -/
theorem blk_disjoint (w j : ℕ) : Disjoint (Finset.range (w * j)) (blk w j) :=
  Finset.disjoint_left.2 fun k h h' => by
    have := Finset.mem_range.1 h; have := (Finset.mem_Ico.1 h').1; omega

/-- The first blocks and the next one are the first blocks, one more. -/
theorem blk_union (w j : ℕ) : Finset.range (w * j) ∪ blk w j = Finset.range (w * (j + 1)) := by
  ext k
  have : w * j ≤ w * (j + 1) := Nat.mul_le_mul_left _ (Nat.le_succ _)
  simp only [blk, Finset.mem_union, Finset.mem_range, Finset.mem_Ico]; omega

/-- The greatest over a block, by the keys' places in it. -/
theorem blk_sup (w j : ℕ) (f : ℕ → EReal) :
    (Finset.range w).sup (fun k => f (w * j + k)) = (blk w j).sup f := by
  refine le_antisymm (Finset.sup_le fun k hk => ?_) (Finset.sup_le fun k hk => ?_)
  · refine Finset.le_sup (f := f) (Finset.mem_Ico.2 ⟨by omega, ?_⟩)
    have := Finset.mem_range.1 hk; rw [Nat.mul_add, Nat.mul_one]; omega
  · obtain ⟨h1, h2⟩ := Finset.mem_Ico.1 hk
    rw [Nat.mul_add, Nat.mul_one] at h2
    have := Finset.le_sup (f := fun k => f (w * j + k)) (Finset.mem_range.2 (show k - w * j < w by omega))
    rwa [show w * j + (k - w * j) = k by omega] at this

/-- The sum over a block, by the keys' places in it. -/
theorem blk_sum (w j : ℕ) (f : ℕ → EReal) : ∑ k : Fin w, f (w * j + k) = ∑ k ∈ blk w j, f k := by
  rw [Fin.sum_univ_eq_sum_range (fun k => f (w * j + k)) w, blk, Finset.sum_Ico_eq_sum_range]
  rw [show w * (j + 1) - w * j = w by rw [Nat.mul_add, Nat.mul_one]; omega]

/-- The block step at block `j`, in the form the kernel takes it. -/
theorem step_max (w j : ℕ) (s : ℕ → EReal) :
    max ((Finset.range (w * j)).sup s) ((Finset.univ : Finset (Fin w)).fold max ⊥ (fun k : Fin w => s (w * j + k)))
      = (Finset.range (w * (j + 1))).sup s := by
  rw [fold_max w (fun k => s (w * j + k)), blk_sup, ← blk_union, Finset.sup_union]

/-- The block step at block `j`, in the form the kernel takes it. -/
theorem step_acc (w j : ℕ) (s v : ℕ → EReal) (hs : ∀ k, s k ≠ ⊤) :
    Ideal.exp2 ((Finset.range (w * j)).sup s - (Finset.range (w * (j + 1))).sup s) * acc s v (Finset.range (w * j))
      + ∑ k : Fin w, Ideal.exp2 (s (w * j + k) - (Finset.range (w * (j + 1))).sup s) * v (w * j + k)
      = acc s v (Finset.range (w * (j + 1))) := by
  rw [blk_sum w j (fun k => Ideal.exp2 (s k - (Finset.range (w * (j + 1))).sup s) * v k), ← blk_union,
    acc_union s v hs _ _ (blk_disjoint w j)]

end Cert.Online
-- ==== Proof.Loop.lean ====
module

public import proofs.«01_k».proof.Proof.Gen.KernelIdeal.Value
public import proofs.«01_k».proof.Proof.Pay
public import proofs.«01_k».proof.Proof.Online

/-! The attention's loop over whole key blocks, and the block a grid point stores. -/

set_option maxRecDepth 16384

@[expose] public section
noncomputable section

namespace Cert.Attn
open Idealize.ShloMosaic Idealize.ShloMosaic.TcCoe Idealize.SL.Sem Idealize.ShloMosaic.Tactic
open Cert.KernelIdeal Cert.KernelIdeal.Gen Cert.Online

/-- The first loop takes as many trips as there are whole blocks before the tile. -/
theorem trips1 : ∀ t : Fin cfg0.N, (k0_t1_loop (grid0.coords t)).trips = (grid0.coords t 2).val :=
  (by decide +kernel : ∀ t : Fin grid0.N, _)

/-- The second loop takes no trip. -/
theorem trips2 : ∀ t : Fin cfg0.N, (k0_t2_loop (grid0.coords t)).trips = 0 :=
  (by decide +kernel : ∀ t : Fin grid0.N, _)

/-- Trip `k` reads the keys from `1024 k` on. -/
theorem off1 : ∀ (t : Fin cfg0.N) (k : Fin (k0_t1_loop (grid0.coords t)).trips), k0_off1 (grid0.coords t) k 2 = 1024 * k :=
  (by decide +kernel : ∀ t : Fin grid0.N, _)

/-- The diagonal block starts at the tile's own first row. -/
theorem off5 : ∀ (t : Fin cfg0.N), k0_off5 (grid0.coords t) 2 = 1024 * (grid0.coords t 2).val :=
  (by decide +kernel : ∀ t : Fin grid0.N, _)

/-- Head `a`'s rows from `b` on of a pair of heads' keys (or values). -/
def kblk (X : Vec Ideal S1x2x16384x128 .bf16) (a b : ℕ) : Vec Ideal S1x1x1024x128 .bf16 := fun y =>
  X (ix4 0 ⟨a % 2, Nat.mod_lt _ (by norm_num)⟩ ⟨(b + (y 2).val) % 16384, Nat.mod_lt _ (by norm_num)⟩ (y 3))

/-- Head `a`'s rows of a pair of heads' queries. -/
def qblk (X : Vec Ideal S1x2x1024x128 .bf16) (a : ℕ) : Vec Ideal S1x1x1024x128 .bf16 := fun y =>
  X (ix4 0 ⟨a % 2, Nat.mod_lt _ (by norm_num)⟩ (y 2) (y 3))

/-- A load of 1024 rows of one head is `kblk`. -/
theorem ld_kblk (X : Vec Ideal S1x2x16384x128 .bf16) (a b : ℕ) (inb) :
    View.ld X (Rect.unit (s := S1x2x16384x128) ![0, a, b, 0] ![1, 1, 1024, 128] inb) = kblk X a b := by
  funext y
  have h1 : a + 1 ≤ 2 := inb 1
  have h2 : b + 1024 ≤ 16384 := inb 2
  have y2 : (y 2).val < 1024 := (y 2).isLt
  have y0 : (y 0).val < 1 := (y 0).isLt
  have y1 : (y 1).val < 1 := (y 1).isLt
  refine View.ld_unit_apply_of X _ _ inb y _ fun ax => ?_
  fin_cases ax
  · show 0 = 0 + (y 0).val; omega
  · show a % 2 = a + (y 1).val; omega
  · show (b + (y 2).val) % 16384 = b + (y 2).val; omega
  · show (y 3).val = 0 + (y 3).val; omega

/-- A load of one head's queries is `qblk`. -/
theorem ld_qblk (X : Vec Ideal S1x2x1024x128 .bf16) (a : ℕ) (inb) :
    View.ld X (Rect.unit (s := S1x2x1024x128) ![0, a, 0, 0] ![1, 1, 1024, 128] inb) = qblk X a := by
  funext y
  have h1 : a + 1 ≤ 2 := inb 1
  have y0 : (y 0).val < 1 := (y 0).isLt
  have y1 : (y 1).val < 1 := (y 1).isLt
  refine View.ld_unit_apply_of X _ _ inb y _ fun ax => ?_
  fin_cases ax
  · show 0 = 0 + (y 0).val; omega
  · show a % 2 = a + (y 1).val; omega
  · show (y 2).val = 0 + (y 2).val; omega
  · show (y 3).val = 0 + (y 3).val; omega

/-- What the loop carries: each head's running maximum and accumulator. -/
abbrev Carry := FVec Ideal S1024x1 .f32 × FVec Ideal S1024x128 .f32 × FVec Ideal S1024x1 .f32 × FVec Ideal S1024x128 .f32

/-- One whole-block step of both heads on the keys and values from row `b` on. -/
def step (x0 : Vec Ideal S1x2x1024x128 .bf16) (x1 x2 : Vec Ideal S1x2x16384x128 .bf16) (b : ℕ) (s : Carry) : Carry :=
  (k0_pay3 (k0_pay16 (qblk x0 0)) s.1 (kblk x1 0 b),
    k0_pay4 (k0_pay16 (qblk x0 0)) s.1 s.2.1 (kblk x1 0 b) (kblk x2 0 b),
    k0_pay3 (k0_pay16 (qblk x0 1)) s.2.2.1 (kblk x1 1 b),
    k0_pay4 (k0_pay16 (qblk x0 1)) s.2.2.1 s.2.2.2 (kblk x1 1 b) (kblk x2 1 b))

/-- The carried value after `n` whole blocks. -/
def state (x0 : Vec Ideal S1x2x1024x128 .bf16) (x1 x2 : Vec Ideal S1x2x16384x128 .bf16) : ℕ → Carry
  | 0 => (k0_pay18, k0_pay19, k0_pay20, k0_pay21)
  | n + 1 => step x0 x1 x2 (1024 * n) (state x0 x1 x2 n)

variable (c : Dev nD) (t : Fin cfg0.N) (arg3 : Memref sig .tc .vmem S1x2x1024x128 .bf16) (harg3 : arg3.IsWhole)
  (arg4 : Memref sig .tc .vmem S1x2x16384x128 .bf16) (harg4 : arg4.IsWhole)
  (arg5 : Memref sig .tc .vmem S1x2x16384x128 .bf16) (harg5 : arg5.IsWhole)
  (arg6 : Memref sig .tc .vmem S1x1024x128 .bf16) (harg6 : arg6.IsWhole)

set_option backward.isDefEq.respectTransparency false in
/-- A trip of the loop is one whole-block step. -/
theorem trip_eq (x0 : Vec Ideal S1x2x1024x128 .bf16) (x1 x2 : Vec Ideal S1x2x16384x128 .bf16)
    (k : Fin (k0_t1_loop (grid0.coords t)).trips) (s : Carry) :
    tripR_k0_t1 (F := Ideal) Variants.none c none (grid0.coords t) arg3 harg3 arg4 harg4 arg5 harg5 arg6 harg6
      (qblk x0 0) (qblk x0 1) (harg4.unread x1) (harg5.unread x2) k s = step x0 x1 x2 (1024 * k) s := by
  have h := off1 t k
  unfold k0_off1 at h
  simp only [Matrix.cons_val] at h
  unfold tripR_k0_t1 trip_k0_t1
  dsimp only
  sl_unfold_words
  simp only [View.readAt_eq_ld, harg4.read_unread, harg5.read_unread, ld_kblk]
  rw [h]
  rfl

/-- The loop's carried value before trip `n` is the state after `n` blocks. -/
theorem st_eq (x0 : Vec Ideal S1x2x1024x128 .bf16) (x1 x2 : Vec Ideal S1x2x16384x128 .bf16) (n : ℕ)
    (hn : n ≤ (k0_t1_loop (grid0.coords t)).trips) :
    st_k0_t1 (F := Ideal) Variants.none c none (grid0.coords t) arg3 harg3 arg4 harg4 arg5 harg5 arg6 harg6
      (qblk x0 0) (qblk x0 1) (harg4.unread x1) (harg5.unread x2) (k0_pay18, k0_pay19, k0_pay20, k0_pay21) n
      = state x0 x1 x2 n := by
  induction n with
  | zero => rfl
  | succ n ih =>
    rw [st_k0_t1_succ Variants.none c none (grid0.coords t) arg3 harg3 arg4 harg4 arg5 harg5 arg6 harg6
      (qblk x0 0) (qblk x0 1) (harg4.unread x1) (harg5.unread x2) _ ⟨n, hn⟩]
    show tripR_k0_t1 (F := Ideal) Variants.none c none (grid0.coords t) arg3 harg3 arg4 harg4 arg5 harg5 arg6 harg6
      (qblk x0 0) (qblk x0 1) (harg4.unread x1) (harg5.unread x2) ⟨n, hn⟩ (st_k0_t1 (F := Ideal) Variants.none c none
        (grid0.coords t) arg3 harg3 arg4 harg4 arg5 harg5 arg6 harg6 (qblk x0 0) (qblk x0 1) (harg4.unread x1)
        (harg5.unread x2) (k0_pay18, k0_pay19, k0_pay20, k0_pay21) n) = _
    rw [ih (by omega), trip_eq]
    rfl

set_option backward.isDefEq.respectTransparency false in
/-- THE STORED BLOCK of grid point `t`: the state after the whole blocks, then the diagonal block. -/
theorem out_eq (x0 : Vec Ideal S1x2x1024x128 .bf16) (x1 x2 : Vec Ideal S1x2x16384x128 .bf16) :
    out0_A_3 c (grid0.coords t) arg3 harg3 arg4 harg4 arg5 harg5 arg6 harg6 x0 x1 x2
      = (let j := (grid0.coords t 2).val
        let s := state x0 x1 x2 j
        k0_pay1 s.2.2.1 s.2.2.2
          (k0_pay25 (k0_pay16 (qblk x0 0)) s.1 s.2.1 (kblk x1 0 (1024 * j)) (kblk x2 0 (1024 * j)))
          (k0_pay27 (k0_pay16 (qblk x0 1)) s.2.2.1 (kblk x1 1 (1024 * j)))
          (k0_pay28 (k0_pay16 (qblk x0 1)) s.2.2.1 (kblk x1 1 (1024 * j))) (kblk x2 1 (1024 * j))) := by
  have h1 := trips1 t
  have h2 := trips2 t
  have h5 := off5 t
  have hst := st_eq c t arg3 harg3 arg4 harg4 arg5 harg5 arg6 harg6 x0 x1 x2 _ (le_of_eq h1.symm)
  unfold k0_off5 at h5
  dsimp only [k0_t1_loop, k0_t2_loop, Scf.Loop.trips] at h1 h2
  simp only [Matrix.cons_val] at h5
  unfold out0_A_3
  rw [View.read_writes_eq_canon _ _ _ (cover0_A_3 c (grid0.coords t) arg3 harg3 arg4 harg4 arg5 harg5 arg6 harg6 x0 x1 x2)]
  unfold kernelRun0_A
  dsimp only
  sl_unfold_words
  simp only [View.readAt_eq_ld, harg3.read_unread, harg4.read_unread, harg5.read_unread, h1, h2, st_k0_t2_zero,
    ld_kblk, ld_qblk, hst]
  rw [View.canon_unit_zero (by funext a; fin_cases a <;> rfl)]
  rw [h5]
  rfl

end Cert.Attn
-- ==== Proof.Block.lean ====
module

public import proofs.«01_k».proof.Proof.Loop

/-! The block a grid point stores, as quotients of softmax-weighted sums. -/

set_option maxRecDepth 16384

@[expose] public section
noncomputable section

namespace Cert.Attn
open Idealize.ShloMosaic Idealize.ShloMosaic.TcCoe Idealize.SL.Sem
open Cert.KernelIdeal Cert.KernelIdeal.Gen Cert.Online

/-- The score of local query row `r` of a tile that starts at row `b` against key `k`, head `a` of the pair. -/
def sc (x0 : Vec Ideal S1x2x1024x128 .bf16) (x1 : Vec Ideal S1x2x16384x128 .bf16) (a b : ℕ) (r : Fin 1024) (k : ℕ) : EReal :=
  if k ≤ b + r then ∑ l : Fin 128, (show EReal from qblk x0 a (ix4 0 0 r l)) * (show EReal from kblk x1 a k (ix4 0 0 0 l)) else ⊥

/-- Lane `d` of value `k`, head `a` of the pair. -/
def vl (x2 : Vec Ideal S1x2x16384x128 .bf16) (a : ℕ) (d : Fin 128) (k : ℕ) : EReal := kblk x2 a k (ix4 0 0 0 d)

/-- Row `k` of the rows from `b` on is the first of the rows from `b + k` on. -/
theorem kblk_row (X : Vec Ideal S1x2x16384x128 .bf16) (a b : ℕ) (k : Fin 1024) (d : Fin 128) :
    kblk X a b (ix4 0 0 k d) = kblk X a (b + k) (ix4 0 0 0 d) := by
  unfold kblk; rfl

/-- The queries as the kernel casts them. -/
theorem pay16_at (v : FVec Ideal S1x1x1024x128 .bf16) (r : Fin 1024) (l : Fin 128) :
    k0_pay16 (F := Ideal) v (ix2 r l) = v (ix4 0 0 r l) := by
  pointwise [k0_pay16]

/-- The running maximum starts at minus infinity. -/
theorem pay18_at (r : Fin 1024) : k0_pay18 (F := Ideal) (ix2 r 0) = ⊥ := by
  pointwise [k0_pay18]; exact mask

/-- The accumulator starts at zero. -/
theorem pay19_at (r : Fin 1024) (d : Fin 128) : k0_pay19 (F := Ideal) (ix2 r d) = 0 := by
  pointwise [k0_pay19]

/-- One whole block's step of one head: from the maximum and the sum over the first `n` blocks to those over one more. -/
theorem step_head (x0 : Vec Ideal S1x2x1024x128 .bf16) (x1 x2 : Vec Ideal S1x2x16384x128 .bf16) (a j n : ℕ) (hn : n < j) (r : Fin 1024)
    (hs : ∀ k, sc x0 x1 a (1024 * j) r k ≠ ⊤) (m : FVec Ideal S1024x1 .f32) (A : FVec Ideal S1024x128 .f32)
    (hm : m (ix2 r 0) = (Finset.range (1024 * n)).sup (sc x0 x1 a (1024 * j) r))
    (hA : ∀ d, A (ix2 r d) = acc (sc x0 x1 a (1024 * j) r) (vl x2 a d) (Finset.range (1024 * n))) :
    k0_pay3 (F := Ideal) (k0_pay16 (qblk x0 a)) m (kblk x1 a (1024 * n)) (ix2 r 0)
        = (Finset.range (1024 * (n + 1))).sup (sc x0 x1 a (1024 * j) r)
      ∧ ∀ d, k0_pay4 (F := Ideal) (k0_pay16 (qblk x0 a)) m A (kblk x1 a (1024 * n)) (kblk x2 a (1024 * n)) (ix2 r d)
        = acc (sc x0 x1 a (1024 * j) r) (vl x2 a d) (Finset.range (1024 * (n + 1))) := by
  have hsc : ∀ k : Fin 1024, ∑ l : Fin 128, k0_pay16 (F := Ideal) (qblk x0 a) (ix2 r l) * kblk x1 a (1024 * n) (ix4 0 0 k l)
      = sc x0 x1 a (1024 * j) r (1024 * n + k) := fun k => by
    unfold sc
    rw [if_pos (by omega)]
    exact Finset.sum_congr rfl fun l _ => Ideal.mul_congr (pay16_at _ _ _) (kblk_row _ _ _ _ _)
  have h3 : k0_pay3 (F := Ideal) (k0_pay16 (qblk x0 a)) m (kblk x1 a (1024 * n)) (ix2 r 0)
      = (Finset.range (1024 * (n + 1))).sup (sc x0 x1 a (1024 * j) r) := by
    refine (pay3_at _ _ _ r).trans ?_
    simp only [hsc]
    rw [hm, step_max]
  refine ⟨h3, fun d => (pay4_at _ _ _ _ _ r d).trans ?_⟩
  simp only [hsc]
  rw [h3, hm, hA, ← step_acc 1024 n _ _ hs]
  rfl

/-- The diagonal block's step of one head. -/
theorem diag_head (x0 : Vec Ideal S1x2x1024x128 .bf16) (x1 x2 : Vec Ideal S1x2x16384x128 .bf16) (a j : ℕ) (r : Fin 1024)
    (hs : ∀ k, sc x0 x1 a (1024 * j) r k ≠ ⊤) (m : FVec Ideal S1024x1 .f32) (A : FVec Ideal S1024x128 .f32)
    (hm : m (ix2 r 0) = (Finset.range (1024 * j)).sup (sc x0 x1 a (1024 * j) r))
    (hA : ∀ d, A (ix2 r d) = acc (sc x0 x1 a (1024 * j) r) (vl x2 a d) (Finset.range (1024 * j))) (d : Fin 128) :
    diag (k0_pay16 (qblk x0 a)) m A (kblk x1 a (1024 * j)) (kblk x2 a (1024 * j)) r d
      = acc (sc x0 x1 a (1024 * j) r) (vl x2 a d) (Finset.range (1024 * (j + 1))) := by
  have hsc : ∀ k : Fin 1024, (if (k : ℕ) ≤ r then
        ∑ l : Fin 128, k0_pay16 (F := Ideal) (qblk x0 a) (ix2 r l) * kblk x1 a (1024 * j) (ix4 0 0 k l) else ⊥)
      = sc x0 x1 a (1024 * j) r (1024 * j + k) := fun k => by
    unfold sc
    by_cases h : (k : ℕ) ≤ r
    · rw [if_pos h, if_pos (by omega)]
      exact Finset.sum_congr rfl fun l _ => Ideal.mul_congr (pay16_at _ _ _) (kblk_row _ _ _ _ _)
    · rw [if_neg h, if_neg (by omega)]
  have h27 : k0_pay27 (F := Ideal) (k0_pay16 (qblk x0 a)) m (kblk x1 a (1024 * j)) (ix2 r 0)
      = (Finset.range (1024 * (j + 1))).sup (sc x0 x1 a (1024 * j) r) := by
    refine (pay27_at _ _ _ r).trans ?_
    simp only [hsc]
    rw [hm, step_max]
  unfold diag
  simp only [hsc]
  rw [h27, hm, hA, ← step_acc 1024 j _ _ hs]
  rfl

/-- The carried value after `n` whole blocks: each head's maximum and weighted sums over the first `1024 n` keys. -/
theorem state_at (x0 : Vec Ideal S1x2x1024x128 .bf16) (x1 x2 : Vec Ideal S1x2x16384x128 .bf16) (j : ℕ) (r : Fin 1024)
    (hs : ∀ (a : Fin 2) k, sc x0 x1 a (1024 * j) r k ≠ ⊤) (n : ℕ) (hn : n ≤ j) :
    ((state x0 x1 x2 n).1 (ix2 r 0) = (Finset.range (1024 * n)).sup (sc x0 x1 0 (1024 * j) r)
      ∧ ∀ d, (state x0 x1 x2 n).2.1 (ix2 r d) = acc (sc x0 x1 0 (1024 * j) r) (vl x2 0 d) (Finset.range (1024 * n)))
    ∧ ((state x0 x1 x2 n).2.2.1 (ix2 r 0) = (Finset.range (1024 * n)).sup (sc x0 x1 1 (1024 * j) r)
      ∧ ∀ d, (state x0 x1 x2 n).2.2.2 (ix2 r d) = acc (sc x0 x1 1 (1024 * j) r) (vl x2 1 d) (Finset.range (1024 * n))) := by
  induction n with
  | zero =>
    refine ⟨⟨pay18_at r, fun d => (pay19_at r d).trans ?_⟩, pay18_at r, fun d => (pay19_at r d).trans ?_⟩ <;> simp [acc]
  | succ n ih =>
    obtain ⟨⟨h1, h2⟩, h3, h4⟩ := ih (by omega)
    exact ⟨step_head x0 x1 x2 0 j n hn r (hs 0) _ _ h1 h2, step_head x0 x1 x2 1 j n hn r (hs 1) _ _ h3 h4⟩

/-- The attention of one head at local row `r`, lane `d`. -/
def head (x0 : Vec Ideal S1x2x1024x128 .bf16) (x1 x2 : Vec Ideal S1x2x16384x128 .bf16) (a j : ℕ) (r : Fin 1024) (d : Fin 128) : EReal :=
  Ideal.div (acc (sc x0 x1 a (1024 * j) r) (vl x2 a d) (Finset.range (1024 * (j + 1))))
    (acc (sc x0 x1 a (1024 * j) r) (vl x2 a 64) (Finset.range (1024 * (j + 1))))

/-- THE STORED BLOCK at row `r`, column `e`: the first head's lane `e`, or the second head's lane `e - 64`. -/
theorem out_at (c : Dev nD) (t : Fin cfg0.N) (arg3 : Memref sig .tc .vmem S1x2x1024x128 .bf16) (harg3 : arg3.IsWhole)
    (arg4 : Memref sig .tc .vmem S1x2x16384x128 .bf16) (harg4 : arg4.IsWhole)
    (arg5 : Memref sig .tc .vmem S1x2x16384x128 .bf16) (harg5 : arg5.IsWhole)
    (arg6 : Memref sig .tc .vmem S1x1024x128 .bf16) (harg6 : arg6.IsWhole)
    (x0 : Vec Ideal S1x2x1024x128 .bf16) (x1 x2 : Vec Ideal S1x2x16384x128 .bf16) (r : Fin 1024)
    (hs : ∀ (a : Fin 2) k, sc x0 x1 a (1024 * (grid0.coords t 2).val) r k ≠ ⊤) (e : Fin 128) :
    out0_A_3 c (grid0.coords t) arg3 harg3 arg4 harg4 arg5 harg5 arg6 harg6 x0 x1 x2 (ix3 0 r e)
      = if h : (e : ℕ) < 64 then head x0 x1 x2 0 (grid0.coords t 2).val r e
        else head x0 x1 x2 1 (grid0.coords t 2).val r ⟨e - 64, by omega⟩ := by
  rw [out_eq]
  obtain ⟨⟨h1, h2⟩, h3, h4⟩ := state_at x0 x1 x2 (grid0.coords t 2).val r hs _ le_rfl
  refine (pay1_at (k0_pay16 (qblk x0 1)) _ _ _ _ _ r e).trans ?_
  by_cases h : (e : ℕ) < 64
  · rw [dif_pos h, dif_pos h]
    refine (pay25_at _ _ _ _ _ r e).trans ?_
    rw [diag_head x0 x1 x2 0 _ r (hs 0) _ _ h1 h2, diag_head x0 x1 x2 0 _ r (hs 0) _ _ h1 h2]
    rfl
  · rw [dif_neg h, dif_neg h, diag_head x0 x1 x2 1 _ r (hs 1) _ _ h3 h4, diag_head x0 x1 x2 1 _ r (hs 1) _ _ h3 h4]
    rfl

end Cert.Attn
-- ==== Proof.Score.lean ====
module

public import proofs.«01_k».proof.Proof.Word
public import proofs.«01_k».proof.Proof.Online

/-! What the argument layout says, and the score it gives: one product over all 128 lanes is the layer's score. -/

set_option maxRecDepth 16384
set_option backward.proofsInPublic true

@[expose] public section
noncomputable section

namespace Cert.Attn
open Idealize.ShloMosaic Cert.Online

/-- An array of the attention's arguments: prompt, head, row, lane. -/
abbrev Arr : Type := (⟨4, ![2, 8, 16384, 128]⟩ : Shape).Idx → EReal

/-- The layout of the attention's arguments, entry by entry. -/
structure Laid (X0 X1 X2 : Arr) : Prop where
  q_fin : ∀ b h r l, X0 (ix4 b h r l) ≠ ⊤ ∧ X0 (ix4 b h r l) ≠ ⊥
  k_fin : ∀ b h r l, X1 (ix4 b h r l) ≠ ⊤ ∧ X1 (ix4 b h r l) ≠ ⊥
  q_one : ∀ b h r (l : Fin 128), 67 ≤ (l : ℕ) → (l : ℕ) ≤ 69 → X0 (ix4 b h r l) = 1
  k_one : ∀ b h r (l : Fin 128), 64 ≤ (l : ℕ) → (l : ℕ) ≤ 66 → X1 (ix4 b h r l) = 1
  k_zero : ∀ b h r (l : Fin 128), 70 ≤ (l : ℕ) → X1 (ix4 b h r l) = 0
  v_one : ∀ b h r, X2 (ix4 b h r 64) = 1

/-- A family with no infinite entry comes from a real one. -/
theorem lift_real {ι : Type} (f : ι → EReal) (hf : ∀ i, f i ≠ ⊤ ∧ f i ≠ ⊥) : ∃ g : ι → ℝ, f = fun i => (g i : EReal) :=
  ⟨fun i => (f i).toReal, funext fun i => (EReal.coe_toReal (hf i).1 (hf i).2).symm⟩

/-- A sum over 128 lanes in four pieces: 64, 3, 3 and 58 lanes. -/
theorem sum_lanes (f : Fin 128 → ℝ) :
    ∑ l, f l = (∑ l : Fin 64, f ⟨l, by omega⟩) + ((∑ l : Fin 3, f ⟨64 + l, by omega⟩)
      + ((∑ l : Fin 3, f ⟨67 + l, by omega⟩) + ∑ l : Fin 58, f ⟨70 + l, by omega⟩)) := by
  have h1 := Fin.sum_univ_add (a := 64) (b := 64) (fun l => f l)
  have h2 := Fin.sum_univ_add (a := 3) (b := 61) (fun l => f ⟨64 + l, by omega⟩)
  have h3 := Fin.sum_univ_add (a := 3) (b := 58) (fun l => f ⟨64 + (3 + l), by omega⟩)
  refine h1.trans (congrArg₂ (· + ·) rfl (h2.trans (congrArg₂ (· + ·) rfl (h3.trans (congrArg₂ (· + ·) ?_ ?_)))))
  · exact Finset.sum_congr rfl fun l _ => congrArg f (Fin.ext (by simp; omega))
  · exact Finset.sum_congr rfl fun l _ => congrArg f (Fin.ext (by simp; omega))

/-- THE SCORE: with ones and zeros where the layout puts them, the product over 128 lanes is the 64-lane product plus the query's
    offset minus the key's. -/
theorem score (q k : Fin 128 → EReal) (hq : ∀ l, q l ≠ ⊤ ∧ q l ≠ ⊥) (hk : ∀ l, k l ≠ ⊤ ∧ k l ≠ ⊥)
    (q1 : ∀ l : Fin 128, 67 ≤ (l : ℕ) → (l : ℕ) ≤ 69 → q l = 1) (k1 : ∀ l : Fin 128, 64 ≤ (l : ℕ) → (l : ℕ) ≤ 66 → k l = 1)
    (k0 : ∀ l : Fin 128, 70 ≤ (l : ℕ) → k l = 0) :
    ((∑ l : Fin 64, q ⟨l, by omega⟩ * k ⟨l, by omega⟩) + (0 + ∑ l : Fin 3, q ⟨64 + l, by omega⟩))
        - (-(0 + ∑ l : Fin 3, k ⟨67 + l, by omega⟩)) = ∑ l, q l * k l := by
  obtain ⟨q, rfl⟩ := lift_real q hq
  obtain ⟨k, rfl⟩ := lift_real k hk
  have q1' : ∀ l : Fin 128, 67 ≤ (l : ℕ) → (l : ℕ) ≤ 69 → q l = 1 := fun l a b => by have e := q1 l a b; beta_reduce at e; exact_mod_cast e
  have k1' : ∀ l : Fin 128, 64 ≤ (l : ℕ) → (l : ℕ) ≤ 66 → k l = 1 := fun l a b => by have e := k1 l a b; beta_reduce at e; exact_mod_cast e
  have k0' : ∀ l : Fin 128, 70 ≤ (l : ℕ) → k l = 0 := fun l a => by have e := k0 l a; beta_reduce at e; exact_mod_cast e
  simp only [← EReal.coe_mul, ← coe_sum, zero_add, ← EReal.coe_neg, ← EReal.coe_add, ← EReal.coe_sub]
  refine congrArg _ ?_
  rw [sum_lanes]
  have e1 : (∑ l : Fin 3, q ⟨64 + l, by omega⟩ * k ⟨64 + l, by omega⟩) = ∑ l : Fin 3, q ⟨64 + l, by omega⟩ :=
    Finset.sum_congr rfl fun l _ => by rw [k1' _ (by simp) (by simp; omega), mul_one]
  have e2 : (∑ l : Fin 3, q ⟨67 + l, by omega⟩ * k ⟨67 + l, by omega⟩) = ∑ l : Fin 3, k ⟨67 + l, by omega⟩ :=
    Finset.sum_congr rfl fun l _ => by rw [q1' _ (by simp) (by simp; omega), one_mul]
  have e3 : (∑ l : Fin 58, q ⟨70 + l, by omega⟩ * k ⟨70 + l, by omega⟩) = 0 :=
    Finset.sum_eq_zero fun l _ => by rw [k0' _ (by simp), mul_zero]
  rw [e1, e2, e3]
  ring

end Cert.Attn
-- ==== Proof.Ref.lean ====
module

public import proofs.«01_k».proof.Proof.Gen.ReferenceIdeal.Read
public import proofs.«01_k».proof.Proof.Score
public import Idealize.ShloMosaic.Lib.Pointwise

/-! The reference's result at an entry: the softmax of the causal scores, applied to the values. -/

set_option maxRecDepth 16384
set_option backward.proofsInPublic true

@[expose] public section
noncomputable section

namespace Cert.Attn
open Idealize.ShloMosaic Cert.Online Cert.ReferenceIdeal Cert.ReferenceIdeal.Read

/-- The causal score of query row `q` against key `k` of one head. -/
def gsc (X0 X1 : Arr) (b : Fin 2) (h : Fin 8) (q : Fin 16384) (k : ℕ) : EReal :=
  if k ≤ (q : ℕ) then ∑ l : Fin 128, X0 (ix4 b h q l) * X1 (ix4 b h ⟨k % 16384, Nat.mod_lt _ (by decide)⟩ l) else ⊥

/-- Lane `d` of value `k` of one head. -/
def gvl (X2 : Arr) (b : Fin 2) (h : Fin 8) (d : Fin 128) (k : ℕ) : EReal := X2 (ix4 b h ⟨k % 16384, Nat.mod_lt _ (by decide)⟩ d)

/-- The largest score of query row `q`. -/
def gmx (X0 X1 : Arr) (b : Fin 2) (h : Fin 8) (q : Fin 16384) : EReal := (Finset.range 16384).sup (gsc X0 X1 b h q)

/-- The softmax numerator: two to the power of the score less the largest. -/
def gwt (X0 X1 : Arr) (b : Fin 2) (h : Fin 8) (q : Fin 16384) (k : ℕ) : EReal := Ideal.exp2 (gsc X0 X1 b h q k - gmx X0 X1 b h q)

/-- The softmax denominator. -/
def gden (X0 X1 : Arr) (b : Fin 2) (h : Fin 8) (q : Fin 16384) : EReal := ∑ k ∈ Finset.range 16384, gwt X0 X1 b h q k

/-- The attention of one head: the softmax of row `q`'s scores, applied to lane `d` of the values. -/
def attend (X0 X1 X2 : Arr) (b : Fin 2) (h : Fin 8) (q : Fin 16384) (d : Fin 128) : EReal :=
  ∑ k ∈ Finset.range 16384, gvl X2 b h d k * Ideal.div (gwt X0 X1 b h q k) (gden X0 X1 b h q)

/-- An index of a four-axis array by its entries. -/
theorem ext4 {n : Fin 4 → ℕ} (f g : (⟨4, n⟩ : Shape).Idx) (h0 : f 0 = g 0) (h1 : f 1 = g 1) (h2 : f 2 = g 2) (h3 : f 3 = g 3) : f = g :=
  funext fun a => by match a with | ⟨0, _⟩ => exact h0 | ⟨1, _⟩ => exact h1 | ⟨2, _⟩ => exact h2 | ⟨3, _⟩ => exact h3

/-- An index of a three-axis array by its entries. -/
theorem ext3 {n : Fin 3 → ℕ} (f g : (⟨3, n⟩ : Shape).Idx) (h0 : f 0 = g 0) (h1 : f 1 = g 1) (h2 : f 2 = g 2) : f = g :=
  funext fun a => by match a with | ⟨0, _⟩ => exact h0 | ⟨1, _⟩ => exact h1 | ⟨2, _⟩ => exact h2

/-- The bit pattern of zero. -/
theorem zeroBits : Ideal.ofBits .f32 0x00000000#32 = 0 := by
  simp [Ideal.ofBits, Ideal.ieee]

/-- The reference's masked score. -/
theorem v25_at (X0 X1 X2 : Arr) (hX : Laid X0 X1 X2) (b : Fin 2) (h : Fin 8) (q k : Fin 16384) :
    val_main_v25 (F := Ideal) X0 X1 (ix4 b h q k) = gsc X0 X1 b h q k := by
  have e := score (fun l => X0 (ix4 b h q l)) (fun l => X1 (ix4 b h k l)) (hX.q_fin b h q) (hX.k_fin b h k)
    (hX.q_one b h q) (hX.k_one b h k) (hX.k_zero b h k)
  have hs : val_main_v17 (F := Ideal) X0 X1 (ix4 b h q k) = ∑ l : Fin 128, X0 (ix4 b h q l) * X1 (ix4 b h k l) := by
    rw [← e]
    simp only [val_main_v17_apply, val_main_v14_apply, val_main_v11_apply, val_main_v3_apply, val_main_v6_apply,
      val_main_v0_apply, val_main_v1_apply, val_main_v13_apply, val_main_v12_apply, val_main_v5_apply, val_main_v4_apply,
      val_main_v16_apply, val_main_v15_apply, val_main_v9_apply, val_main_v8_apply, val_main_v7_apply,
      val_main_cst_apply, val_main_cst_0_apply]
    refine congrArg₂ (fun x y : EReal => x - y) (congrArg₂ (fun x y : EReal => x + y) (Finset.sum_congr rfl fun l _ => ?_)
      (congrArg₂ (fun x y : EReal => x + y) zeroBits (Finset.sum_congr rfl fun l _ => ?_)))
      (congrArg (fun x : EReal => -x) (congrArg₂ (fun x y : EReal => x + y) zeroBits (Finset.sum_congr rfl fun l _ => ?_)))
    · exact congrArg₂ (fun x y : EReal => x * y) (congrArg X0 (ext4 _ _ rfl rfl rfl rfl)) (congrArg X1 (ext4 _ _ rfl rfl rfl rfl))
    · exact congrArg X0 (ext4 _ _ rfl rfl rfl rfl)
    · exact congrArg X1 (ext4 _ _ rfl rfl rfl rfl)
  rw [val_main_v25_apply, hs]
  simp only [val_main_call0_v1_apply, val_main_v24_apply, val_main_v23_apply, val_main_v21_apply, val_main_v19_apply, val_main_v18_apply,
      val_main_v22_apply, val_main_v20_apply, val_main_call0_v2_apply, val_main_call0_v0_apply, val_main_cst_1_apply]
  refine (congrArg (fun w => Scalar.select w _ _) (sge_ofNat q k (by have := q.2; omega) (by have := k.2; omega))).trans ?_
  rw [select_ofBool]
  unfold gsc
  refine if_congr Iff.rfl (Finset.sum_congr rfl fun l _ => ?_) negInf
  exact congrArg₂ (fun x y : EReal => x * y) rfl (congrArg X1 (ext4 _ _ rfl rfl (Fin.ext (Nat.mod_eq_of_lt k.2).symm) rfl))

/-- The reference's row maximum. -/
theorem v26_at (X0 X1 X2 : Arr) (hX : Laid X0 X1 X2) (b : Fin 2) (h : Fin 8) (q : Fin 16384) :
    val_main_v26 (F := Ideal) X0 X1 (ix3 b h q) = gmx X0 X1 b h q := by
  unfold gmx
  rw [← fold_max]
  have e := fun k => v25_at X0 X1 X2 hX b h q k
  unfold val_main_v26
  generalize val_main_v25 (F := Ideal) X0 X1 = y at e
  simp only [← e]
  pointwise [val_main_cst_2]
  rw [negInf]

/-- The reference's softmax numerator. -/
theorem v31_at (X0 X1 X2 : Arr) (hX : Laid X0 X1 X2) (b : Fin 2) (h : Fin 8) (q k : Fin 16384) :
    val_main_v31 (F := Ideal) X0 X1 (ix4 b h q k) = gwt X0 X1 b h q k := by
  have hi : idx_main_v27 (idx_main_v28 (ix4 b h q k)) = ix3 b h q := ext3 _ _ rfl rfl rfl
  have e1 := v25_at X0 X1 X2 hX b h q k
  have e2 := v26_at X0 X1 X2 hX b h q
  unfold gwt
  rw [← pow_two, ← two, ← e1, ← e2, val_main_v31_apply, val_main_v30_apply, val_main_cst_3_apply, val_main_v29_apply,
    val_main_v28_apply, val_main_v27_apply, hi]
  generalize val_main_v26 (F := Ideal) X0 X1 (ix3 b h q) = x
  generalize val_main_v25 (F := Ideal) X0 X1 (ix4 b h q k) = y
  rfl

/-- The reference's softmax denominator. -/
theorem v32_at (X0 X1 X2 : Arr) (hX : Laid X0 X1 X2) (b : Fin 2) (h : Fin 8) (q : Fin 16384) :
    val_main_v32 (F := Ideal) X0 X1 (ix3 b h q) = gden X0 X1 b h q := by
  have hi : ∀ k, idx_main_v32 (ix3 b h q) k = ix4 b h q k := fun k => ext4 _ _ rfl rfl rfl rfl
  unfold gden
  rw [val_main_v32_apply, val_main_cst_4_apply, ← Fin.sum_univ_eq_sum_range, Ideal.ofBits_def, zeroBits, zero_add]
  exact Finset.sum_congr rfl fun k _ => by rw [hi, v31_at X0 X1 X2 hX]

/-- The reference's softmax weight. -/
theorem v35_at (X0 X1 X2 : Arr) (hX : Laid X0 X1 X2) (b : Fin 2) (h : Fin 8) (q k : Fin 16384) :
    val_main_v35 (F := Ideal) X0 X1 (ix4 b h q k) = Ideal.div (gwt X0 X1 b h q k) (gden X0 X1 b h q) := by
  have hi : idx_main_v33 (idx_main_v34 (ix4 b h q k)) = ix3 b h q := ext3 _ _ rfl rfl rfl
  rw [val_main_v35_apply, v31_at X0 X1 X2 hX, val_main_v34_apply, val_main_v33_apply, hi, v32_at X0 X1 X2 hX]
  rfl

/-- Where the result's entry sits before the heads are laid side by side. -/
theorem idx_heads (b : Fin 2) (q : Fin 16384) (e : Fin 512) :
    idx_main_v37 (idx_main_v38 (ix3 b q e)) = ix4 b ⟨e / 64, by omega⟩ ⟨e % 64, by omega⟩ q := by
  have h0 := b.2; have h1 := q.2; have h2 := e.2
  refine ext4 _ _ (Fin.ext ?_) (Fin.ext ?_) (Fin.ext ?_) (Fin.ext ?_)
  · show ((b.val * 16384 + q.val) * 512 + e.val) / 8388608 = b.val; omega
  · show ((b.val * 16384 + q.val) * 512 + e.val) / 64 % 8 = e.val / 64; omega
  · show ((b.val * 16384 + q.val) * 512 + e.val) % 64 = e.val % 64; omega
  · show ((b.val * 16384 + q.val) * 512 + e.val) / 512 % 16384 = q.val; omega

/-- THE REFERENCE'S RESULT at row `q`, column `e`: head `e / 64`, lane `e % 64`. -/
theorem ref_at (X0 X1 X2 : Arr) (hX : Laid X0 X1 X2) (b : Fin 2) (q : Fin 16384) (e : Fin 512) :
    val_main_v39 (F := Ideal) X0 X1 X2 (ix3 b q e) = attend X0 X1 X2 b ⟨e / 64, by omega⟩ q ⟨e % 64, by omega⟩ := by
  unfold attend
  rw [val_main_v39_apply, val_main_v38_apply, val_main_v37_apply, idx_heads, val_main_v36_apply, ← Fin.sum_univ_eq_sum_range]
  refine Finset.sum_congr rfl fun k _ => congrArg₂ (fun x y : EReal => x * y) ?_ ?_
  · have hi : idx_main_v10 (lidx_main_v36 (ix4 b (⟨e / 64, by omega⟩ : Fin 8) (⟨e % 64, by omega⟩ : Fin 64) q) k)
        = ix4 b ⟨e / 64, by omega⟩ ⟨(k : ℕ) % 16384, Nat.mod_lt _ (by decide)⟩ ⟨e % 64, by omega⟩ :=
      ext4 _ _ rfl rfl (Fin.ext (Nat.mod_eq_of_lt k.2).symm) rfl
    rw [val_main_v10_apply, hi]
    rfl
  · have hi : ridx_main_v36 (ix4 b (⟨e / 64, by omega⟩ : Fin 8) (⟨e % 64, by omega⟩ : Fin 64) q) k
        = ix4 b ⟨e / 64, by omega⟩ q k := ext4 _ _ rfl rfl rfl rfl
    rw [hi, v35_at X0 X1 X2 hX]

end Cert.Attn
-- ==== Proof.Heads.lean ====
module

public import proofs.«01_k».proof.Proof.Block
public import proofs.«01_k».proof.Proof.Ref

/-! The block a grid point stores, read over the whole arrays, is the layer's attention. -/

set_option maxRecDepth 16384
set_option backward.proofsInPublic true

@[expose] public section
noncomputable section

namespace Cert.Attn
open Idealize.ShloMosaic Cert.Online Cert.KernelIdeal

/-- A score is never plus infinity. -/
theorem gsc_ne_top (X0 X1 X2 : Arr) (hX : Laid X0 X1 X2) (b : Fin 2) (h : Fin 8) (q : Fin 16384) (k : ℕ) : gsc X0 X1 b h q k ≠ ⊤ := by
  obtain ⟨f, hf⟩ := lift_real (fun l => X0 (ix4 b h q l)) (hX.q_fin b h q)
  obtain ⟨g, hg⟩ := lift_real (fun l => X1 (ix4 b h ⟨k % 16384, Nat.mod_lt _ (by decide)⟩ l)) (hX.k_fin b h _)
  unfold gsc
  split
  · have e : ∀ l, X0 (ix4 b h q l) * X1 (ix4 b h ⟨k % 16384, Nat.mod_lt _ (by decide)⟩ l) = ((f l * g l : ℝ) : EReal) := fun l => by
      rw [EReal.coe_mul]; exact congrArg₂ (fun x y : EReal => x * y) (congrFun hf l) (congrFun hg l)
    simp only [e, ← coe_sum]
    exact EReal.coe_ne_top _
  · exact bot_ne_top

/-- The score against the first key is not minus infinity. -/
theorem gsc_zero (X0 X1 X2 : Arr) (hX : Laid X0 X1 X2) (b : Fin 2) (h : Fin 8) (q : Fin 16384) : gsc X0 X1 b h q 0 ≠ ⊥ := by
  obtain ⟨f, hf⟩ := lift_real (fun l => X0 (ix4 b h q l)) (hX.q_fin b h q)
  obtain ⟨g, hg⟩ := lift_real (fun l => X1 (ix4 b h ⟨0 % 16384, Nat.mod_lt _ (by decide)⟩ l)) (hX.k_fin b h _)
  unfold gsc
  rw [if_pos (Nat.zero_le _)]
  have e : ∀ l, X0 (ix4 b h q l) * X1 (ix4 b h ⟨0 % 16384, Nat.mod_lt _ (by decide)⟩ l) = ((f l * g l : ℝ) : EReal) := fun l => by
    rw [EReal.coe_mul]; exact congrArg₂ (fun x y : EReal => x * y) (congrFun hf l) (congrFun hg l)
  simp only [e, ← coe_sum]
  exact EReal.coe_ne_bot _

/-- Head `a` of pair `p`. -/
def hd (p : Fin 4) (a : Fin 2) : Fin 8 := ⟨2 * p + a, by omega⟩

/-- Row `r` of tile `j`. -/
def row (j : Fin 16) (r : Fin 1024) : Fin 16384 := ⟨1024 * j + r, by omega⟩

variable (X0 X1 X2 : Arr) (b : Fin 2) (p : Fin 4) (j : Fin 16)
  (x0 : Vec Ideal S1x2x1024x128 .bf16) (x1 x2 : Vec Ideal S1x2x16384x128 .bf16)
  (h0 : ∀ a r l, x0 (ix4 0 a r l) = X0 (ix4 b (hd p a) (row j r) l))
  (h1 : ∀ a k l, x1 (ix4 0 a k l) = X1 (ix4 b (hd p a) k l))
  (h2 : ∀ a k l, x2 (ix4 0 a k l) = X2 (ix4 b (hd p a) k l))

include h0 h1 in
/-- The tile's scores are the whole array's. -/
theorem sc_eq (a : Fin 2) (r : Fin 1024) :
    sc x0 x1 a (1024 * j) r = gsc X0 X1 b (hd p a) (row j r) := by
  funext k
  unfold sc gsc
  refine if_congr Iff.rfl (Finset.sum_congr rfl fun l _ => congrArg₂ (fun x y : EReal => x * y) ?_ ?_) rfl
  · have e : (⟨(a : ℕ) % 2, Nat.mod_lt _ (by decide)⟩ : Fin 2) = a := Fin.ext (Nat.mod_eq_of_lt a.2)
    refine Eq.trans ?_ (h0 a r l)
    unfold qblk
    exact congrArg x0 (ext4 _ _ rfl e rfl rfl)
  · have e : (⟨(a : ℕ) % 2, Nat.mod_lt _ (by decide)⟩ : Fin 2) = a := Fin.ext (Nat.mod_eq_of_lt a.2)
    refine Eq.trans ?_ (h1 a ⟨k % 16384, Nat.mod_lt _ (by decide)⟩ l)
    unfold kblk
    exact congrArg x1 (ext4 _ _ rfl e rfl rfl)

include h2 in
/-- The pair's values are the whole array's. -/
theorem vl_eq (a : Fin 2) (d : Fin 128) : vl x2 a d = gvl X2 b (hd p a) d := by
  funext k
  have e : (⟨(a : ℕ) % 2, Nat.mod_lt _ (by decide)⟩ : Fin 2) = a := Fin.ext (Nat.mod_eq_of_lt a.2)
  unfold vl gvl
  refine Eq.trans ?_ (h2 a ⟨k % 16384, Nat.mod_lt _ (by decide)⟩ d)
  unfold kblk
  exact congrArg x2 (ext4 _ _ rfl e rfl rfl)

include h0 h1 h2 in
/-- One head of the tile: the quotient of the two accumulated sums is the softmax applied to the values. -/
theorem head_eq (hX : Laid X0 X1 X2) (a : Fin 2) (r : Fin 1024) (d : Fin 128) :
    head x0 x1 x2 a j r d = attend X0 X1 X2 b (hd p a) (row j r) d := by
  unfold head
  rw [sc_eq X0 X1 b p j x0 x1 h0 h1 a r, vl_eq X2 b p x2 h2 a d, vl_eq X2 b p x2 h2 a 64]
  have hv : gvl X2 b (hd p a) 64 = fun _ => 1 := funext fun k => hX.v_one _ _ _
  have hsub : Finset.range (1024 * ((j : ℕ) + 1)) ⊆ Finset.range 16384 := Finset.range_subset_range.2 (by omega)
  have hbot : ∀ k ∈ Finset.range 16384, k ∉ Finset.range (1024 * ((j : ℕ) + 1))
      → gsc X0 X1 b (hd p a) (row j r) k = ⊥ := fun k _ hk => by
    rw [Finset.mem_range] at hk
    exact if_neg (by show ¬ k ≤ 1024 * (j : ℕ) + r; omega)
  rw [hv, (acc_subset _ _ _ _ hsub hbot).2, (acc_subset _ (fun _ => 1) _ _ hsub hbot).2,
    quotient _ _ (gsc_ne_top X0 X1 X2 hX _ _ _) _ 0 (Finset.mem_range.2 (by omega)) (gsc_zero X0 X1 X2 hX _ _ _)]
  rfl

end Cert.Attn
-- ==== Proof.Pre.lean ====
module

public import proofs.«01_k».proof.Pre_laid_out
public import proofs.«01_k».proof.Proof.Score
public import Idealize.ShloMosaic.Lib.Pointwise

/-! The precondition, read entry by entry. -/

set_option maxRecDepth 16384

@[expose] public section
noncomputable section

namespace Cert.Attn
open Idealize.ShloMosaic Cert.Online Cert.Pre_laid_out

variable [Cert.Pre_laid_out.Facts]

/-- The bit pattern of plus infinity. -/
theorem posInf : Ideal.ofBits .f32 0x7F800000#32 = ⊤ := by
  simp [Ideal.ofBits, Ideal.ieee]

/-- Small natural numbers compare as signed words the way they compare as numbers: greater than. -/
theorem sgt_ofNat (a b : ℕ) (ha : a < 2 ^ 31) (hb : b < 2 ^ 31) :
    IntOp.cmpi .sgt (BitVec.ofNat 32 a) (BitVec.ofNat 32 b) = BitVec.ofBool (decide (b < a)) := slt_ofNat b a hb ha

/-- Small natural numbers compare as words the way they compare as numbers: not equal. -/
theorem ne_ofNat (a b : ℕ) (ha : a < 2 ^ 31) (hb : b < 2 ^ 31) :
    IntOp.cmpi .ne (BitVec.ofNat 32 a) (BitVec.ofNat 32 b) = BitVec.ofBool (decide (a ≠ b)) := by
  show BitVec.ofBool (BitVec.ofNat 32 a != BitVec.ofNat 32 b) = _
  congr 1
  have : BitVec.ofNat 32 a = BitVec.ofNat 32 b ↔ a = b := by
    constructor
    · intro h
      have := congrArg BitVec.toNat h
      rw [BitVec.toNat_ofNat, BitVec.toNat_ofNat] at this
      omega
    · rintro rfl; rfl
  by_cases h : a = b <;> simp [h, this]

/-- The conjunction of two one-bit words is one when both are. -/
theorem andi_one (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two one-bit words. -/
theorem ori_one (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- An entry below infinity in absolute value is neither infinity. -/
theorem fin_of_abs (x : EReal) (h : max x (-x) < ⊤) : x ≠ ⊤ ∧ x ≠ ⊥ :=
  ⟨fun e => by simp [e] at h, fun e => by simp [e] at h⟩

/-- What the precondition says of one entry. -/
abbrev Entry (X0 X1 X2 : Arr) (b : Fin 2) (h : Fin 8) (r : Fin 16384) (l : Fin 128) : Prop :=
  (((max (X0 (ix4 b h r l)) (-X0 (ix4 b h r l)) < Ideal.ofBits .f32 0x7F800000#32) ∧ (((l : ℕ) < 67 ∨ 69 < (l : ℕ)) ∨ X0 (ix4 b h r l) = 1))
    ∧ (((max (X1 (ix4 b h r l)) (-X1 (ix4 b h r l)) < Ideal.ofBits .f32 0x7F800000#32) ∧ (((l : ℕ) < 64 ∨ 66 < (l : ℕ)) ∨ X1 (ix4 b h r l) = 1))
      ∧ ((l : ℕ) < 70 ∨ X1 (ix4 b h r l) = 0)))
    ∧ ((l : ℕ) ≠ 64 ∨ X2 (ix4 b h r l) = 1)

/-- The precondition at one entry. -/
theorem fn_at (X0 X1 X2 : Arr) (b : Fin 2) (h : Fin 8) (r : Fin 16384) (l : Fin 128) :
    fn (F := Ideal) X0 X1 X2 (ix4 b h r l) = BitVec.ofBool (decide (Entry X0 X1 X2 b h r l)) := by
  have hl : (l : ℕ) < 2 ^ 31 := by have := l.2; omega
  unfold Entry
  simp only [← andi_one, ← ori_one]
  rw [← slt_ofNat _ _ hl (by decide), ← slt_ofNat _ _ hl (by decide), ← slt_ofNat _ _ hl (by decide), ← sgt_ofNat _ _ hl (by decide),
    ← sgt_ofNat _ _ hl (by decide), ← ne_ofNat _ _ hl (by decide)]
  pointwise [fn, fn_part1, fn_part2]
  rfl

/-- Every entry is as the precondition says. -/
theorem entry (X0 X1 X2 : Arr) (hp : fn (F := Ideal) X0 X1 X2 = fun _ => 1#1) (b : Fin 2) (h : Fin 8) (r : Fin 16384) (l : Fin 128) :
    Entry X0 X1 X2 b h r l := by
  have e := (fn_at X0 X1 X2 b h r l).symm.trans (congrFun hp _)
  by_contra hn
  rw [decide_eq_false hn] at e
  exact absurd e (by decide)

/-- THE PRECONDITION, read: the arguments are laid out. -/
theorem laid (X0 X1 X2 : Arr) (hp : fn (F := Ideal) X0 X1 X2 = fun _ => 1#1) : Laid X0 X1 X2 := by
  have key := entry X0 X1 X2 hp
  simp only [Entry, posInf] at key
  refine ⟨fun b h r l => fin_of_abs _ (key b h r l).1.1.1, fun b h r l => fin_of_abs _ (key b h r l).1.2.1.1,
    fun b h r l h1 h2 => (key b h r l).1.1.2.resolve_left (by omega), fun b h r l h1 h2 => (key b h r l).1.2.1.2.resolve_left (by omega),
    fun b h r l h1 => (key b h r l).1.2.2.resolve_left (by omega), fun b h r => (key b h r 64).2.resolve_left (by simp)⟩

end Cert.Attn
-- ==== Proof.Final.lean ====
module

public import proofs.«01_k».proof.Proof.Heads
public import proofs.«01_k».proof.Proof.Pre
public import Idealize.ShloMosaic.Lib.Pipeline.ValueKit

/-! The kernel's result array is the reference's. -/

set_option maxRecDepth 16384
set_option backward.proofsInPublic true

@[expose] public section
noncomputable section

namespace Cert.Attn
open Idealize.ShloMosaic Idealize.ShloMosaic.TcCoe Idealize.SL.Sem
open Cert.KernelIdeal Cert.KernelIdeal.Gen Cert.Online

/-- Which block of each array grid point `t` works on. -/
theorem idx : ∀ t : Fin cfg0.N,
    win0_0.index t = ![(grid0.coords t 0).val, (grid0.coords t 1).val, (grid0.coords t 2).val, 0]
      ∧ win0_1.index t = ![(grid0.coords t 0).val, (grid0.coords t 1).val, 0, 0]
      ∧ win0_2.index t = ![(grid0.coords t 0).val, (grid0.coords t 1).val, 0, 0]
      ∧ win0_3.index t = ![(grid0.coords t 0).val, (grid0.coords t 2).val, (grid0.coords t 1).val] :=
  (by decide +kernel : ∀ t : Fin grid0.N, _)

/-- The prompt of grid point `t`. -/
def gb (t : Fin cfg0.N) : Fin 2 := ⟨(grid0.coords t 0).val, (grid0.coords t 0).isLt⟩
/-- The pair of heads of grid point `t`. -/
def gp (t : Fin cfg0.N) : Fin 4 := ⟨(grid0.coords t 1).val, (grid0.coords t 1).isLt⟩
/-- The query tile of grid point `t`. -/
def gj (t : Fin cfg0.N) : Fin 16 := ⟨(grid0.coords t 2).val, (grid0.coords t 2).isLt⟩

variable (m : (ℓ : Loc nD τ sig) → Buf (Elt Ideal) ℓ)

/-- The query tile a grid point reads. -/
theorem iblk0 (c : Dev nD) (t : Fin cfg0.N) (a : Fin 2) (r : Fin 1024) (l : Fin 128) :
    iblk m c 0 t (ix4 0 a r l)
      = m ((c : Thread nD τ).loc main_arg0) (ix4 (gb t) (hd (gp t) a) (row (gj t) r) l) := by
  blk_ext [iblk, V, idx t, gb, gp, gj, hd, row]

/-- The keys a grid point reads. -/
theorem iblk1 (c : Dev nD) (t : Fin cfg0.N) (a : Fin 2) (k : Fin 16384) (l : Fin 128) :
    iblk m c 1 t (ix4 0 a k l) = m ((c : Thread nD τ).loc main_arg1) (ix4 (gb t) (hd (gp t) a) k l) := by
  blk_ext [iblk, V, idx t, gb, gp, gj, hd, row]

/-- The values a grid point reads. -/
theorem iblk2 (c : Dev nD) (t : Fin cfg0.N) (a : Fin 2) (k : Fin 16384) (l : Fin 128) :
    iblk m c 2 t (ix4 0 a k l) = m ((c : Thread nD τ).loc main_arg2) (ix4 (gb t) (hd (gp t) a) k l) := by
  blk_ext [iblk, V, idx t, gb, gp, gj, hd, row]

/-- Where the block a grid point writes sits in the result. -/
theorem emb3 (t : Fin cfg0.N) (r : Fin 1024) (e : Fin 128) :
    ((cfg0.win 3).blk t).view.emb (ix3 0 r e) = ix3 (gb t) (row (gj t) r) ⟨128 * gp t + e, by omega⟩ := by
  blk_ext [idx t, gb, gp, gj, hd, row]

/-- The block a grid point writes, at row `r`, column `e`. -/
theorem point (c : Dev nD) (hX : Laid (m ((c : Thread nD τ).loc main_arg0)) (m ((c : Thread nD τ).loc main_arg1)) (m ((c : Thread nD τ).loc main_arg2)))
    (t : Fin cfg0.N) (r : Fin 1024) (e : Fin 128) :
    out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix3 0 r e)
      = Cert.ReferenceIdeal.Read.val_main_v39 (F := Ideal) (m ((c : Thread nD τ).loc main_arg0))
          (m ((c : Thread nD τ).loc main_arg1)) (m ((c : Thread nD τ).loc main_arg2))
          (ix3 (gb t) (row (gj t) r) ⟨128 * gp t + e, by omega⟩) := by
  have hs := fun a : Fin 2 => sc_eq (m ((c : Thread nD τ).loc main_arg0)) (m ((c : Thread nD τ).loc main_arg1)) (gb t) (gp t) (gj t)
    (iblk m c 0 t) (iblk m c 1 t) (iblk0 m c t) (iblk1 m c t) a r
  have hh := head_eq (m ((c : Thread nD τ).loc main_arg0)) (m ((c : Thread nD τ).loc main_arg1)) (m ((c : Thread nD τ).loc main_arg2))
    (gb t) (gp t) (gj t) (iblk m c 0 t) (iblk m c 1 t) (iblk m c 2 t) (iblk0 m c t) (iblk1 m c t) (iblk2 m c t) hX
  have htop : ∀ (a : Fin 2) k, sc (iblk m c 0 t) (iblk m c 1 t) a (1024 * (grid0.coords t 2).val) r k ≠ ⊤ := fun a k => by
    refine ne_of_eq_of_ne (congrFun (hs a) k) (gsc_ne_top _ _ _ hX _ _ _ k)
  refine (out_at c t _ _ _ _ _ _ _ _ (iblk m c 0 t) (iblk m c 1 t) (iblk m c 2 t) r htop e).trans ?_
  rw [ref_at _ _ _ hX]
  by_cases h : (e : ℕ) < 64
  · rw [dif_pos h]
    refine (hh 0 r e).trans ?_
    congr 1 <;> refine Fin.ext ?_
    · show 2 * (gp t : ℕ) + 0 = (128 * (gp t : ℕ) + e) / 64; omega
    · show (e : ℕ) = (128 * (gp t : ℕ) + e) % 64; omega
  · rw [dif_neg h]
    refine (hh 1 r ⟨e - 64, by omega⟩).trans ?_
    congr 1 <;> refine Fin.ext ?_
    · show 2 * (gp t : ℕ) + 1 = (128 * (gp t : ℕ) + e) / 64; omega
    · show (e : ℕ) - 64 = (128 * (gp t : ℕ) + e) % 64; omega

/-- THE KERNEL'S RESULT ARRAY is the reference's. -/
theorem final (c : Dev nD) (hX : Laid (m ((c : Thread nD τ).loc main_arg0)) (m ((c : Thread nD τ).loc main_arg1)) (m ((c : Thread nD τ).loc main_arg2))) :
    (dats m 0 c).arrAt 3 cfg0.N = Cert.ReferenceIdeal.Read.val_main_v39 (F := Ideal) (m ((c : Thread nD τ).loc main_arg0))
      (m ((c : Thread nD τ).loc main_arg1)) (m ((c : Thread nD τ).loc main_arg2)) := by
  refine (dats m 0 c).arrAt_eq_of_covers 3 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 3 t z) hy).trans ?_
  refine Eq.trans ?_ ((point m c hX t (y 1) (y 2)).trans (congrArg _ (((congrArg _ hy).trans (emb3 t (y 1) (y 2))).symm)))
  rw [after0_3]
  simp only [outsAt0]
  rfl

end Cert.Attn
-- ==== Proof.MixBits.lean ====
module

public import proofs.«01_k».proof.Proof.MixRunA
public import Idealize.ShloMosaic.Lib.Pipeline.Frame

/-! The launch of the feed-forward call in machine arithmetic: it ends with its arguments unchanged. -/

set_option maxRecDepth 16384
set_option backward.proofsInPublic true

@[expose] public section
noncomputable section

namespace Cert.Mix.Body
open Cert.Mix Cert.Mix.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows, of whose contents nothing is said. -/
def forgets : Fin 11 → Bool := fun w => decide (9 ≤ w.val)

/-- The two scratch buffers, at any contents, and the generator's register. -/
def phi (c : Dev nD) : sProp 𝕄 :=
  iprop((∃ f : Vec F S1x520x5632 .f32, owns (c : Thread nD τ) (Memref.whole cc0_scratch0) fullShare f)
    ∗ (∃ d : Vec F S512x2816 .bf16, owns (c : Thread nD τ) (Memref.whole cc0_scratch1) fullShare d) ∗ ∃ r, prngReg c r)

/-- The launch's proof data: after a point, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => Dat.unnamed (cfg := cfg0) 9 t
    | ⟨10, _⟩ => Dat.unnamed (cfg := cfg0) 10 t
  Φ _ := phi c
  q _ := fullShare
  owed _ := 0

/-- The arrays are those the launch finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare d)
    ∗ (∃ d, owns (c : Thread nD τ) (win0_10.stage (cfg0.slots t 10)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ d, owns (c : Thread nD τ) (win0_9.stage (cfg0.slots t 9)) fullShare d)
    ∗ (∃ d, owns (c : Thread nD τ) (win0_10.stage (cfg0.slots t 10)) fullShare d))

set_option maxHeartbeats 1000000 in
/-- The body at a point, whatever the scratch buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8]
  rw [show (dats m 0 c).Φ t.succ = phi c from rfl, show (dats m 0 c).Φ t.castSucc = phi c from rfl,
    show (dats m 0 c).owesAt () t.succ = (dats m 0 c).owesAt () t.castSucc from rfl,
    after0, after1, after2, after3, after4, after5, after6, after7, after8]
  unfold phi
  iintro ⟨⟨⟨%x13, HS⟩, HT, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases hc : first (grid0.coords t) = 1#1
  · iapply ((runA c (grid0.coords t) _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) x13).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    isplitl [HT]; · iexact HT
    iintro ⟨H0, H1, H2, H3, H4, H5, H6, H7, H8, ⟨%e9, H9⟩, ⟨%e10, H10⟩, HS, HT⟩
    isplitl [HS HT Hg]
    · isplitl [HS]
      · iexists _
        unfold owns
        iexists _
        isplitr
        swap; · iexact HS
        ipureintro; rfl
      isplitl [HT]; · iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      unfold owns
      iexists _
      isplitr
      swap; · iexact H9
      ipureintro; rfl
    · iexists _
      unfold owns
      iexists _
      isplitr
      swap; · iexact H10
      ipureintro; rfl
  · iapply ((runB c (grid0.coords t) _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) x13).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    isplitl [HT]; · iexact HT
    iintro ⟨H0, H1, H2, H3, H4, H5, H6, H7, H8, ⟨%e9, H9⟩, ⟨%e10, H10⟩, HS, HT⟩
    isplitl [HS HT Hg]
    · isplitl [HS]
      · iexists _
        unfold owns
        iexists _
        isplitr
        swap; · iexact HS
        ipureintro; rfl
      isplitl [HT]; · iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · iexists _
      unfold owns
      iexists _
      isplitr
      swap; · iexact H9
      ipureintro; rfl
    · iexists _
      unfold owns
      iexists _
      isplitr
      swap; · iexact H10
      ipureintro; rfl

/-- The body's row of the table at a point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-- The scratch buffers at any contents, as the launch has them. -/
theorem phi_in (c : Dev nD) : (Pipeline.ΦA spec0 c : sProp 𝕄) ⊢ phi c := by
  unfold Pipeline.ΦA phi
  rw [scopedRest0_eq]
  simp only [owns_whole]
  iintro ⟨⟨⟨%f, HS⟩, ⟨%d, HT⟩⟩, Hg⟩
  isplitl [HS]; · iexists f; iexact HS
  isplitl [HT]; · iexists d; iexact HT
  iexact Hg

/-- The same, the other way. -/
theorem phi_out (c : Dev nD) : (phi c : sProp 𝕄) ⊢ Pipeline.ΦA spec0 c := by
  unfold Pipeline.ΦA phi
  rw [scopedRest0_eq]
  simp only [owns_whole]
  iintro ⟨⟨%f, HS⟩, ⟨%d, HT⟩, Hg⟩
  isplitl [HS HT]
  · isplitl [HS]; · iexists f; iexact HS
    iexists d; iexact HT
  iexact Hg

set_option backward.isDefEq.respectTransparency.types false in
/-- The launch ends with its inputs as it found them and every counter at zero. -/
theorem run_main : θ_run defs (onTc (τ := τ) (main (F := F))) (s₀ m ρ)
      (fun r => RDat.FramePost (cfgs 0) (fun c => (dats m 0 c).toRForget forgets) (V m) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => phi_in c) (hout := fun c => phi_out c)

/-- The launch ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨(h.1.arr_in c 0 rfl).trans ((A_eq m c 0).trans (V_main_arg0 m c)),
    (h.1.arr_in c 1 rfl).trans ((A_eq m c 1).trans (V_main_arg1 m c)),
    (h.1.arr_in c 2 rfl).trans ((A_eq m c 2).trans (V_main_arg2 m c)),
    (h.1.arr_in c 3 rfl).trans ((A_eq m c 3).trans (V_main_arg3 m c)),
    (h.1 c).2 main_arg4 (Pipeline.mem_restRefs_of main_arg4 (by decide) (by decide)) |>.trans (V_main_arg4 m c),
    (h.1 c).2 main_arg5 (Pipeline.mem_restRefs_of main_arg5 (by decide) (by decide)) |>.trans (V_main_arg5 m c),
    (h.1 c).2 main_arg6 (Pipeline.mem_restRefs_of main_arg6 (by decide) (by decide)) |>.trans (V_main_arg6 m c),
    (h.1.arr_in c 7 rfl).trans ((A_eq m c 7).trans (V_main_arg7 m c)),
    (h.1 c).2 main_arg8 (Pipeline.mem_restRefs_of main_arg8 (by decide) (by decide)) |>.trans (V_main_arg8 m c)⟩, h.2⟩) (run_main m ρ)

end Cert.Mix.Body
-- ==== Proof.MixIdealRunB.lean ====
module

public import proofs.«01_k».proof.Proof.Gen.MixIdeal.Frame
public import proofs.«01_k».proof.Proof.Gen.MixIdeal.Skeleton

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the second grid coordinate is zero. -/
abbrev first (i : grid0.Coords) : BitVec 1 :=
  Scalar.cmpi .ne (Scalar.extui (Scalar.cmpi .eq (BitVec.ofNat 32 (i 1).val) 0#32)) 0#32

set_option maxHeartbeats 4000000 in
/-- The body's triple at a later tile: on whole buffers, with the inputs at their blocks and the carried buffer at any
    contents, the body ends with the inputs as they were and with the results and the carried buffer written over by the
    lists of pieces that the run finds. -/
noncomputable def runB (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole)
    (hc : ¬ first i = 1#1) (x2 : Vec F S1x512x1024 .f32) (x3 : Vec F S1x512x512 .bf16) (x4 : Vec F S1x512x512 .bf16) (x5 : Vec F S1x2x5632 .f32) (x6 : Vec F S1024x1024 .bf16) (x7 : Vec F S1x1024 .f32) (x8 : Vec F S1024x5632 .bf16) (x9 : Vec F S3x5632 .f32) (x10 : Vec F S2816x1024 .bf16) (x13 : Vec F S1x520x5632 .f32) :
    Σ' (L11 : List (View.Piece (Elt F) S1x512x1024 .f32)) (L12 : List (View.Piece (Elt F) S1x2x5632 .f32)),
    { L13 : List (View.Piece (Elt F) S1x520x5632 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, (arg11.view.loc (c : Thread nD τ) ↦[arg11.view.set]{fullShare} arg11.view.writes (Elt F) f L11)) ∗ (∃ f, (arg12.view.loc (c : Thread nD τ) ↦[arg12.view.set]{fullShare} arg12.view.writes (Elt F) f L12)) ∗ (arg13.view.loc (c : Thread nD τ) ↦[arg13.view.set]{fullShare} arg13.view.writes (Elt F) (harg13.unread x13) L13) ∗ (∃ d, owns (c : Thread nD τ) arg14 fullShare d)) -∗ K ⟨⟩))
          ⊢ wp frame (wpE (defs₀ (F := F)) Variants.none c none) E (cc0_mix_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
    unfold first at hc
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexact H13
    iexists _, _; isplitr; swap; · iexact H14
    ipureintro; rfl

end Cert.MixIdeal.Body

end
-- ==== Proof.MixIdealRunA.lean ====
module

public import proofs.«01_k».proof.Proof.Gen.MixIdeal.Frame
public import proofs.«01_k».proof.Proof.Gen.MixIdeal.Skeleton
public import proofs.«01_k».proof.Proof.MixIdealRunB

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at the first tile of a row of the grid: on whole buffers, with the inputs at their blocks and the carried buffer at any
    contents, the body ends with the inputs as they were and with the results and the carried buffer written over by the
    lists of pieces that the run finds. -/
noncomputable def runA (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole)
    (hc : first i = 1#1) (x2 : Vec F S1x512x1024 .f32) (x3 : Vec F S1x512x512 .bf16) (x4 : Vec F S1x512x512 .bf16) (x5 : Vec F S1x2x5632 .f32) (x6 : Vec F S1024x1024 .bf16) (x7 : Vec F S1x1024 .f32) (x8 : Vec F S1024x5632 .bf16) (x9 : Vec F S3x5632 .f32) (x10 : Vec F S2816x1024 .bf16) (x13 : Vec F S1x520x5632 .f32) :
    Σ' (L11 : List (View.Piece (Elt F) S1x512x1024 .f32)) (L12 : List (View.Piece (Elt F) S1x2x5632 .f32)),
    { L13 : List (View.Piece (Elt F) S1x520x5632 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ owns (c : Thread nD τ) arg13 fullShare x13 ∗ (∃ d, owns (c : Thread nD τ) arg14 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, (arg11.view.loc (c : Thread nD τ) ↦[arg11.view.set]{fullShare} arg11.view.writes (Elt F) f L11)) ∗ (∃ f, (arg12.view.loc (c : Thread nD τ) ↦[arg12.view.set]{fullShare} arg12.view.writes (Elt F) f L12)) ∗ (arg13.view.loc (c : Thread nD τ) ↦[arg13.view.set]{fullShare} arg13.view.writes (Elt F) (harg13.unread x13) L13) ∗ (∃ d, owns (c : Thread nD τ) arg14 fullShare d)) -∗ K ⟨⟩))
          ⊢ wp frame (wpE (defs₀ (F := F)) Variants.none c none) E (cc0_mix_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg13.eq_unread hf13
    unfold first at hc
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexact H13
    iexists _, _; isplitr; swap; · iexact H14
    ipureintro; rfl

end Cert.MixIdeal.Body

end
-- ==== Proof.MixLists.lean ====
module

public import proofs.«01_k».proof.Proof.Gen.MixIdeal.Frame
public import proofs.«01_k».proof.Proof.Gen.MixIdeal.Skeleton
public import proofs.«01_k».proof.Proof.MixIdealRunA

@[expose] public section

set_option maxRecDepth 16384

noncomputable section

namespace Cert.MixIdeal.Body

open Cert.MixIdeal Cert.MixIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces written by one run of the body, as lists

The body works through 22 column ranges of the carried buffer, of 256 columns each: range `2 c` holds the gate columns
of chunk `c` and range `2 c + 1` its value columns. -/

/-- The first column of range `k`. -/
def lo (k : ℕ) : ℕ := 256 * (k / 2 % 11) + 2816 * (k % 2)

theorem lo_le (k : ℕ) : lo k + 256 ≤ 5632 := by unfold lo; omega

/-- Range `k` of the carried buffer, from row `r0` on, lies inside it. -/
theorem inb13 (r0 k : ℕ) (h : r0 ≤ 8) (a : Fin S1x520x5632.rank) :
    (![0, r0, lo k] : Fin 3 → ℕ) a + S1x512x256.size a ≤ S1x520x5632.size a := by
  have := lo_le k
  match a with
  | ⟨0, _⟩ => exact Nat.le_refl 1
  | ⟨1, _⟩ => exact (show r0 + 512 ≤ 520 by omega)
  | ⟨2, _⟩ => exact this

/-- Range `k` of the matrix of the upward product lies inside it. -/
theorem inb8 (k : ℕ) (a : Fin S1024x5632.rank) :
    (![0, lo k] : Fin 2 → ℕ) a + S1024x256.size a ≤ S1024x5632.size a := by
  have := lo_le k
  match a with
  | ⟨0, _⟩ => exact Nat.le_refl 1024
  | ⟨1, _⟩ => exact this

/-- Range `k` of the taps lies inside them. -/
theorem inb9 (k : ℕ) (a : Fin S3x5632.rank) :
    (![0, lo k] : Fin 2 → ℕ) a + S3x256.size a ≤ S3x5632.size a := by
  have := lo_le k
  match a with
  | ⟨0, _⟩ => exact Nat.le_refl 3
  | ⟨1, _⟩ => exact this

/-- Chunk `c` of the activations lies inside them. -/
theorem inb14 (c : ℕ) (a : Fin S512x2816.rank) :
    (![0, 256 * (c % 11)] : Fin 2 → ℕ) a + S512x256.size a ≤ S512x2816.size a := by
  have : 256 * (c % 11) + 256 ≤ 2816 := by omega
  match a with
  | ⟨0, _⟩ => exact Nat.le_refl 512
  | ⟨1, _⟩ => exact this

abbrev R13 (r0 k : ℕ) (h : r0 ≤ 8) : Rect S1x520x5632 := Rect.unit ![0, r0, lo k] S1x512x256.size (inb13 r0 k h)
abbrev R8 (k : ℕ) : Rect S1024x5632 := Rect.unit ![0, lo k] S1024x256.size (inb8 k)
abbrev R9 (k : ℕ) : Rect S3x5632 := Rect.unit ![0, lo k] S3x256.size (inb9 k)
abbrev R14 (c : ℕ) : Rect S512x2816 := Rect.unit ![0, 256 * (c % 11)] S512x256.size (inb14 c)

/-- The gated activation of a chunk: the gate times its logistic, times the value. -/
def glu (g v : FVec F S512x256 .f32) : FVec F S512x256 .bf16 :=
  shapeCast S512x256 (truncf .bf16 (mulf (mulf g (logistic g)) v) bitsLt_bf16_f32) shapeCasts_S512x256_S512x256

/-- The pieces of the carried buffer after the first `n` ranges, newest first, over the pieces `base`. -/
def hs (xn : FVec F S512x1024 .bf16) (w : ℕ → Vec F S1024x256 .bf16) (base : List (View.Piece (Elt F) S1x520x5632 .f32)) :
    ℕ → List (View.Piece (Elt F) S1x520x5632 .f32)
  | 0 => base
  | k + 1 => ⟨R13 8 k (Nat.le_refl 8), k0_pay6 xn (w k)⟩ :: hs xn w base k

/-- The convolution of range `k`, from the loads at rows 8, 7 and 6 of the carried buffer once the pieces `L` are written. -/
def cv (v : View sig .tc .vmem S1x520x5632 .f32) (old : v.ty.Contents (Elt F)) (L : List (View.Piece (Elt F) S1x520x5632 .f32))
    (k : ℕ) (cw : Vec F S3x256 .f32) : FVec F S512x256 .f32 :=
  k0_pay7 cw (v.readCov L (R13 8 k (by omega)).toLoadRect)
    (v.readAt (Elt F) (R13 7 k (by omega)).toLoadRect (v.writes (Elt F) old L))
    (v.readAt (Elt F) (R13 6 k (by omega)).toLoadRect (v.writes (Elt F) old L))

/-- The pieces of the activations after the first `n` chunks, newest first. -/
def acs (v : View sig .tc .vmem S1x520x5632 .f32) (old : v.ty.Contents (Elt F)) (H : ℕ → List (View.Piece (Elt F) S1x520x5632 .f32))
    (cw : ℕ → Vec F S3x256 .f32) : ℕ → List (View.Piece (Elt F) S512x2816 .bf16)
  | 0 => []
  | n + 1 => ⟨R14 n, glu (cv v old (H (2 * n + 1)) (2 * n) (cw (2 * n))) (cv v old (H (2 * n + 2)) (2 * n + 1) (cw (2 * n + 1)))⟩
      :: acs v old H cw n

/-- All of the argument in place 2, loaded. -/
abbrev at2 {a : Memref sig .tc .vmem S1x512x1024 .f32} (h : a.IsWhole) (x : Vec F S1x512x1024 .f32) := View.readAt (Elt F) a.view (Rect.unit (s := S1x512x1024) ![0, 0, 0] S1x512x1024.size inb_S1x512x1024_S1x512x1024_0_0_0).toLoadRect (h.unread x)

/-- All of the argument in place 3, loaded. -/
abbrev at3 {a : Memref sig .tc .vmem S1x512x512 .bf16} (h : a.IsWhole) (x : Vec F S1x512x512 .bf16) := View.readAt (Elt F) a.view (Rect.unit (s := S1x512x512) ![0, 0, 0] S1x512x512.size inb_S1x512x512_S1x512x512_0_0_0).toLoadRect (h.unread x)

/-- All of the argument in place 4, loaded. -/
abbrev at4 {a : Memref sig .tc .vmem S1x512x512 .bf16} (h : a.IsWhole) (x : Vec F S1x512x512 .bf16) := View.readAt (Elt F) a.view (Rect.unit (s := S1x512x512) ![0, 0, 0] S1x512x512.size inb_S1x512x512_S1x512x512_0_0_0).toLoadRect (h.unread x)

/-- All of the argument in place 7, loaded. -/
abbrev at7 {a : Memref sig .tc .vmem S1x1024 .f32} (h : a.IsWhole) (x : Vec F S1x1024 .f32) := View.readAt (Elt F) a.view (Rect.unit (s := S1x1024) ![0, 0] S1x1024.size inb_S1x1024_S1x1024_0_0).toLoadRect (h.unread x)

/-- All of the argument in place 10, loaded. -/
abbrev at10 {a : Memref sig .tc .vmem S2816x1024 .bf16} (h : a.IsWhole) (x : Vec F S2816x1024 .bf16) := View.readAt (Elt F) a.view (Rect.unit (s := S2816x1024) ![0, 0] S2816x1024.size inb_S2816x1024_S2816x1024_0_0).toLoadRect (h.unread x)

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole) (hc : ¬ first i = 1#1) (x2 : Vec F S1x512x1024 .f32) (x3 : Vec F S1x512x512 .bf16) (x4 : Vec F S1x512x512 .bf16) (x5 : Vec F S1x2x5632 .f32) (x6 : Vec F S1024x1024 .bf16) (x7 : Vec F S1x1024 .f32) (x8 : Vec F S1024x5632 .bf16) (x9 : Vec F S3x5632 .f32) (x10 : Vec F S2816x1024 .bf16) (x13 : Vec F S1x520x5632 .f32)

/-- What the run at a later tile writes into the first result. -/
theorem runB_y :
    (runB c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).1 = [⟨Rect.unit ![0, 0, 0] S1x512x1024.size inb_S1x512x1024_S1x512x1024_0_0_0, k0_pay1 (k0_pay4 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)))
      (arg14.view.readCov (acs arg13.view (harg13.unread x13) (hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) []) (fun k => View.readAt (Elt F) arg9.view (R9 k).toLoadRect (harg9.unread x9)) 11) (Rect.unit ![0, 0] S512x2816.size inb_S512x2816_S512x2816_0_0).toLoadRect) (at10 harg10 x10)⟩] := by
  with_unfolding_all rfl

/-- What the run at a later tile writes into the second result. -/
theorem runB_h :
    (runB c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.1 = [⟨Rect.unit ![0, 0, 0] S1x2x5632.size inb_S1x2x5632_S1x2x5632_0_0_0, (arg13.view.readCov ((hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) []) 22) (Rect.unit (s := S1x520x5632) ![0, 518, 0] S1x2x5632.size inb_S1x520x5632_S1x2x5632_0_518_0).toLoadRect)⟩] := by
  with_unfolding_all rfl

/-- What the run at a later tile writes into the carried buffer. -/
theorem runB_c :
    (runB c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.2.1 = ⟨Rect.unit ![0, 6, 0] S1x2x5632.size inb_S1x520x5632_S1x2x5632_0_6_0, k0_pay2 (arg13.view.readCov ((hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) []) 22) (Rect.unit (s := S1x520x5632) ![0, 518, 0] S1x2x5632.size inb_S1x520x5632_S1x2x5632_0_518_0).toLoadRect)⟩ :: (hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) []) 22 := by
  with_unfolding_all rfl

end

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole) (hc : first i = 1#1) (x2 : Vec F S1x512x1024 .f32) (x3 : Vec F S1x512x512 .bf16) (x4 : Vec F S1x512x512 .bf16) (x5 : Vec F S1x2x5632 .f32) (x6 : Vec F S1024x1024 .bf16) (x7 : Vec F S1x1024 .f32) (x8 : Vec F S1024x5632 .bf16) (x9 : Vec F S3x5632 .f32) (x10 : Vec F S2816x1024 .bf16) (x13 : Vec F S1x520x5632 .f32)

/-- What the run at a first tile writes into the first result. -/
theorem runA_y :
    (runA c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).1 = [⟨Rect.unit ![0, 0, 0] S1x512x1024.size inb_S1x512x1024_S1x512x1024_0_0_0, k0_pay1 (k0_pay4 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)))
      (arg14.view.readCov (acs arg13.view arg13.view.junk (hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) [⟨Rect.unit ![0, 6, 0] S1x2x5632.size inb_S1x520x5632_S1x2x5632_0_6_0, k0_pay3 (View.readAt (Elt F) arg5.view (Rect.unit ![0, 0, 0] S1x2x5632.size inb_S1x2x5632_S1x2x5632_0_0_0).toLoadRect (harg5.unread x5))⟩]) (fun k => View.readAt (Elt F) arg9.view (R9 k).toLoadRect (harg9.unread x9)) 11) (Rect.unit ![0, 0] S512x2816.size inb_S512x2816_S512x2816_0_0).toLoadRect) (at10 harg10 x10)⟩] := by
  with_unfolding_all rfl

/-- What the run at a first tile writes into the second result. -/
theorem runA_h :
    (runA c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.1 = [⟨Rect.unit ![0, 0, 0] S1x2x5632.size inb_S1x2x5632_S1x2x5632_0_0_0, (arg13.view.readCov ((hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) [⟨Rect.unit ![0, 6, 0] S1x2x5632.size inb_S1x520x5632_S1x2x5632_0_6_0, k0_pay3 (View.readAt (Elt F) arg5.view (Rect.unit ![0, 0, 0] S1x2x5632.size inb_S1x2x5632_S1x2x5632_0_0_0).toLoadRect (harg5.unread x5))⟩]) 22) (Rect.unit (s := S1x520x5632) ![0, 518, 0] S1x2x5632.size inb_S1x520x5632_S1x2x5632_0_518_0).toLoadRect)⟩] := by
  with_unfolding_all rfl

/-- What the run at a first tile writes into the carried buffer. -/
theorem runA_c :
    (runA c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.2.1 = ⟨Rect.unit ![0, 6, 0] S1x2x5632.size inb_S1x520x5632_S1x2x5632_0_6_0, k0_pay2 (arg13.view.readCov ((hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) [⟨Rect.unit ![0, 6, 0] S1x2x5632.size inb_S1x520x5632_S1x2x5632_0_6_0, k0_pay3 (View.readAt (Elt F) arg5.view (Rect.unit ![0, 0, 0] S1x2x5632.size inb_S1x2x5632_S1x2x5632_0_0_0).toLoadRect (harg5.unread x5))⟩]) 22) (Rect.unit (s := S1x520x5632) ![0, 518, 0] S1x2x5632.size inb_S1x520x5632_S1x2x5632_0_518_0).toLoadRect)⟩ :: (hs (k0_pay5 (at3 harg3 x3) (at4 harg4 x4) (at2 harg2 x2) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (at7 harg7 x7)) (fun k => View.readAt (Elt F) arg8.view (R8 k).toLoadRect (harg8.unread x8)) [⟨Rect.unit ![0, 6, 0] S1x2x5632.size inb_S1x520x5632_S1x2x5632_0_6_0, k0_pay3 (View.readAt (Elt F) arg5.view (Rect.unit ![0, 0, 0] S1x2x5632.size inb_S1x2x5632_S1x2x5632_0_0_0).toLoadRect (harg5.unread x5))⟩]) 22 := by
  with_unfolding_all rfl

end

end Cert.MixIdeal.Body

end
-- ==== Proof.MixPay.lean ====
module

public import proofs.«01_k».proof.Proof.MixLists
public import proofs.«01_k».proof.Proof.Word

/-! What one run of the body computes, read at an entry. -/

set_option maxRecDepth 16384

@[expose] public section
noncomputable section

namespace Cert.MixIdeal.Body
open Idealize.ShloMosaic Idealize.ShloMosaic.TcCoe Idealize.SL.Sem
open Cert.MixIdeal Cert.MixIdeal.Gen

/-- The residual after the output projection. -/
theorem pay4_at (v3 v5 : Vec Ideal S1x512x512 .bf16) (v7 : Vec Ideal S1x512x1024 .f32) (v9 v13 : Vec Ideal S512x1024 .bf16)
    (r : Fin 512) (d : Fin 1024) :
    k0_pay4 (F := Ideal) v3 v5 v7 v9 v13 (ix2 r d)
      = v7 (ix3 0 r d) + (∑ k : Fin 512, v3 (ix3 0 r k) * v9 (ix2 k d)) + ∑ k : Fin 512, v5 (ix3 0 r k) * v13 (ix2 k d) := by
  pointwise [k0_pay4]

/-- The normalised residual. -/
theorem pay5_at (v3 v5 : Vec Ideal S1x512x512 .bf16) (v7 : Vec Ideal S1x512x1024 .f32) (v9 v13 : Vec Ideal S512x1024 .bf16)
    (v17 : Vec Ideal S1x1024 .f32) (r : Fin 512) (d : Fin 1024) :
    k0_pay5 (F := Ideal) v3 v5 v7 v9 v13 v17 (ix2 r d)
      = k0_pay4 (F := Ideal) v3 v5 v7 v9 v13 (ix2 r d) * Ideal.rsqrt (Ideal.div
          (∑ k : Fin 1024, k0_pay4 (F := Ideal) v3 v5 v7 v9 v13 (ix2 r k) * k0_pay4 (F := Ideal) v3 v5 v7 v9 v13 (ix2 r k))
          (Ideal.ofBits .f32 0x44800000#32) + Ideal.ofBits .f32 0x358637BD#32) * v17 (ix2 0 d) := by
  pointwise [k0_pay5]

/-- The upward product of a range of columns. -/
theorem pay6_at (xn : FVec Ideal S512x1024 .bf16) (w : Vec Ideal S1024x256 .bf16) (r : Fin 512) (j : Fin 256) :
    k0_pay6 (F := Ideal) xn w (ix3 0 r j) = ∑ k : Fin 1024, xn (ix2 r k) * w (ix2 k j) := by
  pointwise [k0_pay6]

/-- The convolution of a range of columns. -/
theorem pay7_at (cw : Vec Ideal S3x256 .f32) (a b d : Vec Ideal S1x512x256 .f32) (r : Fin 512) (j : Fin 256) :
    k0_pay7 (F := Ideal) cw a b d (ix2 r j)
      = cw (ix2 2 j) * a (ix3 0 r j) + cw (ix2 1 j) * b (ix3 0 r j) + cw (ix2 0 j) * d (ix3 0 r j) := by
  pointwise [k0_pay7]

/-- The gated activation. -/
theorem glu_at (g v : FVec Ideal S512x256 .f32) (r : Fin 512) (j : Fin 256) :
    glu (F := Ideal) g v (ix2 r j) = g (ix2 r j) * Ideal.logistic (g (ix2 r j)) * v (ix2 r j) := by
  pointwise [glu]

/-- The first result: the residual plus the downward product. -/
theorem pay1_at (x1 : FVec Ideal S512x1024 .f32) (a : Vec Ideal S512x2816 .bf16) (w : Vec Ideal S2816x1024 .bf16)
    (r : Fin 512) (d : Fin 1024) :
    k0_pay1 (F := Ideal) x1 a w (ix3 0 r d) = x1 (ix2 r d) + ∑ j : Fin 2816, a (ix2 r j) * w (ix2 j d) := by
  pointwise [k0_pay1]

/-- A copy of two rows. -/
theorem pay2_at (v : Vec Ideal S1x2x5632 .f32) (r : Fin 2) (c : Fin 5632) :
    k0_pay2 (F := Ideal) v (ix3 0 r c) = v (ix3 0 r c) := by
  pointwise [k0_pay2]

/-- A copy of two rows. -/
theorem pay3_at (v : Vec Ideal S1x2x5632 .f32) (r : Fin 2) (c : Fin 5632) :
    k0_pay3 (F := Ideal) v (ix3 0 r c) = v (ix3 0 r c) := by
  pointwise [k0_pay3]

end Cert.MixIdeal.Body
-- ==== Proof.MixRead.lean ====
module

public import proofs.«01_k».proof.Proof.MixPay
public import proofs.«01_k».proof.Proof.Ref

/-! What the carried buffer and the activations read, once the pieces of a run are written over them. -/

set_option maxRecDepth 16384
set_option backward.proofsInPublic true

@[expose] public section
noncomputable section

namespace Cert.MixIdeal.Body
open Idealize.ShloMosaic Idealize.ShloMosaic.TcCoe Idealize.SL.Sem
open Cert.MixIdeal Cert.MixIdeal.Gen
open Cert.Attn (ext3)

/-- An index of a two-axis array by its entries. -/
theorem ext2 {n : Fin 2 → ℕ} (f g : (⟨2, n⟩ : Shape).Idx) (h0 : f 0 = g 0) (h1 : f 1 = g 1) : f = g :=
  funext fun a => by match a with | ⟨0, _⟩ => exact h0 | ⟨1, _⟩ => exact h1

/-- Column `j` of range `k`. -/
def col (k : ℕ) (j : Fin 256) : Fin 5632 := ⟨lo k + j, by have := lo_le k; omega⟩

/-- What the carried buffer holds from row 6 on, when row `n + 6` holds row `n` of `P`. -/
def rows (P : ℕ → Fin 5632 → EReal) (y : S1x520x5632.Idx) : EReal := P ((y 1).val - 6) (y 2)

variable (v : View sig .tc .vmem S1x520x5632 .f32) (old : v.ty.Contents (Elt Ideal))
  (xn : FVec Ideal S512x1024 .bf16) (w : ℕ → Vec Ideal S1024x256 .bf16)
  (base : List (View.Piece (Elt Ideal) S1x520x5632 .f32)) (P : ℕ → Fin 5632 → EReal)

/-- Rows 6 and 7 of the carried buffer hold rows 0 and 1 of `P`: by the first pieces written, or by what the buffer held. -/
def Carried : Prop := ∀ y : S1x520x5632.Idx, 6 ≤ (y 1).val → (y 1).val < 8 →
  (∃ p ∈ base, y ∈ p.1.set) ∨ ((∀ p ∈ base, y ∉ p.1.set) ∧ v.read (Elt Ideal) old y = rows P y)

variable (hb : ∀ p ∈ base, ∀ x : p.1.shape.Idx, p.2 x = rows P (p.1.emb x))
  (hw : ∀ k (r : Fin 512) (j : Fin 256), k0_pay6 (F := Ideal) xn (w k) (ix3 0 r j) = P (r + 2) (col k j))

include hw in
/-- The payload of a range, at an index. -/
theorem payload (k : ℕ) (x : (R13 8 k (Nat.le_refl 8)).shape.Idx) :
    k0_pay6 (F := Ideal) xn (w k) x = rows P ((R13 8 k (Nat.le_refl 8)).emb x) := by
  have hx : x = ix3 0 (x 1) (x 2) := ext3 _ _ (Fin.ext (by have := (x 0).isLt; exact Nat.lt_one_iff.1 this)) rfl rfl
  refine (congrArg (k0_pay6 (F := Ideal) xn (w k)) hx).trans ((hw k (x 1) (x 2)).trans ?_)
  refine congrArg₂ P ?_ (Fin.ext ?_)
  · show (x 1).val + 2 = 8 + 1 * (x 1).val - 6; omega
  · show lo k + (x 2).val = lo k + 1 * (x 2).val; omega

include hb hw in
/-- Every piece agrees with `rows P`. -/
theorem hs_agree : ∀ n, ∀ p ∈ hs (F := Ideal) xn w base n, ∀ x : p.1.shape.Idx, p.2 x = rows P (p.1.emb x)
  | 0 => hb
  | n + 1 => fun p hp => by
    rcases List.mem_cons.1 hp with rfl | hp
    · exact payload xn w P hw n
    · exact hs_agree n p hp

/-- The ranges' pieces leave rows 6 and 7 alone. -/
theorem hs_old (h : Carried v old base P) : ∀ n, Carried v old (hs (F := Ideal) xn w base n) P
  | 0 => h
  | n + 1 => fun y h6 h8 => by
    have hn : y ∉ (R13 8 n (Nat.le_refl 8)).set :=
      Rect.not_mem_set_of_axis _ y 1 8 512 rfl rfl rfl (Or.inl h8)
    rcases hs_old h n y h6 h8 with ⟨p, hp, hy⟩ | ⟨h1, h2⟩
    · exact Or.inl ⟨p, List.mem_cons_of_mem _ hp, hy⟩
    · refine Or.inr ⟨fun p hp => ?_, h2⟩
      rcases List.mem_cons.1 hp with rfl | hp
      · exact hn
      · exact h1 p hp

include hb hw in
/-- Rows 6 and 7 read rows 0 and 1 of `P` whatever ranges are written. -/
theorem read_old (h : Carried v old base P) (n : ℕ) (y : S1x520x5632.Idx) (h6 : 6 ≤ (y 1).val) (h8 : (y 1).val < 8) :
    v.read (Elt Ideal) (v.writes (Elt Ideal) old (hs (F := Ideal) xn w base n)) y = rows P y := by
  rcases hs_old v old xn w base P h n y h6 h8 with hc | ⟨h1, h2⟩
  · exact View.read_writes_apply_of_pieces v old (rows P) _ (hs_agree xn w base P hb hw n) y hc
  · exact (View.read_writes_apply_of_forall_not_mem v old y _ h1).trans h2

include hw in
/-- The range last written, read from row 8 on. -/
theorem read_new (k : ℕ) (r : Fin 512) (j : Fin 256) (y : S1x520x5632.Idx) (h1 : (y 1).val = 8 + r) (h2 : y 2 = col k j) :
    v.read (Elt Ideal) (v.writes (Elt Ideal) old (hs (F := Ideal) xn w base (k + 1))) y = rows P y := by
  have e : y = (R13 8 k (Nat.le_refl 8)).emb (ix3 0 r j) :=
    ext3 _ _ (Fin.ext (by have := (y 0).isLt; exact Nat.lt_one_iff.1 this))
      (Fin.ext (by rw [h1]; show 8 + r.val = 8 + 1 * r.val; omega))
      (Fin.ext (by rw [h2]; show lo k + j.val = lo k + 1 * j.val; omega))
  rw [e]
  exact (View.read_writes_cons_emb v old _ _ _ _).trans (payload xn w P hw k _)

include hw in
/-- A load of the range last written, from row 8 on. -/
theorem load8 (k : ℕ) (r : Fin 512) (j : Fin 256) (h : 8 ≤ 8) :
    v.readCov (Val := Elt Ideal) (hs (F := Ideal) xn w base (k + 1)) (R13 8 k h).toLoadRect (ix3 0 r j) = P (r + 2) (col k j) := by
  refine (read_new v _ xn w base P hw k r j ((R13 8 k h).toLoadRect.idx (ix3 0 r j)) ?_ (Fin.ext ?_)).trans
    (congrArg₂ P ?_ (Fin.ext ?_))
  · show 8 + 1 * r.val = 8 + r.val; omega
  · show lo k + 1 * j.val = lo k + j.val; omega
  · show 8 + 1 * r.val - 6 = r.val + 2; omega
  · show lo k + 1 * j.val = lo k + j.val; omega

include hb hw in
/-- A load of the range last written, from row 6 or 7 on. -/
theorem load67 (h : Carried v old base P) (r0 k : ℕ) (h6 : 6 ≤ r0) (h8 : r0 ≤ 8) (r : Fin 512) (j : Fin 256) :
    v.readAt (Elt Ideal) (R13 r0 k h8).toLoadRect (v.writes (Elt Ideal) old (hs (F := Ideal) xn w base (k + 1))) (ix3 0 r j)
      = P (r0 - 6 + r) (col k j) := by
  have e1 : ((R13 r0 k h8).toLoadRect.idx (ix3 0 r j) 1).val = r0 + r := by show r0 + 1 * r.val = r0 + r.val; omega
  have e2 : (R13 r0 k h8).toLoadRect.idx (ix3 0 r j) 2 = col k j := Fin.ext (by show lo k + 1 * j.val = lo k + j.val; omega)
  have e : rows P ((R13 r0 k h8).toLoadRect.idx (ix3 0 r j)) = P (r0 - 6 + r) (col k j) :=
    congrArg₂ P (by rw [e1]; omega) e2
  refine Eq.trans ?_ e
  by_cases hc : r0 + r.val < 8
  · exact read_old v old xn w base P hb hw h (k + 1) _ (by rw [e1]; omega) (by rw [e1]; exact hc)
  · exact read_new v old xn w base P hw k ⟨r0 + r - 8, by omega⟩ j _ (by rw [e1]; show r0 + r.val = 8 + (r0 + r.val - 8); omega) e2

/-- The piece of range `k` is among the pieces of the first `n`. -/
theorem mem_hs (k : ℕ) : ∀ n, k < n →
    (⟨R13 8 k (Nat.le_refl 8), k0_pay6 (F := Ideal) xn (w k)⟩ : View.Piece (Elt Ideal) S1x520x5632 .f32) ∈ hs (F := Ideal) xn w base n
  | 0, h => absurd h (Nat.not_lt_zero _)
  | n + 1, h => by
    rcases Nat.lt_succ_iff_lt_or_eq.1 h with h | rfl
    · exact List.mem_cons_of_mem _ (mem_hs k n h)
    · exact List.mem_cons_self

include hb hw in
/-- Once all ranges are written, every row from the eighth on reads its row of `P`. -/
theorem read_all (y : S1x520x5632.Idx) (h8 : 8 ≤ (y 1).val) :
    v.read (Elt Ideal) (v.writes (Elt Ideal) old (hs (F := Ideal) xn w base 22)) y = rows P y := by
  refine View.read_writes_apply_of_pieces v old (rows P) _ (hs_agree xn w base P hb hw 22) y ?_
  have y1 : (y 1).val < 520 := (y 1).isLt
  have y2 : (y 2).val < 5632 := (y 2).isLt
  have y0 : (y 0).val = 0 := by have := (y 0).isLt; exact Nat.lt_one_iff.1 this
  obtain ⟨k, hk, h1, h2⟩ : ∃ k, k < 22 ∧ lo k ≤ (y 2).val ∧ (y 2).val < lo k + 256 := by
    by_cases h : (y 2).val < 2816
    · refine ⟨2 * ((y 2).val / 256), by omega, ?_, ?_⟩ <;> · unfold lo; omega
    · refine ⟨2 * (((y 2).val - 2816) / 256) + 1, by omega, ?_, ?_⟩ <;> · unfold lo; omega
  refine ⟨_, mem_hs xn w base k 22 hk, (LoadRect.mem_set _).2 fun a => ?_⟩
  match a with
  | ⟨0, _⟩ => exact ⟨0, Nat.zero_lt_one, y0⟩
  | ⟨1, _⟩ => exact ⟨(y 1).val - 8, (by show (y 1).val - 8 < 512; omega), (by show (y 1).val = 8 + 1 * ((y 1).val - 8); omega)⟩
  | ⟨2, _⟩ => exact ⟨(y 2).val - lo k, (by show (y 2).val - lo k < 256; omega), (by show (y 2).val = lo k + 1 * ((y 2).val - lo k); omega)⟩

include hb hw in
/-- The last two rows of the carried buffer are rows 512 and 513 of `P`. -/
theorem tail_at (r : Fin 2) (c : Fin 5632) :
    v.readCov (Val := Elt Ideal) (hs (F := Ideal) xn w base 22)
        (Rect.unit (s := S1x520x5632) ![0, 518, 0] S1x2x5632.size inb_S1x520x5632_S1x2x5632_0_518_0).toLoadRect (ix3 0 r c)
      = P (512 + r) c := by
  refine (read_all v _ xn w base P hb hw _ ?_).trans (congrArg₂ P ?_ (Fin.ext ?_))
  · show 8 ≤ 518 + 1 * r.val; omega
  · show 518 + 1 * r.val - 6 = 512 + r.val; omega
  · show 0 + 1 * c.val = c.val; omega

variable (cw : ℕ → Vec Ideal S3x256 .f32) (C : Fin 3 → Fin 5632 → EReal)
  (hcw : ∀ k (a : Fin 3) (j : Fin 256), cw k (ix2 a j) = C a (col k j))

/-- The convolution at row `r` of column `c`: three successive rows, each with its tap. -/
def conv (r : ℕ) (c : Fin 5632) : EReal := C 2 c * P (r + 2) c + C 1 c * P (r + 1) c + C 0 c * P r c

/-- The activation at row `r`, column `j`. -/
def act (r : ℕ) (j : Fin 2816) : EReal :=
  conv P C r ⟨j, by omega⟩ * Ideal.logistic (conv P C r ⟨j, by omega⟩) * conv P C r ⟨2816 + j, by omega⟩

include hb hw hcw in
/-- The convolution of a range, at an entry. -/
theorem cv_at (h : Carried v old base P) (k : ℕ) (r : Fin 512) (j : Fin 256) :
    cv (F := Ideal) v old (hs (F := Ideal) xn w base (k + 1)) k (cw k) (ix2 r j) = conv P C r (col k j) := by
  unfold cv conv
  rw [pay7_at, hcw, hcw, hcw, load8 v xn w base P hw, load67 v old xn w base P hb hw h 7 k (by omega) (by omega),
    load67 v old xn w base P hb hw h 6 k (by omega) (by omega)]
  congr 3
  · congr 1; omega
  · congr 1; omega

/-- The activation of a row and column, as an entry of the activations' array. -/
def acty (y : S512x2816.Idx) : EReal := act P C (y 0).val (y 1)

include hb hw hcw in
/-- Every piece of the activations agrees with `act`. -/
theorem acs_agree (h : Carried v old base P) : ∀ n, n ≤ 11 → ∀ p ∈ acs (F := Ideal) v old (hs (F := Ideal) xn w base) cw n,
    ∀ x : p.1.shape.Idx, p.2 x = acty P C (p.1.emb x)
  | 0, _ => fun p hp => absurd hp List.not_mem_nil
  | n + 1, hn => fun p hp => by
    rcases List.mem_cons.1 hp with rfl | hp
    · intro x
      have hx : x = ix2 (x 0) (x 1) := ext2 _ _ rfl rfl
      have x1 : (x 1).val < 256 := (x 1).isLt
      refine (congrArg (glu (F := Ideal) _ _) hx).trans ((glu_at _ _ (x 0) (x 1)).trans ?_)
      rw [cv_at v old xn w base P hb hw cw C hcw h (2 * n) (x 0) (x 1),
        cv_at v old xn w base P hb hw cw C hcw h (2 * n + 1) (x 0) (x 1)]
      have hn' : n % 11 = n := Nat.mod_eq_of_lt hn
      have e0 : ((R14 n).emb x 0).val = (x 0).val := by show 0 + 1 * (x 0).val = (x 0).val; omega
      have e1 : (R14 n).emb x 1 = (⟨256 * n + (x 1).val, by omega⟩ : Fin 2816) := Fin.ext (by
        show 256 * (n % 11) + 1 * (x 1).val = 256 * n + (x 1).val; omega)
      have c1 : col (2 * n) (x 1) = ⟨256 * n + (x 1).val, by omega⟩ := Fin.ext (by
        show lo (2 * n) + (x 1).val = 256 * n + (x 1).val; unfold lo; omega)
      have c2 : col (2 * n + 1) (x 1) = ⟨2816 + (256 * n + (x 1).val), by omega⟩ := Fin.ext (by
        show lo (2 * n + 1) + (x 1).val = 2816 + (256 * n + (x 1).val); unfold lo; omega)
      have e : acty P C ((R14 n).emb x) = act P C (x 0).val ⟨256 * n + (x 1).val, by omega⟩ := congrArg₂ (act P C) e0 e1
      refine Eq.trans ?_ e.symm
      exact congrArg₂ (fun a b => conv P C (x 0).val a * Ideal.logistic (conv P C (x 0).val a) * conv P C (x 0).val b) c1 c2
    · exact acs_agree h n (by omega) p hp

/-- The piece of chunk `k` is among the pieces of the first `n`. -/
theorem mem_acs (H : ℕ → List (View.Piece (Elt Ideal) S1x520x5632 .f32)) (k : ℕ) : ∀ n, k < n →
    ∃ p ∈ acs (F := Ideal) v old H cw n, p.1 = R14 k
  | 0, h => absurd h (Nat.not_lt_zero _)
  | n + 1, h => by
    rcases Nat.lt_succ_iff_lt_or_eq.1 h with h | rfl
    · obtain ⟨p, hp, e⟩ := mem_acs H k n h
      exact ⟨p, List.mem_cons_of_mem _ hp, e⟩
    · exact ⟨_, List.mem_cons_self, rfl⟩

include hb hw hcw in
/-- The activations, read whole. -/
theorem acs_at (h : Carried v old base P) (u : View sig .tc .vmem S512x2816 .bf16) (r : Fin 512) (j : Fin 2816) :
    u.readCov (Val := Elt Ideal) (acs (F := Ideal) v old (hs (F := Ideal) xn w base) cw 11)
        (Rect.unit ![0, 0] S512x2816.size inb_S512x2816_S512x2816_0_0).toLoadRect (ix2 r j)
      = act P C r j := by
  have e : (Rect.unit (s := S512x2816) ![0, 0] S512x2816.size inb_S512x2816_S512x2816_0_0).toLoadRect.idx (ix2 r j) = ix2 r j :=
    ext2 _ _ (Fin.ext (by show 0 + 1 * r.val = r.val; omega)) (Fin.ext (by show 0 + 1 * j.val = j.val; omega))
  refine (congrArg (u.read (Elt Ideal) _) e).trans ?_
  refine (View.read_writes_apply_of_pieces (Val := Elt Ideal) u _ (acty P C) (acs (F := Ideal) v old (hs (F := Ideal) xn w base) cw 11)
    (acs_agree v old xn w base P hb hw cw C hcw h 11 (Nat.le_refl _)) (ix2 r j) ?_)
  obtain ⟨p, hp, hk⟩ := mem_acs v old cw (hs (F := Ideal) xn w base) (j.val / 256) 11 (by omega)
  refine ⟨p, hp, ?_⟩
  rw [hk]
  refine (LoadRect.mem_set _).2 fun a => ?_
  match a with
  | ⟨0, _⟩ => exact ⟨r.val, r.isLt, (by show r.val = 0 + 1 * r.val; omega)⟩
  | ⟨1, _⟩ => exact ⟨j.val % 256, (by show j.val % 256 < 256; omega), (by
      show j.val = 256 * (j.val / 256 % 11) + 1 * (j.val % 256); omega)⟩

end Cert.MixIdeal.Body
-- ==== Proof.MixMath.lean ====
module

public import proofs.«01_k».proof.Proof.MixRead

/-! The second half of the layer at an entry, and one tile of it. -/

set_option maxRecDepth 16384
set_option backward.proofsInPublic true

@[expose] public section
noncomputable section

namespace Cert.Ffn
open Idealize.ShloMosaic Cert.MixIdeal Cert.MixIdeal.Gen Cert.MixIdeal.Body

/-- The arguments: the residual, the attention's two halves, the convolution's history and the weights. -/
structure Arrs where
  X : S2x16384x1024.Idx → EReal
  OA : S2x16384x512.Idx → EReal
  OB : S2x16384x512.Idx → EReal
  Hi : S2x2x5632.Idx → EReal
  Wo : S1024x1024.Idx → EReal
  G : S1024.Idx → EReal
  Wu : S1024x5632.Idx → EReal
  Cw : S3x5632.Idx → EReal
  Wd : S2816x1024.Idx → EReal

/-- Position `t` of the sequence. -/
def pos (t : ℕ) : Fin 16384 := ⟨t % 16384, Nat.mod_lt _ (by decide)⟩

variable (A : Arrs) (b : Fin 2)

/-- The residual after the output projection of the two halves. -/
def gx1 (t : ℕ) (d : Fin 1024) : EReal :=
  A.X (ix3 b (pos t) d) + (∑ k : Fin 512, A.OA (ix3 b (pos t) k) * A.Wo (ix2 ⟨k, by omega⟩ d))
    + ∑ k : Fin 512, A.OB (ix3 b (pos t) k) * A.Wo (ix2 ⟨512 + k, by omega⟩ d)

/-- The residual over the root of its mean square, times the gain. -/
def gxn (t : ℕ) (d : Fin 1024) : EReal :=
  gx1 A b t d * Ideal.rsqrt (Ideal.div (∑ k : Fin 1024, gx1 A b t k * gx1 A b t k) (Ideal.ofBits .f32 0x44800000#32)
    + Ideal.ofBits .f32 0x358637BD#32) * A.G (ix1 d)

/-- The upward product. -/
def gup (t : ℕ) (c : Fin 5632) : EReal := ∑ k : Fin 1024, gxn A b t k * A.Wu (ix2 k c)

/-- The convolution's input: two rows of history, then the upward product. -/
def gxp (n : ℕ) (c : Fin 5632) : EReal :=
  if h : n < 2 then A.Hi (ix3 b ⟨n, h⟩ c) else gup A b (n - 2) c

/-- The taps. -/
def taps (a : Fin 3) (c : Fin 5632) : EReal := A.Cw (ix2 a c)

/-- The first result: the residual plus the downward product of the activations. -/
def gy (t : ℕ) (d : Fin 1024) : EReal :=
  gx1 A b t d + ∑ j : Fin 2816, act (gxp A b) (taps A) t j * A.Wd (ix2 j d)

/-- The convolution's input from tile `j` on. -/
def tile (j : ℕ) (n : ℕ) (c : Fin 5632) : EReal := gxp A b (512 * j + n) c

/-- The activation of a tile's row is the whole sequence's. -/
theorem act_tile (j r : ℕ) (k : Fin 2816) : act (tile A b j) (taps A) r k = act (gxp A b) (taps A) (512 * j + r) k := rfl

variable (j : Fin 32) (v3 v5 : Vec Ideal S1x512x512 .bf16) (v7 : Vec Ideal S1x512x1024 .f32) (v9 v13 : Vec Ideal S512x1024 .bf16)
  (v17 : Vec Ideal S1x1024 .f32) (w : ℕ → Vec Ideal S1024x256 .bf16)
  (h3 : ∀ (r k : Fin 512), v3 (ix3 0 r k) = A.OA (ix3 b (pos (512 * j + r)) k))
  (h5 : ∀ (r k : Fin 512), v5 (ix3 0 r k) = A.OB (ix3 b (pos (512 * j + r)) k))
  (h7 : ∀ (r : Fin 512) (d : Fin 1024), v7 (ix3 0 r d) = A.X (ix3 b (pos (512 * j + r)) d))
  (h9 : ∀ (k : Fin 512) (d : Fin 1024), v9 (ix2 k d) = A.Wo (ix2 ⟨k, by omega⟩ d))
  (h13 : ∀ (k : Fin 512) (d : Fin 1024), v13 (ix2 k d) = A.Wo (ix2 ⟨512 + k, by omega⟩ d))
  (h17 : ∀ d : Fin 1024, v17 (ix2 0 d) = A.G (ix1 d))
  (hw : ∀ (k : ℕ) (i : Fin 1024) (q : Fin 256), w k (ix2 i q) = A.Wu (ix2 i (col k q)))

include h3 h5 h7 h9 h13 in
/-- A tile's residual is the whole sequence's. -/
theorem tile_x1 (r : Fin 512) (d : Fin 1024) :
    k0_pay4 (F := Ideal) v3 v5 v7 v9 v13 (ix2 r d) = gx1 A b (512 * j + r) d := by
  rw [pay4_at, h7]
  simp only [h3, h5, h9, h13]
  rfl

include h3 h5 h7 h9 h13 h17 in
/-- A tile's normalised residual is the whole sequence's. -/
theorem tile_xn (r : Fin 512) (d : Fin 1024) :
    k0_pay5 (F := Ideal) v3 v5 v7 v9 v13 v17 (ix2 r d) = gxn A b (512 * j + r) d := by
  have e := tile_x1 A b j v3 v5 v7 v9 v13 h3 h5 h7 h9 h13 r
  rw [pay5_at, h17]
  simp only [e]
  rfl

include h3 h5 h7 h9 h13 h17 hw in
/-- A tile's upward product is the convolution's input. -/
theorem tile_up (k : ℕ) (r : Fin 512) (q : Fin 256) :
    k0_pay6 (F := Ideal) (k0_pay5 (F := Ideal) v3 v5 v7 v9 v13 v17) (w k) (ix3 0 r q) = tile A b j (r + 2) (col k q) := by
  have e := tile_xn A b j v3 v5 v7 v9 v13 v17 h3 h5 h7 h9 h13 h17 r
  rw [pay6_at]
  simp only [e, hw]
  have e2 : tile A b j (r + 2) (col k q) = gup A b (512 * j + r) (col k q) := by
    unfold tile gxp
    rw [dif_neg (by omega)]
    rfl
  exact e2.symm

variable (v : View sig .tc .vmem S1x520x5632 .f32) (old : v.ty.Contents (Elt Ideal)) (u : View sig .tc .vmem S512x2816 .bf16)
  (base : List (View.Piece (Elt Ideal) S1x520x5632 .f32)) (cw : ℕ → Vec Ideal S3x256 .f32) (wd : Vec Ideal S2816x1024 .bf16)
  (hb : ∀ p ∈ base, ∀ x : p.1.shape.Idx, p.2 x = rows (tile A b j) (p.1.emb x))
  (hcw : ∀ k (a : Fin 3) (q : Fin 256), cw k (ix2 a q) = taps A a (col k q))
  (hwd : ∀ (k : Fin 2816) (d : Fin 1024), wd (ix2 k d) = A.Wd (ix2 k d))

include h3 h5 h7 h9 h13 h17 hw hb hcw hwd in
/-- What a tile writes into the first result. -/
theorem tile_y (h : Carried v old base (tile A b j)) (r : Fin 512) (d : Fin 1024) :
    k0_pay1 (F := Ideal) (k0_pay4 (F := Ideal) v3 v5 v7 v9 v13)
        (u.readCov (Val := Elt Ideal) (acs (F := Ideal) v old (hs (F := Ideal) (k0_pay5 (F := Ideal) v3 v5 v7 v9 v13 v17) w base) cw 11)
          (Rect.unit ![0, 0] S512x2816.size inb_S512x2816_S512x2816_0_0).toLoadRect) wd (ix3 0 r d)
      = gy A b (512 * j + r) d := by
  have hu := tile_up A b j v3 v5 v7 v9 v13 v17 w h3 h5 h7 h9 h13 h17 hw
  have e := acs_at v old (k0_pay5 (F := Ideal) v3 v5 v7 v9 v13 v17) w base (tile A b j) hb hu cw (taps A) hcw h u r
  rw [pay1_at, tile_x1 A b j v3 v5 v7 v9 v13 h3 h5 h7 h9 h13]
  refine congrArg₂ (fun x y : EReal => x + y) rfl (Finset.sum_congr rfl fun k _ => ?_)
  exact congrArg₂ (fun x y : EReal => x * y) ((e k).trans (act_tile A b j r k)) (hwd k d)

include h3 h5 h7 h9 h13 h17 hw hb in
/-- The two rows a tile hands to the next one. -/
theorem tile_tail (r : Fin 2) (c : Fin 5632) :
    v.readCov (Val := Elt Ideal) (hs (F := Ideal) (k0_pay5 (F := Ideal) v3 v5 v7 v9 v13 v17) w base 22)
        (Rect.unit (s := S1x520x5632) ![0, 518, 0] S1x2x5632.size inb_S1x520x5632_S1x2x5632_0_518_0).toLoadRect (ix3 0 r c)
      = gxp A b (512 * (j + 1) + r) c := by
  have hu := tile_up A b j v3 v5 v7 v9 v13 v17 w h3 h5 h7 h9 h13 h17 hw
  refine (tail_at v (k0_pay5 (F := Ideal) v3 v5 v7 v9 v13 v17) w base (tile A b j) hb hu r c).trans ?_
  unfold tile
  congr 1
  omega

end Cert.Ffn
-- ==== Proof.MixBlocks.lean ====
module

public import proofs.«01_k».proof.Proof.MixMath
public import Idealize.ShloMosaic.Lib.Pipeline.ValueKit

/-! The blocks a grid point reads, and where it writes. -/

set_option maxRecDepth 16384
set_option backward.proofsInPublic true

@[expose] public section
noncomputable section

namespace Cert.Ffn
open Idealize.ShloMosaic Idealize.ShloMosaic.TcCoe Idealize.SL.Sem Idealize.ShloMosaic.Tactic
open Cert.MixIdeal Cert.MixIdeal.Gen Cert.MixIdeal.Body

/-- Which block of each array grid point `t` works on. -/
theorem idx : ∀ t : Fin cfg0.N,
    win0_0.index t = ![t.val / 32, t.val % 32, 0] ∧ win0_1.index t = ![t.val / 32, t.val % 32, 0]
      ∧ win0_2.index t = ![t.val / 32, t.val % 32, 0] ∧ win0_3.index t = ![t.val / 32, 0, 0]
      ∧ win0_4.index t = ![0, 0] ∧ win0_5.index t = ![0, 0] ∧ win0_6.index t = ![0, 0]
      ∧ win0_7.index t = ![0, 0] ∧ win0_8.index t = ![0, 0]
      ∧ win0_9.index t = ![t.val / 32, t.val % 32, 0] ∧ win0_10.index t = ![t.val / 32, 0, 0] :=
  (by decide +kernel : ∀ t : Fin grid0.N, _)

/-- The number of the grid's points. -/
theorem lt64 (t : Fin cfg0.N) : t.val < 64 := t.isLt.trans_le (le_of_eq N_0)

/-- The prompt of grid point `t`. -/
def gb (t : Fin cfg0.N) : Fin 2 := ⟨t.val / 32, by have := lt64 t; omega⟩
/-- The tile of grid point `t`. -/
def gj (t : Fin cfg0.N) : Fin 32 := ⟨t.val % 32, by omega⟩

variable (m : (ℓ : Loc nD τ sig) → Buf (Elt Ideal) ℓ)

/-- The arguments of the launch. -/
def arrs (c : Dev nD) : Arrs where
  X := m ((c : Thread nD τ).loc main_arg0)
  OA := m ((c : Thread nD τ).loc main_arg1)
  OB := m ((c : Thread nD τ).loc main_arg2)
  Hi := m ((c : Thread nD τ).loc main_arg3)
  Wo := m ((c : Thread nD τ).loc main_arg4)
  G := m ((c : Thread nD τ).loc main_arg5)
  Wu := m ((c : Thread nD τ).loc main_arg6)
  Cw := m ((c : Thread nD τ).loc main_arg7)
  Wd := m ((c : Thread nD τ).loc main_arg8)

theorem V_v0 (c : Dev nD) : V m c main_v0 = truncf (F := Ideal) (φ := .f32) .bf16 (m ((c : Thread nD τ).loc main_arg4)) bitsLt_bf16_f32 := by
  unfold V; after_results; try rfl
theorem V_v1 (c : Dev nD) : V m c main_v1 = broadcastInDim S1x1024 ![1] bcast_S1024_S1x1024_1 (m ((c : Thread nD τ).loc main_arg5)) := by
  unfold V; after_results; try rfl
theorem V_v2 (c : Dev nD) : V m c main_v2 = truncf (F := Ideal) (φ := .f32) .bf16 (m ((c : Thread nD τ).loc main_arg6)) bitsLt_bf16_f32 := by
  unfold V; after_results; try rfl
theorem V_v3 (c : Dev nD) : V m c main_v3 = truncf (F := Ideal) (φ := .f32) .bf16 (m ((c : Thread nD τ).loc main_arg8)) bitsLt_bf16_f32 := by
  unfold V; after_results; try rfl

/-- A position of a tile, in the prompt. -/
theorem pos_gj (t : Fin cfg0.N) (r : Fin 512) :
    pos (512 * gj t + r) = ⟨512 * (t.val % 32) + r, by omega⟩ :=
  Fin.ext (Nat.mod_eq_of_lt (by show 512 * (t.val % 32) + r < 16384; omega))

/-- The tile of the residual stream. -/
theorem iblk0 (c : Dev nD) (t : Fin cfg0.N) (r : Fin 512) (d : Fin 1024) :
    iblk m c 0 t (ix3 0 r d) = (arrs m c).X (ix3 (gb t) (pos (512 * gj t + r)) d) := by
  rw [pos_gj]
  show V m c main_arg0 _ = _
  rw [V_main_arg0]
  blk_ext [idx t, gb, arrs]

/-- The tile of the first half of the heads. -/
theorem iblk1 (c : Dev nD) (t : Fin cfg0.N) (r : Fin 512) (d : Fin 512) :
    iblk m c 1 t (ix3 0 r d) = (arrs m c).OA (ix3 (gb t) (pos (512 * gj t + r)) d) := by
  rw [pos_gj]
  show V m c main_arg1 _ = _
  rw [V_main_arg1]
  blk_ext [idx t, gb, arrs]

/-- The tile of the second half of the heads. -/
theorem iblk2 (c : Dev nD) (t : Fin cfg0.N) (r : Fin 512) (d : Fin 512) :
    iblk m c 2 t (ix3 0 r d) = (arrs m c).OB (ix3 (gb t) (pos (512 * gj t + r)) d) := by
  rw [pos_gj]
  show V m c main_arg2 _ = _
  rw [V_main_arg2]
  blk_ext [idx t, gb, arrs]

/-- The history of the convolution. -/
theorem iblk3 (c : Dev nD) (t : Fin cfg0.N) (r : Fin 2) (d : Fin 5632) :
    iblk m c 3 t (ix3 0 r d) = (arrs m c).Hi (ix3 (gb t) r d) := by
  show V m c main_arg3 _ = _
  rw [V_main_arg3]
  blk_ext [idx t, gb, arrs]

/-- The weights of the output projection. -/
theorem iblk4 (c : Dev nD) (t : Fin cfg0.N) (r : Fin 1024) (d : Fin 1024) :
    iblk m c 4 t (ix2 r d) = (arrs m c).Wo (ix2 r d) := by
  show V m c main_v0 _ = _
  rw [V_v0]
  blk_ext [idx t, arrs]

/-- The gain of the normalisation. -/
theorem iblk5 (c : Dev nD) (t : Fin cfg0.N) (d : Fin 1024) :
    iblk m c 5 t (ix2 0 d) = (arrs m c).G (ix1 d) := by
  show V m c main_v1 _ = _
  rw [V_v1]
  show m ((c : Thread nD τ).loc main_arg5) _ = _
  exact congrArg (m ((c : Thread nD τ).loc main_arg5)) (funext fun a => by
    match a with
    | ⟨0, _⟩ => exact Fin.ext (by
        show 0 * 1024 + 1 * d.val = d.val
        omega))

/-- The weights of the up projection. -/
theorem iblk6 (c : Dev nD) (t : Fin cfg0.N) (r : Fin 1024) (d : Fin 5632) :
    iblk m c 6 t (ix2 r d) = (arrs m c).Wu (ix2 r d) := by
  show V m c main_v2 _ = _
  rw [V_v2]
  blk_ext [idx t, arrs]

/-- The taps of the convolution. -/
theorem iblk7 (c : Dev nD) (t : Fin cfg0.N) (r : Fin 3) (d : Fin 5632) :
    iblk m c 7 t (ix2 r d) = (arrs m c).Cw (ix2 r d) := by
  show V m c main_arg7 _ = _
  rw [V_main_arg7]
  blk_ext [idx t, arrs]

/-- The weights of the down projection. -/
theorem iblk8 (c : Dev nD) (t : Fin cfg0.N) (r : Fin 2816) (d : Fin 1024) :
    iblk m c 8 t (ix2 r d) = (arrs m c).Wd (ix2 r d) := by
  show V m c main_v3 _ = _
  rw [V_v3]
  blk_ext [idx t, arrs]

/-- The tile of the rows, in the array of them. -/
theorem emb9 (t : Fin cfg0.N) (r : Fin 512) (d : Fin 1024) :
    ((cfg0.win 9).blk t).view.emb (ix3 0 r d) = ix3 (gb t) (pos (512 * gj t + r)) d := by
  rw [pos_gj]
  blk_ext [idx t, gb]

/-- The new history, in the array of them. -/
theorem emb10 (t : Fin cfg0.N) (r : Fin 2) (d : Fin 5632) :
    ((cfg0.win 10).blk t).view.emb (ix3 0 r d) = ix3 (gb t) r d := by
  blk_ext [idx t, gb]

end Cert.Ffn
-- ==== Proof.MixStep.lean ====
module

public import proofs.«01_k».proof.Proof.MixMath
public import Idealize.ShloMosaic.Lib.WholeRead

/-! What one run of the body leaves in the results and in the carried buffer. -/

set_option maxRecDepth 16384
set_option backward.proofsInPublic true

@[expose] public section
noncomputable section

namespace Cert.Ffn
open Idealize.ShloMosaic Idealize.ShloMosaic.TcCoe Idealize.SL.Sem
open Cert.MixIdeal Cert.MixIdeal.Gen Cert.MixIdeal.Body
open Cert.Attn (ext3)

/-! ## Loads of the inputs -/

/-- A load of an input, at an index. -/
theorem ld3 (a : Memref sig .tc .vmem S1x512x512 .bf16) (h : a.IsWhole) (x : Vec Ideal S1x512x512 .bf16) (r : Fin 512) (d : Fin 512) :
    View.readAt (Elt Ideal) a.view (Rect.unit (s := S1x512x512) ![0, 0, 0] S1x512x512.size inb_S1x512x512_S1x512x512_0_0_0).toLoadRect (h.unread x) (ix3 0 r d)
      = x (ix3 0 r d) :=
  (h.readAt_unread x _ _).trans (congrArg x (ext3 _ _ rfl (Fin.ext (by show 0 + 1 * r.val = r.val; omega))
    (Fin.ext (by show 0 + 1 * d.val = d.val; omega))))

/-- A load of an input, at an index. -/
theorem ld2 (a : Memref sig .tc .vmem S1x512x1024 .f32) (h : a.IsWhole) (x : Vec Ideal S1x512x1024 .f32) (r : Fin 512) (d : Fin 1024) :
    View.readAt (Elt Ideal) a.view (Rect.unit (s := S1x512x1024) ![0, 0, 0] S1x512x1024.size inb_S1x512x1024_S1x512x1024_0_0_0).toLoadRect (h.unread x) (ix3 0 r d)
      = x (ix3 0 r d) :=
  (h.readAt_unread x _ _).trans (congrArg x (ext3 _ _ rfl (Fin.ext (by show 0 + 1 * r.val = r.val; omega))
    (Fin.ext (by show 0 + 1 * d.val = d.val; omega))))

/-- A load of an input, at an index. -/
theorem ld5 (a : Memref sig .tc .vmem S1x2x5632 .f32) (h : a.IsWhole) (x : Vec Ideal S1x2x5632 .f32) (r : Fin 2) (d : Fin 5632) :
    View.readAt (Elt Ideal) a.view (Rect.unit (s := S1x2x5632) ![0, 0, 0] S1x2x5632.size inb_S1x2x5632_S1x2x5632_0_0_0).toLoadRect (h.unread x) (ix3 0 r d)
      = x (ix3 0 r d) :=
  (h.readAt_unread x _ _).trans (congrArg x (ext3 _ _ rfl (Fin.ext (by show 0 + 1 * r.val = r.val; omega))
    (Fin.ext (by show 0 + 1 * d.val = d.val; omega))))

/-- A load of an input, at an index. -/
theorem ld6a (a : Memref sig .tc .vmem S1024x1024 .bf16) (h : a.IsWhole) (x : Vec Ideal S1024x1024 .bf16) (r : Fin 512) (d : Fin 1024) :
    View.readAt (Elt Ideal) a.view (Rect.unit (s := S1024x1024) ![0, 0] S512x1024.size inb_S1024x1024_S512x1024_0_0).toLoadRect (h.unread x) (ix2 r d)
      = x (ix2 ⟨r, by omega⟩ d) :=
  (h.readAt_unread x _ _).trans (congrArg x (ext2 _ _ (Fin.ext (by show 0 + 1 * r.val = r.val; omega))
    (Fin.ext (by show 0 + 1 * d.val = d.val; omega))))

/-- A load of an input, at an index. -/
theorem ld6b (a : Memref sig .tc .vmem S1024x1024 .bf16) (h : a.IsWhole) (x : Vec Ideal S1024x1024 .bf16) (r : Fin 512) (d : Fin 1024) :
    View.readAt (Elt Ideal) a.view (Rect.unit (s := S1024x1024) ![512, 0] S512x1024.size inb_S1024x1024_S512x1024_512_0).toLoadRect (h.unread x) (ix2 r d)
      = x (ix2 ⟨512 + r, by omega⟩ d) :=
  (h.readAt_unread x _ _).trans (congrArg x (ext2 _ _ (Fin.ext (by show 512 + 1 * r.val = 512 + r.val; omega))
    (Fin.ext (by show 0 + 1 * d.val = d.val; omega))))

/-- A load of an input, at an index. -/
theorem ld7 (a : Memref sig .tc .vmem S1x1024 .f32) (h : a.IsWhole) (x : Vec Ideal S1x1024 .f32) (r : Fin 1) (d : Fin 1024) :
    View.readAt (Elt Ideal) a.view (Rect.unit (s := S1x1024) ![0, 0] S1x1024.size inb_S1x1024_S1x1024_0_0).toLoadRect (h.unread x) (ix2 r d)
      = x (ix2 r d) :=
  (h.readAt_unread x _ _).trans (congrArg x (ext2 _ _ (Fin.ext (by show 0 + 1 * r.val = r.val; omega))
    (Fin.ext (by show 0 + 1 * d.val = d.val; omega))))

/-- A load of an input, at an index. -/
theorem ld10 (a : Memref sig .tc .vmem S2816x1024 .bf16) (h : a.IsWhole) (x : Vec Ideal S2816x1024 .bf16) (r : Fin 2816) (d : Fin 1024) :
    View.readAt (Elt Ideal) a.view (Rect.unit (s := S2816x1024) ![0, 0] S2816x1024.size inb_S2816x1024_S2816x1024_0_0).toLoadRect (h.unread x) (ix2 r d)
      = x (ix2 r d) :=
  (h.readAt_unread x _ _).trans (congrArg x (ext2 _ _ (Fin.ext (by show 0 + 1 * r.val = r.val; omega))
    (Fin.ext (by show 0 + 1 * d.val = d.val; omega))))

/-- A load of a range of columns of an input, at an index. -/
theorem ld8 (a : Memref sig .tc .vmem S1024x5632 .bf16) (h : a.IsWhole) (x : Vec Ideal S1024x5632 .bf16) (k : ℕ) (r : Fin 1024) (q : Fin 256) :
    View.readAt (Elt Ideal) a.view (R8 k).toLoadRect (h.unread x) (ix2 r q) = x (ix2 r (col k q)) :=
  (h.readAt_unread x _ _).trans (congrArg x (ext2 _ _ (Fin.ext (by show 0 + 1 * r.val = r.val; omega))
    (Fin.ext (by show lo k + 1 * q.val = lo k + q.val; omega))))

/-- A load of a range of columns of an input, at an index. -/
theorem ld9 (a : Memref sig .tc .vmem S3x5632 .f32) (h : a.IsWhole) (x : Vec Ideal S3x5632 .f32) (k : ℕ) (r : Fin 3) (q : Fin 256) :
    View.readAt (Elt Ideal) a.view (R9 k).toLoadRect (h.unread x) (ix2 r q) = x (ix2 r (col k q)) :=
  (h.readAt_unread x _ _).trans (congrArg x (ext2 _ _ (Fin.ext (by show 0 + 1 * r.val = r.val; omega))
    (Fin.ext (by show lo k + 1 * q.val = lo k + q.val; omega))))

/-! ## One run -/

/-- The blocks of the inputs are those of tile `j` of prompt `b`. -/
structure Blocks (A : Arrs) (b : Fin 2) (j : Fin 32) (x2 : Vec Ideal S1x512x1024 .f32) (x3 : Vec Ideal S1x512x512 .bf16) (x4 : Vec Ideal S1x512x512 .bf16) (x5 : Vec Ideal S1x2x5632 .f32) (x6 : Vec Ideal S1024x1024 .bf16) (x7 : Vec Ideal S1x1024 .f32) (x8 : Vec Ideal S1024x5632 .bf16) (x9 : Vec Ideal S3x5632 .f32) (x10 : Vec Ideal S2816x1024 .bf16) : Prop where
  h2 : ∀ (r : Fin 512) (d : Fin 1024), x2 (ix3 0 r d) = A.X (ix3 b (pos (512 * j + r)) d)
  h3 : ∀ r d : Fin 512, x3 (ix3 0 r d) = A.OA (ix3 b (pos (512 * j + r)) d)
  h4 : ∀ r d : Fin 512, x4 (ix3 0 r d) = A.OB (ix3 b (pos (512 * j + r)) d)
  h5 : ∀ (r : Fin 2) (d : Fin 5632), x5 (ix3 0 r d) = A.Hi (ix3 b r d)
  h6 : ∀ r d : Fin 1024, x6 (ix2 r d) = A.Wo (ix2 r d)
  h7 : ∀ d : Fin 1024, x7 (ix2 0 d) = A.G (ix1 d)
  h8 : ∀ (r : Fin 1024) (d : Fin 5632), x8 (ix2 r d) = A.Wu (ix2 r d)
  h9 : ∀ (r : Fin 3) (d : Fin 5632), x9 (ix2 r d) = A.Cw (ix2 r d)
  h10 : ∀ (r : Fin 2816) (d : Fin 1024), x10 (ix2 r d) = A.Wd (ix2 r d)

/-- The rows carried into tile `j`: the two rows of the convolution's input before it. -/
def Held (A : Arrs) (b : Fin 2) (j : ℕ) (x13 : Vec Ideal S1x520x5632 .f32) : Prop :=
  ∀ (r : Fin 2) (d : Fin 5632), x13 (ix3 0 ⟨6 + r, by omega⟩ d) = gxp A b (512 * j + r) d

/-- An index of rows 6 and 7 of the carried buffer, in the two rows. -/
theorem emb_two (y : S1x520x5632.Idx) (r : Fin 2) (h : (y 1).val = 6 + r) :
    (Rect.unit (s := S1x520x5632) ![0, 6, 0] S1x2x5632.size inb_S1x520x5632_S1x2x5632_0_6_0).emb (ix3 0 r (y 2)) = y :=
  ext3 _ _ (Fin.ext (by have := (y 0).isLt; show 0 + 1 * 0 = (y 0).val; have h1 : (y 0).val < 1 := this; omega))
    (Fin.ext (by show 6 + 1 * r.val = (y 1).val; omega)) (Fin.ext (by show 0 + 1 * (y 2).val = (y 2).val; omega))

theorem emb_whole2 (y : S1x2x5632.Idx) :
    (Rect.unit (s := S1x2x5632) ![0, 0, 0] S1x2x5632.size inb_S1x2x5632_S1x2x5632_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

theorem emb_whole512 (y : S1x512x1024.Idx) :
    (Rect.unit (s := S1x512x1024) ![0, 0, 0] S1x512x1024.size inb_S1x512x1024_S1x512x1024_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

/-- What tile `j` of prompt `b` leaves in the first result. -/
def oy (A : Arrs) (b : Fin 2) (j : ℕ) (y : S1x512x1024.Idx) : EReal := gy A b (512 * j + (y 1).val) (y 2)

/-- What tile `j` of prompt `b` leaves in the second result. -/
def oh (A : Arrs) (b : Fin 2) (j : ℕ) (y : S1x2x5632.Idx) : EReal := gxp A b (512 * (j + 1) + (y 1).val) (y 2)

variable (A : Arrs) (b : Fin 2) (j : Fin 32) (x2 : Vec Ideal S1x512x1024 .f32) (x3 : Vec Ideal S1x512x512 .bf16) (x4 : Vec Ideal S1x512x512 .bf16) (x5 : Vec Ideal S1x2x5632 .f32) (x6 : Vec Ideal S1024x1024 .bf16) (x7 : Vec Ideal S1x1024 .f32) (x8 : Vec Ideal S1024x5632 .bf16) (x9 : Vec Ideal S3x5632 .f32) (x10 : Vec Ideal S2816x1024 .bf16)
  (hB : Blocks A b j x2 x3 x4 x5 x6 x7 x8 x9 x10)

/-- Rows carried over by the buffer itself are in place. -/
theorem carried_held (a : Memref sig .tc .vmem S1x520x5632 .f32) (h : a.IsWhole) (x13 : Vec Ideal S1x520x5632 .f32) (hh : Held A b j x13) :
    Carried a.view (h.unread x13) [] (tile A b j) := fun y h6 h8 => by
  refine Or.inr ⟨fun p hp => absurd hp List.not_mem_nil, ?_⟩
  rw [h.read_unread]
  have e : y = ix3 0 ⟨6 + ((y 1).val - 6), by omega⟩ (y 2) :=
    ext3 _ _ (Fin.ext (by have := (y 0).isLt; have h1 : (y 0).val < 1 := this; show (y 0).val = 0; omega))
      (Fin.ext (by show (y 1).val = 6 + ((y 1).val - 6); omega)) rfl
  have e6 : rows (tile A b j) y = gxp A b (512 * j + ((y 1).val - 6)) (y 2) := rfl
  exact (congrArg x13 e).trans ((hh ⟨(y 1).val - 6, by omega⟩ (y 2)).trans e6.symm)

/-- Rows carried over by the history's copy are in place, at the first tile. -/
theorem carried_hist (v : View sig .tc .vmem S1x520x5632 .f32) (old : v.ty.Contents (Elt Ideal)) (p2 : Vec Ideal S1x2x5632 .f32) :
    Carried v old [⟨Rect.unit ![0, 6, 0] S1x2x5632.size inb_S1x520x5632_S1x2x5632_0_6_0, p2⟩] (tile A b j) := fun y h6 h8 => by
  refine Or.inl ⟨_, List.mem_singleton.2 rfl, ?_⟩
  have e := emb_two y ⟨(y 1).val - 6, by omega⟩ (by show (y 1).val = 6 + ((y 1).val - 6); omega)
  rw [← e]
  exact (Rect.map_emb_univ _).le (Finset.mem_map_of_mem _ (Finset.mem_univ _))

include hB in
/-- The history's copy holds the rows before the first tile. -/
theorem hist_agree (hj : j.val = 0) (a : Memref sig .tc .vmem S1x2x5632 .f32) (h : a.IsWhole) :
    ∀ p ∈ ([⟨Rect.unit ![0, 6, 0] S1x2x5632.size inb_S1x520x5632_S1x2x5632_0_6_0, k0_pay3 (F := Ideal) (View.readAt (Elt Ideal) a.view (Rect.unit (s := S1x2x5632) ![0, 0, 0] S1x2x5632.size inb_S1x2x5632_S1x2x5632_0_0_0).toLoadRect (h.unread x5))⟩] : List (View.Piece (Elt Ideal) S1x520x5632 .f32)),
      ∀ x : p.1.shape.Idx, p.2 x = rows (tile A b j) (p.1.emb x) := by
  intro p hp
  obtain rfl := List.mem_singleton.1 hp
  intro x
  have e : x = ix3 (0 : Fin 1) (x 1 : Fin 2) (x 2 : Fin 5632) :=
    ext3 _ _ (Fin.ext (by have := (x 0).isLt; have h1 : (x 0).val < 1 := this; show (x 0).val = 0; omega)) rfl rfl
  refine (congrArg _ e).trans ((pay3_at _ _ _).trans ((ld5 a h x5 _ _).trans ((hB.h5 _ _).trans ?_)))
  have h2 : (x 1).val < 2 := (x 1).isLt
  have e1 : rows (tile A b j) ((Rect.unit (s := S1x520x5632) ![0, 6, 0] S1x2x5632.size inb_S1x520x5632_S1x2x5632_0_6_0).emb x) = gxp A b (x 1).val (x 2) := by
    unfold rows tile
    refine congrArg₂ (gxp A b) ?_ (Fin.ext ?_)
    · show 512 * j.val + (6 + 1 * (x 1).val - 6) = (x 1).val
      omega
    · show 0 + 1 * (x 2).val = (x 2).val
      omega
  refine Eq.trans ?_ e1.symm
  unfold gxp
  rw [dif_pos h2]
  rfl

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole) (hc : ¬ first i = 1#1)

include hB in
/-- What a later tile leaves in the first result. -/
theorem stepB_y (x13 : Vec Ideal S1x520x5632 .f32) (hh : Held A b j x13) (f : arg11.view.ty.Contents (Elt Ideal)) :
    arg11.view.read (Elt Ideal) (arg11.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).1) = oy A b j := by
  rw [runB_y]
  funext y
  refine (congrArg _ (emb_whole512 y).symm).trans ((View.read_writes_cons_emb arg11.view f _ _ _ _).trans ?_)
  exact tile_y A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    _ _ _ _ _ _ (fun p hp => absurd hp List.not_mem_nil)
    (fun k a q => (ld9 arg9 harg9 x9 k a q).trans (hB.h9 a _)) (fun k d => (ld10 arg10 harg10 x10 k d).trans (hB.h10 k d)) (carried_held A b j arg13 harg13 x13 hh) (y 1) (y 2)

include hB in
/-- What a later tile leaves in the second result. -/
theorem stepB_h (x13 : Vec Ideal S1x520x5632 .f32) (f : arg12.view.ty.Contents (Elt Ideal)) :
    arg12.view.read (Elt Ideal) (arg12.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.1) = oh A b j := by
  rw [runB_h]
  funext y
  refine (congrArg _ (emb_whole2 y).symm).trans ((View.read_writes_cons_emb arg12.view f _ _ _ _).trans ?_)
  exact tile_tail A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    arg13.view _ (fun p hp => absurd hp List.not_mem_nil) (y 1) (y 2)

include hB in
/-- What a later tile carries over to the next. -/
theorem stepB_c (x13 : Vec Ideal S1x520x5632 .f32) (f : arg13.view.ty.Contents (Elt Ideal)) :
    Held A b (j + 1) (arg13.view.read (Elt Ideal) (arg13.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.2.1)) := by
  rw [runB_c]
  intro r d
  refine (congrArg _ (emb_two (ix3 0 ⟨6 + r, by omega⟩ d) r rfl).symm).trans ((View.read_writes_cons_emb arg13.view f _ _ _ _).trans ((pay2_at _ _ _).trans ?_))
  exact tile_tail A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    arg13.view _ (fun p hp => absurd hp List.not_mem_nil) r d

end

section
variable (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x512 .bf16) (harg4 : arg4.IsWhole) (arg5 : Memref sig .tc .vmem S1x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S1x512x1024 .f32) (harg11 : arg11.IsWhole) (arg12 : Memref sig .tc .vmem S1x2x5632 .f32) (harg12 : arg12.IsWhole) (arg13 : Memref sig .tc .vmem S1x520x5632 .f32) (harg13 : arg13.IsWhole) (arg14 : Memref sig .tc .vmem S512x2816 .bf16) (harg14 : arg14.IsWhole) (hc : first i = 1#1)

include hB in
/-- What a first tile leaves in the first result. -/
theorem stepA_y (hj : j.val = 0) (x13 : Vec Ideal S1x520x5632 .f32) (f : arg11.view.ty.Contents (Elt Ideal)) :
    arg11.view.read (Elt Ideal) (arg11.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).1) = oy A b j := by
  rw [runA_y]
  funext y
  refine (congrArg _ (emb_whole512 y).symm).trans ((View.read_writes_cons_emb arg11.view f _ _ _ _).trans ?_)
  exact tile_y A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    _ _ _ _ _ _ (hist_agree A b j x2 x3 x4 x5 x6 x7 x8 x9 x10 hB hj arg5 harg5)
    (fun k a q => (ld9 arg9 harg9 x9 k a q).trans (hB.h9 a _)) (fun k d => (ld10 arg10 harg10 x10 k d).trans (hB.h10 k d)) (carried_hist A b j _ _ _) (y 1) (y 2)

include hB in
/-- What a first tile leaves in the second result. -/
theorem stepA_h (hj : j.val = 0) (x13 : Vec Ideal S1x520x5632 .f32) (f : arg12.view.ty.Contents (Elt Ideal)) :
    arg12.view.read (Elt Ideal) (arg12.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.1) = oh A b j := by
  rw [runA_h]
  funext y
  refine (congrArg _ (emb_whole2 y).symm).trans ((View.read_writes_cons_emb arg12.view f _ _ _ _).trans ?_)
  exact tile_tail A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    arg13.view _ (hist_agree A b j x2 x3 x4 x5 x6 x7 x8 x9 x10 hB hj arg5 harg5) (y 1) (y 2)

include hB in
/-- What a first tile carries over to the next. -/
theorem stepA_c (hj : j.val = 0) (x13 : Vec Ideal S1x520x5632 .f32) (f : arg13.view.ty.Contents (Elt Ideal)) :
    Held A b (j + 1) (arg13.view.read (Elt Ideal) (arg13.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 x13).2.2.1)) := by
  rw [runA_c]
  intro r d
  refine (congrArg _ (emb_two (ix3 0 ⟨6 + r, by omega⟩ d) r rfl).symm).trans ((View.read_writes_cons_emb arg13.view f _ _ _ _).trans ((pay2_at _ _ _).trans ?_))
  exact tile_tail A b j _ _ _ _ _ _ _ (fun r k => (ld3 arg3 harg3 x3 r k).trans (hB.h3 r k)) (fun r k => (ld3 arg4 harg4 x4 r k).trans (hB.h4 r k))
    (fun r k => (ld2 arg2 harg2 x2 r k).trans (hB.h2 r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    arg13.view _ (hist_agree A b j x2 x3 x4 x5 x6 x7 x8 x9 x10 hB hj arg5 harg5) r d

end

end Cert.Ffn
-- ==== Proof.MixFrame.lean ====
module

public import proofs.«01_k».proof.Proof.MixBlocks
public import proofs.«01_k».proof.Proof.MixStep

/-! The launch of the feed-forward call: what its results hold when it ends. -/

set_option maxRecDepth 16384
set_option backward.proofsInPublic true

@[expose] public section
noncomputable section

namespace Cert.Ffn
open Cert.MixIdeal Cert.MixIdeal.Gen Cert.MixIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn (ext3)

local notation "𝕄" => MT nD τ sig Unit (Elt Ideal) ℕ (UR sig nD τ) ℕ

variable (m : (ℓ : Loc nD τ sig) → Buf (Elt Ideal) ℓ) (ρ : Dev nD → PrngReg)

/-- The first tile of a prompt, by the body's test. -/
theorem first_iff : ∀ t : Fin cfg0.N, first (grid0.coords t) = 1#1 ↔ t.val % 32 = 0 :=
  (by decide +kernel : ∀ t : Fin grid0.N, _)

/-- The prompt of the `n`-th point. -/
def nb (n : ℕ) : Fin 2 := ⟨n / 32 % 2, Nat.mod_lt _ (by decide)⟩

/-- What the carried buffer holds before the `n`-th point: unless a prompt begins there, the two rows before the tile. -/
def Inv (A : Arrs) (n : ℕ) (f : Vec Ideal S1x520x5632 .f32) : Prop := n % 32 ≠ 0 → Held A (nb n) (n % 32) f

/-- The two scratch buffers and the generator's register before the `n`-th point. -/
def phi (c : Dev nD) (n : ℕ) : sProp 𝕄 :=
  iprop((∃ f : Vec Ideal S1x520x5632 .f32, owns (c : Thread nD τ) (Memref.whole cc0_scratch0) fullShare f ∗ ⌜Inv (arrs m c) n f⌝)
    ∗ (∃ d : Vec Ideal S512x2816 .bf16, owns (c : Thread nD τ) (Memref.whole cc0_scratch1) fullShare d) ∗ ∃ r, prngReg c r)

/-- The launch's proof data: after a point, each input's buffer at its block and the results' at the tile's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oy (arrs m c) (gb t) (t.val % 32)
    | ⟨10, _⟩ => oh (arrs m c) (gb t) (t.val % 32)
  Φ t := phi m c t.val
  q _ := fullShare
  owed _ := 0

/-- The arrays are those the launch finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = oy (arrs m c) (gb t) (t.val % 32) := by dsimp only [dats]
theorem after10 (c : Dev nD) (t : Fin cfg0.N) : (dats m 0 c).after 10 t = oh (arrs m c) (gb t) (t.val % 32) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- The blocks of a point are those of its tile. -/
theorem blocks (c : Dev nD) (t : Fin cfg0.N) :
    Blocks (arrs m c) (gb t) (gj t) (iblk m c 0 t) (iblk m c 1 t) (iblk m c 2 t) (iblk m c 3 t) (iblk m c 4 t) (iblk m c 5 t)
      (iblk m c 6 t) (iblk m c 7 t) (iblk m c 8 t) where
  h2 := iblk0 m c t
  h3 := iblk1 m c t
  h4 := iblk2 m c t
  h5 := iblk3 m c t
  h6 := iblk4 m c t
  h7 := iblk5 m c t
  h8 := iblk6 m c t
  h9 := iblk7 m c t
  h10 := iblk8 m c t

/-- Rows handed on by a tile are in place before the next point. -/
theorem inv_next (A : Arrs) (t : Fin cfg0.N) (f : Vec Ideal S1x520x5632 .f32) (h : Held A (gb t) (gj t + 1) f) : Inv A (t.val + 1) f := by
  intro hn
  have := lt64 t
  have e : nb (t.val + 1) = gb t := Fin.ext (by show (t.val + 1) / 32 % 2 = t.val / 32; omega)
  have e2 : (t.val + 1) % 32 = gj t + 1 := by show (t.val + 1) % 32 = t.val % 32 + 1; omega
  rw [e, e2]
  exact h

/-- Rows in place before a point. -/
theorem inv_here (A : Arrs) (t : Fin cfg0.N) (f : Vec Ideal S1x520x5632 .f32) (h : Inv A t.val f) (hn : ¬ t.val % 32 = 0) :
    Held A (gb t) (gj t) f := by
  have := lt64 t
  have e : nb t.val = gb t := Fin.ext (by show t.val / 32 % 2 = t.val / 32; omega)
  have h2 := h hn
  rw [e] at h2
  exact h2

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

set_option maxHeartbeats 1000000 in
/-- The body at a point: the first tile of a prompt starts from the history, a later one from the rows carried over. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8]
  rw [show (dats m 0 c).Φ t.succ = phi m c (t.val + 1) from rfl, show (dats m 0 c).Φ t.castSucc = phi m c t.val from rfl,
    show (dats m 0 c).owesAt () t.succ = (dats m 0 c).owesAt () t.castSucc from rfl,
    after0, after1, after2, after3, after4, after5, after6, after7, after8, after9, after10]
  unfold phi
  iintro ⟨⟨⟨%x13, HS, %hinv⟩, HT, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases hc : first (grid0.coords t) = 1#1
  · have hj : (gj t).val = 0 := (first_iff t).1 hc
    iapply ((runA c (grid0.coords t) _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) x13).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    isplitl [HT]; · iexact HT
    iintro ⟨H0, H1, H2, H3, H4, H5, H6, H7, H8, ⟨%e9, H9⟩, ⟨%e10, H10⟩, HS, HT⟩
    isplitl [HS HT Hg]
    · isplitl [HS]
      · iexists _
        isplitl [HS]
        · unfold owns
          iexists _
          isplitr
          swap; · iexact HS
          ipureintro; rfl
        · ipureintro
          exact inv_next _ t _ (stepA_c (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc hj x13 _)
      isplitl [HT]; · iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _
      isplitr
      swap; · iexact H9
      ipureintro; exact stepA_y (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc hj x13 _
    · unfold owns
      iexists _
      isplitr
      swap; · iexact H10
      ipureintro; exact stepA_h (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc hj x13 _
  · have hh : Held (arrs m c) (gb t) (gj t) x13 := inv_here _ t x13 hinv fun h => hc ((first_iff t).2 h)
    iapply ((runB c (grid0.coords t) _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) x13).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS]; · iexact HS
    isplitl [HT]; · iexact HT
    iintro ⟨H0, H1, H2, H3, H4, H5, H6, H7, H8, ⟨%e9, H9⟩, ⟨%e10, H10⟩, HS, HT⟩
    isplitl [HS HT Hg]
    · isplitl [HS]
      · iexists _
        isplitl [HS]
        · unfold owns
          iexists _
          isplitr
          swap; · iexact HS
          ipureintro; rfl
        · ipureintro
          exact inv_next _ t _ (stepB_c (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc  x13 _)
      isplitl [HT]; · iexact HT
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns
      iexists _
      isplitr
      swap; · iexact H9
      ipureintro; exact stepB_y (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc  x13 hh _
    · unfold owns
      iexists _
      isplitr
      swap; · iexact H10
      ipureintro; exact stepB_h (arrs m c) (gb t) (gj t) (iblk m c 0 t) (iblk m c 1 t) (iblk m c 2 t) (iblk m c 3 t) (iblk m c 4 t) (iblk m c 5 t) (iblk m c 6 t) (iblk m c 7 t) (iblk m c 8 t) (blocks m c t) c (grid0.coords t) _ _ _ _ _ _ _ _ _ _ _ _ _ _ _ _ _ _ _ _ _ _ _ _ _ _ hc  x13 _

/-- The body's row of the table at a point. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch begins with the scratch buffers at any contents. -/
theorem phi_in (c : Dev nD) : Pipeline.ΦA spec0 c ⊢ (dats m 0 c).Φ 0 := by
  rw [show (dats m 0 c).Φ 0 = phi m c 0 from rfl]
  unfold Pipeline.ΦA phi
  rw [scopedRest0_eq]
  simp only [owns_whole]
  iintro ⟨⟨⟨%f, HS⟩, ⟨%d, HT⟩⟩, Hg⟩
  isplitl [HS]
  · iexists f
    isplitl [HS]; · iexact HS
    ipureintro; exact fun h => absurd rfl h
  isplitl [HT]; · iexists d; iexact HT
  iexact Hg

/-- The launch ends with the scratch buffers at any contents. -/
theorem phi_out (c : Dev nD) : (dats m 0 c).Φ (Fin.last cfg0.N) ⊢ Pipeline.ΦA spec0 c := by
  rw [show (dats m 0 c).Φ (Fin.last cfg0.N) = phi m c cfg0.N from rfl]
  unfold Pipeline.ΦA phi
  rw [scopedRest0_eq]
  simp only [owns_whole]
  iintro ⟨⟨%f, HS, -⟩, ⟨%d, HT⟩, Hg⟩
  isplitl [HS HT]
  · isplitl [HS]; · iexists f; iexact HS
    iexists d; iexact HT
  iexact Hg

set_option backward.isDefEq.respectTransparency.types false in
/-- The launch ends with its arrays as the proof data says and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The launch ends with its arrays as the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The launch ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_main_quiescent m ρ))

/-! ## The results -/

/-- The first result, from the arguments. -/
def resY (A : Arrs) : S2x16384x1024.Idx → EReal := fun y => gy A (y 0) (y 1).val (y 2)

/-- The second result, from the arguments. -/
def resH (A : Arrs) : S2x2x5632.Idx → EReal := fun y => gxp A (y 0) (16384 + (y 1).val) (y 2)

/-- The launch leaves the first result. -/
theorem final9 (c : Dev nD) : (dats m 0 c).arrAt 9 cfg0.N = resY (arrs m c) := by
  refine (dats m 0 c).arrAt_eq_of_covers 9 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 9 t z) hy).trans ?_
  refine Eq.trans ?_ (congrArg (resY (arrs m c)) (((congrArg _ hy).trans (emb9 t (y 1) (y 2))).symm))
  rw [after9]
  have h1 : (y 1).val < 512 := (y 1).isLt
  have e : (pos (512 * gj t + (y 1).val)).val = 512 * (t.val % 32) + (y 1).val :=
    Nat.mod_eq_of_lt (by show 512 * (t.val % 32) + (y 1).val < 16384; omega)
  show gy (arrs m c) (gb t) (512 * (t.val % 32) + (y 1).val) (y 2) = gy (arrs m c) (gb t) (pos (512 * gj t + (y 1).val)).val (y 2)
  rw [e]

/-- The launch leaves the second result. -/
theorem final10 (c : Dev nD) : (dats m 0 c).arrAt 10 cfg0.N = resH (arrs m c) := by
  refine (dats m 0 c).arrAt_eq_of_covers 10 _ (by decide +kernel) fun t hf y => ?_
  have ht := (flush0_10 t).1 hf
  blk_simp
  have hy : y = ix3 0 (y 1) (y 2) := ext3 _ _ (Fin.ext (by have := (y 0).isLt; exact Nat.lt_one_iff.1 this)) rfl rfl
  refine (congrArg (fun z => (dats m 0 c).after 10 t z) hy).trans ?_
  refine Eq.trans ?_ (congrArg (resH (arrs m c)) (((congrArg _ hy).trans (emb10 t (y 1) (y 2))).symm))
  rw [after10]
  show gxp (arrs m c) (gb t) (512 * (t.val % 32 + 1) + (y 1).val) (y 2) = gxp (arrs m c) (gb t) (16384 + (y 1).val) (y 2)
  rw [ht]

end Cert.Ffn
-- ==== Proof.MixRef.lean ====
module

public import proofs.«01_k».proof.Proof.MixMath
public import proofs.«01_k».proof.Proof.Gen.MixReferenceIdeal.Read

/-! The reference's two results at an entry. -/

set_option maxRecDepth 16384
set_option backward.proofsInPublic true

@[expose] public section
noncomputable section

namespace Cert.Ffn
open Idealize.ShloMosaic Cert.MixReferenceIdeal Cert.MixReferenceIdeal.Read
open Cert.MixIdeal.Body (ext2 act conv)
open Cert.Attn (ext3)

variable (A : Arrs) (b : Fin 2)

/-- The bit pattern of one. -/
theorem oneBits : Ideal.ofBits .f32 0x3F800000#32 = 1 := by
  simp [Ideal.ofBits, Ideal.ieee]
  rw [← EReal.coe_mul]
  norm_num

/-- A position of the sequence is itself. -/
theorem pos_fin (t : Fin 16384) : pos t.val = t := Fin.ext (Nat.mod_eq_of_lt t.isLt)

/-- The heads' first half, joined. -/
theorem r2_left (t : Fin 16384) (k : Fin 512) :
    val_main_v2 (F := Ideal) A.OA A.OB (ix3 b t (Fin.castAdd 512 k)) = A.OA (ix3 b t k) := by
  unfold val_main_v2
  refine (concatenate_pair_apply_left (2 : Fin S2x16384x1024.rank) (val_main_v0 (F := Ideal) A.OA) (val_main_v1 (F := Ideal) A.OB) _ _ rfl (ix3 b t k) (fun a => ?_)).trans rfl
  match a with | ⟨0, _⟩ => rfl | ⟨1, _⟩ => rfl | ⟨2, _⟩ => rfl

/-- The heads' second half, joined. -/
theorem r2_right (t : Fin 16384) (k : Fin 512) :
    val_main_v2 (F := Ideal) A.OA A.OB (ix3 b t (Fin.natAdd 512 k)) = A.OB (ix3 b t k) := by
  unfold val_main_v2
  refine (concatenate_pair_apply_right (2 : Fin S2x16384x1024.rank) (val_main_v0 (F := Ideal) A.OA) (val_main_v1 (F := Ideal) A.OB) _ _ rfl rfl (ix3 b t k) (fun a ha => ?_) ?_).trans rfl
  · match a, ha with
    | ⟨0, _⟩, _ => rfl
    | ⟨1, _⟩, _ => rfl
    | ⟨2, _⟩, ha => exact absurd rfl ha
  · show k.val + 512 = 512 + k.val
    omega

/-- The residual. -/
theorem r4 (t : Fin 16384) (d : Fin 1024) : val_main_v4 (F := Ideal) A.X A.OA A.OB A.Wo (ix3 b t d) = gx1 A b t d := by
  unfold gx1
  rw [pos_fin, val_main_v4_apply, val_main_v3_apply, add_assoc]
  refine congrArg (fun z : EReal => A.X (ix3 b t d) + z) ?_
  refine (Fin.sum_univ_add (M := EReal) (a := 512) (b := 512) _).trans ?_
  refine congrArg₂ (fun x y : EReal => x + y) (Finset.sum_congr rfl fun k _ => ?_) (Finset.sum_congr rfl fun k _ => ?_)
  · refine congrArg₂ (fun x y : EReal => x * y) ((congrArg _ ?_).trans (r2_left A b t k)) (congrArg A.Wo ?_)
    · exact ext3 _ _ rfl rfl rfl
    · exact ext2 _ _ rfl rfl
  · refine congrArg₂ (fun x y : EReal => x * y) ((congrArg _ ?_).trans (r2_right A b t k)) (congrArg A.Wo ?_)
    · exact ext3 _ _ rfl rfl rfl
    · exact ext2 _ _ rfl rfl

/-- The sum of the residual's squares. -/
theorem r6 (t : Fin 16384) : val_main_v6 (F := Ideal) A.X A.OA A.OB A.Wo (ix2 b t) = ∑ k : Fin 1024, gx1 A b t k * gx1 A b t k := by
  rw [val_main_v6_apply]
  refine Eq.trans (congrArg₂ (fun x y : EReal => x + y) (Ideal.ofBits_zero_f32) (Finset.sum_congr rfl fun k _ => ?_)) (zero_add _)
  rw [val_main_v5_apply]
  have e : val_main_v4 (F := Ideal) A.X A.OA A.OB A.Wo (idx_main_v6 (ix2 b t) k) = gx1 A b t k :=
    (congrArg _ (ext3 (idx_main_v6 (ix2 b t) k) (ix3 b t k) rfl rfl rfl)).trans (r4 A b t k)
  rw [e]
  rfl

/-- The normalised residual. -/
theorem r17 (t : Fin 16384) (d : Fin 1024) : val_main_v17 (F := Ideal) A.X A.OA A.OB A.Wo A.G (ix3 b t d) = gxn A b t d := by
  unfold gxn
  rw [val_main_v17_apply, val_main_v14_apply, r4, val_main_v13_apply, val_main_v12_apply, val_main_v11_apply, val_main_v9_apply,
    val_main_v7_apply, val_main_v16_apply, val_main_v15_apply]
  have e : val_main_v6 (F := Ideal) A.X A.OA A.OB A.Wo (idx_main_v7 (idx_main_v13 (ix3 b t d))) = ∑ k : Fin 1024, gx1 A b t k * gx1 A b t k :=
    (congrArg _ (ext2 (idx_main_v7 (idx_main_v13 (ix3 b t d))) (ix2 b t) rfl rfl)).trans (r6 A b t)
  rw [e, val_main_v8_apply, val_main_v10_apply]
  refine congrArg₂ (fun x y : EReal => x * y) rfl (congrArg A.G (funext fun a => ?_))
  match a with | ⟨0, _⟩ => rfl

/-- The upward product. -/
theorem r18 (t : Fin 16384) (c : Fin 5632) : val_main_v18 (F := Ideal) A.X A.OA A.OB A.Wo A.G A.Wu (ix3 b t c) = gup A b t c := by
  rw [val_main_v18_apply]
  refine Finset.sum_congr rfl fun k _ => ?_
  refine congrArg₂ (fun x y : EReal => x * y) ((congrArg _ ?_).trans (r17 A b t k)) (congrArg A.Wu ?_)
  · exact ext3 _ _ rfl rfl rfl
  · exact ext2 _ _ rfl rfl

/-- The convolution's input. -/
theorem r19 (n : Fin 16386) (c : Fin 5632) : val_main_v19 (F := Ideal) A.X A.OA A.OB A.Hi A.Wo A.G A.Wu (ix3 b n c) = gxp A b n c := by
  unfold val_main_v19 gxp
  by_cases h : n.val < 2
  · rw [dif_pos h]
    refine concatenate_pair_apply_left (1 : Fin S2x16386x5632.rank) A.Hi _ _ _ rfl (ix3 b (⟨n.val, h⟩ : Fin 2) c) (fun a => ?_)
    match a with | ⟨0, _⟩ => rfl | ⟨1, _⟩ => rfl | ⟨2, _⟩ => rfl
  · rw [dif_neg h]
    refine (concatenate_pair_apply_right (1 : Fin S2x16386x5632.rank) A.Hi (val_main_v18 (F := Ideal) A.X A.OA A.OB A.Wo A.G A.Wu) _ _ rfl rfl (ix3 b ⟨n.val - 2, by omega⟩ c) (fun a ha => ?_) ?_).trans (r18 A b ⟨n.val - 2, by omega⟩ c)
    · match a, ha with
      | ⟨0, _⟩, _ => rfl
      | ⟨1, _⟩, ha => exact absurd rfl ha
      | ⟨2, _⟩, _ => rfl
    · show n.val - 2 + 2 = n.val
      omega

/-- The convolution. -/
theorem r39 (t : Fin 16384) (c : Fin 5632) :
    val_main_v39 (F := Ideal) A.X A.OA A.OB A.Hi A.Wo A.G A.Wu A.Cw (ix3 b t c) = conv (gxp A b) (taps A) t c := by
  rw [val_main_v39_apply, val_main_v32_apply, val_main_v25_apply, val_main_v31_apply, val_main_v38_apply]
  have p0 : val_main_v22 (F := Ideal) A.X A.OA A.OB A.Hi A.Wo A.G A.Wu (ix3 b t c) = gxp A b (t + 0) c := by
    rw [val_main_v22_apply]
    exact (congrArg _ (ext3 (idx_main_v22 (ix3 b t c)) (ix3 b (⟨t.val + 0, by omega⟩ : Fin 16386) c) rfl (Fin.ext (by show t.val = t.val + 0; omega)) rfl)).trans (r19 A b ⟨t.val + 0, by omega⟩ c)
  have q0 : val_main_v24 (F := Ideal) A.Cw (ix3 b t c) = taps A 0 c := by
    rw [val_main_v24_apply, val_main_v23_apply, val_main_v21_apply, val_main_v20_apply]
    exact congrArg A.Cw (ext2 (idx_main_v20 (idx_main_v21 (idx_main_v23 (idx_main_v24 (ix3 b t c))))) (ix2 (0 : Fin 3) c) rfl (Fin.ext (Nat.mod_eq_of_lt c.isLt)))
  have p1 : val_main_v28 (F := Ideal) A.X A.OA A.OB A.Hi A.Wo A.G A.Wu (ix3 b t c) = gxp A b (t + 1) c := by
    rw [val_main_v28_apply]
    exact (congrArg _ (ext3 (idx_main_v28 (ix3 b t c)) (ix3 b (⟨t.val + 1, by omega⟩ : Fin 16386) c) rfl (Fin.ext (by show 1 + t.val = t.val + 1; omega)) rfl)).trans (r19 A b ⟨t.val + 1, by omega⟩ c)
  have q1 : val_main_v30 (F := Ideal) A.Cw (ix3 b t c) = taps A 1 c := by
    rw [val_main_v30_apply, val_main_v29_apply, val_main_v27_apply, val_main_v26_apply]
    exact congrArg A.Cw (ext2 (idx_main_v26 (idx_main_v27 (idx_main_v29 (idx_main_v30 (ix3 b t c))))) (ix2 (1 : Fin 3) c) rfl (Fin.ext (Nat.mod_eq_of_lt c.isLt)))
  have p2 : val_main_v35 (F := Ideal) A.X A.OA A.OB A.Hi A.Wo A.G A.Wu (ix3 b t c) = gxp A b (t + 2) c := by
    rw [val_main_v35_apply]
    exact (congrArg _ (ext3 (idx_main_v35 (ix3 b t c)) (ix3 b (⟨t.val + 2, by omega⟩ : Fin 16386) c) rfl (Fin.ext (by show 2 + t.val = t.val + 2; omega)) rfl)).trans (r19 A b ⟨t.val + 2, by omega⟩ c)
  have q2 : val_main_v37 (F := Ideal) A.Cw (ix3 b t c) = taps A 2 c := by
    rw [val_main_v37_apply, val_main_v36_apply, val_main_v34_apply, val_main_v33_apply]
    exact congrArg A.Cw (ext2 (idx_main_v33 (idx_main_v34 (idx_main_v36 (idx_main_v37 (ix3 b t c))))) (ix2 (2 : Fin 3) c) rfl (Fin.ext (Nat.mod_eq_of_lt c.isLt)))
  rw [p0, p1, p2, q0, q1, q2]
  show (taps A 0 c * gxp A b (t + 0) c + taps A 1 c * gxp A b (t + 1) c) + taps A 2 c * gxp A b (t + 2) c = conv (gxp A b) (taps A) t c
  unfold conv
  rw [add_comm, add_comm (taps A 0 c * _), ← add_assoc]
  rfl

/-- The gated activation. -/
theorem r43 (t : Fin 16384) (j : Fin 2816) :
    val_main_v43 (F := Ideal) A.X A.OA A.OB A.Hi A.Wo A.G A.Wu A.Cw (ix3 b t j) = act (gxp A b) (taps A) t j := by
  have g : val_main_v40 (F := Ideal) A.X A.OA A.OB A.Hi A.Wo A.G A.Wu A.Cw (ix3 b t j) = conv (gxp A b) (taps A) t ⟨j, by omega⟩ := by
    rw [val_main_v40_apply]
    exact (congrArg _ (ext3 (idx_main_v40 (ix3 b t j)) (ix3 b t (⟨j, by omega⟩ : Fin 5632)) rfl rfl rfl)).trans (r39 A b t ⟨j, by omega⟩)
  have v : val_main_v42 (F := Ideal) A.X A.OA A.OB A.Hi A.Wo A.G A.Wu A.Cw (ix3 b t j) = conv (gxp A b) (taps A) t ⟨2816 + j, by omega⟩ := by
    rw [val_main_v42_apply]
    exact (congrArg _ (ext3 (idx_main_v42 (ix3 b t j)) (ix3 b t (⟨2816 + j, by omega⟩ : Fin 5632)) rfl rfl rfl)).trans (r39 A b t ⟨2816 + j, by omega⟩)
  rw [val_main_v43_apply, val_main_v41_apply, val_main_call0_v5_apply, val_main_call0_v3_apply, val_main_call0_v1_apply,
    val_main_call0_v0_apply, g, v, val_main_call0_v4_apply, val_main_call0_v2_apply, val_main_call0_cst_apply, val_main_call0_cst_0_apply]
  have l (x : EReal) : Ideal.logistic x = FloatOps.hostDivf (F := Ideal) (φ := .f32) (FloatOps.ofBits .f32 0x3F800000#32)
      (FloatOps.addf (FloatOps.ofBits .f32 0x3F800000#32) (FloatOps.hostUnary .exp (FloatOps.hostNegf x))) := by
    rw [Ideal.ofBits_def, oneBits]
    rfl
  unfold act
  rw [l]
  rfl

/-- The first result. -/
theorem r45 (t : Fin 16384) (d : Fin 1024) :
    val_main_v45 (F := Ideal) A.X A.OA A.OB A.Hi A.Wo A.G A.Wu A.Cw A.Wd (ix3 b t d) = gy A b t d := by
  unfold gy
  rw [val_main_v45_apply, r4, val_main_v44_apply]
  refine congrArg (fun z : EReal => gx1 A b t d + z) (Finset.sum_congr rfl fun k _ => ?_)
  refine congrArg₂ (fun x y : EReal => x * y) ((congrArg _ ?_).trans (r43 A b t k)) (congrArg A.Wd ?_)
  · exact ext3 _ _ rfl rfl rfl
  · exact ext2 _ _ rfl rfl

/-- The second result. -/
theorem r46 (r : Fin 2) (c : Fin 5632) :
    val_main_v46 (F := Ideal) A.X A.OA A.OB A.Hi A.Wo A.G A.Wu (ix3 b r c) = gxp A b (16384 + r) c := by
  rw [val_main_v46_apply]
  exact (congrArg _ (ext3 (idx_main_v46 (ix3 b r c)) (ix3 b (⟨16384 + r, by omega⟩ : Fin 16386) c) rfl rfl rfl)).trans (r19 A b ⟨16384 + r, by omega⟩ c)

/-- The first result, whole. -/
theorem ref_y : val_main_v45 (F := Ideal) A.X A.OA A.OB A.Hi A.Wo A.G A.Wu A.Cw A.Wd = fun y => gy A (y 0) (y 1).val (y 2) :=
  funext fun y => (congrArg _ (ext3 y (ix3 (y 0) (y 1) (y 2)) rfl rfl rfl)).trans (r45 A (y 0) (y 1) (y 2))

/-- The second result, whole. -/
theorem ref_h : val_main_v46 (F := Ideal) A.X A.OA A.OB A.Hi A.Wo A.G A.Wu = fun y => gxp A (y 0) (16384 + (y 1).val) (y 2) :=
  funext fun y => (congrArg _ (ext3 y (ix3 (y 0) (y 1) (y 2)) rfl rfl rfl)).trans (r46 A (y 0) (y 1) (y 2))

end Cert.Ffn
-- ==== Proof.InBits.lean ====
module

public import proofs.«01_k».proof.Proof.InRunA
public import proofs.«01_k».proof.Proof.InRunB
public import Idealize.ShloMosaic.Lib.Pipeline.Frame

/-! The launch of the first half of the layer in machine arithmetic: it ends with its arguments unchanged. -/

set_option maxRecDepth 16384
set_option backward.proofsInPublic true

@[expose] public section
noncomputable section

namespace Cert.In.Body
open Cert.In Cert.In.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The results' windows, of whose contents nothing is said. -/
def forgets : Fin 19 → Bool := fun w => decide (11 ≤ w.val)

/-- The two scratch buffers, at any contents, and the generator's register. -/
def phi (c : Dev nD) : sProp 𝕄 :=
  iprop((∃ f : Vec F S1x520x512 .f32, owns (c : Thread nD τ) (Memref.whole cc0_scratch0) fullShare f)
    ∗ (∃ d : Vec F S1x1x128 .f32, owns (c : Thread nD τ) (Memref.whole cc0_scratch1) fullShare d) ∗ ∃ r, prngReg c r)

/-- The launch's proof data: after a point, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => Dat.unnamed (cfg := cfg0) 12 t
    | ⟨13, _⟩ => Dat.unnamed (cfg := cfg0) 13 t
    | ⟨14, _⟩ => Dat.unnamed (cfg := cfg0) 14 t
    | ⟨15, _⟩ => Dat.unnamed (cfg := cfg0) 15 t
    | ⟨16, _⟩ => Dat.unnamed (cfg := cfg0) 16 t
    | ⟨17, _⟩ => Dat.unnamed (cfg := cfg0) 17 t
    | ⟨18, _⟩ => Dat.unnamed (cfg := cfg0) 18 t
    | ⟨n + 19, h⟩ => absurd h (by show ¬ n + 19 < 19; omega)
  Φ _ := phi c
  q _ := fullShare
  owed _ := 0

/-- The arrays are those the launch finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d)
    ∗ (∃ d, owns (c : Thread nD τ) (win0_14.stage (cfg0.slots t 14)) fullShare d)
    ∗ (∃ d, owns (c : Thread nD τ) (win0_15.stage (cfg0.slots t 15)) fullShare d)
    ∗ (∃ d, owns (c : Thread nD τ) (win0_16.stage (cfg0.slots t 16)) fullShare d)
    ∗ (∃ d, owns (c : Thread nD τ) (win0_17.stage (cfg0.slots t 17)) fullShare d)
    ∗ (∃ d, owns (c : Thread nD τ) (win0_18.stage (cfg0.slots t 18)) fullShare d))

set_option maxHeartbeats 4000000 in
/-- The body at a point, whatever the scratch buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = phi c from rfl, show (dats m 0 c).Φ t.castSucc = phi c from rfl,
    show (dats m 0 c).owesAt () t.succ = (dats m 0 c).owesAt () t.castSucc from rfl,
    after0, after1, after2, after3, after4, after5, after6, after7, after8, after9, after10]
  unfold phi
  iintro ⟨⟨⟨%x21, HS⟩, ⟨%x22, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  by_cases hc : first (grid0.coords t) = 1#1
  · iapply ((runA c (grid0.coords t) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS]; · iexact HS
    isplitl [HT]; · iexact HT
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS, HT⟩
    isplitl [HS HT Hg]
    · isplitl [HS]
      · iexists _
        unfold owns
        iexists _
        isplitr
        swap; · iexact HS
        ipureintro; rfl
      isplitl [HT]
      · iexists _
        unfold owns
        iexists _
        isplitr
        swap; · iexact HT
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _
      unfold owns
      iexists _
      isplitr
      swap; · iexact H11
      ipureintro; rfl
    isplitl [H12]
    · iexists _
      unfold owns
      iexists _
      isplitr
      swap; · iexact H12
      ipureintro; rfl
    isplitl [H13]
    · iexists _
      unfold owns
      iexists _
      isplitr
      swap; · iexact H13
      ipureintro; rfl
    isplitl [H14]
    · iexists _
      unfold owns
      iexists _
      isplitr
      swap; · iexact H14
      ipureintro; rfl
    isplitl [H15]
    · iexists _
      unfold owns
      iexists _
      isplitr
      swap; · iexact H15
      ipureintro; rfl
    isplitl [H16]
    · iexists _
      unfold owns
      iexists _
      isplitr
      swap; · iexact H16
      ipureintro; rfl
    isplitl [H17]
    · iexists _
      unfold owns
      iexists _
      isplitr
      swap; · iexact H17
      ipureintro; rfl
    · iexists _
      unfold owns
      iexists _
      isplitr
      swap; · iexact H18
      ipureintro; rfl
  · iapply ((runB c (grid0.coords t) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS]; · iexact HS
    isplitl [HT]; · iexact HT
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS, HT⟩
    isplitl [HS HT Hg]
    · isplitl [HS]
      · iexists _
        unfold owns
        iexists _
        isplitr
        swap; · iexact HS
        ipureintro; rfl
      isplitl [HT]
      · iexists _
        unfold owns
        iexists _
        isplitr
        swap; · iexact HT
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · iexists _
      unfold owns
      iexists _
      isplitr
      swap; · iexact H11
      ipureintro; rfl
    isplitl [H12]
    · iexists _
      unfold owns
      iexists _
      isplitr
      swap; · iexact H12
      ipureintro; rfl
    isplitl [H13]
    · iexists _
      unfold owns
      iexists _
      isplitr
      swap; · iexact H13
      ipureintro; rfl
    isplitl [H14]
    · iexists _
      unfold owns
      iexists _
      isplitr
      swap; · iexact H14
      ipureintro; rfl
    isplitl [H15]
    · iexists _
      unfold owns
      iexists _
      isplitr
      swap; · iexact H15
      ipureintro; rfl
    isplitl [H16]
    · iexists _
      unfold owns
      iexists _
      isplitr
      swap; · iexact H16
      ipureintro; rfl
    isplitl [H17]
    · iexists _
      unfold owns
      iexists _
      isplitr
      swap; · iexact H17
      ipureintro; rfl
    · iexists _
      unfold owns
      iexists _
      isplitr
      swap; · iexact H18
      ipureintro; rfl

/-- The body's row of the table at a point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ forgets := fun t => by
  rw [bigSep_W0, bigSep_W0, defs₀_row]
  exact triple_restated (sound_body m c t) rfl .rfl fun _ => .rfl

/-- The scratch buffers at any contents, as the launch has them. -/
theorem phi_in (c : Dev nD) : (Pipeline.ΦA spec0 c : sProp 𝕄) ⊢ phi c := by
  unfold Pipeline.ΦA phi
  rw [scopedRest0_eq]
  simp only [owns_whole]
  iintro ⟨⟨⟨%f, HS⟩, ⟨%d, HT⟩⟩, Hg⟩
  isplitl [HS]; · iexists f; iexact HS
  isplitl [HT]; · iexists d; iexact HT
  iexact Hg

/-- The same, the other way. -/
theorem phi_out (c : Dev nD) : (phi c : sProp 𝕄) ⊢ Pipeline.ΦA spec0 c := by
  unfold Pipeline.ΦA phi
  rw [scopedRest0_eq]
  simp only [owns_whole]
  iintro ⟨⟨%f, HS⟩, ⟨%d, HT⟩, Hg⟩
  isplitl [HS HT]
  · isplitl [HS]; · iexists f; iexact HS
    iexists d; iexact HT
  iexact Hg

set_option backward.isDefEq.respectTransparency.types false in
/-- The launch ends with its inputs as it found them and every counter at zero. -/
theorem run_main : θ_run defs (onTc (τ := τ) (main (F := F))) (s₀ m ρ)
      (fun r => RDat.FramePost (cfgs 0) (fun c => (dats m 0 c).toRForget forgets) (V m) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hin := fun c => phi_in c) (hout := fun c => phi_out c)

set_option maxHeartbeats 1000000 in
/-- The launch ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(h.1.arr_in c 0 rfl).trans ((A_eq m c 0).trans (V_main_arg0 m c)),
    (h.1.arr_in c 1 rfl).trans ((A_eq m c 1).trans (V_main_arg1 m c)),
    (h.1 c).2 main_arg2 (Pipeline.mem_restRefs_of main_arg2 (by decide) (by decide)) |>.trans (V_main_arg2 m c),
    (h.1 c).2 main_arg3 (Pipeline.mem_restRefs_of main_arg3 (by decide) (by decide)) |>.trans (V_main_arg3 m c),
    (h.1 c).2 main_arg4 (Pipeline.mem_restRefs_of main_arg4 (by decide) (by decide)) |>.trans (V_main_arg4 m c),
    (h.1 c).2 main_arg5 (Pipeline.mem_restRefs_of main_arg5 (by decide) (by decide)) |>.trans (V_main_arg5 m c),
    (h.1 c).2 main_arg6 (Pipeline.mem_restRefs_of main_arg6 (by decide) (by decide)) |>.trans (V_main_arg6 m c),
    (h.1.arr_in c 9 rfl).trans ((A_eq m c 9).trans (V_main_arg7 m c))⟩, h.2⟩) (run_main m ρ)

end Cert.In.Body
-- ==== Proof.InIdealRunA.lean ====
module

public import proofs.«01_k».proof.Proof.Gen.InIdeal.Frame
public import proofs.«01_k».proof.Proof.Gen.InIdeal.Skeleton

@[expose] public section

set_option maxRecDepth 16384

noncomputable section

namespace Cert.InIdeal.Body

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body: the second grid coordinate is zero. -/
abbrev first (i : grid0.Coords) : BitVec 1 :=
  Scalar.cmpi .ne (Scalar.extui (Scalar.cmpi .eq (BitVec.ofNat 32 (i 1).val) 0#32)) 0#32

set_option maxHeartbeats 4000000 in
/-- The body's triple at the first tile of a row of the grid: on whole buffers, with the inputs at their blocks and the two carried buffers at any
    contents, the body ends with the inputs as they were and with the results and the carried buffers written over by the
    lists of pieces that the run finds. -/
noncomputable def runA (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole)
    (hc : first i = 1#1) (x2 : Vec F S1x512x1024 .f32) (x3 : Vec F S1x2x512 .f32) (x4 : Vec F S1x1x128 .f32) (x5 : Vec F S1x1024 .f32) (x6 : Vec F S1024x3072 .bf16) (x7 : Vec F S1024x128 .bf16) (x8 : Vec F S1x128 .f32) (x9 : Vec F S1x512 .f32) (x10 : Vec F S1x512 .f32) (x11 : Vec F S3x512 .f32) (x12 : Vec F S512x512 .bf16) (x21 : Vec F S1x520x512 .f32) (x22 : Vec F S1x1x128 .f32) :
    Σ' (L13 : List (View.Piece (Elt F) S1x8x512x128 .bf16)),
    Σ' (L14 : List (View.Piece (Elt F) S1x8x512x128 .bf16)),
    Σ' (L15 : List (View.Piece (Elt F) S1x8x512x128 .bf16)),
    Σ' (L16 : List (View.Piece (Elt F) S1x512x512 .f32)),
    Σ' (L17 : List (View.Piece (Elt F) S1x512x512 .f32)),
    Σ' (L18 : List (View.Piece (Elt F) S1x512x8 .f32)),
    Σ' (L19 : List (View.Piece (Elt F) S1x512x512 .bf16)),
    Σ' (L20 : List (View.Piece (Elt F) S1x2x512 .f32)),
    Σ' (L21 : List (View.Piece (Elt F) S1x520x512 .f32)),
    { L22 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (∃ f, (arg15.view.loc (c : Thread nD τ) ↦[arg15.view.set]{fullShare} arg15.view.writes (Elt F) f L15)) ∗ (∃ f, (arg16.view.loc (c : Thread nD τ) ↦[arg16.view.set]{fullShare} arg16.view.writes (Elt F) f L16)) ∗ (∃ f, (arg17.view.loc (c : Thread nD τ) ↦[arg17.view.set]{fullShare} arg17.view.writes (Elt F) f L17)) ∗ (∃ f, (arg18.view.loc (c : Thread nD τ) ↦[arg18.view.set]{fullShare} arg18.view.writes (Elt F) f L18)) ∗ (∃ f, (arg19.view.loc (c : Thread nD τ) ↦[arg19.view.set]{fullShare} arg19.view.writes (Elt F) f L19)) ∗ (∃ f, (arg20.view.loc (c : Thread nD τ) ↦[arg20.view.set]{fullShare} arg20.view.writes (Elt F) f L20)) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_even_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_even_in_eq_skeleton]; unfold cc0_even_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg21.eq_unread hf21; obtain rfl := harg22.eq_unread hf22
    unfold first at hc
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    iexact H22

end Cert.InIdeal.Body

end
-- ==== Proof.InIdealRunB.lean ====
module

public import proofs.«01_k».proof.Proof.Gen.InIdeal.Frame
public import proofs.«01_k».proof.Proof.Gen.InIdeal.Skeleton
public import proofs.«01_k».proof.Proof.InIdealRunA

@[expose] public section

set_option maxRecDepth 16384

noncomputable section

namespace Cert.InIdeal.Body

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple at a later tile: on whole buffers, with the inputs at their blocks and the two carried buffers at any
    contents, the body ends with the inputs as they were and with the results and the carried buffers written over by the
    lists of pieces that the run finds. -/
noncomputable def runB (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole)
    (hc : ¬ first i = 1#1) (x2 : Vec F S1x512x1024 .f32) (x3 : Vec F S1x2x512 .f32) (x4 : Vec F S1x1x128 .f32) (x5 : Vec F S1x1024 .f32) (x6 : Vec F S1024x3072 .bf16) (x7 : Vec F S1024x128 .bf16) (x8 : Vec F S1x128 .f32) (x9 : Vec F S1x512 .f32) (x10 : Vec F S1x512 .f32) (x11 : Vec F S3x512 .f32) (x12 : Vec F S512x512 .bf16) (x21 : Vec F S1x520x512 .f32) (x22 : Vec F S1x1x128 .f32) :
    Σ' (L13 : List (View.Piece (Elt F) S1x8x512x128 .bf16)),
    Σ' (L14 : List (View.Piece (Elt F) S1x8x512x128 .bf16)),
    Σ' (L15 : List (View.Piece (Elt F) S1x8x512x128 .bf16)),
    Σ' (L16 : List (View.Piece (Elt F) S1x512x512 .f32)),
    Σ' (L17 : List (View.Piece (Elt F) S1x512x512 .f32)),
    Σ' (L18 : List (View.Piece (Elt F) S1x512x8 .f32)),
    Σ' (L19 : List (View.Piece (Elt F) S1x512x512 .bf16)),
    Σ' (L20 : List (View.Piece (Elt F) S1x2x512 .f32)),
    Σ' (L21 : List (View.Piece (Elt F) S1x520x512 .f32)),
    { L22 : List (View.Piece (Elt F) S1x1x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare x21 ∗ owns (c : Thread nD τ) arg22 fullShare x22 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (∃ f, (arg15.view.loc (c : Thread nD τ) ↦[arg15.view.set]{fullShare} arg15.view.writes (Elt F) f L15)) ∗ (∃ f, (arg16.view.loc (c : Thread nD τ) ↦[arg16.view.set]{fullShare} arg16.view.writes (Elt F) f L16)) ∗ (∃ f, (arg17.view.loc (c : Thread nD τ) ↦[arg17.view.set]{fullShare} arg17.view.writes (Elt F) f L17)) ∗ (∃ f, (arg18.view.loc (c : Thread nD τ) ↦[arg18.view.set]{fullShare} arg18.view.writes (Elt F) f L18)) ∗ (∃ f, (arg19.view.loc (c : Thread nD τ) ↦[arg19.view.set]{fullShare} arg19.view.writes (Elt F) f L19)) ∗ (∃ f, (arg20.view.loc (c : Thread nD τ) ↦[arg20.view.set]{fullShare} arg20.view.writes (Elt F) f L20)) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22)) -∗ K ⟨⟩))
          ⊢ wp frame (wpE (defs₀ (F := F)) Variants.none c none) E (cc0_even_in i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, ?_, ?_, ?_, ?_, fun E K => ?run⟩
  case run =>
    simp only [cc0_even_in_eq_skeleton]; unfold cc0_even_in_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%f21, %hf21, H21⟩, ⟨%f22, %hf22, H22⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg21.eq_unread hf21; obtain rfl := harg22.eq_unread hf22
    unfold first at hc
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    iexact H22

end Cert.InIdeal.Body

end
-- ==== Proof.InLists.lean ====
module

public import proofs.«01_k».proof.Proof.Gen.InIdeal.Frame
public import proofs.«01_k».proof.Proof.Gen.InIdeal.Skeleton
public import proofs.«01_k».proof.Proof.InIdealRunA
public import proofs.«01_k».proof.Proof.InIdealRunB

@[expose] public section

set_option maxRecDepth 16384

noncomputable section

namespace Cert.InIdeal.Body

open Cert.InIdeal Cert.InIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The pieces written by one run of the body, as lists -/

/-- Row block `h` of the eight heads lies inside them. -/
theorem inbH (h : ℕ) (a : Fin S1x8x512x128.rank) :
    (![0, h % 8, 0, 0] : Fin 4 → ℕ) a + S1x1x512x128.size a ≤ S1x8x512x128.size a := by
  have : h % 8 + 1 ≤ 8 := by omega
  match a with
  | ⟨0, _⟩ => exact Nat.le_refl 1
  | ⟨1, _⟩ => exact this
  | ⟨2, _⟩ => exact Nat.le_refl 512
  | ⟨3, _⟩ => exact Nat.le_refl 128

/-- Block `k` of 512 columns of the weights lies inside them. -/
theorem inbW (k : ℕ) (a : Fin S1024x3072.rank) :
    (![0, 512 * (k % 6)] : Fin 2 → ℕ) a + S1024x512.size a ≤ S1024x3072.size a := by
  have : 512 * (k % 6) + 512 ≤ 3072 := by omega
  match a with
  | ⟨0, _⟩ => exact Nat.le_refl 1024
  | ⟨1, _⟩ => exact this

abbrev RH (h : ℕ) : Rect S1x8x512x128 := Rect.unit ![0, h % 8, 0, 0] S1x1x512x128.size (inbH h)
abbrev RW (k : ℕ) : Rect S1024x3072 := Rect.unit ![0, 512 * (k % 6)] S1024x512.size (inbW k)

theorem slP (h : ℕ) : S512x512.Slices ![0, 128 * (h % 8 / 2)] S512x128 :=
  ⟨rfl, fun a => by
    have : 128 * (h % 8 / 2) + 128 ≤ 512 := by omega
    match a with
    | ⟨0, _⟩ => exact Nat.le_refl 512
    | ⟨1, _⟩ => exact this⟩

theorem slC (h : ℕ) : S512x128.Slices ![0, h % 8] S512x1 :=
  ⟨rfl, fun a => by
    have : h % 8 + 1 ≤ 128 := by omega
    match a with
    | ⟨0, _⟩ => exact Nat.le_refl 512
    | ⟨1, _⟩ => exact this⟩

/-- One in lane `i`, zero in the others. -/
def unitLane (i : BitVec 32) : FVec F S1x128 .f32 :=
  select (cmpi .eq (iota .tc S1x128 32 [1] iota_S1x128_d1_w32) (broadcast S1x128 i))
    (broadcast S1x128 (Scalar.ofBits .f32 0x3F800000#32)) (broadcast S1x128 (Scalar.ofBits .f32 0x00000000#32))

/-- The lanes of the head itself. -/
def headLanes : IVec S512x128 1 :=
  broadcastTo S512x128 (shapeCast S1x128 (cmpi .slt (iota .tc S1x128 32 [1] iota_S1x128_d1_w32) (broadcast S1x128 64#32))
    shapeCasts_S1x128_S1x128) broadcasts_S1x128_S512x128

/-- The lanes of head `h`, brought to the first 64 lanes. -/
def headOf (a : FVec F S512x512 .f32) (h : ℕ) : FVec F S512x128 .f32 :=
  if h % 2 = 1 then dynamicRotate 1 64#32 none (extractStridedSlice S512x128 ![0, 128 * (h % 8 / 2)] a (slP h)) rotates_S512x128_d1
  else extractStridedSlice S512x128 ![0, 128 * (h % 8 / 2)] a (slP h)

/-- Column `h`, in every lane. -/
def colOf (c : FVec F S512x128 .f32) (h : ℕ) : FVec F S512x128 .f32 :=
  broadcastTo S512x128 (shapeCast S512x1 (extractStridedSlice S512x1 ![0, h % 8] c (slC h)) shapeCasts_S512x1_S512x1)
    broadcasts_S512x1_S512x128

/-- The three summands of a value. -/
def hi3 (x : FVec F S512x128 .f32) : FVec F S512x128 .f32 := extf .f32 (truncf .bf16 x bitsLt_bf16_f32) bitsLt_bf16_f32
def mid3 (x : FVec F S512x128 .f32) : FVec F S512x128 .f32 := hi3 (subf x (hi3 x))
def lo3 (x : FVec F S512x128 .f32) : FVec F S512x128 .f32 := subf (subf x (hi3 x)) (mid3 x)

/-- A row of lanes, in every row. -/
def allRows (x : FVec F S1x128 .f32) : FVec F S512x128 .f32 := broadcastTo S512x128 x broadcasts_S1x128_S512x128

/-- The head's lanes, then the further lanes. -/
def packHead (p e : FVec F S512x128 .f32) : FVec F S1x1x512x128 .bf16 :=
  shapeCast S1x1x512x128 (shapeCast S1x512x128 (truncf .bf16 (select headLanes p e) bitsLt_bf16_f32)
    shapeCasts_S512x128_S1x512x128) shapeCasts_S1x512x128_S1x1x512x128

/-- The rows of head `h` of the queries. -/
def qHead (a : FVec F S512x512 .f32) (c : FVec F S512x128 .f32) (h : ℕ) : FVec F S1x1x512x128 .bf16 :=
  packHead (headOf a h) (addf (addf (addf (mulf (hi3 (colOf c h)) (allRows (unitLane 64#32))) (mulf (mid3 (colOf c h)) (allRows (unitLane 65#32))))
    (mulf (lo3 (colOf c h)) (allRows (unitLane 66#32)))) (allRows (addf (addf (unitLane 67#32) (unitLane 68#32)) (unitLane 69#32))))

/-- The rows of head `h` of the keys. -/
def kHead (a : FVec F S512x512 .f32) (c : FVec F S512x128 .f32) (h : ℕ) : FVec F S1x1x512x128 .bf16 :=
  packHead (headOf a h) (subf (allRows (addf (addf (unitLane 64#32) (unitLane 65#32)) (unitLane 66#32)))
    (addf (addf (mulf (hi3 (colOf c h)) (allRows (unitLane 67#32))) (mulf (mid3 (colOf c h)) (allRows (unitLane 68#32))))
    (mulf (lo3 (colOf c h)) (allRows (unitLane 69#32)))))

/-- The rows of head `h` of the values. -/
def vHead (a : FVec F S512x512 .f32) (h : ℕ) : FVec F S1x1x512x128 .bf16 :=
  packHead (headOf a h) (allRows (shapeCast S1x128 (unitLane 64#32) shapeCasts_S1x128_S1x128))

/-- The pieces of the first `n` heads, newest first. -/
def heads (f : ℕ → FVec F S1x1x512x128 .bf16) : ℕ → List (View.Piece (Elt F) S1x8x512x128 .bf16)
  | 0 => []
  | n + 1 => ⟨RH n, f n⟩ :: heads f n

/-- The logarithm of the forget gate, zero beyond the eighth lane. -/
def logf (xn : FVec F S512x1024 .bf16) (wf : Vec F S1024x128 .bf16) (bf : Vec F S1x128 .f32) : FVec F S512x128 .f32 :=
  k0_pay15 k0_pay12 (k0_pay13 xn wf bf) (k0_pay14 xn wf bf)
/-- Its running sum, on top of the carried one. -/
def csum (xn : FVec F S512x1024 .bf16) (wf : Vec F S1024x128 .bf16) (bf : Vec F S1x128 .f32) (z : Vec F S1x1x128 .f32) : FVec F S512x128 .f32 :=
  k0_pay17 k0_pay12 (k0_pay13 xn wf bf) (k0_pay14 xn wf bf) z

/-- All of the argument in place 2, loaded. -/
abbrev at2 {a : Memref sig .tc .vmem S1x512x1024 .f32} (h : a.IsWhole) (x : Vec F S1x512x1024 .f32) := View.readAt (Elt F) a.view (Rect.unit (s := S1x512x1024) ![0, 0, 0] S1x512x1024.size inb_S1x512x1024_S1x512x1024_0_0_0).toLoadRect (h.unread x)

/-- All of the argument in place 3, loaded. -/
abbrev at3 {a : Memref sig .tc .vmem S1x2x512 .f32} (h : a.IsWhole) (x : Vec F S1x2x512 .f32) := View.readAt (Elt F) a.view (Rect.unit (s := S1x2x512) ![0, 0, 0] S1x2x512.size inb_S1x2x512_S1x2x512_0_0_0).toLoadRect (h.unread x)

/-- All of the argument in place 4, loaded. -/
abbrev at4 {a : Memref sig .tc .vmem S1x1x128 .f32} (h : a.IsWhole) (x : Vec F S1x1x128 .f32) := View.readAt (Elt F) a.view (Rect.unit (s := S1x1x128) ![0, 0, 0] S1x1x128.size inb_S1x1x128_S1x1x128_0_0_0).toLoadRect (h.unread x)

/-- All of the argument in place 5, loaded. -/
abbrev at5 {a : Memref sig .tc .vmem S1x1024 .f32} (h : a.IsWhole) (x : Vec F S1x1024 .f32) := View.readAt (Elt F) a.view (Rect.unit (s := S1x1024) ![0, 0] S1x1024.size inb_S1x1024_S1x1024_0_0).toLoadRect (h.unread x)

/-- All of the argument in place 7, loaded. -/
abbrev at7 {a : Memref sig .tc .vmem S1024x128 .bf16} (h : a.IsWhole) (x : Vec F S1024x128 .bf16) := View.readAt (Elt F) a.view (Rect.unit (s := S1024x128) ![0, 0] S1024x128.size inb_S1024x128_S1024x128_0_0).toLoadRect (h.unread x)

/-- All of the argument in place 8, loaded. -/
abbrev at8 {a : Memref sig .tc .vmem S1x128 .f32} (h : a.IsWhole) (x : Vec F S1x128 .f32) := View.readAt (Elt F) a.view (Rect.unit (s := S1x128) ![0, 0] S1x128.size inb_S1x128_S1x128_0_0).toLoadRect (h.unread x)

/-- All of the argument in place 9, loaded. -/
abbrev at9 {a : Memref sig .tc .vmem S1x512 .f32} (h : a.IsWhole) (x : Vec F S1x512 .f32) := View.readAt (Elt F) a.view (Rect.unit (s := S1x512) ![0, 0] S1x512.size inb_S1x512_S1x512_0_0).toLoadRect (h.unread x)

/-- All of the argument in place 10, loaded. -/
abbrev at10 {a : Memref sig .tc .vmem S1x512 .f32} (h : a.IsWhole) (x : Vec F S1x512 .f32) := View.readAt (Elt F) a.view (Rect.unit (s := S1x512) ![0, 0] S1x512.size inb_S1x512_S1x512_0_0).toLoadRect (h.unread x)

/-- All of the argument in place 11, loaded. -/
abbrev at11 {a : Memref sig .tc .vmem S3x512 .f32} (h : a.IsWhole) (x : Vec F S3x512 .f32) := View.readAt (Elt F) a.view (Rect.unit (s := S3x512) ![0, 0] S3x512.size inb_S3x512_S3x512_0_0).toLoadRect (h.unread x)

/-- All of the argument in place 12, loaded. -/
abbrev at12 {a : Memref sig .tc .vmem S512x512 .bf16} (h : a.IsWhole) (x : Vec F S512x512 .bf16) := View.readAt (Elt F) a.view (Rect.unit (s := S512x512) ![0, 0] S512x512.size inb_S512x512_S512x512_0_0).toLoadRect (h.unread x)

/-- All of the argument in place 22, loaded. -/
abbrev at22 {a : Memref sig .tc .vmem S1x1x128 .f32} (h : a.IsWhole) (x : Vec F S1x1x128 .f32) := View.readAt (Elt F) a.view (Rect.unit (s := S1x1x128) ![0, 0, 0] S1x1x128.size inb_S1x1x128_S1x1x128_0_0_0).toLoadRect (h.unread x)

section
variable (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole) (hc : first i = 1#1) (x2 : Vec F S1x512x1024 .f32) (x3 : Vec F S1x2x512 .f32) (x4 : Vec F S1x1x128 .f32) (x5 : Vec F S1x1024 .f32) (x6 : Vec F S1024x3072 .bf16) (x7 : Vec F S1024x128 .bf16) (x8 : Vec F S1x128 .f32) (x9 : Vec F S1x512 .f32) (x10 : Vec F S1x512 .f32) (x11 : Vec F S3x512 .f32) (x12 : Vec F S512x512 .bf16) (x21 : Vec F S1x520x512 .f32) (x22 : Vec F S1x1x128 .f32)

/-- What the run at a first tile writes into the queries. -/
theorem runA_q :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).1 = heads (qHead (k0_pay20 (k0_pay6 (at2 harg2 x2) (at5 harg5 x5) (at12 harg12 x12) (View.readAt (Elt F) arg6.view (RW 0).toLoadRect (harg6.unread x6)) (at9 harg9 x9))) (k0_pay19 (csum (k0_pay4 (at2 harg2 x2) (at5 harg5 x5)) (at7 harg7 x7) (at8 harg8 x8) (arg22.view.readCov [⟨(Rect.unit (s := S1x1x128) ![0, 0, 0] S1x1x128.size inb_S1x1x128_S1x1x128_0_0_0), k0_pay3 (at4 harg4 x4)⟩] (Rect.unit (s := S1x1x128) ![0, 0, 0] S1x1x128.size inb_S1x1x128_S1x1x128_0_0_0).toLoadRect)))) 8 := by
  with_unfolding_all rfl

/-- What the run at a first tile writes into the keys. -/
theorem runA_k :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.1 = heads (kHead (k0_pay7 (k0_pay4 (at2 harg2 x2) (at5 harg5 x5)) (k0_pay5 (at12 harg12 x12)) (View.readAt (Elt F) arg6.view (RW 1).toLoadRect (harg6.unread x6)) (at10 harg10 x10)) (k0_pay19 (csum (k0_pay4 (at2 harg2 x2) (at5 harg5 x5)) (at7 harg7 x7) (at8 harg8 x8) (arg22.view.readCov [⟨(Rect.unit (s := S1x1x128) ![0, 0, 0] S1x1x128.size inb_S1x1x128_S1x1x128_0_0_0), k0_pay3 (at4 harg4 x4)⟩] (Rect.unit (s := S1x1x128) ![0, 0, 0] S1x1x128.size inb_S1x1x128_S1x1x128_0_0_0).toLoadRect)))) 8 := by
  with_unfolding_all rfl

/-- What the run at a first tile writes into the values. -/
theorem runA_v :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.1 = heads (vHead (k0_pay8 (k0_pay4 (at2 harg2 x2) (at5 harg5 x5)) (View.readAt (Elt F) arg6.view (RW 2).toLoadRect (harg6.unread x6)))) 8 := by
  with_unfolding_all rfl

/-- What the run at a first tile writes into the plain keys. -/
theorem runA_kn :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.1 = [⟨Rect.unit ![0, 0, 0] S1x512x512.size inb_S1x512x512_S1x512x512_0_0_0, k0_pay9 (k0_pay4 (at2 harg2 x2) (at5 harg5 x5)) (k0_pay5 (at12 harg12 x12)) (View.readAt (Elt F) arg6.view (RW 1).toLoadRect (harg6.unread x6)) (at10 harg10 x10)⟩] := by
  with_unfolding_all rfl

/-- What the run at a first tile writes into the plain values. -/
theorem runA_vn :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.1 = [⟨Rect.unit ![0, 0, 0] S1x512x512.size inb_S1x512x512_S1x512x512_0_0_0, k0_pay10 (k0_pay4 (at2 harg2 x2) (at5 harg5 x5)) (View.readAt (Elt F) arg6.view (RW 2).toLoadRect (harg6.unread x6))⟩] := by
  with_unfolding_all rfl

/-- What the run at a first tile writes into the logarithms of the forget gates. -/
theorem runA_lf :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.1 = [⟨Rect.unit ![0, 0, 0] S1x512x8.size inb_S1x512x8_S1x512x8_0_0_0, k0_pay16 k0_pay12 (k0_pay13 (k0_pay4 (at2 harg2 x2) (at5 harg5 x5)) (at7 harg7 x7) (at8 harg8 x8)) (k0_pay14 (k0_pay4 (at2 harg2 x2) (at5 harg5 x5)) (at7 harg7 x7) (at8 harg8 x8))⟩] := by
  with_unfolding_all rfl

/-- What the run at a first tile writes into the convolved half. -/
theorem runA_ob :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.1 = [⟨Rect.unit ![0, 0, 0] S1x512x512.size inb_S1x512x512_S1x512x512_0_0_0, k0_pay175 (k0_pay4 (at2 harg2 x2) (at5 harg5 x5)) (View.readAt (Elt F) arg6.view (RW 3).toLoadRect (harg6.unread x6)) (at11 harg11 x11) (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32)) (Rect.unit (s := S1x520x512) ![0, 8, 0] S1x512x512.size inb_S1x520x512_S1x512x512_0_8_0).toLoadRect) (arg21.view.readAt (Elt F) (Rect.unit (s := S1x520x512) ![0, 7, 0] S1x512x512.size inb_S1x520x512_S1x512x512_0_7_0).toLoadRect (arg21.view.writes (Elt F) arg21.view.junk ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32)))) (arg21.view.readAt (Elt F) (Rect.unit (s := S1x520x512) ![0, 6, 0] S1x512x512.size inb_S1x520x512_S1x512x512_0_6_0).toLoadRect (arg21.view.writes (Elt F) arg21.view.junk ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32))))⟩] := by
  with_unfolding_all rfl

/-- What the run at a first tile writes into the new history. -/
theorem runA_h :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.1 = [⟨Rect.unit ![0, 0, 0] S1x2x512.size inb_S1x2x512_S1x2x512_0_0_0, (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32)) (Rect.unit (s := S1x520x512) ![0, 518, 0] S1x2x512.size inb_S1x520x512_S1x2x512_0_518_0).toLoadRect)⟩] := by
  with_unfolding_all rfl

/-- What the run at a first tile writes into the carried rows. -/
theorem runA_c :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.1 = ⟨(Rect.unit (s := S1x520x512) ![0, 6, 0] S1x2x512.size inb_S1x520x512_S1x2x512_0_6_0), k0_pay1 (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32)) (Rect.unit (s := S1x520x512) ![0, 518, 0] S1x2x512.size inb_S1x520x512_S1x2x512_0_518_0).toLoadRect)⟩ :: ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: [⟨(Rect.unit (s := S1x520x512) ![0, 6, 0] S1x2x512.size inb_S1x520x512_S1x2x512_0_6_0), k0_pay2 (at3 harg3 x3)⟩]) : List (View.Piece (Elt F) S1x520x512 .f32)) := by
  with_unfolding_all rfl

/-- What the run at a first tile writes into the carried sum. -/
theorem runA_z :
    (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.2.1 = ⟨(Rect.unit (s := S1x1x128) ![0, 0, 0] S1x1x128.size inb_S1x1x128_S1x1x128_0_0_0), k0_pay18 k0_pay12 (k0_pay13 (k0_pay4 (at2 harg2 x2) (at5 harg5 x5)) (at7 harg7 x7) (at8 harg8 x8)) (k0_pay14 (k0_pay4 (at2 harg2 x2) (at5 harg5 x5)) (at7 harg7 x7) (at8 harg8 x8)) (arg22.view.readCov [⟨(Rect.unit (s := S1x1x128) ![0, 0, 0] S1x1x128.size inb_S1x1x128_S1x1x128_0_0_0), k0_pay3 (at4 harg4 x4)⟩] (Rect.unit (s := S1x1x128) ![0, 0, 0] S1x1x128.size inb_S1x1x128_S1x1x128_0_0_0).toLoadRect)⟩ :: ([⟨(Rect.unit (s := S1x1x128) ![0, 0, 0] S1x1x128.size inb_S1x1x128_S1x1x128_0_0_0), k0_pay3 (at4 harg4 x4)⟩] : List (View.Piece (Elt F) S1x1x128 .f32)) := by
  with_unfolding_all rfl

end

section
variable (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole) (hc : ¬ first i = 1#1) (x2 : Vec F S1x512x1024 .f32) (x3 : Vec F S1x2x512 .f32) (x4 : Vec F S1x1x128 .f32) (x5 : Vec F S1x1024 .f32) (x6 : Vec F S1024x3072 .bf16) (x7 : Vec F S1024x128 .bf16) (x8 : Vec F S1x128 .f32) (x9 : Vec F S1x512 .f32) (x10 : Vec F S1x512 .f32) (x11 : Vec F S3x512 .f32) (x12 : Vec F S512x512 .bf16) (x21 : Vec F S1x520x512 .f32) (x22 : Vec F S1x1x128 .f32)

/-- What the run at a later tile writes into the queries. -/
theorem runB_q :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).1 = heads (qHead (k0_pay20 (k0_pay6 (at2 harg2 x2) (at5 harg5 x5) (at12 harg12 x12) (View.readAt (Elt F) arg6.view (RW 0).toLoadRect (harg6.unread x6)) (at9 harg9 x9))) (k0_pay19 (csum (k0_pay4 (at2 harg2 x2) (at5 harg5 x5)) (at7 harg7 x7) (at8 harg8 x8) (at22 harg22 x22)))) 8 := by
  with_unfolding_all rfl

/-- What the run at a later tile writes into the keys. -/
theorem runB_k :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.1 = heads (kHead (k0_pay7 (k0_pay4 (at2 harg2 x2) (at5 harg5 x5)) (k0_pay5 (at12 harg12 x12)) (View.readAt (Elt F) arg6.view (RW 1).toLoadRect (harg6.unread x6)) (at10 harg10 x10)) (k0_pay19 (csum (k0_pay4 (at2 harg2 x2) (at5 harg5 x5)) (at7 harg7 x7) (at8 harg8 x8) (at22 harg22 x22)))) 8 := by
  with_unfolding_all rfl

/-- What the run at a later tile writes into the values. -/
theorem runB_v :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.1 = heads (vHead (k0_pay8 (k0_pay4 (at2 harg2 x2) (at5 harg5 x5)) (View.readAt (Elt F) arg6.view (RW 2).toLoadRect (harg6.unread x6)))) 8 := by
  with_unfolding_all rfl

/-- What the run at a later tile writes into the plain keys. -/
theorem runB_kn :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.1 = [⟨Rect.unit ![0, 0, 0] S1x512x512.size inb_S1x512x512_S1x512x512_0_0_0, k0_pay9 (k0_pay4 (at2 harg2 x2) (at5 harg5 x5)) (k0_pay5 (at12 harg12 x12)) (View.readAt (Elt F) arg6.view (RW 1).toLoadRect (harg6.unread x6)) (at10 harg10 x10)⟩] := by
  with_unfolding_all rfl

/-- What the run at a later tile writes into the plain values. -/
theorem runB_vn :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.1 = [⟨Rect.unit ![0, 0, 0] S1x512x512.size inb_S1x512x512_S1x512x512_0_0_0, k0_pay10 (k0_pay4 (at2 harg2 x2) (at5 harg5 x5)) (View.readAt (Elt F) arg6.view (RW 2).toLoadRect (harg6.unread x6))⟩] := by
  with_unfolding_all rfl

/-- What the run at a later tile writes into the logarithms of the forget gates. -/
theorem runB_lf :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.1 = [⟨Rect.unit ![0, 0, 0] S1x512x8.size inb_S1x512x8_S1x512x8_0_0_0, k0_pay16 k0_pay12 (k0_pay13 (k0_pay4 (at2 harg2 x2) (at5 harg5 x5)) (at7 harg7 x7) (at8 harg8 x8)) (k0_pay14 (k0_pay4 (at2 harg2 x2) (at5 harg5 x5)) (at7 harg7 x7) (at8 harg8 x8))⟩] := by
  with_unfolding_all rfl

/-- What the run at a later tile writes into the convolved half. -/
theorem runB_ob :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.1 = [⟨Rect.unit ![0, 0, 0] S1x512x512.size inb_S1x512x512_S1x512x512_0_0_0, k0_pay175 (k0_pay4 (at2 harg2 x2) (at5 harg5 x5)) (View.readAt (Elt F) arg6.view (RW 3).toLoadRect (harg6.unread x6)) (at11 harg11 x11) (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32)) (Rect.unit (s := S1x520x512) ![0, 8, 0] S1x512x512.size inb_S1x520x512_S1x512x512_0_8_0).toLoadRect) (arg21.view.readAt (Elt F) (Rect.unit (s := S1x520x512) ![0, 7, 0] S1x512x512.size inb_S1x520x512_S1x512x512_0_7_0).toLoadRect (arg21.view.writes (Elt F) (harg21.unread x21) ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32)))) (arg21.view.readAt (Elt F) (Rect.unit (s := S1x520x512) ![0, 6, 0] S1x512x512.size inb_S1x520x512_S1x512x512_0_6_0).toLoadRect (arg21.view.writes (Elt F) (harg21.unread x21) ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32))))⟩] := by
  with_unfolding_all rfl

/-- What the run at a later tile writes into the new history. -/
theorem runB_h :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.1 = [⟨Rect.unit ![0, 0, 0] S1x2x512.size inb_S1x2x512_S1x2x512_0_0_0, (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32)) (Rect.unit (s := S1x520x512) ![0, 518, 0] S1x2x512.size inb_S1x520x512_S1x2x512_0_518_0).toLoadRect)⟩] := by
  with_unfolding_all rfl

/-- What the run at a later tile writes into the carried rows. -/
theorem runB_c :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.1 = ⟨(Rect.unit (s := S1x520x512) ![0, 6, 0] S1x2x512.size inb_S1x520x512_S1x2x512_0_6_0), k0_pay1 (arg21.view.readCov ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32)) (Rect.unit (s := S1x520x512) ![0, 518, 0] S1x2x512.size inb_S1x520x512_S1x2x512_0_518_0).toLoadRect)⟩ :: ((⟨(Rect.unit (s := S1x520x512) ![0, 8, 0] S1x512x512.size inb_S1x520x512_S1x512x512_0_8_0), k0_pay174 (k0_pay4 (at2 harg2 x2) (at5 harg5 x5)) (View.readAt (Elt F) arg6.view (RW 4).toLoadRect (harg6.unread x6)) (View.readAt (Elt F) arg6.view (RW 5).toLoadRect (harg6.unread x6))⟩ :: []) : List (View.Piece (Elt F) S1x520x512 .f32)) := by
  with_unfolding_all rfl

/-- What the run at a later tile writes into the carried sum. -/
theorem runB_z :
    (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.2.1 = ⟨(Rect.unit (s := S1x1x128) ![0, 0, 0] S1x1x128.size inb_S1x1x128_S1x1x128_0_0_0), k0_pay18 k0_pay12 (k0_pay13 (k0_pay4 (at2 harg2 x2) (at5 harg5 x5)) (at7 harg7 x7) (at8 harg8 x8)) (k0_pay14 (k0_pay4 (at2 harg2 x2) (at5 harg5 x5)) (at7 harg7 x7) (at8 harg8 x8)) (at22 harg22 x22)⟩ :: ([] : List (View.Piece (Elt F) S1x1x128 .f32)) := by
  with_unfolding_all rfl

end

end Cert.InIdeal.Body

end
-- ==== Proof.InPay.lean ====
module

public import proofs.«01_k».proof.Proof.InLists
public import proofs.«01_k».proof.Proof.Word
public import proofs.«01_k».proof.Proof.Ref

/-! What one run of the body computes, read at an entry. -/

set_option maxRecDepth 16384
set_option backward.proofsInPublic true

@[expose] public section
noncomputable section

namespace Cert.InIdeal.Body
open Idealize.ShloMosaic Idealize.ShloMosaic.TcCoe Idealize.SL.Sem
open Cert.InIdeal Cert.InIdeal.Gen
open Cert.Attn (ext3 ext4 slt_ofNat sge_ofNat select_ofBool)

/-- An index of a two-axis array by its entries. -/
theorem ext2 {n : Fin 2 → ℕ} (f g : (⟨2, n⟩ : Shape).Idx) (h0 : f 0 = g 0) (h1 : f 1 = g 1) : f = g :=
  funext fun a => by match a with | ⟨0, _⟩ => exact h0 | ⟨1, _⟩ => exact h1

/-- The normalised rows. -/
theorem pay4_at (x : Vec Ideal S1x512x1024 .f32) (g : Vec Ideal S1x1024 .f32) (r : Fin 512) (d : Fin 1024) :
    k0_pay4 (F := Ideal) x g (ix2 r d) = x (ix3 0 r d) * Ideal.rsqrt (Ideal.div
      (∑ k : Fin 1024, x (ix3 0 r k) * x (ix3 0 r k)) (Ideal.ofBits .f32 0x44800000#32) + Ideal.ofBits .f32 0x358637BD#32) * g (ix2 0 d) := by
  pointwise [k0_pay4]

/-- A product of the normalised rows with a block of the weights. -/
def prod (xn : FVec Ideal S512x1024 .bf16) (w : Vec Ideal S1024x512 .bf16) (r j : Fin 512) : EReal :=
  ∑ k : Fin 1024, xn (ix2 r k) * w (ix2 k j)

/-- The normalisation of a row by heads. -/
def nrm (p : Fin 512 → EReal) (hm : Vec Ideal S512x512 .bf16) (g : Vec Ideal S1x512 .f32) (j : Fin 512) : EReal :=
  p j * Ideal.rsqrt ((∑ k : Fin 512, p k * p k * hm (ix2 k j)) + Ideal.ofBits .f32 0x358637BD#32) * g (ix2 0 j)

/-- The normalised queries. -/
theorem pay6_at (x : Vec Ideal S1x512x1024 .f32) (g : Vec Ideal S1x1024 .f32) (hm : Vec Ideal S512x512 .bf16)
    (w : Vec Ideal S1024x512 .bf16) (gq : Vec Ideal S1x512 .f32) (r j : Fin 512) :
    k0_pay6 (F := Ideal) x g hm w gq (ix2 r j) = nrm (prod (k0_pay4 (F := Ideal) x g) w r) hm gq j := by
  unfold nrm prod
  pointwise [k0_pay6, k0_pay5]

/-- The normalised keys. -/
theorem pay7_at (xn : FVec Ideal S512x1024 .bf16) (hm : Vec Ideal S512x512 .bf16)
    (w : Vec Ideal S1024x512 .bf16) (gk : Vec Ideal S1x512 .f32) (r j : Fin 512) :
    k0_pay7 (F := Ideal) xn (k0_pay5 (F := Ideal) hm) w gk (ix2 r j) = nrm (prod xn w r) hm gk j := by
  unfold nrm prod
  pointwise [k0_pay7, k0_pay5]

/-- The values. -/
theorem pay8_at (xn : FVec Ideal S512x1024 .bf16) (w : Vec Ideal S1024x512 .bf16) (r j : Fin 512) :
    k0_pay8 (F := Ideal) xn w (ix2 r j) = prod xn w r j := by
  unfold prod
  pointwise [k0_pay8]

/-- The plain keys are the normalised keys. -/
theorem pay9_at (xn : FVec Ideal S512x1024 .bf16) (hm : Vec Ideal S512x512 .bf16)
    (w : Vec Ideal S1024x512 .bf16) (gk : Vec Ideal S1x512 .f32) (r j : Fin 512) :
    k0_pay9 (F := Ideal) xn (k0_pay5 (F := Ideal) hm) w gk (ix3 0 r j) = nrm (prod xn w r) hm gk j := by
  rw [← pay7_at]
  pointwise [k0_pay9]

/-- The plain values are the values. -/
theorem pay10_at (xn : FVec Ideal S512x1024 .bf16) (w : Vec Ideal S1024x512 .bf16) (r j : Fin 512) :
    k0_pay10 (F := Ideal) xn w (ix3 0 r j) = prod xn w r j := by
  rw [← pay8_at]
  pointwise [k0_pay10]

/-- The forget gate's argument. -/
def gate (xn : FVec Ideal S512x1024 .bf16) (wf : Vec Ideal S1024x128 .bf16) (bf : Vec Ideal S1x128 .f32) (r : Fin 512) (l : Fin 128) : EReal :=
  (∑ k : Fin 1024, xn (ix2 r k) * wf (ix2 k l)) + bf (ix2 0 l)

/-- The logarithm of the logistic of a value. -/
def logsig (z : EReal) : EReal := 0 - (max (0 - z) 0 + Ideal.log1p (Ideal.exp (0 - max z (-z))))

/-- The logarithm of the forget gate, in the first eight lanes. -/
theorem logf_at (xn : FVec Ideal S512x1024 .bf16) (wf : Vec Ideal S1024x128 .bf16) (bf : Vec Ideal S1x128 .f32) (r : Fin 512) (l : Fin 128)
    (h : l.val < 8) : logf (F := Ideal) xn wf bf (ix2 r l) = logsig (gate xn wf bf r l) := by
  unfold logsig gate
  pointwise [logf, k0_pay15, k0_pay12, k0_pay13, k0_pay14, k0_pay11]
  rw [show (8#32 : BitVec 32) = BitVec.ofNat 32 8 from rfl, slt_ofNat l.val 8 (by omega) (by omega), select_ofBool, if_pos h]
  rfl

/-- The stored logarithms of the forget gates. -/
theorem pay16_at (xn : FVec Ideal S512x1024 .bf16) (wf : Vec Ideal S1024x128 .bf16) (bf : Vec Ideal S1x128 .f32) (r : Fin 512) (h : Fin 8) :
    k0_pay16 (F := Ideal) (k0_pay12) (k0_pay13 (F := Ideal) xn wf bf) (k0_pay14 (F := Ideal) xn wf bf) (ix3 0 r h) = logsig (gate xn wf bf r ⟨h, by omega⟩) := by
  rw [← logf_at xn wf bf r ⟨h, by omega⟩ h.isLt]
  unfold logf
  pointwise [k0_pay16]

/-- The sum up to a row. -/
def triS (x : Fin 512 → EReal) (r : Fin 512) : EReal :=
  ∑ k : Fin 512, if k.val ≤ r.val then x k else 0

/-- The running sum of a tile on top of the carried one. -/
theorem csum_at (xn : FVec Ideal S512x1024 .bf16) (wf : Vec Ideal S1024x128 .bf16) (bf : Vec Ideal S1x128 .f32) (z : Vec Ideal S1x1x128 .f32)
    (r : Fin 512) (l : Fin 128) :
    csum (F := Ideal) xn wf bf z (ix2 r l)
      = triS (fun k => logf (F := Ideal) xn wf bf (ix2 k l)) r
        + triS (fun k => logf (F := Ideal) xn wf bf (ix2 k l) - logf (F := Ideal) xn wf bf (ix2 k l)) r
        + triS (fun k => logf (F := Ideal) xn wf bf (ix2 k l) - logf (F := Ideal) xn wf bf (ix2 k l) - (logf (F := Ideal) xn wf bf (ix2 k l) - logf (F := Ideal) xn wf bf (ix2 k l))) r
        + z (ix3 0 0 l) := by
  unfold csum triS logf
  pointwise [k0_pay17]
  have hs : ∀ k : Fin 512, ∀ u : EReal, Scalar.select (IntOp.cmpi CmpIPredicate.sge (BitVec.ofNat 32 r.val) (BitVec.ofNat 32 k.val)) u 0
      = if k.val ≤ r.val then u else 0 := fun k u => by
    rw [sge_ofNat r.val k.val (by omega) (by omega), select_ofBool]
  have e0 : ¬ (256 + l.val < 128) := by omega
  have e1 : ¬ (256 + l.val - 128 < 128) := by omega
  have e2 : (⟨256 + l.val - 128 - 128, by omega⟩ : Fin 128) = l := Fin.ext (by show 256 + l.val - 128 - 128 = l.val; omega)
  simp only [hs, dif_neg e0, dif_neg e1, e2]

/-- The carried sum is the last row. -/
theorem pay18_at (a : IVec S1x128 1) (p q : FVec Ideal S512x128 .f32) (z : Vec Ideal S1x1x128 .f32) (l : Fin 128) :
    k0_pay18 (F := Ideal) a p q z (ix3 0 0 l) = k0_pay17 (F := Ideal) a p q z (ix2 511 l) := by
  pointwise [k0_pay18]

/-- The running sum to base two. -/
theorem pay19_at (c : FVec Ideal S512x128 .f32) (r : Fin 512) (l : Fin 128) :
    k0_pay19 (F := Ideal) c (ix2 r l) = c (ix2 r l) * Ideal.ofBits .f32 0x3FB8AA3B#32 := by
  pointwise [k0_pay19]

/-- The scaled queries. -/
theorem pay20_at (a : FVec Ideal S512x512 .f32) (r j : Fin 512) :
    k0_pay20 (F := Ideal) a (ix2 r j) = a (ix2 r j) * Ideal.ofBits .f32 0x3E38AA3B#32 := by
  pointwise [k0_pay20]

/-- The carried product of the convolution. -/
theorem pay174_at (xn : FVec Ideal S512x1024 .bf16) (w u : Vec Ideal S1024x512 .bf16) (r j : Fin 512) :
    k0_pay174 (F := Ideal) xn w u (ix3 0 r j) = prod xn w r j * prod xn u r j := by
  unfold prod
  pointwise [k0_pay174]

/-- The gated convolution. -/
theorem pay175_at (xn : FVec Ideal S512x1024 .bf16) (w : Vec Ideal S1024x512 .bf16) (cw : Vec Ideal S3x512 .f32)
    (a b d : Vec Ideal S1x512x512 .f32) (r j : Fin 512) :
    k0_pay175 (F := Ideal) xn w cw a b d (ix3 0 r j) = prod xn w r j
      * (cw (ix2 2 j) * a (ix3 0 r j) + cw (ix2 1 j) * b (ix3 0 r j) + cw (ix2 0 j) * d (ix3 0 r j)) := by
  unfold prod
  pointwise [k0_pay175]

/-- A copy of two rows. -/
theorem pay1_at (v : Vec Ideal S1x2x512 .f32) (r : Fin 2) (c : Fin 512) :
    k0_pay1 (F := Ideal) v (ix3 0 r c) = v (ix3 0 r c) := by
  pointwise [k0_pay1]

/-- A copy of two rows. -/
theorem pay2_at (v : Vec Ideal S1x2x512 .f32) (r : Fin 2) (c : Fin 512) :
    k0_pay2 (F := Ideal) v (ix3 0 r c) = v (ix3 0 r c) := by
  pointwise [k0_pay2]

/-- A copy of the lanes. -/
theorem pay3_at (v : Vec Ideal S1x1x128 .f32) (l : Fin 128) :
    k0_pay3 (F := Ideal) v (ix3 0 0 l) = v (ix3 0 0 l) := by
  pointwise [k0_pay3]

/-! ## The heads -/

/-- One lane's one. -/
theorem unitLane_at (i : ℕ) (hi : i < 128) (l : Fin 128) :
    unitLane (F := Ideal) (BitVec.ofNat 32 i) (ix2 0 l)
      = if l.val = i then 1 else 0 := by
  pointwise [unitLane]
  have e : IntOp.cmpi CmpIPredicate.eq (BitVec.ofNat 32 l.val) (BitVec.ofNat 32 i) = BitVec.ofBool (decide (l.val = i)) := by
    show BitVec.ofBool (decide (BitVec.ofNat 32 l.val = BitVec.ofNat 32 i)) = _
    congr 2
    refine propext ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  rw [e, select_ofBool]

/-- The lanes of a head. -/
theorem headOf_at (a : FVec Ideal S512x512 .f32) (h : Fin 8) (r : Fin 512) (l : Fin 64) :
    headOf (F := Ideal) a h (ix2 r ⟨l, by omega⟩) = a (ix2 r ⟨64 * h + l, by omega⟩) := by
  unfold headOf
  split
  · rename_i hh
    pointwise
    refine congrArg a (ext2 _ _ rfl (Fin.ext ?_))
    show 128 * (h.val % 8 / 2) + (l.val + 128 - 64) % 128 = 64 * h.val + l.val
    omega
  · rename_i hh
    pointwise
    refine congrArg a (ext2 _ _ rfl (Fin.ext ?_))
    show 128 * (h.val % 8 / 2) + l.val = 64 * h.val + l.val
    omega

/-- A column, in every lane. -/
theorem colOf_at (c : FVec Ideal S512x128 .f32) (h : Fin 8) (r : Fin 512) (l : Fin 128) :
    colOf (F := Ideal) c h (ix2 r l) = c (ix2 r ⟨h, by omega⟩) := by
  pointwise [colOf]
  exact congrArg c (ext2 _ _ rfl (Fin.ext (Nat.mod_eq_of_lt h.isLt)))

/-- A head's lanes, then the further ones. -/
theorem packHead_at (p e : FVec Ideal S512x128 .f32) (r : Fin 512) (l : Fin 128) :
    packHead (F := Ideal) p e (ix4 0 0 r l) = if l.val < 64 then p (ix2 r l) else e (ix2 r l) := by
  pointwise [packHead, headLanes]
  rw [show (64#32 : BitVec 32) = BitVec.ofNat 32 64 from rfl, slt_ofNat l.val 64 (by omega) (by omega), select_ofBool]

/-- The further lanes of a query row. -/
def qx (c : EReal) (l : ℕ) : EReal :=
  if l = 64 then c else if l = 65 then c - c else if l = 66 then c - c - (c - c)
  else if l = 67 then 1 else if l = 68 then 1 else if l = 69 then 1 else 0

/-- The further lanes of a key row. -/
def kx (c : EReal) (l : ℕ) : EReal :=
  if l = 64 then 1 else if l = 65 then 1 else if l = 66 then 1
  else if l = 67 then -c else if l = 68 then -(c - c) else if l = 69 then -(c - c - (c - c)) else 0

/-- The further lanes of a value row. -/
def vx (l : ℕ) : EReal := if l = 64 then 1 else 0

/-- A row of a head: its own lanes, then the further ones. -/
def hrow (a : Fin 512 → EReal) (e : ℕ → EReal) (h : Fin 8) (l : Fin 128) : EReal :=
  if hl : l.val < 64 then a ⟨64 * h + l, by omega⟩ else e l

/-- An array of heads, by its lanes. -/
theorem packHead_row (a : FVec Ideal S512x512 .f32) (e : FVec Ideal S512x128 .f32) (x : ℕ → EReal) (h : Fin 8) (r : Fin 512) (l : Fin 128)
    (he : 64 ≤ l.val → e (ix2 r l) = x l) :
    packHead (F := Ideal) (headOf a h) e (ix4 0 0 r l) = hrow (fun j => a (ix2 r j)) x h l := by
  rw [packHead_at]
  unfold hrow
  split
  · rename_i hl
    exact headOf_at a h r ⟨l, hl⟩
  · exact he (by omega)

/-- The rows of a head of the queries. -/
theorem qHead_at (a : FVec Ideal S512x512 .f32) (c : FVec Ideal S512x128 .f32) (h : Fin 8) (r : Fin 512) (l : Fin 128) :
    qHead (F := Ideal) a c h (ix4 0 0 r l) = hrow (fun j => a (ix2 r j)) (qx (c (ix2 r ⟨h, by omega⟩))) h l := by
  refine packHead_row a _ _ h r l fun hl => ?_
  have hc := colOf_at c h r l
  have hu := fun i hi => unitLane_at i hi l
  have h4 := hu 64 (by omega)
  have h5 := hu 65 (by omega)
  have h6 := hu 66 (by omega)
  have h7 := hu 67 (by omega)
  have h8 := hu 68 (by omega)
  have h9 := hu 69 (by omega)
  pointwise [allRows, hi3, mid3, lo3]
  simp only [hc, h4, h5, h6, h7, h8, h9]
  unfold qx
  generalize l.val = n
  by_cases e4 : n = 64 <;> [subst e4; by_cases e5 : n = 65 <;> [subst e5; by_cases e6 : n = 66 <;> [subst e6;
    by_cases e7 : n = 67 <;> [subst e7; by_cases e8 : n = 68 <;> [subst e8; by_cases e9 : n = 69 <;> [subst e9; skip]]]]]] <;> simp [*]

/-- The rows of a head of the keys. -/
theorem kHead_at (a : FVec Ideal S512x512 .f32) (c : FVec Ideal S512x128 .f32) (h : Fin 8) (r : Fin 512) (l : Fin 128) :
    kHead (F := Ideal) a c h (ix4 0 0 r l) = hrow (fun j => a (ix2 r j)) (kx (c (ix2 r ⟨h, by omega⟩))) h l := by
  refine packHead_row a _ _ h r l fun hl => ?_
  have hc := colOf_at c h r l
  have hu := fun i hi => unitLane_at i hi l
  have h4 := hu 64 (by omega)
  have h5 := hu 65 (by omega)
  have h6 := hu 66 (by omega)
  have h7 := hu 67 (by omega)
  have h8 := hu 68 (by omega)
  have h9 := hu 69 (by omega)
  pointwise [allRows, hi3, mid3, lo3]
  simp only [hc, h4, h5, h6, h7, h8, h9]
  unfold kx
  generalize l.val = n
  by_cases e4 : n = 64 <;> [subst e4; by_cases e5 : n = 65 <;> [subst e5; by_cases e6 : n = 66 <;> [subst e6;
    by_cases e7 : n = 67 <;> [subst e7; by_cases e8 : n = 68 <;> [subst e8; by_cases e9 : n = 69 <;> [subst e9; skip]]]]]] <;> simp [*]

/-- The rows of a head of the values. -/
theorem vHead_at (a : FVec Ideal S512x512 .f32) (h : Fin 8) (r : Fin 512) (l : Fin 128) :
    vHead (F := Ideal) a h (ix4 0 0 r l) = hrow (fun j => a (ix2 r j)) vx h l := by
  refine packHead_row a _ _ h r l fun hl => ?_
  have h4 := unitLane_at 64 (by omega) l
  pointwise [allRows]
  exact h4

end Cert.InIdeal.Body
-- ==== Proof.InMath.lean ====
module

public import proofs.«01_k».proof.Proof.InPay

/-! The first half of the layer at an entry: the specification, and the algebra that brings a tile to it. -/

set_option maxRecDepth 16384
set_option backward.proofsInPublic true

@[expose] public section
noncomputable section

namespace Cert.EvenIn
open Idealize.ShloMosaic Cert.InIdeal Cert.InIdeal.Gen Cert.InIdeal.Body

/-! ## Numbers -/

/-- The word of 1/64. -/
theorem bits_inv64 : Ideal.ofBits .f32 0x3C800000#32 = ((1 / 64 : ℝ) : EReal) := by
  simp [Ideal.ofBits, Ideal.ieee]
  rw [← EReal.coe_mul]
  norm_num

/-- The word of 64. -/
theorem bits_64 : Ideal.ofBits .f32 0x42800000#32 = ((64 : ℝ) : EReal) := by
  simp [Ideal.ofBits, Ideal.ieee]
  rw [← EReal.coe_mul]
  norm_num

/-- Division by 64 is multiplication by 1/64. -/
theorem div64 (x : EReal) : Ideal.div x (Ideal.ofBits .f32 0x42800000#32) = x * Ideal.ofBits .f32 0x3C800000#32 := by
  rw [bits_64, bits_inv64]
  unfold Ideal.div
  rw [if_neg (by exact_mod_cast (by norm_num : (64 : ℝ) ≠ 0)), ← EReal.coe_inv]
  norm_num

/-- A square is at least zero. -/
theorem sq_nonneg' (x : EReal) : 0 ≤ x * x := by
  induction x using EReal.rec with
  | bot => simp
  | top => simp
  | coe r => exact_mod_cast mul_self_nonneg r

/-- A sum of values at least zero, times a factor. -/
theorem sum_mul' {ι : Type*} (s : Finset ι) (f : ι → EReal) (c : EReal) (hf : ∀ i ∈ s, 0 ≤ f i) :
    ∑ i ∈ s, f i * c = (∑ i ∈ s, f i) * c := by
  classical
  induction s using Finset.induction with
  | empty => simp
  | insert a s ha ih =>
    rw [Finset.sum_insert ha, Finset.sum_insert ha, ih fun i hi => hf i (Finset.mem_insert_of_mem hi)]
    exact (EReal.right_distrib_of_nonneg (hf a (Finset.mem_insert_self a s))
      (Finset.sum_nonneg fun i hi => hf i (Finset.mem_insert_of_mem hi))).symm

/-- Lane `l` of the head of lane `j`. -/
def lane (j : Fin 512) (l : Fin 64) : Fin 512 := ⟨64 * (j / 64) + l, by omega⟩

/-- The sum over the lanes of one head, out of all lanes. -/
theorem sum_head (q : Fin 512 → EReal) (j : Fin 512) :
    ∑ k : Fin 512, (if k.val / 64 = j.val / 64 then q k else 0) = ∑ l : Fin 64, q (lane j l) := by
  rw [← Finset.sum_filter]
  refine Finset.sum_bij' (fun k _ => (⟨k.val % 64, Nat.mod_lt _ (by decide)⟩ : Fin 64)) (fun l _ => lane j l) ?_ ?_ ?_ ?_ ?_
  · intro k _; exact Finset.mem_univ _
  · intro l _
    refine Finset.mem_filter.2 ⟨Finset.mem_univ _, ?_⟩
    show (64 * (j.val / 64) + l.val) / 64 = j.val / 64
    omega
  · intro k hk
    have h := (Finset.mem_filter.1 hk).2
    refine Fin.ext ?_
    show 64 * (j.val / 64) + k.val % 64 = k.val
    omega
  · intro l _
    refine Fin.ext ?_
    show (64 * (j.val / 64) + l.val) % 64 = l.val
    omega
  · intro k hk
    have h := (Finset.mem_filter.1 hk).2
    refine congrArg q (Fin.ext ?_)
    show k.val = 64 * (j.val / 64) + k.val % 64
    omega

/-- A row normalised by heads: each entry over the root of its head's mean square, times the gain. -/
def hnorm (p : Fin 512 → EReal) (g : Fin 64 → EReal) (j : Fin 512) : EReal :=
  p j * Ideal.rsqrt (Ideal.div (∑ l : Fin 64, p (lane j l) * p (lane j l)) (Ideal.ofBits .f32 0x42800000#32)
    + Ideal.ofBits .f32 0x358637BD#32) * g ⟨j.val % 64, Nat.mod_lt _ (by decide)⟩

/-- The tile's normalisation is that one, when the matrix averages each head. -/
theorem nrm_eq (p : Fin 512 → EReal) (hm : Vec Ideal S512x512 .bf16) (g : Vec Ideal S1x512 .f32) (g' : Fin 64 → EReal)
    (hhm : ∀ k j : Fin 512, hm (ix2 k j) = if k.val / 64 = j.val / 64 then Ideal.ofBits .f32 0x3C800000#32 else 0)
    (hg : ∀ j : Fin 512, g (ix2 0 j) = g' ⟨j.val % 64, Nat.mod_lt _ (by decide)⟩) (j : Fin 512) :
    nrm p hm g j = hnorm p g' j := by
  unfold nrm hnorm
  rw [hg, div64, ← sum_mul' Finset.univ _ _ fun i _ => sq_nonneg' _, ← sum_head (fun k => p k * p k * Ideal.ofBits .f32 0x3C800000#32) j]
  refine congrArg (fun s : EReal => p j * Ideal.rsqrt (s + Ideal.ofBits .f32 0x358637BD#32) * g' _) ?_
  refine Finset.sum_congr rfl fun k _ => ?_
  rw [hhm]
  split
  · rfl
  · exact mul_zero _

/-- The exponential is at least zero. -/
theorem exp_nonneg (x : EReal) : 0 ≤ Ideal.exp x := by
  induction x using EReal.rec with
  | bot => exact le_refl _
  | top => exact le_top
  | coe r =>
    show (0 : EReal) ≤ ((Real.exp r : ℝ) : EReal)
    exact_mod_cast (Real.exp_pos r).le

/-- The logarithm is not `⊥` from 1 on. -/
theorem log_ne_bot (x : EReal) (h : 1 ≤ x) : Ideal.log x ≠ ⊥ := by
  induction x using EReal.rec with
  | bot => exact absurd (le_bot_iff.1 h) (EReal.coe_ne_bot 1)
  | top => exact top_ne_bot
  | coe r =>
    have hr : (1 : ℝ) ≤ r := by exact_mod_cast h
    show (if r ≤ 0 then (⊥ : EReal) else (Real.log r : EReal)) ≠ ⊥
    rw [if_neg (by linarith)]
    exact EReal.coe_ne_bot _

/-- The logarithm of a logistic is never `⊤`. -/
theorem logsig_ne_top (z : EReal) : logsig z ≠ ⊤ := by
  unfold logsig
  rw [zero_sub]
  intro h
  have h' := EReal.neg_eq_top_iff.1 h
  rcases EReal.add_eq_bot_iff.1 h' with h1 | h1
  · exact absurd (h1 ▸ le_max_right (0 - z) 0 : (0 : EReal) ≤ ⊥) (by simp)
  · refine log_ne_bot _ ?_ h1
    have := exp_nonneg (0 - max z (-z))
    calc (1 : EReal) = 1 + 0 := (add_zero _).symm
      _ ≤ _ := add_le_add le_rfl this

/-- A sum with a `⊥` in it. -/
theorem sum_bot {ι : Type*} (s : Finset ι) (f : ι → EReal) (i : ι) (hi : i ∈ s) (h : f i = ⊥) : ∑ k ∈ s, f k = ⊥ := by
  classical
  rw [← Finset.add_sum_erase s f hi, h, EReal.bot_add]

/-- The three summands of a running sum add up to the running sum of the values. -/
theorem tri_eq (x : Fin 512 → EReal) (hx : ∀ k, x k ≠ ⊤) (r : Fin 512) (z : EReal) :
    triS x r + triS (fun k => x k - x k) r + triS (fun k => x k - x k - (x k - x k)) r + z = triS x r + z := by
  by_cases h : ∃ k : Fin 512, k.val ≤ r.val ∧ x k = ⊥
  · obtain ⟨k, hk, hb⟩ := h
    have e : triS x r = ⊥ := sum_bot _ _ k (Finset.mem_univ k) (by rw [if_pos hk]; exact hb)
    rw [e, EReal.bot_add, EReal.bot_add]
  · have h0 : ∀ k : Fin 512, k.val ≤ r.val → x k - x k = 0 := fun k hk => by
      have hb : x k ≠ ⊥ := fun hb => h ⟨k, hk, hb⟩
      exact EReal.sub_self (hx k) hb
    have e1 : triS (fun k => x k - x k) r = 0 := Finset.sum_eq_zero fun k _ => by
      split
      · exact h0 k ‹_›
      · rfl
    have e2 : triS (fun k => x k - x k - (x k - x k)) r = 0 := Finset.sum_eq_zero fun k _ => by
      split
      · show x k - x k - (x k - x k) = 0
        rw [h0 k ‹_›]; exact sub_zero _
      · rfl
    rw [e1, e2, add_zero, add_zero]

/-- A sum up to a row, over the naturals. -/
theorem triS_range (f : ℕ → EReal) (r : Fin 512) : triS (fun k => f k.val) r = ∑ s ∈ Finset.range (r.val + 1), f s := by
  unfold triS
  rw [Fin.sum_univ_eq_sum_range (fun i => if i ≤ r.val then f i else 0) 512, ← Finset.sum_filter]
  refine Finset.sum_congr (Finset.ext fun s => ?_) fun _ _ => rfl
  rw [Finset.mem_filter, Finset.mem_range, Finset.mem_range]
  omega

/-! ## The specification -/

/-- The arguments: the residual stream, the convolution's history, and the weights. -/
structure Arrs where
  X : S2x16384x1024.Idx → EReal
  Hi : S2x2x512.Idx → EReal
  G : S1024.Idx → EReal
  W : S1024x3080.Idx → EReal
  Bf : S8.Idx → EReal
  Gq : S64.Idx → EReal
  Gk : S64.Idx → EReal
  Cw : S3x512.Idx → EReal

/-- A head's lane among 128. -/
abbrev hl (h : Fin 8) : Fin 128 := ⟨h.val, Nat.lt_of_lt_of_le h.isLt (by decide)⟩

/-- A head's column of the forget gate in the projection. -/
abbrev fcol (h : Fin 8) : Fin 3080 := ⟨1536 + h.val, Nat.lt_of_lt_of_le (Nat.add_lt_add_left h.isLt 1536) (by decide)⟩

/-- Position `t` of the sequence. -/
def pos (t : ℕ) : Fin 16384 := ⟨t % 16384, Nat.mod_lt _ (by decide)⟩

/-- Column `j` of block `k` of the projection, the forget gate's eight columns left out. -/
def mc (k : ℕ) (j : Fin 512) : Fin 3080 := ⟨512 * (k % 6) + j + (if k % 6 < 3 then 0 else 8), by split <;> omega⟩

variable (A : Arrs) (b : Fin 2)

/-- The residual over the root of its mean square, times the gain. -/
def gxn (t : ℕ) (d : Fin 1024) : EReal :=
  A.X (ix3 b (pos t) d) * Ideal.rsqrt (Ideal.div (∑ k : Fin 1024, A.X (ix3 b (pos t) k) * A.X (ix3 b (pos t) k)) (Ideal.ofBits .f32 0x44800000#32)
    + Ideal.ofBits .f32 0x358637BD#32) * A.G (ix1 d)

/-- The projection. -/
def pr (t : ℕ) (c : Fin 3080) : EReal := ∑ k : Fin 1024, gxn A b t k * A.W (ix2 k c)

/-- A block of it. -/
def pm (k t : ℕ) (j : Fin 512) : EReal := pr A b t (mc k j)

/-- The logarithm of the forget gate. -/
def lf (t : ℕ) (h : Fin 8) : EReal := logsig (pr A b t (fcol h) + A.Bf (ix1 h))

/-- Its sum over the first `n` positions. -/
def cs (n : ℕ) (h : Fin 8) : EReal := ∑ s ∈ Finset.range n, lf A b s h

/-- The running sum to base two. -/
def cc (t : ℕ) (h : Fin 8) : EReal := cs A b (t + 1) h * Ideal.ofBits .f32 0x3FB8AA3B#32

/-- The gains of the queries and keys. -/
def gainq (l : Fin 64) : EReal := A.Gq (ix1 l)
def gaink (l : Fin 64) : EReal := A.Gk (ix1 l)

/-- A row of the queries. -/
def oq (t : ℕ) (h : Fin 8) (l : Fin 128) : EReal :=
  hrow (fun j => hnorm (pm A b 0 t) (gainq A) j * Ideal.ofBits .f32 0x3E38AA3B#32) (qx (cc A b t h)) h l

/-- A row of the keys. -/
def ok (t : ℕ) (h : Fin 8) (l : Fin 128) : EReal := hrow (hnorm (pm A b 1 t) (gaink A)) (kx (cc A b t h)) h l

/-- A row of the values. -/
def ov (t : ℕ) (h : Fin 8) (l : Fin 128) : EReal := hrow (pm A b 2 t) vx h l

/-- The convolution's input: two rows of history, then the product of the two halves. -/
def xp (n : ℕ) (c : Fin 512) : EReal :=
  if h : n < 2 then A.Hi (ix3 b ⟨n, h⟩ c) else pm A b 4 (n - 2) c * pm A b 5 (n - 2) c

/-- The gated convolution. -/
def gob (t : ℕ) (c : Fin 512) : EReal :=
  pm A b 3 t c * (A.Cw (ix2 2 c) * xp A b (t + 2) c + A.Cw (ix2 1 c) * xp A b (t + 1) c + A.Cw (ix2 0 c) * xp A b t c)

/-! ## One tile -/

variable (j : Fin 32) (x : Vec Ideal S1x512x1024 .f32) (g : Vec Ideal S1x1024 .f32) (w : ℕ → Vec Ideal S1024x512 .bf16)
  (wf : Vec Ideal S1024x128 .bf16) (bf : Vec Ideal S1x128 .f32) (gq gk : Vec Ideal S1x512 .f32) (hm : Vec Ideal S512x512 .bf16)
  (hx : ∀ (r : Fin 512) (d : Fin 1024), x (ix3 0 r d) = A.X (ix3 b (pos (512 * j + r)) d))
  (hg : ∀ d : Fin 1024, g (ix2 0 d) = A.G (ix1 d))
  (hw : ∀ (k : ℕ) (i : Fin 1024) (q : Fin 512), w k (ix2 i q) = A.W (ix2 i (mc k q)))
  (hwf : ∀ (i : Fin 1024) (h : Fin 8), wf (ix2 i (hl h)) = A.W (ix2 i (fcol h)))
  (hbf : ∀ h : Fin 8, bf (ix2 0 (hl h)) = A.Bf (ix1 h))
  (hgq : ∀ j : Fin 512, gq (ix2 0 j) = gainq A ⟨j.val % 64, Nat.mod_lt _ (by decide)⟩)
  (hgk : ∀ j : Fin 512, gk (ix2 0 j) = gaink A ⟨j.val % 64, Nat.mod_lt _ (by decide)⟩)
  (hhm : ∀ k j : Fin 512, hm (ix2 k j) = if k.val / 64 = j.val / 64 then Ideal.ofBits .f32 0x3C800000#32 else 0)

include hx hg in
/-- A tile's normalised residual is the whole sequence's. -/
theorem tile_xn (r : Fin 512) (d : Fin 1024) : k0_pay4 (F := Ideal) x g (ix2 r d) = gxn A b (512 * j + r) d := by
  rw [pay4_at, hg]
  simp only [hx]
  rfl

include hx hg hw in
/-- A tile's projection is the whole sequence's. -/
theorem tile_pm (k : ℕ) (r q : Fin 512) : Body.prod (k0_pay4 (F := Ideal) x g) (w k) r q = pm A b k (512 * j + r) q := by
  have e := tile_xn A b j x g hx hg r
  unfold Body.prod
  simp only [e, hw]
  rfl

include hx hg hw hgq hhm in
/-- A tile's normalised queries. -/
theorem tile_q (r q : Fin 512) :
    k0_pay6 (F := Ideal) x g hm (w 0) gq (ix2 r q) = hnorm (pm A b 0 (512 * j + r)) (gainq A) q := by
  rw [pay6_at, nrm_eq _ hm gq (gainq A) hhm hgq]
  exact congrArg (fun p => hnorm p (gainq A) q) (funext fun q => tile_pm A b j x g w hx hg hw 0 r q)

include hx hg hw hgk hhm in
/-- A tile's normalised keys. -/
theorem tile_k (r q : Fin 512) :
    nrm (Body.prod (k0_pay4 (F := Ideal) x g) (w 1) r) hm gk q = hnorm (pm A b 1 (512 * j + r)) (gaink A) q := by
  rw [nrm_eq _ hm gk (gaink A) hhm hgk]
  exact congrArg (fun p => hnorm p (gaink A) q) (funext fun q => tile_pm A b j x g w hx hg hw 1 r q)

include hx hg hwf hbf in
/-- A tile's forget gates. -/
theorem tile_lf (r : Fin 512) (h : Fin 8) :
    logsig (gate (k0_pay4 (F := Ideal) x g) wf bf r (hl h)) = lf A b (512 * j + r) h := by
  have e := tile_xn A b j x g hx hg r
  unfold gate
  rw [hbf]
  simp only [e, hwf]
  rfl

include hx hg hwf hbf in
/-- A tile's running sum continues the carried one. -/
theorem tile_cs (z : Vec Ideal S1x1x128 .f32) (hz : ∀ h : Fin 8, z (ix3 0 0 (hl h)) = cs A b (512 * j) h) (r : Fin 512) (h : Fin 8) :
    csum (F := Ideal) (k0_pay4 (F := Ideal) x g) wf bf z (ix2 r (hl h)) = cs A b (512 * j + r + 1) h := by
  have e : ∀ k : Fin 512, logf (F := Ideal) (k0_pay4 (F := Ideal) x g) wf bf (ix2 k (hl h)) = lf A b (512 * j + k) h := fun k =>
    (logf_at _ wf bf k (hl h) h.isLt).trans (tile_lf A b j x g wf bf hx hg hwf hbf k h)
  rw [csum_at]
  simp only [e]
  rw [tri_eq (fun k => lf A b (512 * j + k) h) (fun k => logsig_ne_top _) r, hz, triS_range (fun k => lf A b (512 * j + k) h) r]
  unfold cs
  rw [add_assoc (512 * j.val) r.val 1, Finset.sum_range_add _ (512 * j.val) (r.val + 1), add_comm]

include hx hg hwf hbf in
/-- A tile's running sum to base two. -/
theorem tile_cc (z : Vec Ideal S1x1x128 .f32) (hz : ∀ h : Fin 8, z (ix3 0 0 (hl h)) = cs A b (512 * j) h) (r : Fin 512) (h : Fin 8) :
    k0_pay19 (F := Ideal) (csum (F := Ideal) (k0_pay4 (F := Ideal) x g) wf bf z) (ix2 r (hl h)) = cc A b (512 * j + r) h := by
  rw [pay19_at, tile_cs A b j x g wf bf hx hg hwf hbf z hz]
  rfl

include hx hg hwf hbf in
/-- The sum a tile hands to the next one. -/
theorem tile_z (z : Vec Ideal S1x1x128 .f32) (hz : ∀ h : Fin 8, z (ix3 0 0 (hl h)) = cs A b (512 * j) h) (h : Fin 8) :
    k0_pay18 (F := Ideal) (k0_pay12) (k0_pay13 (F := Ideal) (k0_pay4 (F := Ideal) x g) wf bf) (k0_pay14 (F := Ideal) (k0_pay4 (F := Ideal) x g) wf bf) z (ix3 0 0 (hl h))
      = cs A b (512 * (j + 1)) h := by
  rw [pay18_at]
  refine (tile_cs A b j x g wf bf hx hg hwf hbf z hz 511 h).trans ?_
  exact congrArg (fun n => cs A b n h) (by show 512 * j.val + 511 + 1 = 512 * (j.val + 1); omega)

include hx hg hw hgq hhm hwf hbf in
/-- A tile's rows of the queries. -/
theorem tile_oq (z : Vec Ideal S1x1x128 .f32) (hz : ∀ h : Fin 8, z (ix3 0 0 (hl h)) = cs A b (512 * j) h) (h : Fin 8) (r : Fin 512) (l : Fin 128) :
    qHead (F := Ideal) (k0_pay20 (F := Ideal) (k0_pay6 (F := Ideal) x g hm (w 0) gq)) (k0_pay19 (F := Ideal) (csum (F := Ideal) (k0_pay4 (F := Ideal) x g) wf bf z)) h (ix4 0 0 r l)
      = oq A b (512 * j + r) h l := by
  rw [qHead_at, tile_cc A b j x g wf bf hx hg hwf hbf z hz]
  refine congrArg (fun f => hrow f (qx (cc A b (512 * j + r) h)) h l) (funext fun q => ?_)
  rw [pay20_at, tile_q A b j x g w gq hm hx hg hw hgq hhm]

include hx hg hw hgk hhm hwf hbf in
/-- A tile's rows of the keys. -/
theorem tile_ok (z : Vec Ideal S1x1x128 .f32) (hz : ∀ h : Fin 8, z (ix3 0 0 (hl h)) = cs A b (512 * j) h) (h : Fin 8) (r : Fin 512) (l : Fin 128) :
    kHead (F := Ideal) (k0_pay7 (F := Ideal) (k0_pay4 (F := Ideal) x g) (k0_pay5 (F := Ideal) hm) (w 1) gk) (k0_pay19 (F := Ideal) (csum (F := Ideal) (k0_pay4 (F := Ideal) x g) wf bf z)) h (ix4 0 0 r l)
      = ok A b (512 * j + r) h l := by
  rw [kHead_at, tile_cc A b j x g wf bf hx hg hwf hbf z hz]
  refine congrArg (fun f => hrow f (kx (cc A b (512 * j + r) h)) h l) (funext fun q => ?_)
  rw [pay7_at, tile_k A b j x g w gk hm hx hg hw hgk hhm]

include hx hg hw in
/-- A tile's rows of the values. -/
theorem tile_ov (h : Fin 8) (r : Fin 512) (l : Fin 128) :
    vHead (F := Ideal) (k0_pay8 (F := Ideal) (k0_pay4 (F := Ideal) x g) (w 2)) h (ix4 0 0 r l) = ov A b (512 * j + r) h l := by
  rw [vHead_at]
  refine congrArg (fun f => hrow f vx h l) (funext fun q => ?_)
  rw [pay8_at, tile_pm A b j x g w hx hg hw]

/-! ## The carried rows -/

/-- The convolution's input from tile `j` on. -/
def tile (j : ℕ) (n : ℕ) (c : Fin 512) : EReal := xp A b (512 * j + n) c

include hx hg hw in
/-- A tile's product is the convolution's input. -/
theorem tile_up (r c : Fin 512) :
    k0_pay174 (F := Ideal) (k0_pay4 (F := Ideal) x g) (w 4) (w 5) (ix3 0 r c) = tile A b j (r + 2) c := by
  rw [pay174_at, tile_pm A b j x g w hx hg hw, tile_pm A b j x g w hx hg hw]
  unfold tile xp
  rw [dif_neg (by omega)]
  rfl

/-- What the carried buffer holds from row 6 on, when row `n + 6` holds row `n` of `P`. -/
def rows (P : ℕ → Fin 512 → EReal) (y : S1x520x512.Idx) : EReal := P ((y 1).val - 6) (y 2)

variable (v : View sig .tc .vmem S1x520x512 .f32) (old : v.ty.Contents (Elt Ideal)) (u : FVec Ideal S1x512x512 .f32)
  (base : List (View.Piece (Elt Ideal) S1x520x512 .f32)) (P : ℕ → Fin 512 → EReal)

/-- Rows 6 and 7 of the carried buffer hold rows 0 and 1 of `P`: by the first pieces written, or by what the buffer held. -/
def Carried : Prop := ∀ y : S1x520x512.Idx, 6 ≤ (y 1).val → (y 1).val < 8 →
  (∃ p ∈ base, y ∈ p.1.set) ∨ ((∀ p ∈ base, y ∉ p.1.set) ∧ v.read (Elt Ideal) old y = rows P y)

variable (hb : ∀ p ∈ base, ∀ x : p.1.shape.Idx, p.2 x = rows P (p.1.emb x))
  (hu : ∀ r c : Fin 512, u (ix3 0 r c) = P (r + 2) c)

/-- The rows of a tile, written from row 8 on. -/
def pc : View.Piece (Elt Ideal) S1x520x512 .f32 :=
  ⟨Rect.unit (s := S1x520x512) ![0, 8, 0] S1x512x512.size inb_S1x520x512_S1x512x512_0_8_0, u⟩

include hu in
/-- The tile's rows, at an index. -/
theorem payload (x : S1x512x512.Idx) : u x = rows P ((pc u).1.emb x) := by
  have hx : x = ix3 0 (x 1) (x 2) := Cert.Attn.ext3 _ _ (Fin.ext (by have := (x 0).isLt; exact Nat.lt_one_iff.1 this)) rfl rfl
  refine (congrArg u hx).trans ((hu (x 1) (x 2)).trans ?_)
  refine congrArg₂ P ?_ (Fin.ext ?_)
  · show (x 1).val + 2 = 8 + 1 * (x 1).val - 6; omega
  · show (x 2).val = 0 + 1 * (x 2).val; omega

include hb hu in
/-- Rows 6 and 7 read rows 0 and 1 of `P`. -/
theorem read_old (h : Carried v old base P) (y : S1x520x512.Idx) (h6 : 6 ≤ (y 1).val) (h8 : (y 1).val < 8) :
    v.read (Elt Ideal) (v.writes (Elt Ideal) old (pc u :: base)) y = rows P y := by
  have hn : y ∉ (pc u).1.set := Rect.not_mem_set_of_axis _ y 1 8 512 rfl rfl rfl (Or.inl h8)
  have ha : ∀ p ∈ pc u :: base, ∀ x : p.1.shape.Idx, p.2 x = rows P (p.1.emb x) := fun p hp => by
    rcases List.mem_cons.1 hp with rfl | hp
    · exact payload u P hu
    · exact hb p hp
  rcases h y h6 h8 with ⟨p, hp, hy⟩ | ⟨h1, h2⟩
  · exact View.read_writes_apply_of_pieces v old (rows P) _ ha y ⟨p, List.mem_cons_of_mem _ hp, hy⟩
  · refine (View.read_writes_apply_of_forall_not_mem v old y _ fun p hp => ?_).trans h2
    rcases List.mem_cons.1 hp with rfl | hp
    · exact hn
    · exact h1 p hp

include hu in
/-- Rows from the eighth on read the tile's. -/
theorem read_new (y : S1x520x512.Idx) (h8 : 8 ≤ (y 1).val) :
    v.read (Elt Ideal) (v.writes (Elt Ideal) old (pc u :: base)) y = rows P y := by
  have h1 : (y 1).val < 520 := (y 1).isLt
  have e : y = (pc u).1.emb (ix3 (0 : Fin 1) (⟨(y 1).val - 8, by omega⟩ : Fin 512) (y 2 : Fin 512)) :=
    Cert.Attn.ext3 _ _ (Fin.ext (by have := (y 0).isLt; exact Nat.lt_one_iff.1 this))
      (Fin.ext (by show (y 1).val = 8 + 1 * ((y 1).val - 8); omega))
      (Fin.ext (by show (y 2).val = 0 + 1 * (y 2).val; omega))
  rw [e]
  exact (View.read_writes_cons_emb v old _ _ _ _).trans (payload u P hu _)

include hu in
/-- A load from row 8 on. -/
theorem load8 (r c : Fin 512) :
    v.readCov (Val := Elt Ideal) (pc u :: base) (Rect.unit (s := S1x520x512) ![0, 8, 0] S1x512x512.size inb_S1x520x512_S1x512x512_0_8_0).toLoadRect (ix3 0 r c)
      = P (r + 2) c := by
  refine (read_new v _ u base P hu _ ?_).trans (congrArg₂ P ?_ (Fin.ext ?_))
  · show 8 ≤ 8 + 1 * r.val; omega
  · show 8 + 1 * r.val - 6 = r.val + 2; omega
  · show 0 + 1 * c.val = c.val; omega

include hb hu in
/-- A load from row 7 on. -/
theorem load7 (h : Carried v old base P) (r c : Fin 512) :
    v.readAt (Elt Ideal) (Rect.unit (s := S1x520x512) ![0, 7, 0] S1x512x512.size inb_S1x520x512_S1x512x512_0_7_0).toLoadRect (v.writes (Elt Ideal) old (pc u :: base)) (ix3 0 r c)
      = P (r + 1) c := by
  have e1 : ((Rect.unit (s := S1x520x512) ![0, 7, 0] S1x512x512.size inb_S1x520x512_S1x512x512_0_7_0).toLoadRect.idx (ix3 0 r c) 1).val = 7 + r := by
    show 7 + 1 * r.val = 7 + r.val; omega
  have e : rows P ((Rect.unit (s := S1x520x512) ![0, 7, 0] S1x512x512.size inb_S1x520x512_S1x512x512_0_7_0).toLoadRect.idx (ix3 0 r c)) = P (r.val + 1) c :=
    congrArg₂ P (by show 7 + 1 * r.val - 6 = r.val + 1; omega) (Fin.ext (by show 0 + 1 * c.val = c.val; omega))
  refine Eq.trans ?_ e
  by_cases hc : 7 + r.val < 8
  · exact read_old v old u base P hb hu h _ (by rw [e1]; omega) (by rw [e1]; exact hc)
  · exact read_new v old u base P hu _ (by rw [e1]; omega)

include hb hu in
/-- A load from row 6 on. -/
theorem load6 (h : Carried v old base P) (r c : Fin 512) :
    v.readAt (Elt Ideal) (Rect.unit (s := S1x520x512) ![0, 6, 0] S1x512x512.size inb_S1x520x512_S1x512x512_0_6_0).toLoadRect (v.writes (Elt Ideal) old (pc u :: base)) (ix3 0 r c)
      = P r c := by
  have e1 : ((Rect.unit (s := S1x520x512) ![0, 6, 0] S1x512x512.size inb_S1x520x512_S1x512x512_0_6_0).toLoadRect.idx (ix3 0 r c) 1).val = 6 + r := by
    show 6 + 1 * r.val = 6 + r.val; omega
  have e : rows P ((Rect.unit (s := S1x520x512) ![0, 6, 0] S1x512x512.size inb_S1x520x512_S1x512x512_0_6_0).toLoadRect.idx (ix3 0 r c)) = P (r.val) c :=
    congrArg₂ P (by show 6 + 1 * r.val - 6 = r.val; omega) (Fin.ext (by show 0 + 1 * c.val = c.val; omega))
  refine Eq.trans ?_ e
  by_cases hc : 6 + r.val < 8
  · exact read_old v old u base P hb hu h _ (by rw [e1]; omega) (by rw [e1]; exact hc)
  · exact read_new v old u base P hu _ (by rw [e1]; omega)

include hu in
/-- The last two rows of the carried buffer are rows 512 and 513 of `P`. -/
theorem tail_at (r : Fin 2) (c : Fin 512) :
    v.readCov (Val := Elt Ideal) (pc u :: base)
        (Rect.unit (s := S1x520x512) ![0, 518, 0] S1x2x512.size inb_S1x520x512_S1x2x512_0_518_0).toLoadRect (ix3 0 r c)
      = P (512 + r) c := by
  refine (read_new v _ u base P hu _ ?_).trans (congrArg₂ P ?_ (Fin.ext ?_))
  · show 8 ≤ 518 + 1 * r.val; omega
  · show 518 + 1 * r.val - 6 = 512 + r.val; omega
  · show 0 + 1 * c.val = c.val; omega

variable (cw : Vec Ideal S3x512 .f32) (hcw : ∀ (a : Fin 3) (q : Fin 512), cw (ix2 a q) = A.Cw (ix2 a q))
  (hbt : ∀ p ∈ base, ∀ x : p.1.shape.Idx, p.2 x = rows (tile A b j) (p.1.emb x))

include hx hg hw hcw hbt in
/-- A tile's gated convolution. -/
theorem tile_ob (h : Carried v old base (tile A b j)) (r c : Fin 512) :
    k0_pay175 (F := Ideal) (k0_pay4 (F := Ideal) x g) (w 3) cw
        (v.readCov (Val := Elt Ideal) (pc (k0_pay174 (F := Ideal) (k0_pay4 (F := Ideal) x g) (w 4) (w 5)) :: base) (Rect.unit (s := S1x520x512) ![0, 8, 0] S1x512x512.size inb_S1x520x512_S1x512x512_0_8_0).toLoadRect)
        (v.readAt (Elt Ideal) (Rect.unit (s := S1x520x512) ![0, 7, 0] S1x512x512.size inb_S1x520x512_S1x512x512_0_7_0).toLoadRect (v.writes (Elt Ideal) old (pc (k0_pay174 (F := Ideal) (k0_pay4 (F := Ideal) x g) (w 4) (w 5)) :: base)))
        (v.readAt (Elt Ideal) (Rect.unit (s := S1x520x512) ![0, 6, 0] S1x512x512.size inb_S1x520x512_S1x512x512_0_6_0).toLoadRect (v.writes (Elt Ideal) old (pc (k0_pay174 (F := Ideal) (k0_pay4 (F := Ideal) x g) (w 4) (w 5)) :: base)))
        (ix3 0 r c)
      = gob A b (512 * j + r) c := by
  have hu := tile_up A b j x g w hx hg hw
  rw [pay175_at, load8 v _ base (tile A b j) hu, load7 v old _ base (tile A b j) hbt hu h, load6 v old _ base (tile A b j) hbt hu h,
    tile_pm A b j x g w hx hg hw, hcw, hcw, hcw]
  rfl

include hx hg hw in
/-- The two rows a tile hands to the next one. -/
theorem tile_tail (r : Fin 2) (c : Fin 512) :
    v.readCov (Val := Elt Ideal) (pc (k0_pay174 (F := Ideal) (k0_pay4 (F := Ideal) x g) (w 4) (w 5)) :: base)
        (Rect.unit (s := S1x520x512) ![0, 518, 0] S1x2x512.size inb_S1x520x512_S1x2x512_0_518_0).toLoadRect (ix3 0 r c)
      = xp A b (512 * (j + 1) + r) c := by
  refine (tail_at v _ base (tile A b j) (tile_up A b j x g w hx hg hw) r c).trans ?_
  unfold tile
  exact congrArg (fun n => xp A b n c) (by omega)

/-! ## The heads' pieces -/

/-- The eight heads' pieces, read back. -/
theorem heads_read (q : View sig .tc .vmem S1x8x512x128 .bf16) (f0 : q.ty.Contents (Elt Ideal)) (f : ℕ → FVec Ideal S1x1x512x128 .bf16)
    (H : S1x8x512x128.Idx → EReal) (hf : ∀ (h : Fin 8) (r : Fin 512) (l : Fin 128), f h (ix4 0 0 r l) = H (ix4 0 h r l)) :
    q.read (Elt Ideal) (q.writes (Elt Ideal) f0 (heads (F := Ideal) f 8)) = H := by
  have ha : ∀ n, n ≤ 8 → ∀ p ∈ heads (F := Ideal) f n, ∀ x : p.1.shape.Idx, p.2 x = H (p.1.emb x) := by
    intro n
    induction n with
    | zero => exact fun _ p hp => absurd hp List.not_mem_nil
    | succ n ih =>
      intro hn p hp
      rcases List.mem_cons.1 hp with rfl | hp
      · intro x
        have x0 : (x 0).val < 1 := (x 0).isLt
        have x1 : (x 1).val < 1 := (x 1).isLt
        have hx : x = ix4 (0 : Fin 1) (0 : Fin 1) (x 2 : Fin 512) (x 3 : Fin 128) :=
          Cert.Attn.ext4 _ _ (Fin.ext (by show (x 0).val = 0; omega)) (Fin.ext (by show (x 1).val = 0; omega)) rfl rfl
        refine (congrArg (f n) hx).trans ((hf ⟨n, by omega⟩ (x 2) (x 3)).trans ?_)
        refine congrArg H (Cert.Attn.ext4 _ _ (Fin.ext ?_) (Fin.ext ?_) (Fin.ext ?_) (Fin.ext ?_))
        · show 0 = 0 + 1 * (x 0).val; omega
        · show n = n % 8 + 1 * (x 1).val; omega
        · show (x 2).val = 0 + 1 * (x 2).val; omega
        · show (x 3).val = 0 + 1 * (x 3).val; omega
      · exact ih (by omega) p hp
  have hm : ∀ k n, k < n → ∃ p ∈ heads (F := Ideal) f n, p.1 = RH k := by
    intro k n
    induction n with
    | zero => exact fun h => absurd h (Nat.not_lt_zero _)
    | succ n ih =>
      intro h
      rcases Nat.lt_succ_iff_lt_or_eq.1 h with h | rfl
      · obtain ⟨p, hp, e⟩ := ih h
        exact ⟨p, List.mem_cons_of_mem _ hp, e⟩
      · exact ⟨_, List.mem_cons_self, rfl⟩
  funext y
  refine View.read_writes_apply_of_pieces (Val := Elt Ideal) q f0 H _ (ha 8 (Nat.le_refl 8)) y ?_
  have y0 : (y 0).val < 1 := (y 0).isLt
  have y1 : (y 1).val < 8 := (y 1).isLt
  obtain ⟨p, hp, hk⟩ := hm (y 1).val 8 y1
  refine ⟨p, hp, ?_⟩
  rw [hk]
  refine (LoadRect.mem_set _).2 fun a => ?_
  match a with
  | ⟨0, _⟩ => exact ⟨0, Nat.zero_lt_one, (by show (y 0).val = 0 + 1 * 0; omega)⟩
  | ⟨1, _⟩ => exact ⟨0, Nat.zero_lt_one, (by show (y 1).val = (y 1).val % 8 + 1 * 0; omega)⟩
  | ⟨2, _⟩ => exact ⟨(y 2).val, (y 2).isLt, (by show (y 2).val = 0 + 1 * (y 2).val; omega)⟩
  | ⟨3, _⟩ => exact ⟨(y 3).val, (y 3).isLt, (by show (y 3).val = 0 + 1 * (y 3).val; omega)⟩

end Cert.EvenIn
-- ==== Proof.InBlocks.lean ====
module

public import proofs.«01_k».proof.Proof.InMath
public import Idealize.ShloMosaic.Lib.Pipeline.ValueKit
public import Idealize.ShloMosaic.Lib.StableHlo.RunRead

/-! The blocks a grid point reads, and where it writes. -/

set_option maxRecDepth 16384
set_option backward.proofsInPublic true

@[expose] public section
noncomputable section

namespace Cert.EvenIn
open Idealize.ShloMosaic Idealize.ShloMosaic.TcCoe Idealize.SL.Sem Idealize.ShloMosaic.Tactic
open Cert.InIdeal Cert.InIdeal.Gen Cert.InIdeal.Body
open Cert.Attn (ext3 ext4 select_ofBool)

/-- Which block of each array grid point `t` works on. -/
theorem idx : ∀ t : Fin cfg0.N,
    win0_0.index t = ![t.val / 32, t.val % 32, 0] ∧ win0_1.index t = ![t.val / 32, 0, 0] ∧ win0_2.index t = ![t.val / 32, 0, 0]
      ∧ win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![t.val / 32, 0, t.val % 32, 0] ∧ win0_12.index t = ![t.val / 32, 0, t.val % 32, 0]
      ∧ win0_13.index t = ![t.val / 32, 0, t.val % 32, 0]
      ∧ win0_14.index t = ![t.val / 32, t.val % 32, 0] ∧ win0_15.index t = ![t.val / 32, t.val % 32, 0]
      ∧ win0_16.index t = ![t.val / 32, t.val % 32, 0] ∧ win0_17.index t = ![t.val / 32, t.val % 32, 0]
      ∧ win0_18.index t = ![t.val / 32, 0, 0] :=
  (by decide +kernel : ∀ t : Fin grid0.N, _)

/-- The number of the grid's points. -/
theorem lt64 (t : Fin cfg0.N) : t.val < 64 := t.isLt.trans_le (le_of_eq N_0)

/-- The prompt of grid point `t`. -/
def gb (t : Fin cfg0.N) : Fin 2 := ⟨t.val / 32, by have := lt64 t; omega⟩
/-- The tile of grid point `t`. -/
def gj (t : Fin cfg0.N) : Fin 32 := ⟨t.val % 32, by omega⟩

variable (m : (ℓ : Loc nD τ sig) → Buf (Elt Ideal) ℓ)

/-- The arguments of the launch. -/
def arrs (c : Dev nD) : Arrs where
  X := m ((c : Thread nD τ).loc main_arg0)
  Hi := m ((c : Thread nD τ).loc main_arg1)
  G := m ((c : Thread nD τ).loc main_arg2)
  W := m ((c : Thread nD τ).loc main_arg3)
  Bf := m ((c : Thread nD τ).loc main_arg4)
  Gq := m ((c : Thread nD τ).loc main_arg5)
  Gk := m ((c : Thread nD τ).loc main_arg6)
  Cw := m ((c : Thread nD τ).loc main_arg7)

/-- The quotient by 64, as the host computes it. -/
def quot : (⟨S512, .i32⟩ : BufTy).Contents (Elt Ideal) :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

theorem V_v8 (c : Dev nD) : V m c main_v8 = truncf (F := Ideal) (φ := .f32) .bf16 (select (cmpi .eq (broadcastInDim S512x512 ![0, 1] bcast_S512x1_S512x512_0_1 (broadcastInDim S512x1 ![0] bcast_S512_S512x1_0 quot)) (broadcastInDim S512x512 ![0, 1] bcast_S1x512_S512x512_0_1 (broadcastInDim S1x512 ![1] bcast_S512_S1x512_1 quot))) (broadcastInDim S512x512 ![] bcast_S_S512x512 (constant (F := Ideal) S_ .f32 0x3C800000#32)) (broadcastInDim S512x512 ![] bcast_S_S512x512 (constant (F := Ideal) S_ .f32 0x00000000#32))) bitsLt_bf16_f32 := by
  unfold V; after_results; try rfl
theorem V_v12 (c : Dev nD) : V m c main_v12 = truncf (F := Ideal) (φ := .f32) .bf16 (concatenate S1024x3072 1 [⟨S1024x1536, extractStridedSlice S1024x1536 ![0, 0] (m ((c : Thread nD τ).loc main_arg3)) slices_S1024x3080_S1024x1536_0_0⟩, ⟨S1024x1536, extractStridedSlice S1024x1536 ![0, 1544] (m ((c : Thread nD τ).loc main_arg3)) slices_S1024x3080_S1024x1536_0_1544⟩] concatenates_S1024x1536_S1024x1536_S1024x3072_d1) bitsLt_bf16_f32 := by
  unfold V; after_reads_simp; try rfl
theorem V_v15 (c : Dev nD) : V m c main_v15 = truncf (F := Ideal) (φ := .f32) .bf16 (pad S1024x128 ![0, 0] ![0, 120] ![0, 0] (extractStridedSlice S1024x8 ![0, 1536] (m ((c : Thread nD τ).loc main_arg3)) slices_S1024x3080_S1024x8_0_1536) (sitofp (F := Ideal) .f32 (constantI S_ 32 0#32)) pads_S1024x8_S1024x128_000_01200 h_S_) bitsLt_bf16_f32 := by
  unfold V; after_reads_simp; try rfl
theorem V_v16 (c : Dev nD) : V m c main_v16 = broadcastInDim S2x1x128 ![] bcast_S_S2x1x128 (constant (F := Ideal) S_ .f32 0x00000000#32) := by
  unfold V; after_results; try rfl
theorem V_v17 (c : Dev nD) : V m c main_v17 = broadcastInDim S1x1024 ![1] bcast_S1024_S1x1024_1 (m ((c : Thread nD τ).loc main_arg2)) := by
  unfold V; after_results; try rfl
theorem V_v19 (c : Dev nD) : V m c main_v19 = broadcastInDim S1x128 ![1] bcast_S128_S1x128_1 (pad S128 ![0] ![120] ![0] (m ((c : Thread nD τ).loc main_arg4)) (sitofp (F := Ideal) .f32 (constantI S_ 32 0#32)) pads_S8_S128_01200 h_S_) := by
  unfold V; after_results; try rfl
theorem V_v23 (c : Dev nD) : V m c main_v23 = broadcastInDim S1x512 ![1] bcast_S512_S1x512_1 (shapeCast S512 (broadcastInDim S8x64 ![0, 1] bcast_S1x64_S8x64_0_1 (shapeCast S1x64 (m ((c : Thread nD τ).loc main_arg5)) shapeCasts_S64_S1x64)) shapeCasts_S8x64_S512) := by
  unfold V; after_results; try rfl
theorem V_v27 (c : Dev nD) : V m c main_v27 = broadcastInDim S1x512 ![1] bcast_S512_S1x512_1 (shapeCast S512 (broadcastInDim S8x64 ![0, 1] bcast_S1x64_S8x64_0_1 (shapeCast S1x64 (m ((c : Thread nD τ).loc main_arg6)) shapeCasts_S64_S1x64)) shapeCasts_S8x64_S512) := by
  unfold V; after_results; try rfl

/-- A position of a tile, in the prompt. -/
theorem pos_gj (t : Fin cfg0.N) (r : Fin 512) :
    pos (512 * gj t + r) = ⟨512 * (t.val % 32) + r, by omega⟩ :=
  Fin.ext (Nat.mod_eq_of_lt (by show 512 * (t.val % 32) + r < 16384; omega))

/-- The tile of the residual stream. -/
theorem iblk0 (c : Dev nD) (t : Fin cfg0.N) (r : Fin 512) (d : Fin 1024) :
    iblk m c 0 t (ix3 0 r d) = (arrs m c).X (ix3 (gb t) (pos (512 * gj t + r)) d) := by
  rw [pos_gj]
  show V m c main_arg0 _ = _
  rw [V_main_arg0]
  blk_ext [idx t, gb, arrs]

/-- The history of the convolution. -/
theorem iblk1 (c : Dev nD) (t : Fin cfg0.N) (r : Fin 2) (d : Fin 512) :
    iblk m c 1 t (ix3 0 r d) = (arrs m c).Hi (ix3 (gb t) r d) := by
  show V m c main_arg1 _ = _
  rw [V_main_arg1]
  blk_ext [idx t, gb, arrs]

/-- The sum before the first position. -/
theorem iblk2 (c : Dev nD) (t : Fin cfg0.N) (l : Fin 128) : iblk m c 2 t (ix3 0 0 l) = (0 : EReal) := by
  show V m c main_v16 _ = _
  rw [V_v16]
  exact Ideal.ofBits_zero_f32

/-- The gain of the normalisation. -/
theorem iblk3 (c : Dev nD) (t : Fin cfg0.N) (d : Fin 1024) :
    iblk m c 3 t (ix2 0 d) = (arrs m c).G (ix1 d) := by
  have e : ((cfg0.win 3).blk t).view.emb (ix2 0 d) = ix2 0 d := by blk_ext [idx t]
  show V m c main_v17 (((cfg0.win 3).blk t).view.emb (ix2 0 d)) = _
  rw [V_v17, e]
  unfold arrs
  pointwise

/-- The projection's weights, the forget gate's left out. -/
theorem iblk4 (c : Dev nD) (t : Fin cfg0.N) (i : Fin 1024) (d : Fin 3072) :
    iblk m c 4 t (ix2 i d) = (arrs m c).W (ix2 i ⟨d.val + (if d.val < 1536 then 0 else 8), by split <;> omega⟩) := by
  have e : ((cfg0.win 4).blk t).view.emb (ix2 i d) = ix2 i d := by blk_ext [idx t]
  show V m c main_v12 (((cfg0.win 4).blk t).view.emb (ix2 i d)) = _
  rw [V_v12, e]
  unfold arrs
  pointwise
  split
  · rename_i h
    exact congrArg (m ((c : Thread nD τ).loc main_arg3)) (ext2 _ _ rfl (Fin.ext (by
      show d.val = d.val + 0
      omega)))
  · rename_i h
    exact congrArg (m ((c : Thread nD τ).loc main_arg3)) (ext2 _ _ rfl (Fin.ext (by
      show 1544 + (d.val - 1536) = d.val + 8
      omega)))

/-- The forget gate's weights. -/
theorem iblk5 (c : Dev nD) (t : Fin cfg0.N) (i : Fin 1024) (h : Fin 8) :
    iblk m c 5 t (ix2 i (hl h)) = (arrs m c).W (ix2 i (fcol h)) := by
  have e : ((cfg0.win 5).blk t).view.emb (ix2 i (hl h)) = ix2 i (hl h) := by blk_ext [idx t]
  show V m c main_v15 (((cfg0.win 5).blk t).view.emb (ix2 i (hl h))) = _
  rw [V_v15, e]
  unfold arrs
  pointwise

/-- The forget gate's offset. -/
theorem iblk6 (c : Dev nD) (t : Fin cfg0.N) (h : Fin 8) :
    iblk m c 6 t (ix2 0 (hl h)) = (arrs m c).Bf (ix1 h) := by
  have e : ((cfg0.win 6).blk t).view.emb (ix2 0 (hl h)) = ix2 0 (hl h) := by blk_ext [idx t]
  show V m c main_v19 (((cfg0.win 6).blk t).view.emb (ix2 0 (hl h))) = _
  rw [V_v19, e]
  unfold arrs
  pointwise
  exact dif_pos fun a => by
    match a with
    | ⟨0, _⟩ => exact h.isLt

/-- The queries' gain, for every head. -/
theorem iblk7 (c : Dev nD) (t : Fin cfg0.N) (d : Fin 512) :
    iblk m c 7 t (ix2 0 d) = gainq (arrs m c) ⟨d.val % 64, Nat.mod_lt _ (by decide)⟩ := by
  have e : ((cfg0.win 7).blk t).view.emb (ix2 0 d) = ix2 0 d := by blk_ext [idx t]
  show V m c main_v23 (((cfg0.win 7).blk t).view.emb (ix2 0 d)) = _
  rw [V_v23, e]
  unfold gainq arrs
  pointwise

/-- The keys' gain, for every head. -/
theorem iblk8 (c : Dev nD) (t : Fin cfg0.N) (d : Fin 512) :
    iblk m c 8 t (ix2 0 d) = gaink (arrs m c) ⟨d.val % 64, Nat.mod_lt _ (by decide)⟩ := by
  have e : ((cfg0.win 8).blk t).view.emb (ix2 0 d) = ix2 0 d := by blk_ext [idx t]
  show V m c main_v27 (((cfg0.win 8).blk t).view.emb (ix2 0 d)) = _
  rw [V_v27, e]
  unfold gaink arrs
  pointwise

/-- The taps of the convolution. -/
theorem iblk9 (c : Dev nD) (t : Fin cfg0.N) (r : Fin 3) (d : Fin 512) :
    iblk m c 9 t (ix2 r d) = (arrs m c).Cw (ix2 r d) := by
  show V m c main_arg7 _ = _
  rw [V_main_arg7]
  blk_ext [idx t, arrs]

/-- The quotient by 64, at an index. -/
theorem quot_at : ∀ k : Fin 512, quot (ix1 k) = BitVec.ofNat 32 (k.val / 64) := by
  intro k
  unfold quot
  pointwise
  revert k
  decide +kernel

/-- The matrix that averages each head. -/
theorem iblk10 (c : Dev nD) (t : Fin cfg0.N) (k d : Fin 512) :
    iblk m c 10 t (ix2 k d) = if k.val / 64 = d.val / 64 then Ideal.ofBits .f32 0x3C800000#32 else 0 := by
  have e : ((cfg0.win 10).blk t).view.emb (ix2 k d) = ix2 k d := by blk_ext [idx t]
  show V m c main_v8 (((cfg0.win 10).blk t).view.emb (ix2 k d)) = _
  rw [V_v8, e]
  pointwise
  have ek : IntOp.cmpi CmpIPredicate.eq (quot (ix1 k)) (quot (ix1 d)) = BitVec.ofBool (decide (k.val / 64 = d.val / 64)) := by
    rw [quot_at, quot_at]
    show BitVec.ofBool (decide (BitVec.ofNat 32 (k.val / 64) = BitVec.ofNat 32 (d.val / 64))) = _
    congr 2
    refine propext ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  rw [ek, select_ofBool]

/-- The rows of a tile by heads, in their array. -/
theorem emb11 (t : Fin cfg0.N) (h : Fin 8) (r : Fin 512) (l : Fin 128) :
    ((cfg0.win 11).blk t).view.emb (ix4 0 h r l) = ix4 (gb t) h (pos (512 * gj t + r)) l := by
  rw [pos_gj]
  blk_ext [idx t, gb]

/-- The rows of a tile by heads, in their array. -/
theorem emb12 (t : Fin cfg0.N) (h : Fin 8) (r : Fin 512) (l : Fin 128) :
    ((cfg0.win 12).blk t).view.emb (ix4 0 h r l) = ix4 (gb t) h (pos (512 * gj t + r)) l := by
  rw [pos_gj]
  blk_ext [idx t, gb]

/-- The rows of a tile by heads, in their array. -/
theorem emb13 (t : Fin cfg0.N) (h : Fin 8) (r : Fin 512) (l : Fin 128) :
    ((cfg0.win 13).blk t).view.emb (ix4 0 h r l) = ix4 (gb t) h (pos (512 * gj t + r)) l := by
  rw [pos_gj]
  blk_ext [idx t, gb]

/-- The rows of a tile, in their array. -/
theorem emb14 (t : Fin cfg0.N) (r : Fin 512) (d : Fin 512) :
    ((cfg0.win 14).blk t).view.emb (ix3 0 r d) = ix3 (gb t) (pos (512 * gj t + r)) d := by
  rw [pos_gj]
  blk_ext [idx t, gb]

/-- The rows of a tile, in their array. -/
theorem emb15 (t : Fin cfg0.N) (r : Fin 512) (d : Fin 512) :
    ((cfg0.win 15).blk t).view.emb (ix3 0 r d) = ix3 (gb t) (pos (512 * gj t + r)) d := by
  rw [pos_gj]
  blk_ext [idx t, gb]

/-- The rows of a tile, in their array. -/
theorem emb16 (t : Fin cfg0.N) (r : Fin 512) (d : Fin 8) :
    ((cfg0.win 16).blk t).view.emb (ix3 0 r d) = ix3 (gb t) (pos (512 * gj t + r)) d := by
  rw [pos_gj]
  blk_ext [idx t, gb]

/-- The rows of a tile, in their array. -/
theorem emb17 (t : Fin cfg0.N) (r : Fin 512) (d : Fin 512) :
    ((cfg0.win 17).blk t).view.emb (ix3 0 r d) = ix3 (gb t) (pos (512 * gj t + r)) d := by
  rw [pos_gj]
  blk_ext [idx t, gb]

/-- The new history, in its array. -/
theorem emb18 (t : Fin cfg0.N) (r : Fin 2) (d : Fin 512) :
    ((cfg0.win 18).blk t).view.emb (ix3 0 r d) = ix3 (gb t) r d := by
  blk_ext [idx t, gb]

end Cert.EvenIn
-- ==== Proof.InStep.lean ====
module

public import proofs.«01_k».proof.Proof.InMath
public import Idealize.ShloMosaic.Lib.WholeRead

/-! What one run of the body leaves in the results and in the carried buffers. -/

set_option maxRecDepth 16384
set_option backward.proofsInPublic true

@[expose] public section
noncomputable section

namespace Cert.EvenIn
open Idealize.ShloMosaic Idealize.ShloMosaic.TcCoe Idealize.SL.Sem
open Cert.InIdeal Cert.InIdeal.Gen Cert.InIdeal.Body
open Cert.Attn (ext3 ext4)

/-! ## Loads of the inputs -/

/-- A load of a whole input, at an index. -/
theorem ldX (a : Memref sig .tc .vmem S1x512x1024 .f32) (h : a.IsWhole) (x : Vec Ideal S1x512x1024 .f32) (r : Fin 512) (d : Fin 1024) :
    View.readAt (Elt Ideal) a.view (Rect.unit (s := S1x512x1024) ![0, 0, 0] S1x512x1024.size inb_S1x512x1024_S1x512x1024_0_0_0).toLoadRect (h.unread x) (ix3 0 r d) = x (ix3 0 r d) :=
  (h.readAt_unread x _ _).trans (congrArg x (ext3 _ _ rfl (Fin.ext (by show 0 + 1 * r.val = r.val; omega))
    (Fin.ext (by show 0 + 1 * d.val = d.val; omega))))

/-- A load of a whole input, at an index. -/
theorem ldH (a : Memref sig .tc .vmem S1x2x512 .f32) (h : a.IsWhole) (x : Vec Ideal S1x2x512 .f32) (r : Fin 2) (d : Fin 512) :
    View.readAt (Elt Ideal) a.view (Rect.unit (s := S1x2x512) ![0, 0, 0] S1x2x512.size inb_S1x2x512_S1x2x512_0_0_0).toLoadRect (h.unread x) (ix3 0 r d) = x (ix3 0 r d) :=
  (h.readAt_unread x _ _).trans (congrArg x (ext3 _ _ rfl (Fin.ext (by show 0 + 1 * r.val = r.val; omega))
    (Fin.ext (by show 0 + 1 * d.val = d.val; omega))))

/-- A load of a whole input, at an index. -/
theorem ldZ (a : Memref sig .tc .vmem S1x1x128 .f32) (h : a.IsWhole) (x : Vec Ideal S1x1x128 .f32) (r : Fin 1) (d : Fin 128) :
    View.readAt (Elt Ideal) a.view (Rect.unit (s := S1x1x128) ![0, 0, 0] S1x1x128.size inb_S1x1x128_S1x1x128_0_0_0).toLoadRect (h.unread x) (ix3 0 r d) = x (ix3 0 r d) :=
  (h.readAt_unread x _ _).trans (congrArg x (ext3 _ _ rfl (Fin.ext (by show 0 + 1 * r.val = r.val; omega))
    (Fin.ext (by show 0 + 1 * d.val = d.val; omega))))

/-- A load of a whole input, at an index. -/
theorem ldG (a : Memref sig .tc .vmem S1x1024 .f32) (h : a.IsWhole) (x : Vec Ideal S1x1024 .f32) (r : Fin 1) (d : Fin 1024) :
    View.readAt (Elt Ideal) a.view (Rect.unit (s := S1x1024) ![0, 0] S1x1024.size inb_S1x1024_S1x1024_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a whole input, at an index. -/
theorem ldWf (a : Memref sig .tc .vmem S1024x128 .bf16) (h : a.IsWhole) (x : Vec Ideal S1024x128 .bf16) (r : Fin 1024) (d : Fin 128) :
    View.readAt (Elt Ideal) a.view (Rect.unit (s := S1024x128) ![0, 0] S1024x128.size inb_S1024x128_S1024x128_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a whole input, at an index. -/
theorem ldB (a : Memref sig .tc .vmem S1x128 .f32) (h : a.IsWhole) (x : Vec Ideal S1x128 .f32) (r : Fin 1) (d : Fin 128) :
    View.readAt (Elt Ideal) a.view (Rect.unit (s := S1x128) ![0, 0] S1x128.size inb_S1x128_S1x128_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a whole input, at an index. -/
theorem ldg (a : Memref sig .tc .vmem S1x512 .f32) (h : a.IsWhole) (x : Vec Ideal S1x512 .f32) (r : Fin 1) (d : Fin 512) :
    View.readAt (Elt Ideal) a.view (Rect.unit (s := S1x512) ![0, 0] S1x512.size inb_S1x512_S1x512_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a whole input, at an index. -/
theorem ldC (a : Memref sig .tc .vmem S3x512 .f32) (h : a.IsWhole) (x : Vec Ideal S3x512 .f32) (r : Fin 3) (d : Fin 512) :
    View.readAt (Elt Ideal) a.view (Rect.unit (s := S3x512) ![0, 0] S3x512.size inb_S3x512_S3x512_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a whole input, at an index. -/
theorem ldM (a : Memref sig .tc .vmem S512x512 .bf16) (h : a.IsWhole) (x : Vec Ideal S512x512 .bf16) (r : Fin 512) (d : Fin 512) :
    View.readAt (Elt Ideal) a.view (Rect.unit (s := S512x512) ![0, 0] S512x512.size inb_S512x512_S512x512_0_0).toLoadRect (h.unread x) (ix2 r d) = x (ix2 r d) :=
  (h.readAt_unread x _ _).trans (congrArg x (ext2 _ _ (Fin.ext (by show 0 + 1 * r.val = r.val; omega))
    (Fin.ext (by show 0 + 1 * d.val = d.val; omega))))

/-- A load of a block of columns of the weights, at an index. -/
theorem ldW (a : Memref sig .tc .vmem S1024x3072 .bf16) (h : a.IsWhole) (x : Vec Ideal S1024x3072 .bf16) (k : ℕ) (r : Fin 1024) (q : Fin 512) :
    View.readAt (Elt Ideal) a.view (RW k).toLoadRect (h.unread x) (ix2 r q) = x (ix2 r ⟨512 * (k % 6) + q, by omega⟩) :=
  (h.readAt_unread x _ _).trans (congrArg x (ext2 _ _ (Fin.ext (by show 0 + 1 * r.val = r.val; omega))
    (Fin.ext (by show 512 * (k % 6) + 1 * q.val = 512 * (k % 6) + q.val; omega))))

/-! ## One run -/

/-- The blocks of the inputs are those of tile `j` of prompt `b`. -/
structure Blocks (A : Arrs) (b : Fin 2) (j : Fin 32) (x2 : Vec Ideal S1x512x1024 .f32) (x3 : Vec Ideal S1x2x512 .f32) (x4 : Vec Ideal S1x1x128 .f32) (x5 : Vec Ideal S1x1024 .f32) (x6 : Vec Ideal S1024x3072 .bf16) (x7 : Vec Ideal S1024x128 .bf16) (x8 : Vec Ideal S1x128 .f32) (x9 : Vec Ideal S1x512 .f32) (x10 : Vec Ideal S1x512 .f32) (x11 : Vec Ideal S3x512 .f32) (x12 : Vec Ideal S512x512 .bf16) : Prop where
  h2 : ∀ (r : Fin 512) (d : Fin 1024), x2 (ix3 0 r d) = A.X (ix3 b (pos (512 * j + r)) d)
  h3 : ∀ (r : Fin 2) (d : Fin 512), x3 (ix3 0 r d) = A.Hi (ix3 b r d)
  h4 : ∀ l : Fin 128, x4 (ix3 0 0 l) = (0 : EReal)
  h5 : ∀ d : Fin 1024, x5 (ix2 0 d) = A.G (ix1 d)
  h6 : ∀ (i : Fin 1024) (d : Fin 3072), x6 (ix2 i d) = A.W (ix2 i ⟨d.val + (if d.val < 1536 then 0 else 8), by split <;> omega⟩)
  h7 : ∀ (i : Fin 1024) (h : Fin 8), x7 (ix2 i (hl h)) = A.W (ix2 i (fcol h))
  h8 : ∀ h : Fin 8, x8 (ix2 0 (hl h)) = A.Bf (ix1 h)
  h9 : ∀ d : Fin 512, x9 (ix2 0 d) = gainq A ⟨d.val % 64, Nat.mod_lt _ (by decide)⟩
  h10 : ∀ d : Fin 512, x10 (ix2 0 d) = gaink A ⟨d.val % 64, Nat.mod_lt _ (by decide)⟩
  h11 : ∀ (r : Fin 3) (d : Fin 512), x11 (ix2 r d) = A.Cw (ix2 r d)
  h12 : ∀ k d : Fin 512, x12 (ix2 k d) = if k.val / 64 = d.val / 64 then Ideal.ofBits .f32 0x3C800000#32 else 0

/-- The rows carried into tile `j`: the two rows of the convolution's input before it. -/
def Held (A : Arrs) (b : Fin 2) (j : ℕ) (x21 : Vec Ideal S1x520x512 .f32) : Prop :=
  ∀ (r : Fin 2) (d : Fin 512), x21 (ix3 0 ⟨6 + r, by omega⟩ d) = xp A b (512 * j + r) d

/-- The sum carried into tile `j`: that of the positions before it. -/
def HeldZ (A : Arrs) (b : Fin 2) (j : ℕ) (x22 : Vec Ideal S1x1x128 .f32) : Prop :=
  ∀ h : Fin 8, x22 (ix3 0 0 (hl h)) = cs A b (512 * j) h

/-- An index of rows 6 and 7 of the carried buffer, in the two rows. -/
theorem emb_two (y : S1x520x512.Idx) (r : Fin 2) (h : (y 1).val = 6 + r) :
    (Rect.unit (s := S1x520x512) ![0, 6, 0] S1x2x512.size inb_S1x520x512_S1x2x512_0_6_0).emb (ix3 0 r (y 2)) = y :=
  ext3 _ _ (Fin.ext (by have := (y 0).isLt; show 0 + 1 * 0 = (y 0).val; have h1 : (y 0).val < 1 := this; omega))
    (Fin.ext (by show 6 + 1 * r.val = (y 1).val; omega)) (Fin.ext (by show 0 + 1 * (y 2).val = (y 2).val; omega))

/-- An index of a whole box is that of the buffer. -/
theorem emb_S1x2x512 (y : S1x2x512.Idx) : (Rect.unit (s := S1x2x512) ![0, 0, 0] S1x2x512.size inb_S1x2x512_S1x2x512_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

/-- An index of a whole box is that of the buffer. -/
theorem emb_S1x512x512 (y : S1x512x512.Idx) : (Rect.unit (s := S1x512x512) ![0, 0, 0] S1x512x512.size inb_S1x512x512_S1x512x512_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

/-- An index of a whole box is that of the buffer. -/
theorem emb_S1x512x8 (y : S1x512x8.Idx) : (Rect.unit (s := S1x512x8) ![0, 0, 0] S1x512x8.size inb_S1x512x8_S1x512x8_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

/-- An index of a whole box is that of the buffer. -/
theorem emb_S1x1x128 (y : S1x1x128.Idx) : (Rect.unit (s := S1x1x128) ![0, 0, 0] S1x1x128.size inb_S1x1x128_S1x1x128_0_0_0).emb (ix3 0 (y 1) (y 2)) = y :=
  ext3 _ _ (Fin.ext (by have := (y 0).isLt; show 0 + 1 * 0 = (y 0).val; have h1 : (y 0).val < 1 := this; omega))
    (Fin.ext (by show 0 + 1 * (y 1).val = (y 1).val; omega)) (Fin.ext (by show 0 + 1 * (y 2).val = (y 2).val; omega))

/-- What tile `j` of prompt `b` leaves in the results. -/
def fq (A : Arrs) (b : Fin 2) (j : ℕ) (y : S1x8x512x128.Idx) : EReal := oq A b (512 * j + (y 2).val) (y 1) (y 3)
def fk (A : Arrs) (b : Fin 2) (j : ℕ) (y : S1x8x512x128.Idx) : EReal := ok A b (512 * j + (y 2).val) (y 1) (y 3)
def fv (A : Arrs) (b : Fin 2) (j : ℕ) (y : S1x8x512x128.Idx) : EReal := ov A b (512 * j + (y 2).val) (y 1) (y 3)
def fkn (A : Arrs) (b : Fin 2) (j : ℕ) (y : S1x512x512.Idx) : EReal := hnorm (pm A b 1 (512 * j + (y 1).val)) (gaink A) (y 2)
def fvn (A : Arrs) (b : Fin 2) (j : ℕ) (y : S1x512x512.Idx) : EReal := pm A b 2 (512 * j + (y 1).val) (y 2)
def flf (A : Arrs) (b : Fin 2) (j : ℕ) (y : S1x512x8.Idx) : EReal := lf A b (512 * j + (y 1).val) (y 2)
def fob (A : Arrs) (b : Fin 2) (j : ℕ) (y : S1x512x512.Idx) : EReal := gob A b (512 * j + (y 1).val) (y 2)
def fh (A : Arrs) (b : Fin 2) (j : ℕ) (y : S1x2x512.Idx) : EReal := xp A b (512 * (j + 1) + (y 1).val) (y 2)

variable (A : Arrs) (b : Fin 2) (j : Fin 32) (x2 : Vec Ideal S1x512x1024 .f32) (x3 : Vec Ideal S1x2x512 .f32) (x4 : Vec Ideal S1x1x128 .f32) (x5 : Vec Ideal S1x1024 .f32) (x6 : Vec Ideal S1024x3072 .bf16) (x7 : Vec Ideal S1024x128 .bf16) (x8 : Vec Ideal S1x128 .f32) (x9 : Vec Ideal S1x512 .f32) (x10 : Vec Ideal S1x512 .f32) (x11 : Vec Ideal S3x512 .f32) (x12 : Vec Ideal S512x512 .bf16)
  (hB : Blocks A b j x2 x3 x4 x5 x6 x7 x8 x9 x10 x11 x12)

/-- Rows carried over by the buffer itself are in place. -/
theorem carried_held (a : Memref sig .tc .vmem S1x520x512 .f32) (h : a.IsWhole) (x21 : Vec Ideal S1x520x512 .f32) (hh : Held A b j x21) :
    Carried a.view (h.unread x21) [] (tile A b j) := fun y h6 h8 => by
  refine Or.inr ⟨fun p hp => absurd hp List.not_mem_nil, ?_⟩
  rw [h.read_unread]
  have e : y = ix3 0 ⟨6 + ((y 1).val - 6), by omega⟩ (y 2) :=
    ext3 _ _ (Fin.ext (by have := (y 0).isLt; have h1 : (y 0).val < 1 := this; show (y 0).val = 0; omega))
      (Fin.ext (by show (y 1).val = 6 + ((y 1).val - 6); omega)) rfl
  have e6 : rows (tile A b j) y = xp A b (512 * j + ((y 1).val - 6)) (y 2) := rfl
  exact (congrArg x21 e).trans ((hh ⟨(y 1).val - 6, by omega⟩ (y 2)).trans e6.symm)

/-- Rows carried over by the history's copy are in place, at the first tile. -/
theorem carried_hist (v : View sig .tc .vmem S1x520x512 .f32) (old : v.ty.Contents (Elt Ideal)) (p2 : Vec Ideal S1x2x512 .f32) :
    Carried v old [⟨Rect.unit ![0, 6, 0] S1x2x512.size inb_S1x520x512_S1x2x512_0_6_0, p2⟩] (tile A b j) := fun y h6 h8 => by
  refine Or.inl ⟨_, List.mem_singleton.2 rfl, ?_⟩
  have e := emb_two y ⟨(y 1).val - 6, by omega⟩ (by show (y 1).val = 6 + ((y 1).val - 6); omega)
  rw [← e]
  exact (Rect.map_emb_univ _).le (Finset.mem_map_of_mem _ (Finset.mem_univ _))

include hB in
/-- The history's copy holds the rows before the first tile. -/
theorem hist_agree (hj : j.val = 0) (a : Memref sig .tc .vmem S1x2x512 .f32) (h : a.IsWhole) :
    ∀ p ∈ ([⟨Rect.unit ![0, 6, 0] S1x2x512.size inb_S1x520x512_S1x2x512_0_6_0, k0_pay2 (F := Ideal) (View.readAt (Elt Ideal) a.view (Rect.unit (s := S1x2x512) ![0, 0, 0] S1x2x512.size inb_S1x2x512_S1x2x512_0_0_0).toLoadRect (h.unread x3))⟩] : List (View.Piece (Elt Ideal) S1x520x512 .f32)),
      ∀ x : p.1.shape.Idx, p.2 x = rows (tile A b j) (p.1.emb x) := by
  intro p hp
  obtain rfl := List.mem_singleton.1 hp
  intro x
  have e : x = ix3 (0 : Fin 1) (x 1 : Fin 2) (x 2 : Fin 512) :=
    ext3 _ _ (Fin.ext (by have := (x 0).isLt; have h1 : (x 0).val < 1 := this; show (x 0).val = 0; omega)) rfl rfl
  refine (congrArg _ e).trans ((pay2_at _ _ _).trans ((ldH a h x3 _ _).trans ((hB.h3 _ _).trans ?_)))
  have h2 : (x 1).val < 2 := (x 1).isLt
  have e1 : rows (tile A b j) ((Rect.unit (s := S1x520x512) ![0, 6, 0] S1x2x512.size inb_S1x520x512_S1x2x512_0_6_0).emb x) = xp A b (x 1).val (x 2) := by
    unfold rows tile
    refine congrArg₂ (xp A b) ?_ (Fin.ext ?_)
    · show 512 * j.val + (6 + 1 * (x 1).val - 6) = (x 1).val
      omega
    · show 0 + 1 * (x 2).val = (x 2).val
      omega
  refine Eq.trans ?_ e1.symm
  unfold xp
  rw [dif_pos h2]
  rfl

include hB in
/-- The carried sum at a first tile is the one before the first position. -/
theorem zero_first (hj : j.val = 0) (v : View sig .tc .vmem S1x1x128 .f32) (a : Memref sig .tc .vmem S1x1x128 .f32) (h : a.IsWhole) (i : Fin 8) :
    v.readCov (Val := Elt Ideal) [⟨(Rect.unit (s := S1x1x128) ![0, 0, 0] S1x1x128.size inb_S1x1x128_S1x1x128_0_0_0), k0_pay3 (F := Ideal) (View.readAt (Elt Ideal) a.view (Rect.unit (s := S1x1x128) ![0, 0, 0] S1x1x128.size inb_S1x1x128_S1x1x128_0_0_0).toLoadRect (h.unread x4))⟩]
        (Rect.unit (s := S1x1x128) ![0, 0, 0] S1x1x128.size inb_S1x1x128_S1x1x128_0_0_0).toLoadRect (ix3 0 0 (hl i)) = cs A b (512 * j) i := by
  have e0 : cs A b (512 * j) i = 0 := by
    unfold cs
    rw [hj]
    rfl
  rw [e0]
  show v.read (Elt Ideal) (v.writes (Elt Ideal) v.junk [⟨(Rect.unit (s := S1x1x128) ![0, 0, 0] S1x1x128.size inb_S1x1x128_S1x1x128_0_0_0), k0_pay3 (F := Ideal) (View.readAt (Elt Ideal) a.view (Rect.unit (s := S1x1x128) ![0, 0, 0] S1x1x128.size inb_S1x1x128_S1x1x128_0_0_0).toLoadRect (h.unread x4))⟩]) ((Rect.unit (s := S1x1x128) ![0, 0, 0] S1x1x128.size inb_S1x1x128_S1x1x128_0_0_0).emb (ix3 0 0 (hl i))) = 0
  refine (View.read_writes_cons_emb v _ _ _ _ _).trans ?_
  refine (pay3_at _ _).trans ?_
  refine (ldZ a h x4 0 _).trans ?_
  exact hB.h4 _

/-- A block's columns in the whole projection. -/
theorem hw_col (k : ℕ) (i : Fin 1024) (q : Fin 512) :
    A.W (ix2 i ⟨512 * (k % 6) + q + (if 512 * (k % 6) + q.val < 1536 then 0 else 8), by split <;> omega⟩) = A.W (ix2 i (mc k q)) := by
  refine congrArg A.W (ext2 _ _ rfl (Fin.ext ?_))
  show 512 * (k % 6) + q.val + (if 512 * (k % 6) + q.val < 1536 then 0 else 8) = 512 * (k % 6) + q.val + (if k % 6 < 3 then 0 else 8)
  split <;> split <;> omega

section
variable (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole) (hc : ¬ first i = 1#1)

include hB in
/-- What a later tile leaves in the queries. -/
theorem stepB_q (x21 : Vec Ideal S1x520x512 .f32) (x22 : Vec Ideal S1x1x128 .f32) (hz : HeldZ A b j x22) (f : arg13.view.ty.Contents (Elt Ideal)) :
    arg13.view.read (Elt Ideal) (arg13.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).1) = fq A b j := by
  rw [runB_q]
  refine heads_read arg13.view f _ (fq A b j) fun h r l => ?_
  exact tile_oq A b j _ _ (fun k => View.readAt (Elt Ideal) arg6.view (RW k).toLoadRect (harg6.unread x6)) _ _ _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun i h => (ldWf arg7 harg7 x7 i _).trans (hB.h7 i h)) (fun h => (ldB arg8 harg8 x8 0 _).trans (hB.h8 h)) (fun d => (ldg arg9 harg9 x9 0 d).trans (hB.h9 d)) (fun k d => (ldM arg12 harg12 x12 k d).trans (hB.h12 k d)) _ (fun h => (ldZ arg22 harg22 x22 0 _).trans (hz h)) h r l

include hB in
/-- What a later tile leaves in the keys. -/
theorem stepB_k (x21 : Vec Ideal S1x520x512 .f32) (x22 : Vec Ideal S1x1x128 .f32) (hz : HeldZ A b j x22) (f : arg14.view.ty.Contents (Elt Ideal)) :
    arg14.view.read (Elt Ideal) (arg14.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.1) = fk A b j := by
  rw [runB_k]
  refine heads_read arg14.view f _ (fk A b j) fun h r l => ?_
  exact tile_ok A b j _ _ (fun k => View.readAt (Elt Ideal) arg6.view (RW k).toLoadRect (harg6.unread x6)) _ _ _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun i h => (ldWf arg7 harg7 x7 i _).trans (hB.h7 i h)) (fun h => (ldB arg8 harg8 x8 0 _).trans (hB.h8 h)) (fun d => (ldg arg10 harg10 x10 0 d).trans (hB.h10 d)) (fun k d => (ldM arg12 harg12 x12 k d).trans (hB.h12 k d)) _ (fun h => (ldZ arg22 harg22 x22 0 _).trans (hz h)) h r l

include hB in
/-- What a later tile leaves in the values. -/
theorem stepB_v (x21 : Vec Ideal S1x520x512 .f32) (x22 : Vec Ideal S1x1x128 .f32) (f : arg15.view.ty.Contents (Elt Ideal)) :
    arg15.view.read (Elt Ideal) (arg15.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.1) = fv A b j := by
  rw [runB_v]
  refine heads_read arg15.view f _ (fv A b j) fun h r l => ?_
  exact tile_ov A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) h r l

include hB in
/-- What a later tile leaves in the plain keys. -/
theorem stepB_kn (x21 : Vec Ideal S1x520x512 .f32) (x22 : Vec Ideal S1x1x128 .f32) (f : arg16.view.ty.Contents (Elt Ideal)) :
    arg16.view.read (Elt Ideal) (arg16.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.1) = fkn A b j := by
  rw [runB_kn]
  funext y
  refine (congrArg _ (emb_S1x512x512 y).symm).trans ((View.read_writes_cons_emb arg16.view f _ _ _ _).trans ?_)
  refine (pay9_at _ _ _ _ _ _).trans ?_
  exact tile_k A b j _ _ (fun k => View.readAt (Elt Ideal) arg6.view (RW k).toLoadRect (harg6.unread x6)) _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun d => (ldg arg10 harg10 x10 0 d).trans (hB.h10 d)) (fun k d => (ldM arg12 harg12 x12 k d).trans (hB.h12 k d)) (y 1) (y 2)

include hB in
/-- What a later tile leaves in the plain values. -/
theorem stepB_vn (x21 : Vec Ideal S1x520x512 .f32) (x22 : Vec Ideal S1x1x128 .f32) (f : arg17.view.ty.Contents (Elt Ideal)) :
    arg17.view.read (Elt Ideal) (arg17.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.1) = fvn A b j := by
  rw [runB_vn]
  funext y
  refine (congrArg _ (emb_S1x512x512 y).symm).trans ((View.read_writes_cons_emb arg17.view f _ _ _ _).trans ?_)
  refine (pay10_at _ _ _ _).trans ?_
  exact tile_pm A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) 2 (y 1) (y 2)

include hB in
/-- What a later tile leaves in the logarithms of the forget gates. -/
theorem stepB_lf (x21 : Vec Ideal S1x520x512 .f32) (x22 : Vec Ideal S1x1x128 .f32) (f : arg18.view.ty.Contents (Elt Ideal)) :
    arg18.view.read (Elt Ideal) (arg18.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.1) = flf A b j := by
  rw [runB_lf]
  funext y
  refine (congrArg _ (emb_S1x512x8 y).symm).trans ((View.read_writes_cons_emb arg18.view f _ _ _ _).trans ?_)
  refine (pay16_at _ _ _ _ _).trans ?_
  exact tile_lf A b j _ _ _ _ (fun r d => (ldX arg2 harg2 x2 r d).trans (hB.h2 r d)) (fun d => (ldG arg5 harg5 x5 0 d).trans (hB.h5 d)) (fun i h => (ldWf arg7 harg7 x7 i _).trans (hB.h7 i h)) (fun h => (ldB arg8 harg8 x8 0 _).trans (hB.h8 h)) (y 1) (y 2)

include hB in
/-- What a later tile leaves in the convolved half. -/
theorem stepB_ob (x21 : Vec Ideal S1x520x512 .f32) (x22 : Vec Ideal S1x1x128 .f32) (hh : Held A b j x21) (f : arg19.view.ty.Contents (Elt Ideal)) :
    arg19.view.read (Elt Ideal) (arg19.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.1) = fob A b j := by
  rw [runB_ob]
  funext y
  refine (congrArg _ (emb_S1x512x512 y).symm).trans ((View.read_writes_cons_emb arg19.view f _ _ _ _).trans ?_)
  exact tile_ob A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ _ _ (fun a q => (ldC arg11 harg11 x11 a q).trans (hB.h11 a q)) (fun p hp => absurd hp List.not_mem_nil) (carried_held A b j arg21 harg21 x21 hh) (y 1) (y 2)

include hB in
/-- What a later tile leaves in the new history. -/
theorem stepB_h (x21 : Vec Ideal S1x520x512 .f32) (x22 : Vec Ideal S1x1x128 .f32) (f : arg20.view.ty.Contents (Elt Ideal)) :
    arg20.view.read (Elt Ideal) (arg20.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.1) = fh A b j := by
  rw [runB_h]
  funext y
  refine (congrArg _ (emb_S1x2x512 y).symm).trans ((View.read_writes_cons_emb arg20.view f _ _ _ _).trans ?_)
  exact tile_tail A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ (y 1) (y 2)

include hB in
/-- What a later tile carries over to the next: the rows. -/
theorem stepB_c (x21 : Vec Ideal S1x520x512 .f32) (x22 : Vec Ideal S1x1x128 .f32) (f : arg21.view.ty.Contents (Elt Ideal)) :
    Held A b (j + 1) (arg21.view.read (Elt Ideal) (arg21.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.1)) := by
  rw [runB_c]
  intro r d
  refine (congrArg _ (emb_two (ix3 0 ⟨6 + r, by omega⟩ d) r rfl).symm).trans ((View.read_writes_cons_emb arg21.view f _ _ _ _).trans ((pay1_at _ _ _).trans ?_))
  exact tile_tail A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ r d

include hB in
/-- What a later tile carries over to the next: the sum. -/
theorem stepB_z (x21 : Vec Ideal S1x520x512 .f32) (x22 : Vec Ideal S1x1x128 .f32) (hz : HeldZ A b j x22) (f : arg22.view.ty.Contents (Elt Ideal)) :
    HeldZ A b (j + 1) (arg22.view.read (Elt Ideal) (arg22.view.writes (Elt Ideal) f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.2.1)) := by
  rw [runB_z]
  intro h
  refine (congrArg _ (emb_S1x1x128 (ix3 0 0 (hl h))).symm).trans ((View.read_writes_cons_emb arg22.view f _ _ _ _).trans ?_)
  exact tile_z A b j _ _ _ _ (fun r d => (ldX arg2 harg2 x2 r d).trans (hB.h2 r d)) (fun d => (ldG arg5 harg5 x5 0 d).trans (hB.h5 d)) (fun i h => (ldWf arg7 harg7 x7 i _).trans (hB.h7 i h)) (fun h => (ldB arg8 harg8 x8 0 _).trans (hB.h8 h)) _ (fun h => (ldZ arg22 harg22 x22 0 _).trans (hz h)) h

end

section
variable (c : Dev nD) (i : grid0.Coords) (arg2 : Memref sig .tc .vmem S1x512x1024 .f32) (harg2 : arg2.IsWhole) (arg3 : Memref sig .tc .vmem S1x2x512 .f32) (harg3 : arg3.IsWhole) (arg4 : Memref sig .tc .vmem S1x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S1x8x512x128 .bf16) (harg13 : arg13.IsWhole) (arg14 : Memref sig .tc .vmem S1x8x512x128 .bf16) (harg14 : arg14.IsWhole) (arg15 : Memref sig .tc .vmem S1x8x512x128 .bf16) (harg15 : arg15.IsWhole) (arg16 : Memref sig .tc .vmem S1x512x512 .f32) (harg16 : arg16.IsWhole) (arg17 : Memref sig .tc .vmem S1x512x512 .f32) (harg17 : arg17.IsWhole) (arg18 : Memref sig .tc .vmem S1x512x8 .f32) (harg18 : arg18.IsWhole) (arg19 : Memref sig .tc .vmem S1x512x512 .bf16) (harg19 : arg19.IsWhole) (arg20 : Memref sig .tc .vmem S1x2x512 .f32) (harg20 : arg20.IsWhole) (arg21 : Memref sig .tc .vmem S1x520x512 .f32) (harg21 : arg21.IsWhole) (arg22 : Memref sig .tc .vmem S1x1x128 .f32) (harg22 : arg22.IsWhole) (hc : first i = 1#1)

include hB in
/-- What a first tile leaves in the queries. -/
theorem stepA_q (hj : j.val = 0) (x21 : Vec Ideal S1x520x512 .f32) (x22 : Vec Ideal S1x1x128 .f32) (f : arg13.view.ty.Contents (Elt Ideal)) :
    arg13.view.read (Elt Ideal) (arg13.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).1) = fq A b j := by
  rw [runA_q]
  refine heads_read arg13.view f _ (fq A b j) fun h r l => ?_
  exact tile_oq A b j _ _ (fun k => View.readAt (Elt Ideal) arg6.view (RW k).toLoadRect (harg6.unread x6)) _ _ _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun i h => (ldWf arg7 harg7 x7 i _).trans (hB.h7 i h)) (fun h => (ldB arg8 harg8 x8 0 _).trans (hB.h8 h)) (fun d => (ldg arg9 harg9 x9 0 d).trans (hB.h9 d)) (fun k d => (ldM arg12 harg12 x12 k d).trans (hB.h12 k d)) _ (zero_first A b j x2 x3 x4 x5 x6 x7 x8 x9 x10 x11 x12 hB hj arg22.view arg4 harg4) h r l

include hB in
/-- What a first tile leaves in the keys. -/
theorem stepA_k (hj : j.val = 0) (x21 : Vec Ideal S1x520x512 .f32) (x22 : Vec Ideal S1x1x128 .f32) (f : arg14.view.ty.Contents (Elt Ideal)) :
    arg14.view.read (Elt Ideal) (arg14.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.1) = fk A b j := by
  rw [runA_k]
  refine heads_read arg14.view f _ (fk A b j) fun h r l => ?_
  exact tile_ok A b j _ _ (fun k => View.readAt (Elt Ideal) arg6.view (RW k).toLoadRect (harg6.unread x6)) _ _ _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun i h => (ldWf arg7 harg7 x7 i _).trans (hB.h7 i h)) (fun h => (ldB arg8 harg8 x8 0 _).trans (hB.h8 h)) (fun d => (ldg arg10 harg10 x10 0 d).trans (hB.h10 d)) (fun k d => (ldM arg12 harg12 x12 k d).trans (hB.h12 k d)) _ (zero_first A b j x2 x3 x4 x5 x6 x7 x8 x9 x10 x11 x12 hB hj arg22.view arg4 harg4) h r l

include hB in
/-- What a first tile leaves in the values. -/
theorem stepA_v (hj : j.val = 0) (x21 : Vec Ideal S1x520x512 .f32) (x22 : Vec Ideal S1x1x128 .f32) (f : arg15.view.ty.Contents (Elt Ideal)) :
    arg15.view.read (Elt Ideal) (arg15.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.1) = fv A b j := by
  rw [runA_v]
  refine heads_read arg15.view f _ (fv A b j) fun h r l => ?_
  exact tile_ov A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) h r l

include hB in
/-- What a first tile leaves in the plain keys. -/
theorem stepA_kn (hj : j.val = 0) (x21 : Vec Ideal S1x520x512 .f32) (x22 : Vec Ideal S1x1x128 .f32) (f : arg16.view.ty.Contents (Elt Ideal)) :
    arg16.view.read (Elt Ideal) (arg16.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.1) = fkn A b j := by
  rw [runA_kn]
  funext y
  refine (congrArg _ (emb_S1x512x512 y).symm).trans ((View.read_writes_cons_emb arg16.view f _ _ _ _).trans ?_)
  refine (pay9_at _ _ _ _ _ _).trans ?_
  exact tile_k A b j _ _ (fun k => View.readAt (Elt Ideal) arg6.view (RW k).toLoadRect (harg6.unread x6)) _ _ (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) (fun d => (ldg arg10 harg10 x10 0 d).trans (hB.h10 d)) (fun k d => (ldM arg12 harg12 x12 k d).trans (hB.h12 k d)) (y 1) (y 2)

include hB in
/-- What a first tile leaves in the plain values. -/
theorem stepA_vn (hj : j.val = 0) (x21 : Vec Ideal S1x520x512 .f32) (x22 : Vec Ideal S1x1x128 .f32) (f : arg17.view.ty.Contents (Elt Ideal)) :
    arg17.view.read (Elt Ideal) (arg17.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.1) = fvn A b j := by
  rw [runA_vn]
  funext y
  refine (congrArg _ (emb_S1x512x512 y).symm).trans ((View.read_writes_cons_emb arg17.view f _ _ _ _).trans ?_)
  refine (pay10_at _ _ _ _).trans ?_
  exact tile_pm A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) 2 (y 1) (y 2)

include hB in
/-- What a first tile leaves in the logarithms of the forget gates. -/
theorem stepA_lf (hj : j.val = 0) (x21 : Vec Ideal S1x520x512 .f32) (x22 : Vec Ideal S1x1x128 .f32) (f : arg18.view.ty.Contents (Elt Ideal)) :
    arg18.view.read (Elt Ideal) (arg18.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.1) = flf A b j := by
  rw [runA_lf]
  funext y
  refine (congrArg _ (emb_S1x512x8 y).symm).trans ((View.read_writes_cons_emb arg18.view f _ _ _ _).trans ?_)
  refine (pay16_at _ _ _ _ _).trans ?_
  exact tile_lf A b j _ _ _ _ (fun r d => (ldX arg2 harg2 x2 r d).trans (hB.h2 r d)) (fun d => (ldG arg5 harg5 x5 0 d).trans (hB.h5 d)) (fun i h => (ldWf arg7 harg7 x7 i _).trans (hB.h7 i h)) (fun h => (ldB arg8 harg8 x8 0 _).trans (hB.h8 h)) (y 1) (y 2)

include hB in
/-- What a first tile leaves in the convolved half. -/
theorem stepA_ob (hj : j.val = 0) (x21 : Vec Ideal S1x520x512 .f32) (x22 : Vec Ideal S1x1x128 .f32) (f : arg19.view.ty.Contents (Elt Ideal)) :
    arg19.view.read (Elt Ideal) (arg19.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.1) = fob A b j := by
  rw [runA_ob]
  funext y
  refine (congrArg _ (emb_S1x512x512 y).symm).trans ((View.read_writes_cons_emb arg19.view f _ _ _ _).trans ?_)
  exact tile_ob A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ _ _ (fun a q => (ldC arg11 harg11 x11 a q).trans (hB.h11 a q)) (hist_agree A b j x2 x3 x4 x5 x6 x7 x8 x9 x10 x11 x12 hB hj arg3 harg3) (carried_hist A b j _ _ _) (y 1) (y 2)

include hB in
/-- What a first tile leaves in the new history. -/
theorem stepA_h (hj : j.val = 0) (x21 : Vec Ideal S1x520x512 .f32) (x22 : Vec Ideal S1x1x128 .f32) (f : arg20.view.ty.Contents (Elt Ideal)) :
    arg20.view.read (Elt Ideal) (arg20.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.1) = fh A b j := by
  rw [runA_h]
  funext y
  refine (congrArg _ (emb_S1x2x512 y).symm).trans ((View.read_writes_cons_emb arg20.view f _ _ _ _).trans ?_)
  exact tile_tail A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ (y 1) (y 2)

include hB in
/-- What a first tile carries over to the next: the rows. -/
theorem stepA_c (hj : j.val = 0) (x21 : Vec Ideal S1x520x512 .f32) (x22 : Vec Ideal S1x1x128 .f32) (f : arg21.view.ty.Contents (Elt Ideal)) :
    Held A b (j + 1) (arg21.view.read (Elt Ideal) (arg21.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.1)) := by
  rw [runA_c]
  intro r d
  refine (congrArg _ (emb_two (ix3 0 ⟨6 + r, by omega⟩ d) r rfl).symm).trans ((View.read_writes_cons_emb arg21.view f _ _ _ _).trans ((pay1_at _ _ _).trans ?_))
  exact tile_tail A b j _ _ (fun k => View.readAt (Elt Ideal) arg6.view (RW k).toLoadRect (harg6.unread x6)) (fun r d => (ldX arg2 harg2 x2 r d).trans (hB.h2 r d)) (fun d => (ldG arg5 harg5 x5 0 d).trans (hB.h5 d)) (fun k i q => (ldW arg6 harg6 x6 k i q).trans ((hB.h6 _ _).trans (hw_col A k i q))) arg21.view _ r d

include hB in
/-- What a first tile carries over to the next: the sum. -/
theorem stepA_z (hj : j.val = 0) (x21 : Vec Ideal S1x520x512 .f32) (x22 : Vec Ideal S1x1x128 .f32) (f : arg22.view.ty.Contents (Elt Ideal)) :
    HeldZ A b (j + 1) (arg22.view.read (Elt Ideal) (arg22.view.writes (Elt Ideal) f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc x2 x3 x4 x5 x6 x7 x8 x9 x10 x11 x12 x21 x22).2.2.2.2.2.2.2.2.2.1)) := by
  rw [runA_z]
  intro h
  refine (congrArg _ (emb_S1x1x128 (ix3 0 0 (hl h))).symm).trans ((View.read_writes_cons_emb arg22.view f _ _ _ _).trans ?_)
  exact tile_z A b j _ _ _ _ (fun r d => (ldX arg2 harg2 x2 r d).trans (hB.h2 r d)) (fun d => (ldG arg5 harg5 x5 0 d).trans (hB.h5 d)) (fun i h => (ldWf arg7 harg7 x7 i _).trans (hB.h7 i h)) (fun h => (ldB arg8 harg8 x8 0 _).trans (hB.h8 h)) _ (zero_first A b j x2 x3 x4 x5 x6 x7 x8 x9 x10 x11 x12 hB hj arg22.view arg4 harg4) h

end

end Cert.EvenIn
-- ==== Proof.InFrame.lean ====
module

public import proofs.«01_k».proof.Proof.InBlocks
public import proofs.«01_k».proof.Proof.InStep

/-! The launch of the first half of the layer: what its results hold when it ends. -/

set_option maxRecDepth 16384
set_option backward.proofsInPublic true

@[expose] public section
noncomputable section

namespace Cert.EvenIn
open Cert.InIdeal Cert.InIdeal.Gen Cert.InIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn (ext3 ext4)

local notation "𝕄" => MT nD τ sig Unit (Elt Ideal) ℕ (UR sig nD τ) ℕ

variable (m : (ℓ : Loc nD τ sig) → Buf (Elt Ideal) ℓ) (ρ : Dev nD → PrngReg)

/-- The first tile of a prompt, by the body's test. -/
theorem first_iff : ∀ t : Fin cfg0.N, first (grid0.coords t) = 1#1 ↔ t.val % 32 = 0 :=
  (by decide +kernel : ∀ t : Fin grid0.N, _)

/-- The prompt of the `n`-th point. -/
def nb (n : ℕ) : Fin 2 := ⟨n / 32 % 2, Nat.mod_lt _ (by decide)⟩

/-- What the carried buffers hold before the `n`-th point: unless a prompt begins there, the two rows before the tile
    and the sum over the positions before it. -/
def Inv (A : Arrs) (n : ℕ) (f : Vec Ideal S1x520x512 .f32) (z : Vec Ideal S1x1x128 .f32) : Prop :=
  n % 32 ≠ 0 → Held A (nb n) (n % 32) f ∧ HeldZ A (nb n) (n % 32) z

/-- The two scratch buffers and the generator's register before the `n`-th point. -/
def phi (c : Dev nD) (n : ℕ) : sProp 𝕄 :=
  iprop((∃ f : Vec Ideal S1x520x512 .f32, ∃ z : Vec Ideal S1x1x128 .f32, owns (c : Thread nD τ) (Memref.whole cc0_scratch0) fullShare f
    ∗ owns (c : Thread nD τ) (Memref.whole cc0_scratch1) fullShare z ∗ ⌜Inv (arrs m c) n f z⌝) ∗ ∃ r, prngReg c r)

/-- The launch's proof data: after a point, each input's buffer at its block and the results' at the tile's rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fq (arrs m c) (gb t) (t.val % 32)
    | ⟨12, _⟩ => fk (arrs m c) (gb t) (t.val % 32)
    | ⟨13, _⟩ => fv (arrs m c) (gb t) (t.val % 32)
    | ⟨14, _⟩ => fkn (arrs m c) (gb t) (t.val % 32)
    | ⟨15, _⟩ => fvn (arrs m c) (gb t) (t.val % 32)
    | ⟨16, _⟩ => flf (arrs m c) (gb t) (t.val % 32)
    | ⟨17, _⟩ => fob (arrs m c) (gb t) (t.val % 32)
    | ⟨18, _⟩ => fh (arrs m c) (gb t) (t.val % 32)
    | ⟨n + 19, h⟩ => absurd h (by show ¬ n + 19 < 19; omega)
  Φ t := phi m c t.val
  q _ := fullShare
  owed _ := 0

/-- The arrays are those the launch finds. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = fq (arrs m c) (gb t) (t.val % 32) := by dsimp only [dats]
theorem after12 (c : Dev nD) (t : Fin cfg0.N) : (dats m 0 c).after 12 t = fk (arrs m c) (gb t) (t.val % 32) := by dsimp only [dats]
theorem after13 (c : Dev nD) (t : Fin cfg0.N) : (dats m 0 c).after 13 t = fv (arrs m c) (gb t) (t.val % 32) := by dsimp only [dats]
theorem after14 (c : Dev nD) (t : Fin cfg0.N) : (dats m 0 c).after 14 t = fkn (arrs m c) (gb t) (t.val % 32) := by dsimp only [dats]
theorem after15 (c : Dev nD) (t : Fin cfg0.N) : (dats m 0 c).after 15 t = fvn (arrs m c) (gb t) (t.val % 32) := by dsimp only [dats]
theorem after16 (c : Dev nD) (t : Fin cfg0.N) : (dats m 0 c).after 16 t = flf (arrs m c) (gb t) (t.val % 32) := by dsimp only [dats]
theorem after17 (c : Dev nD) (t : Fin cfg0.N) : (dats m 0 c).after 17 t = fob (arrs m c) (gb t) (t.val % 32) := by dsimp only [dats]
theorem after18 (c : Dev nD) (t : Fin cfg0.N) : (dats m 0 c).after 18 t = fh (arrs m c) (gb t) (t.val % 32) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

/-- The blocks of a point are those of its tile. -/
theorem blocks (c : Dev nD) (t : Fin cfg0.N) : Blocks (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) where
  h2 := iblk0 m c t
  h3 := iblk1 m c t
  h4 := iblk2 m c t
  h5 := iblk3 m c t
  h6 := iblk4 m c t
  h7 := iblk5 m c t
  h8 := iblk6 m c t
  h9 := iblk7 m c t
  h10 := iblk8 m c t
  h11 := iblk9 m c t
  h12 := iblk10 m c t

/-- What a tile hands on is in place before the next point. -/
theorem inv_next (A : Arrs) (t : Fin cfg0.N) (f : Vec Ideal S1x520x512 .f32) (z : Vec Ideal S1x1x128 .f32)
    (h : Held A (gb t) (gj t + 1) f) (hz : HeldZ A (gb t) (gj t + 1) z) : Inv A (t.val + 1) f z := by
  intro hn
  have := lt64 t
  have e : nb (t.val + 1) = gb t := Fin.ext (by show (t.val + 1) / 32 % 2 = t.val / 32; omega)
  have e2 : (t.val + 1) % 32 = gj t + 1 := by show (t.val + 1) % 32 = t.val % 32 + 1; omega
  rw [e, e2]
  exact ⟨h, hz⟩

/-- What is in place before a point. -/
theorem inv_here (A : Arrs) (t : Fin cfg0.N) (f : Vec Ideal S1x520x512 .f32) (z : Vec Ideal S1x1x128 .f32) (h : Inv A t.val f z) (hn : ¬ t.val % 32 = 0) :
    Held A (gb t) (gj t) f ∧ HeldZ A (gb t) (gj t) z := by
  have := lt64 t
  have e : nb t.val = gb t := Fin.ext (by show t.val / 32 % 2 = t.val / 32; omega)
  have h2 := h hn
  rw [e] at h2
  exact h2

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d))
    ∗ (∃ d, owns (c : Thread nD τ) (win0_18.stage (cfg0.slots t 18)) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t)
    ∗ owns (c : Thread nD τ) (win0_16.stage (cfg0.slots t 16)) fullShare ((dats m 0 c).after 16 t)
    ∗ owns (c : Thread nD τ) (win0_17.stage (cfg0.slots t 17)) fullShare ((dats m 0 c).after 17 t)
    ∗ owns (c : Thread nD τ) (win0_18.stage (cfg0.slots t 18)) fullShare ((dats m 0 c).after 18 t))

set_option maxHeartbeats 4000000 in
/-- The body at a point: the first tile of a prompt starts from the history, a later one from what is carried over. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = phi m c (t.val + 1) from rfl, show (dats m 0 c).Φ t.castSucc = phi m c t.val from rfl,
    show (dats m 0 c).owesAt () t.succ = (dats m 0 c).owesAt () t.castSucc from rfl,
    after0, after1, after2, after3, after4, after5, after6, after7, after8, after9, after10, after11, after12, after13, after14, after15, after16, after17, after18]
  unfold phi
  iintro ⟨⟨⟨%x21, %x22, HS, HZ, %hinv⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  by_cases hc : first (grid0.coords t) = 1#1
  · have hj : (gj t).val = 0 := (first_iff t).1 hc
    iapply ((runA c (grid0.coords t) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS]; · iexact HS
    isplitl [HZ]; · iexact HZ
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS, HZ⟩
    isplitl [HS HZ Hg]
    · isplitl [HS HZ]
      · iexists _
        iexists _
        isplitl [HS]
        · unfold owns
          iexists _
          isplitr
          swap; · iexact HS
          ipureintro; rfl
        isplitl [HZ]
        · unfold owns
          iexists _
          isplitr
          swap; · iexact HZ
          ipureintro; rfl
        · ipureintro
          exact inv_next _ t _ _ (stepA_c (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _) (stepA_z (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns
      iexists _
      isplitr
      swap; · iexact H11
      ipureintro; exact stepA_q (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H12]
    · unfold owns
      iexists _
      isplitr
      swap; · iexact H12
      ipureintro; exact stepA_k (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H13]
    · unfold owns
      iexists _
      isplitr
      swap; · iexact H13
      ipureintro; exact stepA_v (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H14]
    · unfold owns
      iexists _
      isplitr
      swap; · iexact H14
      ipureintro; exact stepA_kn (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H15]
    · unfold owns
      iexists _
      isplitr
      swap; · iexact H15
      ipureintro; exact stepA_vn (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H16]
    · unfold owns
      iexists _
      isplitr
      swap; · iexact H16
      ipureintro; exact stepA_lf (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    isplitl [H17]
    · unfold owns
      iexists _
      isplitr
      swap; · iexact H17
      ipureintro; exact stepA_ob (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
    · unfold owns
      iexists _
      isplitr
      swap; · iexact H18
      ipureintro; exact stepA_h (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc hj x21 x22 _
  · have hh := inv_here _ t x21 x22 hinv fun h => hc ((first_iff t).2 h)
    iapply ((runB c (grid0.coords t) _ _ _ _ _ _ _ _ _ _ _ _ _ _ _ _ _ _ _ _ _ _ _ _ _ _ _ _ _ _ _ _ _ _ _ _ _ _ (Memref.whole cc0_scratch0) (Memref.isWhole_whole _) (Memref.whole cc0_scratch1) (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) x21 x22).2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [HS]; · iexact HS
    isplitl [HZ]; · iexact HZ
    iintro ⟨H0, H1, H2, H3, H4, H5, H6, H7, H8, H9, H10, ⟨%e11, H11⟩, ⟨%e12, H12⟩, ⟨%e13, H13⟩, ⟨%e14, H14⟩, ⟨%e15, H15⟩, ⟨%e16, H16⟩, ⟨%e17, H17⟩, ⟨%e18, H18⟩, HS, HZ⟩
    isplitl [HS HZ Hg]
    · isplitl [HS HZ]
      · iexists _
        iexists _
        isplitl [HS]
        · unfold owns
          iexists _
          isplitr
          swap; · iexact HS
          ipureintro; rfl
        isplitl [HZ]
        · unfold owns
          iexists _
          isplitr
          swap; · iexact HZ
          ipureintro; rfl
        · ipureintro
          exact inv_next _ t _ _ (stepB_c (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _) (stepB_z (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 hh.2 _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]
    · unfold owns
      iexists _
      isplitr
      swap; · iexact H11
      ipureintro; exact stepB_q (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 hh.2 _
    isplitl [H12]
    · unfold owns
      iexists _
      isplitr
      swap; · iexact H12
      ipureintro; exact stepB_k (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 hh.2 _
    isplitl [H13]
    · unfold owns
      iexists _
      isplitr
      swap; · iexact H13
      ipureintro; exact stepB_v (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _
    isplitl [H14]
    · unfold owns
      iexists _
      isplitr
      swap; · iexact H14
      ipureintro; exact stepB_kn (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _
    isplitl [H15]
    · unfold owns
      iexists _
      isplitr
      swap; · iexact H15
      ipureintro; exact stepB_vn (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _
    isplitl [H16]
    · unfold owns
      iexists _
      isplitr
      swap; · iexact H16
      ipureintro; exact stepB_lf (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _
    isplitl [H17]
    · unfold owns
      iexists _
      isplitr
      swap; · iexact H17
      ipureintro; exact stepB_ob (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 hh.1 _
    · unfold owns
      iexists _
      isplitr
      swap; · iexact H18
      ipureintro; exact stepB_h (arrs m c) (gb t) (gj t) (iblk m c 0 t) (iblk m c 1 t) (iblk m c 2 t) (iblk m c 3 t) (iblk m c 4 t) (iblk m c 5 t) (iblk m c 6 t) (iblk m c 7 t) (iblk m c 8 t) (iblk m c 9 t) (iblk m c 10 t) (blocks m c t) c (grid0.coords t) _ _ _ _ _ _ _ _ _ _ _ _ _ _ _ _ _ _ _ _ _ _ _ _ _ _ _ _ _ _ _ _ _ _ _ _ _ _ _ _ _ _ hc  x21 x22 _

/-- The body's row of the table at a point. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The launch begins with the scratch buffers at any contents. -/
theorem phi_in (c : Dev nD) : Pipeline.ΦA spec0 c ⊢ (dats m 0 c).Φ 0 := by
  rw [show (dats m 0 c).Φ 0 = phi m c 0 from rfl]
  unfold Pipeline.ΦA phi
  rw [scopedRest0_eq]
  simp only [owns_whole]
  iintro ⟨⟨⟨%f, HS⟩, ⟨%d, HT⟩⟩, Hg⟩
  isplitl [HS HT]
  · iexists f
    iexists d
    isplitl [HS]; · iexact HS
    isplitl [HT]; · iexact HT
    ipureintro; exact fun h => absurd rfl h
  iexact Hg

/-- The launch ends with the scratch buffers at any contents. -/
theorem phi_out (c : Dev nD) : (dats m 0 c).Φ (Fin.last cfg0.N) ⊢ Pipeline.ΦA spec0 c := by
  rw [show (dats m 0 c).Φ (Fin.last cfg0.N) = phi m c cfg0.N from rfl]
  unfold Pipeline.ΦA phi
  rw [scopedRest0_eq]
  simp only [owns_whole]
  iintro ⟨⟨%f, %d, HS, HT, -⟩, Hg⟩
  isplitl [HS HT]
  · isplitl [HS]; · iexists f; iexact HS
    iexists d; iexact HT
  iexact Hg

set_option backward.isDefEq.respectTransparency.types false in
/-- The launch ends with its arrays as the proof data says and every counter at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

/-- The launch ends with its arrays as the proof data says. -/
theorem run_main : θ_run defs (onTc (τ := τ) (main (F := Ideal))) (s₀ m ρ) (Pipeline.FramePost cfgs (dats m) 0 (V m)) :=
  (θ_run defs _ _).mono (fun _ h => h.1) (run_main_quiescent m ρ)

/-- The launch ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

/-! ## The results, from the arguments -/

def resQ (A : Arrs) : S2x8x16384x128.Idx → EReal := fun y => oq A (y 0) (y 2).val (y 1) (y 3)
def resK (A : Arrs) : S2x8x16384x128.Idx → EReal := fun y => ok A (y 0) (y 2).val (y 1) (y 3)
def resV (A : Arrs) : S2x8x16384x128.Idx → EReal := fun y => ov A (y 0) (y 2).val (y 1) (y 3)
def resKn (A : Arrs) : S2x16384x512.Idx → EReal := fun y => hnorm (pm A (y 0) 1 (y 1).val) (gaink A) (y 2)
def resVn (A : Arrs) : S2x16384x512.Idx → EReal := fun y => pm A (y 0) 2 (y 1).val (y 2)
def resLf (A : Arrs) : S2x16384x8.Idx → EReal := fun y => lf A (y 0) (y 1).val (y 2)
def resOb (A : Arrs) : S2x16384x512.Idx → EReal := fun y => gob A (y 0) (y 1).val (y 2)
def resH (A : Arrs) : S2x2x512.Idx → EReal := fun y => xp A (y 0) (16384 + (y 1).val) (y 2)

/-- A position of a tile, in the prompt, as a number. -/
theorem pos_val (t : Fin cfg0.N) (r : ℕ) (hr : r < 512) : (pos (512 * gj t + r)).val = 512 * (t.val % 32) + r :=
  Nat.mod_eq_of_lt (by show 512 * (t.val % 32) + r < 16384; omega)

set_option maxHeartbeats 1000000 in
/-- The launch leaves this result. -/
theorem final11 (c : Dev nD) : (dats m 0 c).arrAt 11 cfg0.N = resQ (arrs m c) := by
  refine (dats m 0 c).arrAt_eq_of_covers 11 _ (by decide +kernel) fun t _ y => ?_
  blk_simp
  have hy : y = ix4 0 (y 1) (y 2) (y 3) := ext4 _ _ (Fin.ext (by have := (y 0).isLt; exact Nat.lt_one_iff.1 this)) rfl rfl rfl
  refine (congrArg (fun z => (dats m 0 c).after 11 t z) hy).trans ?_
  refine Eq.trans ?_ (congrArg (resQ (arrs m c)) (((congrArg _ hy).trans (emb11 t (y 1) (y 2) (y 3))).symm))
  rw [after11]
  show oq (arrs m c) (gb t) (512 * (t.val % 32) + (y 2).val) (y 1) (y 3) = oq (arrs m c) (gb t) (pos (512 * gj t + (y 2).val)).val (y 1) (y 3)
  rw [pos_val t (y 2).val (y 2).isLt]

set_option maxHeartbeats 1000000 in
/-- The launch leaves this result. -/
theorem final12 (c : Dev nD) : (dats m 0 c).arrAt 12 cfg0.N = resK (arrs m c) := by
  refine (dats m 0 c).arrAt_eq_of_covers 12 _ (by decide +kernel) fun t _ y => ?_
  blk_simp
  have hy : y = ix4 0 (y 1) (y 2) (y 3) := ext4 _ _ (Fin.ext (by have := (y 0).isLt; exact Nat.lt_one_iff.1 this)) rfl rfl rfl
  refine (congrArg (fun z => (dats m 0 c).after 12 t z) hy).trans ?_
  refine Eq.trans ?_ (congrArg (resK (arrs m c)) (((congrArg _ hy).trans (emb12 t (y 1) (y 2) (y 3))).symm))
  rw [after12]
  show ok (arrs m c) (gb t) (512 * (t.val % 32) + (y 2).val) (y 1) (y 3) = ok (arrs m c) (gb t) (pos (512 * gj t + (y 2).val)).val (y 1) (y 3)
  rw [pos_val t (y 2).val (y 2).isLt]

set_option maxHeartbeats 1000000 in
/-- The launch leaves this result. -/
theorem final13 (c : Dev nD) : (dats m 0 c).arrAt 13 cfg0.N = resV (arrs m c) := by
  refine (dats m 0 c).arrAt_eq_of_covers 13 _ (by decide +kernel) fun t _ y => ?_
  blk_simp
  have hy : y = ix4 0 (y 1) (y 2) (y 3) := ext4 _ _ (Fin.ext (by have := (y 0).isLt; exact Nat.lt_one_iff.1 this)) rfl rfl rfl
  refine (congrArg (fun z => (dats m 0 c).after 13 t z) hy).trans ?_
  refine Eq.trans ?_ (congrArg (resV (arrs m c)) (((congrArg _ hy).trans (emb13 t (y 1) (y 2) (y 3))).symm))
  rw [after13]
  show ov (arrs m c) (gb t) (512 * (t.val % 32) + (y 2).val) (y 1) (y 3) = ov (arrs m c) (gb t) (pos (512 * gj t + (y 2).val)).val (y 1) (y 3)
  rw [pos_val t (y 2).val (y 2).isLt]

set_option maxHeartbeats 1000000 in
/-- The launch leaves this result. -/
theorem final14 (c : Dev nD) : (dats m 0 c).arrAt 14 cfg0.N = resKn (arrs m c) := by
  refine (dats m 0 c).arrAt_eq_of_covers 14 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 14 t z) hy).trans ?_
  refine Eq.trans ?_ (congrArg (resKn (arrs m c)) (((congrArg _ hy).trans (emb14 t (y 1) (y 2))).symm))
  rw [after14]
  show hnorm (pm (arrs m c) (gb t) 1 (512 * (t.val % 32) + (y 1).val)) (gaink (arrs m c)) (y 2) = hnorm (pm (arrs m c) (gb t) 1 (pos (512 * gj t + (y 1).val)).val) (gaink (arrs m c)) (y 2)
  rw [pos_val t (y 1).val (y 1).isLt]

set_option maxHeartbeats 1000000 in
/-- The launch leaves this result. -/
theorem final15 (c : Dev nD) : (dats m 0 c).arrAt 15 cfg0.N = resVn (arrs m c) := by
  refine (dats m 0 c).arrAt_eq_of_covers 15 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 15 t z) hy).trans ?_
  refine Eq.trans ?_ (congrArg (resVn (arrs m c)) (((congrArg _ hy).trans (emb15 t (y 1) (y 2))).symm))
  rw [after15]
  show pm (arrs m c) (gb t) 2 (512 * (t.val % 32) + (y 1).val) (y 2) = pm (arrs m c) (gb t) 2 (pos (512 * gj t + (y 1).val)).val (y 2)
  rw [pos_val t (y 1).val (y 1).isLt]

set_option maxHeartbeats 1000000 in
/-- The launch leaves this result. -/
theorem final16 (c : Dev nD) : (dats m 0 c).arrAt 16 cfg0.N = resLf (arrs m c) := by
  refine (dats m 0 c).arrAt_eq_of_covers 16 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 16 t z) hy).trans ?_
  refine Eq.trans ?_ (congrArg (resLf (arrs m c)) (((congrArg _ hy).trans (emb16 t (y 1) (y 2))).symm))
  rw [after16]
  show lf (arrs m c) (gb t) (512 * (t.val % 32) + (y 1).val) (y 2) = lf (arrs m c) (gb t) (pos (512 * gj t + (y 1).val)).val (y 2)
  rw [pos_val t (y 1).val (y 1).isLt]

set_option maxHeartbeats 1000000 in
/-- The launch leaves this result. -/
theorem final17 (c : Dev nD) : (dats m 0 c).arrAt 17 cfg0.N = resOb (arrs m c) := by
  refine (dats m 0 c).arrAt_eq_of_covers 17 _ (by decide +kernel) fun t _ y => ?_
  blk_simp
  have hy : y = ix3 0 (y 1) (y 2) := ext3 _ _ (Fin.ext (by have := (y 0).isLt; exact Nat.lt_one_iff.1 this)) rfl rfl
  refine (congrArg (fun z => (dats m 0 c).after 17 t z) hy).trans ?_
  refine Eq.trans ?_ (congrArg (resOb (arrs m c)) (((congrArg _ hy).trans (emb17 t (y 1) (y 2))).symm))
  rw [after17]
  show gob (arrs m c) (gb t) (512 * (t.val % 32) + (y 1).val) (y 2) = gob (arrs m c) (gb t) (pos (512 * gj t + (y 1).val)).val (y 2)
  rw [pos_val t (y 1).val (y 1).isLt]

set_option maxHeartbeats 1000000 in
/-- The launch leaves the new history. -/
theorem final18 (c : Dev nD) : (dats m 0 c).arrAt 18 cfg0.N = resH (arrs m c) := by
  refine (dats m 0 c).arrAt_eq_of_covers 18 _ (by decide +kernel) fun t hf y => ?_
  have ht := (flush0_18 t).1 hf
  blk_simp
  have hy : y = ix3 0 (y 1) (y 2) := ext3 _ _ (Fin.ext (by have := (y 0).isLt; exact Nat.lt_one_iff.1 this)) rfl rfl
  refine (congrArg (fun z => (dats m 0 c).after 18 t z) hy).trans ?_
  refine Eq.trans ?_ (congrArg (resH (arrs m c)) (((congrArg _ hy).trans (emb18 t (y 1) (y 2))).symm))
  rw [after18]
  show xp (arrs m c) (gb t) (512 * (t.val % 32 + 1) + (y 1).val) (y 2) = xp (arrs m c) (gb t) (16384 + (y 1).val) (y 2)
  rw [ht]

end Cert.EvenIn
-- ==== Proof.InRef.lean ====
module

public import proofs.«01_k».proof.Proof.InMath
public import proofs.«01_k».proof.Proof.Gen.InReferenceIdeal.Read

/-! The reference's eight results at an entry. -/

set_option maxRecDepth 16384
set_option backward.proofsInPublic true

@[expose] public section
noncomputable section

namespace Cert.EvenIn
open Idealize.ShloMosaic Cert.InReferenceIdeal Cert.InReferenceIdeal.Read
open Cert.InIdeal.Body (ext2 logsig qx kx vx hrow)
open Cert.Attn (ext3 ext4 sge_ofNat select_ofBool)

variable (A : Arrs) (b : Fin 2)

/-- The bit pattern of one. -/
theorem oneBits : Ideal.ofBits .f32 0x3F800000#32 = 1 := by
  simp [Ideal.ofBits, Ideal.ieee]
  rw [← EReal.coe_mul]
  norm_num

/-- A position of the sequence is itself. -/
theorem pos_fin (t : Fin 16384) : pos t.val = t := Fin.ext (Nat.mod_eq_of_lt t.isLt)

/-- Lane `l` of head `h` among 512. -/
abbrev hc (h : Fin 8) (l : Fin 64) : Fin 512 := ⟨64 * h.val + l.val, Nat.lt_of_lt_of_le (Nat.add_lt_add_left l.isLt (64 * h.val)) (by have := h.isLt; omega)⟩

/-- The projection's columns before the forget gate, -/
theorem mc_lo (k : ℕ) (hk : k < 3) (j : Fin 512) : (mc k j).val = 512 * k + j.val := by
  show 512 * (k % 6) + j.val + (if k % 6 < 3 then 0 else 8) = _
  rw [if_pos (by omega)]
  omega

/-- and after it. -/
theorem mc_hi (k : ℕ) (h3 : 3 ≤ k) (h6 : k < 6) (j : Fin 512) : (mc k j).val = 512 * k + j.val + 8 := by
  show 512 * (k % 6) + j.val + (if k % 6 < 3 then 0 else 8) = _
  rw [if_neg (by omega)]
  omega

/-- A normalised row, at a lane of a head. -/
theorem hnorm_hc (p : Fin 512 → EReal) (g : Fin 64 → EReal) (h : Fin 8) (l : Fin 64) :
    hnorm p g (hc h l) = p (hc h l) * Ideal.rsqrt (Ideal.div (∑ k : Fin 64, p (hc h k) * p (hc h k)) (Ideal.ofBits .f32 0x42800000#32)
      + Ideal.ofBits .f32 0x358637BD#32) * g l := by
  have e (k : Fin 64) : lane (hc h l) k = hc h k := Fin.ext (by show 64 * ((64 * h.val + l.val) / 64) + k.val = 64 * h.val + k.val; omega)
  have e2 : (⟨(hc h l).val % 64, Nat.mod_lt _ (by decide)⟩ : Fin 64) = l := Fin.ext (by show (64 * h.val + l.val) % 64 = l.val; omega)
  unfold hnorm
  rw [e2]
  simp only [e]

/-- The sum of the residual's squares. -/
theorem r1 (t : Fin 16384) : val_main_v1 (F := Ideal) A.X (ix2 b t) = ∑ k : Fin 1024, A.X (ix3 b t k) * A.X (ix3 b t k) := by
  rw [val_main_v1_apply]
  refine Eq.trans (congrArg₂ (fun x y : EReal => x + y) (Ideal.ofBits_zero_f32) (Finset.sum_congr rfl fun k _ => ?_)) (zero_add _)
  rw [val_main_v0_apply, ext3 (idx_main_v1 (ix2 b t) k) (ix3 b t k) rfl rfl rfl]
  rfl

/-- The normalised residual. -/
theorem r12 (t : Fin 16384) (d : Fin 1024) : val_main_v12 (F := Ideal) A.X A.G (ix3 b t d) = gxn A b t d := by
  unfold gxn
  rw [pos_fin, val_main_v12_apply, val_main_v9_apply, val_main_v8_apply, val_main_v7_apply, val_main_v6_apply, val_main_v4_apply,
    val_main_v2_apply, val_main_v11_apply, val_main_v10_apply]
  have e : val_main_v1 (F := Ideal) A.X (idx_main_v2 (idx_main_v8 (ix3 b t d))) = ∑ k : Fin 1024, A.X (ix3 b t k) * A.X (ix3 b t k) :=
    (congrArg _ (ext2 (idx_main_v2 (idx_main_v8 (ix3 b t d))) (ix2 b t) rfl rfl)).trans (r1 A b t)
  rw [e, val_main_v3_apply, val_main_v5_apply]
  refine congrArg₂ (fun x y : EReal => x * y) rfl (congrArg A.G (funext fun a => ?_))
  match a with | ⟨0, _⟩ => rfl

/-- The projection. -/
theorem r13 (t : Fin 16384) (c : Fin 3080) : val_main_v13 (F := Ideal) A.X A.G A.W (ix3 b t c) = pr A b t c := by
  rw [val_main_v13_apply]
  refine Finset.sum_congr rfl fun k _ => ?_
  refine congrArg₂ (fun x y : EReal => x * y) ((congrArg _ ?_).trans (r12 A b t k)) (congrArg A.W ?_)
  · exact ext3 _ _ rfl rfl rfl
  · exact ext2 _ _ rfl rfl

/-- The queries, by heads. -/
theorem r15 (t : Fin 16384) (h : Fin 8) (l : Fin 64) : val_main_v15 (F := Ideal) A.X A.G A.W (ix4 b t h l) = pm A b 0 t (hc h l) := by
  unfold pm
  rw [val_main_v15_apply, val_main_v14_apply, ← r13]
  refine congrArg (val_main_v13 (F := Ideal) A.X A.G A.W) (ext3 (idx_main_v14 (idx_main_v15 (ix4 b t h l))) (ix3 b t (mc 0 (hc h l))) (Fin.ext ?_) (Fin.ext ?_) (Fin.ext ?_))
  · show (((b.val * 16384 + t.val) * 8 + h.val) * 64 + l.val) / 8388608 = b.val
    omega
  · show (((b.val * 16384 + t.val) * 8 + h.val) * 64 + l.val) / 512 % 16384 = t.val
    omega
  · refine Eq.trans ?_ (mc_lo 0 (by decide) (hc h l)).symm
    show (((b.val * 16384 + t.val) * 8 + h.val) * 64 + l.val) % 512 = 512 * 0 + (64 * h.val + l.val)
    omega

/-- The keys, by heads. -/
theorem r30 (t : Fin 16384) (h : Fin 8) (l : Fin 64) : val_main_v30 (F := Ideal) A.X A.G A.W (ix4 b t h l) = pm A b 1 t (hc h l) := by
  unfold pm
  rw [val_main_v30_apply, val_main_v29_apply, ← r13]
  refine congrArg (val_main_v13 (F := Ideal) A.X A.G A.W) (ext3 (idx_main_v29 (idx_main_v30 (ix4 b t h l))) (ix3 b t (mc 1 (hc h l))) (Fin.ext ?_) (Fin.ext ?_) (Fin.ext ?_))
  · show (((b.val * 16384 + t.val) * 8 + h.val) * 64 + l.val) / 8388608 = b.val
    omega
  · show (((b.val * 16384 + t.val) * 8 + h.val) * 64 + l.val) / 512 % 16384 = t.val
    omega
  · refine Eq.trans ?_ (mc_lo 1 (by decide) (hc h l)).symm
    show 512 + (((b.val * 16384 + t.val) * 8 + h.val) * 64 + l.val) % 512 = 512 * 1 + (64 * h.val + l.val)
    omega

/-- The values, by heads. -/
theorem r45 (t : Fin 16384) (h : Fin 8) (l : Fin 64) : val_main_v45 (F := Ideal) A.X A.G A.W (ix4 b t h l) = pm A b 2 t (hc h l) := by
  unfold pm
  rw [val_main_v45_apply, val_main_v44_apply, ← r13]
  refine congrArg (val_main_v13 (F := Ideal) A.X A.G A.W) (ext3 (idx_main_v44 (idx_main_v45 (ix4 b t h l))) (ix3 b t (mc 2 (hc h l))) (Fin.ext ?_) (Fin.ext ?_) (Fin.ext ?_))
  · show (((b.val * 16384 + t.val) * 8 + h.val) * 64 + l.val) / 8388608 = b.val
    omega
  · show (((b.val * 16384 + t.val) * 8 + h.val) * 64 + l.val) / 512 % 16384 = t.val
    omega
  · refine Eq.trans ?_ (mc_lo 2 (by decide) (hc h l)).symm
    show 1024 + (((b.val * 16384 + t.val) * 8 + h.val) * 64 + l.val) % 512 = 512 * 2 + (64 * h.val + l.val)
    omega

/-- The sum of a head's squares in the queries. -/
theorem r17 (t : Fin 16384) (h : Fin 8) :
    val_main_v17 (F := Ideal) A.X A.G A.W (ix3 b t h) = ∑ l : Fin 64, pm A b 0 t (hc h l) * pm A b 0 t (hc h l) := by
  rw [val_main_v17_apply]
  refine Eq.trans (congrArg₂ (fun x y : EReal => x + y) (Ideal.ofBits_zero_f32) (Finset.sum_congr rfl fun l _ => ?_)) (zero_add _)
  rw [val_main_v16_apply, ext4 (idx_main_v17 (ix3 b t h) l) (ix4 b t h l) rfl rfl rfl rfl, r15]
  rfl

/-- The queries, normalised by heads. -/
theorem r28 (t : Fin 16384) (h : Fin 8) (l : Fin 64) :
    val_main_v28 (F := Ideal) A.X A.G A.W A.Gq (ix4 b t h l) = hnorm (pm A b 0 t) (gainq A) (hc h l) := by
  rw [hnorm_hc, val_main_v28_apply, val_main_v25_apply, val_main_v24_apply, val_main_v23_apply, val_main_v22_apply, val_main_v20_apply,
    val_main_v18_apply, val_main_v27_apply, val_main_v26_apply, r15,
    ext3 (idx_main_v18 (idx_main_v24 (ix4 b t h l))) (ix3 b t h) rfl rfl rfl, r17, val_main_v19_apply, val_main_v21_apply]
  refine congrArg₂ (fun x y : EReal => x * y) rfl (congrArg A.Gq (funext fun a => ?_))
  match a with | ⟨0, _⟩ => rfl

/-- The sum of a head's squares in the keys. -/
theorem r32 (t : Fin 16384) (h : Fin 8) :
    val_main_v32 (F := Ideal) A.X A.G A.W (ix3 b t h) = ∑ l : Fin 64, pm A b 1 t (hc h l) * pm A b 1 t (hc h l) := by
  rw [val_main_v32_apply]
  refine Eq.trans (congrArg₂ (fun x y : EReal => x + y) (Ideal.ofBits_zero_f32) (Finset.sum_congr rfl fun l _ => ?_)) (zero_add _)
  rw [val_main_v31_apply, ext4 (idx_main_v32 (ix3 b t h) l) (ix4 b t h l) rfl rfl rfl rfl, r30]
  rfl

/-- The keys, normalised by heads. -/
theorem r43 (t : Fin 16384) (h : Fin 8) (l : Fin 64) :
    val_main_v43 (F := Ideal) A.X A.G A.W A.Gk (ix4 b t h l) = hnorm (pm A b 1 t) (gaink A) (hc h l) := by
  rw [hnorm_hc, val_main_v43_apply, val_main_v40_apply, val_main_v39_apply, val_main_v38_apply, val_main_v37_apply, val_main_v35_apply,
    val_main_v33_apply, val_main_v42_apply, val_main_v41_apply, r30,
    ext3 (idx_main_v33 (idx_main_v39 (ix4 b t h l))) (ix3 b t h) rfl rfl rfl, r32, val_main_v34_apply, val_main_v36_apply]
  refine congrArg₂ (fun x y : EReal => x * y) rfl (congrArg A.Gk (funext fun a => ?_))
  match a with | ⟨0, _⟩ => rfl

/-- The forget gate, before the logistic. -/
theorem r49 (t : Fin 16384) (h : Fin 8) : val_main_v49 (F := Ideal) A.X A.G A.W A.Bf (ix3 b t h) = pr A b t (fcol h) + A.Bf (ix1 h) := by
  rw [val_main_v49_apply, val_main_v46_apply, val_main_v48_apply, val_main_v47_apply,
    ext3 (idx_main_v46 (ix3 b t h)) (ix3 b t (fcol h)) rfl rfl (Fin.ext (by show 1536 + h.val = 1536 + h.val; rfl)), r13]
  refine congrArg (fun x : EReal => pr A b t (fcol h) + x) (congrArg A.Bf (funext fun a => ?_))
  match a with | ⟨0, _⟩ => rfl

/-- No value differs from itself. -/
theorem une_self (x : EReal) : FloatOps.cmpf (F := Ideal) (φ := .f32) .une x x = 0#1 := by
  show BitVec.ofBool (decide (x ≠ x)) = 0#1
  simp

/-- The logarithm of the logistic, as the reference computes it. -/
theorem softplus (z : EReal) :
    -(max (-z) 0 + Ideal.log1p (Ideal.exp (-(max (-z - 0) (-(-z - 0)))))) = logsig z := by
  unfold logsig
  rw [zero_sub, zero_sub, zero_sub, sub_zero, neg_neg, max_comm (-z) z]

/-- The logarithm of the forget gate. -/
theorem r50 (t : Fin 16384) (h : Fin 8) : val_main_v50 (F := Ideal) A.X A.G A.W A.Bf (ix3 b t h) = lf A b t h := by
  unfold lf
  rw [val_main_v50_apply, val_main_call0_v1_apply, val_main_call0_call0_v4_apply, une_self]
  refine (congrArg (fun x : EReal => -x) (?_ : _ = val_main_call0_call0_v11 (F := Ideal) A.X A.G A.W A.Bf (ix3 b t h))).trans ?_
  · rfl
  rw [val_main_call0_call0_v11_apply, val_main_call0_call0_v10_apply, val_main_call0_call0_v9_apply, val_main_call0_call0_v8_apply,
    val_main_call0_call0_v7_apply, val_main_call0_call0_v3_apply, val_main_call0_call0_v1_apply, val_main_call0_v0_apply, r49,
    val_main_call0_call0_v0_apply, val_main_call0_call0_v2_apply, val_main_call0_call0_cst_apply,
    Ideal.ofBits_def, Ideal.ofBits_zero_f32]
  exact softplus _

/-- What a position adds to the running sum of another. -/
theorem r59 (t k : Fin 16384) (h : Fin 8) :
    val_main_v59 (F := Ideal) A.X A.G A.W A.Bf (ix4 b t k h) = if k.val ≤ t.val then lf A b k h else 0 := by
  rw [val_main_v59_apply, val_main_call1_v1_apply, val_main_v57_apply, val_main_v56_apply, val_main_v54_apply, val_main_v52_apply,
    val_main_v51_apply, val_main_v55_apply, val_main_v53_apply, val_main_v51_apply, val_main_call1_v2_apply, val_main_v58_apply,
    val_main_call1_v3_apply, val_main_call1_v0_apply, val_main_cst_8_apply,
    ext3 (idx_main_v58 (idx_main_call1_v2 (ix4 b t k h))) (ix3 b k h) rfl rfl rfl, r50, Ideal.ofBits_def, Ideal.ofBits_zero_f32]
  show Scalar.select (IntOp.cmpi .sge (BitVec.ofNat 32 t.val) (BitVec.ofNat 32 k.val)) _ _ = _
  rw [sge_ofNat t.val k.val (by omega) (by omega), select_ofBool]

/-- The running sum. -/
theorem r60 (t : Fin 16384) (h : Fin 8) : val_main_v60 (F := Ideal) A.X A.G A.W A.Bf (ix3 b t h) = cs A b (t.val + 1) h := by
  rw [val_main_v60_apply]
  refine Eq.trans (congrArg₂ (fun x y : EReal => x + y) (Ideal.ofBits_zero_f32)
    (Finset.sum_congr rfl fun k _ => ((congrArg _ (ext4 (idx_main_v60 (ix3 b t h) k) (ix4 b t k h) rfl rfl rfl rfl)).trans (r59 A b t k h)))) ?_
  rw [zero_add, Fin.sum_univ_eq_sum_range (fun i => if i ≤ t.val then lf A b i h else 0) 16384, ← Finset.sum_filter]
  unfold cs
  refine Finset.sum_congr (Finset.ext fun n => ?_) fun _ _ => rfl
  rw [Finset.mem_filter, Finset.mem_range, Finset.mem_range]
  omega

/-- The running sum to base two. -/
theorem r88 (i : S2x16384x8.Idx) : val_main_v88 (F := Ideal) A.X A.G A.W A.Bf i = cc A (i 0) (i 1).val (i 2) := by
  rw [val_main_v88_apply, val_main_v87_apply, val_main_cst_10_apply]
  have e : val_main_v60 (F := Ideal) A.X A.G A.W A.Bf i = cs A (i 0) ((i 1).val + 1) (i 2) :=
    (congrArg _ (ext3 i (ix3 (i 0) (i 1) (i 2)) rfl rfl rfl)).trans (r60 A (i 0) (i 1) (i 2))
  rw [e]
  rfl

/-- Its rounding to sixteen bits, -/
theorem r90 (i : S2x16384x8.Idx) : val_main_v90 (F := Ideal) A.X A.G A.W A.Bf i = cc A (i 0) (i 1).val (i 2) := by
  rw [val_main_v90_apply, val_main_v89_apply, r88]
  rfl

/-- what that leaves, rounded, -/
theorem r93 (i : S2x16384x8.Idx) :
    val_main_v93 (F := Ideal) A.X A.G A.W A.Bf i = cc A (i 0) (i 1).val (i 2) - cc A (i 0) (i 1).val (i 2) := by
  rw [val_main_v93_apply, val_main_v92_apply, val_main_v91_apply, r88, r90]
  rfl

/-- and the rest. -/
theorem r95 (i : S2x16384x8.Idx) : val_main_v95 (F := Ideal) A.X A.G A.W A.Bf i
    = cc A (i 0) (i 1).val (i 2) - cc A (i 0) (i 1).val (i 2) - (cc A (i 0) (i 1).val (i 2) - cc A (i 0) (i 1).val (i 2)) := by
  rw [val_main_v95_apply, val_main_v94_apply, r88, r90, r93]
  rfl

/-- Ones. -/
theorem r97 (i : S2x16384x8.Idx) : val_main_v97 (F := Ideal) i = 1 := by
  rw [val_main_v97_apply, val_main_cst_11_apply]
  exact oneBits

/-- Equality of small numbers, as words. -/
theorem eq_ofNat (a c : ℕ) (ha : a < 2 ^ 32) (hc : c < 2 ^ 32) :
    IntOp.cmpi .eq (BitVec.ofNat 32 a) (BitVec.ofNat 32 c) = BitVec.ofBool (decide (a = c)) := by
  show BitVec.ofBool (BitVec.ofNat 32 a == BitVec.ofNat 32 c) = _
  refine congrArg BitVec.ofBool (Bool.eq_iff_iff.2 ?_)
  rw [beq_iff_eq, decide_eq_true_iff]
  constructor
  · intro e
    have := congrArg BitVec.toNat e
    rwa [BitVec.toNat_ofNat, BitVec.toNat_ofNat, Nat.mod_eq_of_lt ha, Nat.mod_eq_of_lt hc] at this
  · rintro rfl; rfl

/-- Lane 5. -/
theorem r99 (i : S64.Idx) : val_main_v99 (F := Ideal) i = BitVec.ofBool (decide ((i 0).val = 5)) := by
  rw [val_main_v99_apply, val_main_v96_apply, val_main_v98_apply, val_main_c_apply]
  exact eq_ofNat (i 0).val 5 (by have h : (i 0).val < 64 := (i 0).isLt; omega) (by decide)

/-- Lane 4. -/
theorem r103 (i : S64.Idx) : val_main_v103 (F := Ideal) i = BitVec.ofBool (decide ((i 0).val = 4)) := by
  rw [val_main_v103_apply, val_main_v96_apply, val_main_v102_apply, val_main_c_13_apply]
  exact eq_ofNat (i 0).val 4 (by have h : (i 0).val < 64 := (i 0).isLt; omega) (by decide)

/-- Lane 3. -/
theorem r107 (i : S64.Idx) : val_main_v107 (F := Ideal) i = BitVec.ofBool (decide ((i 0).val = 3)) := by
  rw [val_main_v107_apply, val_main_v96_apply, val_main_v106_apply, val_main_c_14_apply]
  exact eq_ofNat (i 0).val 3 (by have h : (i 0).val < 64 := (i 0).isLt; omega) (by decide)

/-- Lane 2. -/
theorem r111 (i : S64.Idx) : val_main_v111 (F := Ideal) i = BitVec.ofBool (decide ((i 0).val = 2)) := by
  rw [val_main_v111_apply, val_main_v96_apply, val_main_v110_apply, val_main_c_15_apply]
  exact eq_ofNat (i 0).val 2 (by have h : (i 0).val < 64 := (i 0).isLt; omega) (by decide)

/-- Lane 1. -/
theorem r115 (i : S64.Idx) : val_main_v115 (F := Ideal) i = BitVec.ofBool (decide ((i 0).val = 1)) := by
  rw [val_main_v115_apply, val_main_v96_apply, val_main_v114_apply, val_main_c_16_apply]
  exact eq_ofNat (i 0).val 1 (by have h : (i 0).val < 64 := (i 0).isLt; omega) (by decide)

/-- Lane 0. -/
theorem r119 (i : S64.Idx) : val_main_v119 (F := Ideal) i = BitVec.ofBool (decide ((i 0).val = 0)) := by
  rw [val_main_v119_apply, val_main_v96_apply, val_main_v118_apply, val_main_c_17_apply]
  exact eq_ofNat (i 0).val 0 (by have h : (i 0).val < 64 := (i 0).isLt; omega) (by decide)

/-- Lane 5. -/
theorem r126 (i : S64.Idx) : val_main_v126 (F := Ideal) i = BitVec.ofBool (decide ((i 0).val = 5)) := by
  rw [val_main_v126_apply, val_main_v96_apply, val_main_v125_apply, val_main_c_18_apply]
  exact eq_ofNat (i 0).val 5 (by have h : (i 0).val < 64 := (i 0).isLt; omega) (by decide)

/-- Lane 4. -/
theorem r130 (i : S64.Idx) : val_main_v130 (F := Ideal) i = BitVec.ofBool (decide ((i 0).val = 4)) := by
  rw [val_main_v130_apply, val_main_v96_apply, val_main_v129_apply, val_main_c_20_apply]
  exact eq_ofNat (i 0).val 4 (by have h : (i 0).val < 64 := (i 0).isLt; omega) (by decide)

/-- Lane 3. -/
theorem r134 (i : S64.Idx) : val_main_v134 (F := Ideal) i = BitVec.ofBool (decide ((i 0).val = 3)) := by
  rw [val_main_v134_apply, val_main_v96_apply, val_main_v133_apply, val_main_c_21_apply]
  exact eq_ofNat (i 0).val 3 (by have h : (i 0).val < 64 := (i 0).isLt; omega) (by decide)

/-- Lane 2. -/
theorem r138 (i : S64.Idx) : val_main_v138 (F := Ideal) i = BitVec.ofBool (decide ((i 0).val = 2)) := by
  rw [val_main_v138_apply, val_main_v96_apply, val_main_v137_apply, val_main_c_22_apply]
  exact eq_ofNat (i 0).val 2 (by have h : (i 0).val < 64 := (i 0).isLt; omega) (by decide)

/-- Lane 1. -/
theorem r142 (i : S64.Idx) : val_main_v142 (F := Ideal) i = BitVec.ofBool (decide ((i 0).val = 1)) := by
  rw [val_main_v142_apply, val_main_v96_apply, val_main_v141_apply, val_main_c_23_apply]
  exact eq_ofNat (i 0).val 1 (by have h : (i 0).val < 64 := (i 0).isLt; omega) (by decide)

/-- Lane 0. -/
theorem r146 (i : S64.Idx) : val_main_v146 (F := Ideal) i = BitVec.ofBool (decide ((i 0).val = 0)) := by
  rw [val_main_v146_apply, val_main_v96_apply, val_main_v145_apply, val_main_c_24_apply]
  exact eq_ofNat (i 0).val 0 (by have h : (i 0).val < 64 := (i 0).isLt; omega) (by decide)

/-- Lane 0. -/
theorem r150 (i : S64.Idx) : val_main_v150 (F := Ideal) i = BitVec.ofBool (decide ((i 0).val = 0)) := by
  rw [val_main_v150_apply, val_main_v96_apply, val_main_v149_apply, val_main_c_25_apply]
  exact eq_ofNat (i 0).val 0 (by have h : (i 0).val < 64 := (i 0).isLt; omega) (by decide)

/-- The further lanes of the queries. -/
theorem r121 (t : Fin 16384) (h : Fin 8) (l : Fin 64) : val_main_v121 (F := Ideal) A.X A.G A.W A.Bf (ix4 b t h l) = qx (cc A b t h) (64 + l.val) := by
  rw [val_main_v121_apply, val_main_call7_v0_apply, r119, val_main_call7_v1_apply, val_main_v120_apply, r90, val_main_v117_apply, val_main_call6_v0_apply, r115, val_main_call6_v1_apply, val_main_v116_apply, r93, val_main_v113_apply, val_main_call5_v0_apply, r111, val_main_call5_v1_apply, val_main_v112_apply, r95, val_main_v109_apply, val_main_call4_v0_apply, r107, val_main_call4_v1_apply, val_main_v108_apply, r97, val_main_v105_apply, val_main_call3_v0_apply, r103, val_main_call3_v1_apply, val_main_v104_apply, r97, val_main_v101_apply, val_main_call2_v1_apply, r99, val_main_call2_v2_apply, val_main_v100_apply, r97, val_main_call2_v3_apply, val_main_call2_v0_apply, val_main_cst_12_apply,
    Ideal.ofBits_def, Ideal.ofBits_zero_f32]
  simp only [select_ofBool]
  show (if l.val = 0 then cc A b t h else if l.val = 1 then cc A b t h - cc A b t h else if l.val = 2 then cc A b t h - cc A b t h - (cc A b t h - cc A b t h) else if l.val = 3 then (1 : EReal) else if l.val = 4 then 1 else if l.val = 5 then 1 else 0) = _
  unfold qx
  split_ifs <;> first | rfl | omega

/-- The further lanes of the keys. -/
theorem r148 (t : Fin 16384) (h : Fin 8) (l : Fin 64) : val_main_v148 (F := Ideal) A.X A.G A.W A.Bf (ix4 b t h l) = kx (cc A b t h) (64 + l.val) := by
  rw [val_main_v148_apply, val_main_call13_v0_apply, r146, val_main_call13_v1_apply, val_main_v147_apply, r97, val_main_v144_apply, val_main_call12_v0_apply, r142, val_main_call12_v1_apply, val_main_v143_apply, r97, val_main_v140_apply, val_main_call11_v0_apply, r138, val_main_call11_v1_apply, val_main_v139_apply, r97, val_main_v136_apply, val_main_call10_v0_apply, r134, val_main_call10_v1_apply, val_main_v135_apply, val_main_v122_apply, r90, val_main_v132_apply, val_main_call9_v0_apply, r130, val_main_call9_v1_apply, val_main_v131_apply, val_main_v123_apply, r93, val_main_v128_apply, val_main_call8_v1_apply, r126, val_main_call8_v2_apply, val_main_v127_apply, val_main_v124_apply, r95, val_main_call8_v3_apply, val_main_call8_v0_apply, val_main_cst_19_apply,
    Ideal.ofBits_def, Ideal.ofBits_zero_f32]
  simp only [select_ofBool]
  show (if l.val = 0 then (1 : EReal) else if l.val = 1 then 1 else if l.val = 2 then 1 else if l.val = 3 then -cc A b t h else if l.val = 4 then -(cc A b t h - cc A b t h) else if l.val = 5 then -(cc A b t h - cc A b t h - (cc A b t h - cc A b t h)) else 0) = _
  unfold kx
  split_ifs <;> first | rfl | omega

/-- The further lanes of the values. -/
theorem r152 (b : Fin 2) (t : Fin 16384) (h : Fin 8) (l : Fin 64) : val_main_v152 (F := Ideal) (ix4 b t h l) = vx (64 + l.val) := by
  rw [val_main_v152_apply, val_main_call14_v1_apply, r150, val_main_call14_v2_apply, val_main_v151_apply, r97, val_main_call14_v3_apply, val_main_call14_v0_apply, val_main_cst_26_apply,
    Ideal.ofBits_def, Ideal.ofBits_zero_f32]
  simp only [select_ofBool]
  show (if l.val = 0 then (1 : EReal) else 0) = _
  unfold vx
  split_ifs <;> first | rfl | omega

/-- A row of the queries. -/
theorem r155 (t : Fin 16384) (h : Fin 8) (l : Fin 128) : val_main_v155 (F := Ideal) A.X A.G A.W A.Bf A.Gq (ix4 b t h l) = oq A b t h l := by
  unfold val_main_v155 oq hrow
  by_cases hh : l.val < 64
  · rw [dif_pos hh]
    refine (concatenate_pair_apply_left (3 : Fin S2x16384x8x128.rank) (val_main_v154 (F := Ideal) A.X A.G A.W A.Gq) (val_main_v121 (F := Ideal) A.X A.G A.W A.Bf) _ _ rfl (ix4 b t h (⟨l.val, hh⟩ : Fin 64)) (fun a => ?_)).trans ?_
    · match a with | ⟨0, _⟩ => rfl | ⟨1, _⟩ => rfl | ⟨2, _⟩ => rfl | ⟨3, _⟩ => rfl
    · rw [val_main_v154_apply, r28, val_main_v153_apply, val_main_cst_27_apply]
      rfl
  · rw [dif_neg hh]
    refine (concatenate_pair_apply_right (3 : Fin S2x16384x8x128.rank) (val_main_v154 (F := Ideal) A.X A.G A.W A.Gq) (val_main_v121 (F := Ideal) A.X A.G A.W A.Bf) _ _ rfl rfl (ix4 b t h (⟨l.val - 64, by omega⟩ : Fin 64)) (fun a ha => ?_) ?_).trans ?_
    · match a, ha with
      | ⟨0, _⟩, _ => rfl
      | ⟨1, _⟩, _ => rfl
      | ⟨2, _⟩, _ => rfl
      | ⟨3, _⟩, ha => exact absurd rfl ha
    · show l.val - 64 + 64 = l.val
      omega
    · refine (r121 A b t h ⟨l.val - 64, by omega⟩).trans ?_
      show qx (cc A b t h) (64 + (l.val - 64)) = qx (cc A b t h) l.val
      rw [show 64 + (l.val - 64) = l.val by omega]

/-- The queries, whole. -/
theorem ref_oq : val_main_v157 (F := Ideal) A.X A.G A.W A.Bf A.Gq = fun y => oq A (y 0) (y 2).val (y 1) (y 3) := funext fun y => by
  rw [val_main_v157_apply, val_main_v156_apply]
  exact (congrArg (val_main_v155 (F := Ideal) A.X A.G A.W A.Bf A.Gq) (ext4 (idx_main_v156 y) (ix4 (y 0) (y 2) (y 1) (y 3)) rfl rfl rfl rfl)).trans (r155 A (y 0) (y 2) (y 1) (y 3))

/-- A row of the keys. -/
theorem r158 (t : Fin 16384) (h : Fin 8) (l : Fin 128) : val_main_v158 (F := Ideal) A.X A.G A.W A.Bf A.Gk (ix4 b t h l) = ok A b t h l := by
  unfold val_main_v158 ok hrow
  by_cases hh : l.val < 64
  · rw [dif_pos hh]
    refine (concatenate_pair_apply_left (3 : Fin S2x16384x8x128.rank) (val_main_v43 (F := Ideal) A.X A.G A.W A.Gk) (val_main_v148 (F := Ideal) A.X A.G A.W A.Bf) _ _ rfl (ix4 b t h (⟨l.val, hh⟩ : Fin 64)) (fun a => ?_)).trans ?_
    · match a with | ⟨0, _⟩ => rfl | ⟨1, _⟩ => rfl | ⟨2, _⟩ => rfl | ⟨3, _⟩ => rfl
    · exact r43 A b t h ⟨l.val, hh⟩
  · rw [dif_neg hh]
    refine (concatenate_pair_apply_right (3 : Fin S2x16384x8x128.rank) (val_main_v43 (F := Ideal) A.X A.G A.W A.Gk) (val_main_v148 (F := Ideal) A.X A.G A.W A.Bf) _ _ rfl rfl (ix4 b t h (⟨l.val - 64, by omega⟩ : Fin 64)) (fun a ha => ?_) ?_).trans ?_
    · match a, ha with
      | ⟨0, _⟩, _ => rfl
      | ⟨1, _⟩, _ => rfl
      | ⟨2, _⟩, _ => rfl
      | ⟨3, _⟩, ha => exact absurd rfl ha
    · show l.val - 64 + 64 = l.val
      omega
    · refine (r148 A b t h ⟨l.val - 64, by omega⟩).trans ?_
      show kx (cc A b t h) (64 + (l.val - 64)) = kx (cc A b t h) l.val
      rw [show 64 + (l.val - 64) = l.val by omega]

/-- The keys, whole. -/
theorem ref_ok : val_main_v160 (F := Ideal) A.X A.G A.W A.Bf A.Gk = fun y => ok A (y 0) (y 2).val (y 1) (y 3) := funext fun y => by
  rw [val_main_v160_apply, val_main_v159_apply]
  exact (congrArg (val_main_v158 (F := Ideal) A.X A.G A.W A.Bf A.Gk) (ext4 (idx_main_v159 y) (ix4 (y 0) (y 2) (y 1) (y 3)) rfl rfl rfl rfl)).trans (r158 A (y 0) (y 2) (y 1) (y 3))

/-- A row of the values. -/
theorem r161 (t : Fin 16384) (h : Fin 8) (l : Fin 128) : val_main_v161 (F := Ideal) A.X A.G A.W (ix4 b t h l) = ov A b t h l := by
  unfold val_main_v161 ov hrow
  by_cases hh : l.val < 64
  · rw [dif_pos hh]
    refine (concatenate_pair_apply_left (3 : Fin S2x16384x8x128.rank) (val_main_v45 (F := Ideal) A.X A.G A.W) (val_main_v152 (F := Ideal)) _ _ rfl (ix4 b t h (⟨l.val, hh⟩ : Fin 64)) (fun a => ?_)).trans ?_
    · match a with | ⟨0, _⟩ => rfl | ⟨1, _⟩ => rfl | ⟨2, _⟩ => rfl | ⟨3, _⟩ => rfl
    · exact r45 A b t h ⟨l.val, hh⟩
  · rw [dif_neg hh]
    refine (concatenate_pair_apply_right (3 : Fin S2x16384x8x128.rank) (val_main_v45 (F := Ideal) A.X A.G A.W) (val_main_v152 (F := Ideal)) _ _ rfl rfl (ix4 b t h (⟨l.val - 64, by omega⟩ : Fin 64)) (fun a ha => ?_) ?_).trans ?_
    · match a, ha with
      | ⟨0, _⟩, _ => rfl
      | ⟨1, _⟩, _ => rfl
      | ⟨2, _⟩, _ => rfl
      | ⟨3, _⟩, ha => exact absurd rfl ha
    · show l.val - 64 + 64 = l.val
      omega
    · refine (r152 b t h ⟨l.val - 64, by omega⟩).trans ?_
      show vx (64 + (l.val - 64)) = vx l.val
      rw [show 64 + (l.val - 64) = l.val by omega]

/-- The values, whole. -/
theorem ref_ov : val_main_v163 (F := Ideal) A.X A.G A.W = fun y => ov A (y 0) (y 2).val (y 1) (y 3) := funext fun y => by
  rw [val_main_v163_apply, val_main_v162_apply]
  exact (congrArg (val_main_v161 (F := Ideal) A.X A.G A.W) (ext4 (idx_main_v162 y) (ix4 (y 0) (y 2) (y 1) (y 3)) rfl rfl rfl rfl)).trans (r161 A (y 0) (y 2) (y 1) (y 3))

/-- The keys without the further lanes. -/
theorem r164 (t : Fin 16384) (j : Fin 512) : val_main_v164 (F := Ideal) A.X A.G A.W A.Gk (ix3 b t j) = hnorm (pm A b 1 t) (gaink A) j := by
  have ej : hc (⟨j.val / 64, by omega⟩ : Fin 8) (⟨j.val % 64, Nat.mod_lt _ (by decide)⟩ : Fin 64) = j :=
    Fin.ext (by show 64 * (j.val / 64) + j.val % 64 = j.val; omega)
  rw [val_main_v164_apply]
  refine (congrArg (val_main_v43 (F := Ideal) A.X A.G A.W A.Gk) (ext4 (idx_main_v164 (ix3 b t j)) (ix4 b t (⟨j.val / 64, by omega⟩ : Fin 8) (⟨j.val % 64, Nat.mod_lt _ (by decide)⟩ : Fin 64)) (Fin.ext ?_) (Fin.ext ?_) (Fin.ext ?_) (Fin.ext ?_))).trans
    ((r43 A b t ⟨j.val / 64, by omega⟩ ⟨j.val % 64, Nat.mod_lt _ (by decide)⟩).trans (congrArg (fun j => hnorm (pm A b 1 t) (gaink A) j) ej))
  · show ((b.val * 16384 + t.val) * 512 + j.val) / 8388608 = b.val
    omega
  · show ((b.val * 16384 + t.val) * 512 + j.val) / 512 % 16384 = t.val
    omega
  · show ((b.val * 16384 + t.val) * 512 + j.val) / 64 % 8 = j.val / 64
    omega
  · show ((b.val * 16384 + t.val) * 512 + j.val) % 64 = j.val % 64
    omega

/-- The same, whole. -/
theorem ref_kn : val_main_v164 (F := Ideal) A.X A.G A.W A.Gk = fun y => hnorm (pm A (y 0) 1 (y 1).val) (gaink A) (y 2) :=
  funext fun y => (congrArg _ (ext3 y (ix3 (y 0) (y 1) (y 2)) rfl rfl rfl)).trans (r164 A (y 0) (y 1) (y 2))

/-- The values without the further lanes. -/
theorem r165 (t : Fin 16384) (j : Fin 512) : val_main_v165 (F := Ideal) A.X A.G A.W (ix3 b t j) = pm A b 2 t j := by
  have ej : hc (⟨j.val / 64, by omega⟩ : Fin 8) (⟨j.val % 64, Nat.mod_lt _ (by decide)⟩ : Fin 64) = j :=
    Fin.ext (by show 64 * (j.val / 64) + j.val % 64 = j.val; omega)
  rw [val_main_v165_apply]
  refine (congrArg (val_main_v45 (F := Ideal) A.X A.G A.W) (ext4 (idx_main_v165 (ix3 b t j)) (ix4 b t (⟨j.val / 64, by omega⟩ : Fin 8) (⟨j.val % 64, Nat.mod_lt _ (by decide)⟩ : Fin 64)) (Fin.ext ?_) (Fin.ext ?_) (Fin.ext ?_) (Fin.ext ?_))).trans
    ((r45 A b t ⟨j.val / 64, by omega⟩ ⟨j.val % 64, Nat.mod_lt _ (by decide)⟩).trans (congrArg (fun j => pm A b 2 t j) ej))
  · show ((b.val * 16384 + t.val) * 512 + j.val) / 8388608 = b.val
    omega
  · show ((b.val * 16384 + t.val) * 512 + j.val) / 512 % 16384 = t.val
    omega
  · show ((b.val * 16384 + t.val) * 512 + j.val) / 64 % 8 = j.val / 64
    omega
  · show ((b.val * 16384 + t.val) * 512 + j.val) % 64 = j.val % 64
    omega

/-- The same, whole. -/
theorem ref_vn : val_main_v165 (F := Ideal) A.X A.G A.W = fun y => pm A (y 0) 2 (y 1).val (y 2) :=
  funext fun y => (congrArg _ (ext3 y (ix3 (y 0) (y 1) (y 2)) rfl rfl rfl)).trans (r165 A (y 0) (y 1) (y 2))

/-- The forget gates, whole. -/
theorem ref_lf : val_main_v50 (F := Ideal) A.X A.G A.W A.Bf = fun y => lf A (y 0) (y 1).val (y 2) :=
  funext fun y => (congrArg _ (ext3 y (ix3 (y 0) (y 1) (y 2)) rfl rfl rfl)).trans (r50 A (y 0) (y 1) (y 2))

/-- The convolution's gate. -/
theorem r61 (t : Fin 16384) (c : Fin 512) : val_main_v61 (F := Ideal) A.X A.G A.W (ix3 b t c) = pm A b 3 t c := by
  unfold pm
  rw [val_main_v61_apply, ← r13]
  refine congrArg (val_main_v13 (F := Ideal) A.X A.G A.W) (ext3 (idx_main_v61 (ix3 b t c)) (ix3 b t (mc 3 c)) rfl rfl (Fin.ext ?_))
  refine Eq.trans ?_ (mc_hi 3 (by decide) (by decide) c).symm
  show 1544 + c.val = 512 * 3 + c.val + 8
  omega

/-- One factor of its input, -/
theorem r62 (t : Fin 16384) (c : Fin 512) : val_main_v62 (F := Ideal) A.X A.G A.W (ix3 b t c) = pm A b 4 t c := by
  unfold pm
  rw [val_main_v62_apply, ← r13]
  refine congrArg (val_main_v13 (F := Ideal) A.X A.G A.W) (ext3 (idx_main_v62 (ix3 b t c)) (ix3 b t (mc 4 c)) rfl rfl (Fin.ext ?_))
  refine Eq.trans ?_ (mc_hi 4 (by decide) (by decide) c).symm
  show 2056 + c.val = 512 * 4 + c.val + 8
  omega

/-- and the other. -/
theorem r63 (t : Fin 16384) (c : Fin 512) : val_main_v63 (F := Ideal) A.X A.G A.W (ix3 b t c) = pm A b 5 t c := by
  unfold pm
  rw [val_main_v63_apply, ← r13]
  refine congrArg (val_main_v13 (F := Ideal) A.X A.G A.W) (ext3 (idx_main_v63 (ix3 b t c)) (ix3 b t (mc 5 c)) rfl rfl (Fin.ext ?_))
  refine Eq.trans ?_ (mc_hi 5 (by decide) (by decide) c).symm
  show 2568 + c.val = 512 * 5 + c.val + 8
  omega

/-- The convolution's input. -/
theorem r65 (n : Fin 16386) (c : Fin 512) : val_main_v65 (F := Ideal) A.X A.Hi A.G A.W (ix3 b n c) = xp A b n c := by
  unfold val_main_v65 xp
  by_cases h : n.val < 2
  · rw [dif_pos h]
    refine concatenate_pair_apply_left (1 : Fin S2x16386x512.rank) A.Hi _ _ _ rfl (ix3 b (⟨n.val, h⟩ : Fin 2) c) (fun a => ?_)
    match a with | ⟨0, _⟩ => rfl | ⟨1, _⟩ => rfl | ⟨2, _⟩ => rfl
  · rw [dif_neg h]
    refine (concatenate_pair_apply_right (1 : Fin S2x16386x512.rank) A.Hi (val_main_v64 (F := Ideal) A.X A.G A.W) _ _ rfl rfl (ix3 b ⟨n.val - 2, by omega⟩ c) (fun a ha => ?_) ?_).trans ?_
    · match a, ha with
      | ⟨0, _⟩, _ => rfl
      | ⟨1, _⟩, ha => exact absurd rfl ha
      | ⟨2, _⟩, _ => rfl
    · show n.val - 2 + 2 = n.val
      omega
    · rw [val_main_v64_apply, r62, r63]
      rfl

/-- The gated convolution. -/
theorem r86 (t : Fin 16384) (c : Fin 512) :
    val_main_v86 (F := Ideal) A.X A.Hi A.G A.W A.Cw (ix3 b t c) = gob A b t c := by
  rw [val_main_v86_apply, r61, val_main_v85_apply, val_main_v78_apply, val_main_v71_apply, val_main_v77_apply, val_main_v84_apply]
  have p0 : val_main_v68 (F := Ideal) A.X A.Hi A.G A.W (ix3 b t c) = xp A b (t.val + 0) c := by
    rw [val_main_v68_apply]
    exact (congrArg _ (ext3 (idx_main_v68 (ix3 b t c)) (ix3 b (⟨t.val + 0, by omega⟩ : Fin 16386) c) rfl (Fin.ext (by show t.val = t.val + 0; omega)) rfl)).trans (r65 A b ⟨t.val + 0, by omega⟩ c)
  have q0 : val_main_v70 (F := Ideal) A.Cw (ix3 b t c) = A.Cw (ix2 0 c) := by
    rw [val_main_v70_apply, val_main_v69_apply, val_main_v67_apply, val_main_v66_apply]
    exact congrArg A.Cw (ext2 (idx_main_v66 (idx_main_v67 (idx_main_v69 (idx_main_v70 (ix3 b t c))))) (ix2 (0 : Fin 3) c) rfl (Fin.ext (Nat.mod_eq_of_lt c.isLt)))
  have p1 : val_main_v74 (F := Ideal) A.X A.Hi A.G A.W (ix3 b t c) = xp A b (t.val + 1) c := by
    rw [val_main_v74_apply]
    exact (congrArg _ (ext3 (idx_main_v74 (ix3 b t c)) (ix3 b (⟨t.val + 1, by omega⟩ : Fin 16386) c) rfl (Fin.ext (by show 1 + t.val = t.val + 1; omega)) rfl)).trans (r65 A b ⟨t.val + 1, by omega⟩ c)
  have q1 : val_main_v76 (F := Ideal) A.Cw (ix3 b t c) = A.Cw (ix2 1 c) := by
    rw [val_main_v76_apply, val_main_v75_apply, val_main_v73_apply, val_main_v72_apply]
    exact congrArg A.Cw (ext2 (idx_main_v72 (idx_main_v73 (idx_main_v75 (idx_main_v76 (ix3 b t c))))) (ix2 (1 : Fin 3) c) rfl (Fin.ext (Nat.mod_eq_of_lt c.isLt)))
  have p2 : val_main_v81 (F := Ideal) A.X A.Hi A.G A.W (ix3 b t c) = xp A b (t.val + 2) c := by
    rw [val_main_v81_apply]
    exact (congrArg _ (ext3 (idx_main_v81 (ix3 b t c)) (ix3 b (⟨t.val + 2, by omega⟩ : Fin 16386) c) rfl (Fin.ext (by show 2 + t.val = t.val + 2; omega)) rfl)).trans (r65 A b ⟨t.val + 2, by omega⟩ c)
  have q2 : val_main_v83 (F := Ideal) A.Cw (ix3 b t c) = A.Cw (ix2 2 c) := by
    rw [val_main_v83_apply, val_main_v82_apply, val_main_v80_apply, val_main_v79_apply]
    exact congrArg A.Cw (ext2 (idx_main_v79 (idx_main_v80 (idx_main_v82 (idx_main_v83 (ix3 b t c))))) (ix2 (2 : Fin 3) c) rfl (Fin.ext (Nat.mod_eq_of_lt c.isLt)))
  rw [p0, p1, p2, q0, q1, q2]
  show pm A b 3 t c * (A.Cw (ix2 0 c) * xp A b (t.val + 0) c + A.Cw (ix2 1 c) * xp A b (t.val + 1) c + A.Cw (ix2 2 c) * xp A b (t.val + 2) c) = gob A b t c
  unfold gob
  rw [add_comm (A.Cw (ix2 0 c) * _ + _), add_comm (A.Cw (ix2 0 c) * _), ← add_assoc]
  rfl

/-- The gated convolution, whole. -/
theorem ref_ob : val_main_v166 (F := Ideal) A.X A.Hi A.G A.W A.Cw = fun y => gob A (y 0) (y 1).val (y 2) := funext fun y => by
  rw [val_main_v166_apply]
  exact (congrArg (val_main_v86 (F := Ideal) A.X A.Hi A.G A.W A.Cw) (ext3 y (ix3 (y 0) (y 1) (y 2)) rfl rfl rfl)).trans (r86 A (y 0) (y 1) (y 2))

/-- The new history. -/
theorem r167 (r : Fin 2) (c : Fin 512) : val_main_v167 (F := Ideal) A.X A.Hi A.G A.W (ix3 b r c) = xp A b (16384 + r) c := by
  rw [val_main_v167_apply]
  exact (congrArg _ (ext3 (idx_main_v167 (ix3 b r c)) (ix3 b (⟨16384 + r, by omega⟩ : Fin 16386) c) rfl rfl rfl)).trans (r65 A b ⟨16384 + r, by omega⟩ c)

/-- The new history, whole. -/
theorem ref_h : val_main_v167 (F := Ideal) A.X A.Hi A.G A.W = fun y => xp A (y 0) (16384 + (y 1).val) (y 2) :=
  funext fun y => (congrArg _ (ext3 y (ix3 (y 0) (y 1) (y 2)) rfl rfl rfl)).trans (r167 A (y 0) (y 1) (y 2))

end Cert.EvenIn
-- ==== Proof.SmpLists.lean ====
module

public import proofs.«01_k».proof.Proof.Gen.SmpIdeal.Frame
public import proofs.«01_k».proof.Proof.Gen.SmpIdeal.Value
public import proofs.«01_k».proof.Proof.MixLists

@[expose] public section

set_option maxRecDepth 16384

noncomputable section

namespace Cert.SmpIdeal.Body

open Cert.SmpIdeal Cert.SmpIdeal.Gen
open Cert.MixIdeal.Body (lo lo_le)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The pieces written by one run of the body, as lists

The body works through 22 column ranges of the carried buffer, of 256 columns each: range `2 c` holds the gate columns
of chunk `c` and range `2 c + 1` its value columns. -/

/-- Range `k` of the carried buffer, from row `r0` on, lies inside it. -/
theorem inb13 (r0 k : ℕ) (h : r0 ≤ 8) (a : Fin S8x72x5632.rank) :
    (![0, r0, lo k] : Fin 3 → ℕ) a + S8x64x256.size a ≤ S8x72x5632.size a := by
  have := lo_le k
  match a with
  | ⟨0, _⟩ => exact Nat.le_refl 8
  | ⟨1, _⟩ => exact (show r0 + 64 ≤ 72 by omega)
  | ⟨2, _⟩ => exact this

/-- Range `k` of the matrix of the upward product lies inside it. -/
theorem inb8 (k : ℕ) (a : Fin S1024x5632.rank) :
    (![0, lo k] : Fin 2 → ℕ) a + S1024x256.size a ≤ S1024x5632.size a := by
  have := lo_le k
  match a with
  | ⟨0, _⟩ => exact Nat.le_refl 1024
  | ⟨1, _⟩ => exact this

/-- Range `k` of the taps lies inside them. -/
theorem inb9 (k : ℕ) (a : Fin S3x5632.rank) :
    (![0, lo k] : Fin 2 → ℕ) a + S3x256.size a ≤ S3x5632.size a := by
  have := lo_le k
  match a with
  | ⟨0, _⟩ => exact Nat.le_refl 3
  | ⟨1, _⟩ => exact this

/-- Chunk `c` of the activations lies inside them. -/
theorem inb14 (c : ℕ) (a : Fin S512x2816.rank) :
    (![0, 256 * (c % 11)] : Fin 2 → ℕ) a + S512x256.size a ≤ S512x2816.size a := by
  have : 256 * (c % 11) + 256 ≤ 2816 := by omega
  match a with
  | ⟨0, _⟩ => exact Nat.le_refl 512
  | ⟨1, _⟩ => exact this

abbrev R13 (r0 k : ℕ) (h : r0 ≤ 8) : Rect S8x72x5632 := Rect.unit ![0, r0, lo k] S8x64x256.size (inb13 r0 k h)
abbrev R8 (k : ℕ) : Rect S1024x5632 := Rect.unit ![0, lo k] S1024x256.size (inb8 k)
abbrev R9 (k : ℕ) : Rect S3x5632 := Rect.unit ![0, lo k] S3x256.size (inb9 k)
abbrev R14 (c : ℕ) : Rect S512x2816 := Rect.unit ![0, 256 * (c % 11)] S512x256.size (inb14 c)

/-- The gated activation of a chunk: the gate times its logistic, times the value. -/
def glu (g v : FVec F S512x256 .f32) : FVec F S512x256 .bf16 :=
  shapeCast S512x256 (truncf .bf16 (mulf (mulf g (logistic g)) v) bitsLt_bf16_f32) shapeCasts_S512x256_S512x256

/-- The pieces of the carried buffer after the first `n` ranges, newest first, over the pieces `base`. -/
def hs (xn : FVec F S512x1024 .bf16) (w : ℕ → Vec F S1024x256 .bf16) (base : List (View.Piece (Elt F) S8x72x5632 .f32)) :
    ℕ → List (View.Piece (Elt F) S8x72x5632 .f32)
  | 0 => base
  | k + 1 => ⟨R13 8 k (Nat.le_refl 8), k0_pay6 xn (w k)⟩ :: hs xn w base k

/-- The convolution of range `k`, from the loads at rows 8, 7 and 6 of the carried buffer once the pieces `L` are written. -/
def cv (v : View sig .tc .vmem S8x72x5632 .f32) (old : v.ty.Contents (Elt F)) (L : List (View.Piece (Elt F) S8x72x5632 .f32))
    (k : ℕ) (cw : Vec F S3x256 .f32) : FVec F S512x256 .f32 :=
  k0_pay7 cw (v.readCov L (R13 8 k (by omega)).toLoadRect)
    (v.readAt (Elt F) (R13 7 k (by omega)).toLoadRect (v.writes (Elt F) old L))
    (v.readAt (Elt F) (R13 6 k (by omega)).toLoadRect (v.writes (Elt F) old L))

/-- The pieces of the activations after the first `n` chunks, newest first. -/
def acs (v : View sig .tc .vmem S8x72x5632 .f32) (old : v.ty.Contents (Elt F)) (H : ℕ → List (View.Piece (Elt F) S8x72x5632 .f32))
    (cw : ℕ → Vec F S3x256 .f32) : ℕ → List (View.Piece (Elt F) S512x2816 .bf16)
  | 0 => []
  | n + 1 => ⟨R14 n, glu (cv v old (H (2 * n + 1)) (2 * n) (cw (2 * n))) (cv v old (H (2 * n + 2)) (2 * n + 1) (cw (2 * n + 1)))⟩
      :: acs v old H cw n

variable (c : Dev nD) (i : grid0.Coords) (arg2 : Memref sig .tc .vmem S8x64x1024 .f32) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S8x64x1024 .f32) (harg11 : arg11.IsWhole) (arg12 : Memref sig .tc .vmem S8x2x5632 .f32) (harg12 : arg12.IsWhole) (arg13 : Memref sig .tc .vmem S8x72x5632 .f32) (harg13 : arg13.IsWhole) (arg14 : Memref sig .tc .vmem S512x2816 .bf16) (harg14 : arg14.IsWhole) (hc : cond0_0 i) (x2 : Vec F S8x64x1024 .f32) (x3 : Vec F S8x64x512 .bf16) (x4 : Vec F S8x64x512 .bf16) (x5 : Vec F S8x2x5632 .f32) (x6 : Vec F S1024x1024 .bf16) (x7 : Vec F S1x1024 .f32) (x8 : Vec F S1024x5632 .bf16) (x9 : Vec F S3x5632 .f32) (x10 : Vec F S2816x1024 .bf16)

/-- What the run writes into the first result. -/
theorem run_y :
    (kernelRun0_A c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10).1 = [⟨Rect.unit ![0, 0, 0] S8x64x1024.size inb_S8x64x1024_S8x64x1024_0_0_0, k0_pay1 (k0_pay4 (View.readAt (Elt F) arg3.view (Rect.unit (s := S8x64x512) ![0, 0, 0] S8x64x512.size inb_S8x64x512_S8x64x512_0_0_0).toLoadRect (harg3.unread x3)) (View.readAt (Elt F) arg4.view (Rect.unit (s := S8x64x512) ![0, 0, 0] S8x64x512.size inb_S8x64x512_S8x64x512_0_0_0).toLoadRect (harg4.unread x4)) (View.readAt (Elt F) arg2.view (Rect.unit (s := S8x64x1024) ![0, 0, 0] S8x64x1024.size inb_S8x64x1024_S8x64x1024_0_0_0).toLoadRect (harg2.unread x2)) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)))
      (arg14.view.readCov (acs arg13.view arg13.view.junk (hs (k0_pay5 (View.readAt (Elt F) arg3.view (Rect.unit (s := S8x64x512) ![0, 0, 0] S8x64x512.size inb_S8x64x512_S8x64x512_0_0_0).toLoadRect (harg3.unread x3)) (View.readAt (Elt F) arg4.view (Rect.unit (s := S8x64x512) ![0, 0, 0] S8x64x512.size inb_S8x64x512_S8x64x512_0_0_0).toLoadRect (harg4.unread x4)) (View.readAt (Elt F) arg2.view (Rect.unit (s := S8x64x1024) ![0, 0, 0] S8x64x1024.size inb_S8x64x1024_S8x64x1024_0_0_0).toLoadRect (harg2.unread x2)) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (View.readAt (Elt F) arg7.view (Rect.unit (s := S1x1024) ![0, 0] S1x1024.size inb_S1x1024_S1x1024_0_0).toLoadRect (harg7.unread x7))) (fun k => View.readAt (Elt F) arg8.view (R8 k).toLoadRect (harg8.unread x8)) [⟨Rect.unit ![0, 6, 0] S8x2x5632.size inb_S8x72x5632_S8x2x5632_0_6_0, k0_pay3 (View.readAt (Elt F) arg5.view (Rect.unit ![0, 0, 0] S8x2x5632.size inb_S8x2x5632_S8x2x5632_0_0_0).toLoadRect (harg5.unread x5))⟩]) (fun k => View.readAt (Elt F) arg9.view (R9 k).toLoadRect (harg9.unread x9)) 11) (Rect.unit ![0, 0] S512x2816.size inb_S512x2816_S512x2816_0_0).toLoadRect) (View.readAt (Elt F) arg10.view (Rect.unit (s := S2816x1024) ![0, 0] S2816x1024.size inb_S2816x1024_S2816x1024_0_0).toLoadRect (harg10.unread x10))⟩] := by
  with_unfolding_all rfl

/-- What the run writes into the second result. -/
theorem run_h :
    (kernelRun0_A c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10).2.1 = [⟨Rect.unit ![0, 0, 0] S8x2x5632.size inb_S8x2x5632_S8x2x5632_0_0_0, (arg13.view.readCov ((hs (k0_pay5 (View.readAt (Elt F) arg3.view (Rect.unit (s := S8x64x512) ![0, 0, 0] S8x64x512.size inb_S8x64x512_S8x64x512_0_0_0).toLoadRect (harg3.unread x3)) (View.readAt (Elt F) arg4.view (Rect.unit (s := S8x64x512) ![0, 0, 0] S8x64x512.size inb_S8x64x512_S8x64x512_0_0_0).toLoadRect (harg4.unread x4)) (View.readAt (Elt F) arg2.view (Rect.unit (s := S8x64x1024) ![0, 0, 0] S8x64x1024.size inb_S8x64x1024_S8x64x1024_0_0_0).toLoadRect (harg2.unread x2)) (View.readAt (Elt F) arg6.view (Rect.unit (s := S1024x1024) ![0, 0] S512x1024.size inb_S1024x1024_S512x1024_0_0).toLoadRect (harg6.unread x6)) (View.readAt (Elt F) arg6.view (Rect.unit (s := S1024x1024) ![512, 0] S512x1024.size inb_S1024x1024_S512x1024_512_0).toLoadRect (harg6.unread x6)) (View.readAt (Elt F) arg7.view (Rect.unit (s := S1x1024) ![0, 0] S1x1024.size inb_S1x1024_S1x1024_0_0).toLoadRect (harg7.unread x7))) (fun k => View.readAt (Elt F) arg8.view (R8 k).toLoadRect (harg8.unread x8)) [⟨Rect.unit ![0, 6, 0] S8x2x5632.size inb_S8x72x5632_S8x2x5632_0_6_0, k0_pay3 (View.readAt (Elt F) arg5.view (Rect.unit ![0, 0, 0] S8x2x5632.size inb_S8x2x5632_S8x2x5632_0_0_0).toLoadRect (harg5.unread x5))⟩]) 22) (Rect.unit (s := S8x72x5632) ![0, 70, 0] S8x2x5632.size inb_S8x72x5632_S8x2x5632_0_70_0).toLoadRect)⟩] := by
  with_unfolding_all rfl

end Cert.SmpIdeal.Body
-- ==== Proof.SmpPay.lean ====
module

public import proofs.«01_k».proof.Proof.SmpLists
public import proofs.«01_k».proof.Proof.Word

/-! What one run of the body computes, read at an entry. -/

set_option maxRecDepth 16384

@[expose] public section
noncomputable section

namespace Cert.SmpIdeal.Body
open Idealize.ShloMosaic Idealize.ShloMosaic.TcCoe Idealize.SL.Sem
open Cert.SmpIdeal Cert.SmpIdeal.Gen

/-- Row `r` of stream `n`, among the rows of all the streams. -/
def fl (n : Fin 8) (r : Fin 64) : Fin 512 := ⟨n * 64 + r, by omega⟩

/-- The stream of a row. -/
def st (x : Fin 512) : Fin 8 := ⟨x / 64, by omega⟩

/-- The row in its stream. -/
def ro (x : Fin 512) : Fin 64 := ⟨x % 64, by omega⟩

theorem fl_st (x : Fin 512) : fl (st x) (ro x) = x := Fin.ext (by show x.val / 64 * 64 + x.val % 64 = x.val; omega)
theorem st_fl (n : Fin 8) (r : Fin 64) (h : (fl n r).val / 64 < 8) : (⟨(fl n r).val / 64, h⟩ : Fin 8) = n :=
  Fin.ext (by show (n.val * 64 + r.val) / 64 = n.val; omega)
theorem ro_fl (n : Fin 8) (r : Fin 64) (h : (fl n r).val % 64 < 64) : (⟨(fl n r).val % 64, h⟩ : Fin 64) = r :=
  Fin.ext (by show (n.val * 64 + r.val) % 64 = r.val; omega)

/-- The residual after the output projection. -/
theorem pay4_at (v3 v5 : Vec Ideal S8x64x512 .bf16) (v7 : Vec Ideal S8x64x1024 .f32) (v9 v13 : Vec Ideal S512x1024 .bf16)
    (n : Fin 8) (r : Fin 64) (d : Fin 1024) :
    k0_pay4 (F := Ideal) v3 v5 v7 v9 v13 (ix2 (fl n r) d)
      = v7 (ix3 n r d) + (∑ k : Fin 512, v3 (ix3 n r k) * v9 (ix2 k d)) + ∑ k : Fin 512, v5 (ix3 n r k) * v13 (ix2 k d) := by
  pointwise [k0_pay4]
  simp only [st_fl, ro_fl]

/-- The normalised residual. -/
theorem pay5_at (v3 v5 : Vec Ideal S8x64x512 .bf16) (v7 : Vec Ideal S8x64x1024 .f32) (v9 v13 : Vec Ideal S512x1024 .bf16)
    (v17 : Vec Ideal S1x1024 .f32) (n : Fin 8) (r : Fin 64) (d : Fin 1024) :
    k0_pay5 (F := Ideal) v3 v5 v7 v9 v13 v17 (ix2 (fl n r) d)
      = k0_pay4 (F := Ideal) v3 v5 v7 v9 v13 (ix2 (fl n r) d) * Ideal.rsqrt (Ideal.div
          (∑ k : Fin 1024, k0_pay4 (F := Ideal) v3 v5 v7 v9 v13 (ix2 (fl n r) k) * k0_pay4 (F := Ideal) v3 v5 v7 v9 v13 (ix2 (fl n r) k))
          (Ideal.ofBits .f32 0x44800000#32) + Ideal.ofBits .f32 0x358637BD#32) * v17 (ix2 0 d) := by
  pointwise [k0_pay5]

/-- The upward product of a range of columns. -/
theorem pay6_at (xn : FVec Ideal S512x1024 .bf16) (w : Vec Ideal S1024x256 .bf16) (n : Fin 8) (r : Fin 64) (j : Fin 256) :
    k0_pay6 (F := Ideal) xn w (ix3 n r j) = ∑ k : Fin 1024, xn (ix2 (fl n r) k) * w (ix2 k j) := by
  pointwise [k0_pay6]
  rfl

/-- The convolution of a range of columns. -/
theorem pay7_at (cw : Vec Ideal S3x256 .f32) (a b d : Vec Ideal S8x64x256 .f32) (n : Fin 8) (r : Fin 64) (j : Fin 256) :
    k0_pay7 (F := Ideal) cw a b d (ix2 (fl n r) j)
      = cw (ix2 2 j) * a (ix3 n r j) + cw (ix2 1 j) * b (ix3 n r j) + cw (ix2 0 j) * d (ix3 n r j) := by
  pointwise [k0_pay7]
  simp only [st_fl, ro_fl]

/-- The gated activation. -/
theorem glu_at (g v : FVec Ideal S512x256 .f32) (r : Fin 512) (j : Fin 256) :
    glu (F := Ideal) g v (ix2 r j) = g (ix2 r j) * Ideal.logistic (g (ix2 r j)) * v (ix2 r j) := by
  pointwise [glu]

/-- The first result: the residual plus the downward product. -/
theorem pay1_at (x1 : FVec Ideal S512x1024 .f32) (a : Vec Ideal S512x2816 .bf16) (w : Vec Ideal S2816x1024 .bf16)
    (n : Fin 8) (r : Fin 64) (d : Fin 1024) :
    k0_pay1 (F := Ideal) x1 a w (ix3 n r d) = x1 (ix2 (fl n r) d) + ∑ j : Fin 2816, a (ix2 (fl n r) j) * w (ix2 j d) := by
  pointwise [k0_pay1]
  rfl

/-- A copy of two rows. -/
theorem pay2_at (v : Vec Ideal S8x2x5632 .f32) (n : Fin 8) (r : Fin 2) (c : Fin 5632) :
    k0_pay2 (F := Ideal) v (ix3 n r c) = v (ix3 n r c) := by
  pointwise [k0_pay2]

/-- A copy of two rows. -/
theorem pay3_at (v : Vec Ideal S8x2x5632 .f32) (n : Fin 8) (r : Fin 2) (c : Fin 5632) :
    k0_pay3 (F := Ideal) v (ix3 n r c) = v (ix3 n r c) := by
  pointwise [k0_pay3]

end Cert.SmpIdeal.Body
-- ==== Proof.SmpRead.lean ====
module

public import proofs.«01_k».proof.Proof.SmpPay
public import proofs.«01_k».proof.Proof.MixRead

/-! What the carried buffer and the activations read, once the pieces of a run are written over them. -/

set_option maxRecDepth 16384
set_option backward.proofsInPublic true

@[expose] public section
noncomputable section

namespace Cert.SmpIdeal.Body
open Idealize.ShloMosaic Idealize.ShloMosaic.TcCoe Idealize.SL.Sem
open Cert.SmpIdeal Cert.SmpIdeal.Gen
open Cert.Attn (ext3)
open Cert.MixIdeal.Body (ext2 lo lo_le col conv act)

/-- Equal streams, rows and columns read equal entries. -/
theorem congr3 (P : Fin 8 → ℕ → Fin 5632 → EReal) {a a' : Fin 8} {n n' : ℕ} {c c' : Fin 5632} (h0 : a = a') (h1 : n = n') (h2 : c = c') :
    P a n c = P a' n' c' := by
  subst h0 h1 h2; rfl

/-- What the carried buffer holds from row 6 on, when row `n + 6` holds row `n` of `P`. -/
def rows (P : Fin 8 → ℕ → Fin 5632 → EReal) (y : S8x72x5632.Idx) : EReal := P (y 0) ((y 1).val - 6) (y 2)

variable (v : View sig .tc .vmem S8x72x5632 .f32) (old : v.ty.Contents (Elt Ideal))
  (xn : FVec Ideal S512x1024 .bf16) (w : ℕ → Vec Ideal S1024x256 .bf16)
  (base : List (View.Piece (Elt Ideal) S8x72x5632 .f32)) (P : Fin 8 → ℕ → Fin 5632 → EReal)

/-- Rows 6 and 7 of the carried buffer hold rows 0 and 1 of `P`: by the first pieces written, or by what the buffer held. -/
def Carried : Prop := ∀ y : S8x72x5632.Idx, 6 ≤ (y 1).val → (y 1).val < 8 →
  (∃ p ∈ base, y ∈ p.1.set) ∨ ((∀ p ∈ base, y ∉ p.1.set) ∧ v.read (Elt Ideal) old y = rows P y)

variable (hb : ∀ p ∈ base, ∀ x : p.1.shape.Idx, p.2 x = rows P (p.1.emb x))
  (hw : ∀ k (n : Fin 8) (r : Fin 64) (j : Fin 256), k0_pay6 (F := Ideal) xn (w k) (ix3 n r j) = P n (r + 2) (col k j))

include hw in
/-- The payload of a range, at an index. -/
theorem payload (k : ℕ) (x : (R13 8 k (Nat.le_refl 8)).shape.Idx) :
    k0_pay6 (F := Ideal) xn (w k) x = rows P ((R13 8 k (Nat.le_refl 8)).emb x) := by
  have hx : x = ix3 (x 0) (x 1) (x 2) := ext3 _ _ rfl rfl rfl
  refine (congrArg (k0_pay6 (F := Ideal) xn (w k)) hx).trans ((hw k (x 0) (x 1) (x 2)).trans ?_)
  have e0 : (R13 8 k (Nat.le_refl 8)).emb x 0 = x 0 := Fin.ext (by show 0 + 1 * (x 0).val = (x 0).val; omega)
  have e1 : ((R13 8 k (Nat.le_refl 8)).emb x 1).val - 6 = (x 1).val + 2 := by show 8 + 1 * (x 1).val - 6 = (x 1).val + 2; omega
  have e2 : (R13 8 k (Nat.le_refl 8)).emb x 2 = col k (x 2) := Fin.ext (by show lo k + 1 * (x 2).val = lo k + (x 2).val; omega)
  exact (congr3 P e0 e1 e2).symm

include hb hw in
/-- Every piece agrees with `rows P`. -/
theorem hs_agree : ∀ n, ∀ p ∈ hs (F := Ideal) xn w base n, ∀ x : p.1.shape.Idx, p.2 x = rows P (p.1.emb x)
  | 0 => hb
  | n + 1 => fun p hp => by
    rcases List.mem_cons.1 hp with rfl | hp
    · exact payload xn w P hw n
    · exact hs_agree n p hp

/-- The ranges' pieces leave rows 6 and 7 alone. -/
theorem hs_old (h : Carried v old base P) : ∀ n, Carried v old (hs (F := Ideal) xn w base n) P
  | 0 => h
  | n + 1 => fun y h6 h8 => by
    have hn : y ∉ (R13 8 n (Nat.le_refl 8)).set :=
      Rect.not_mem_set_of_axis _ y 1 8 64 rfl rfl rfl (Or.inl h8)
    rcases hs_old h n y h6 h8 with ⟨p, hp, hy⟩ | ⟨h1, h2⟩
    · exact Or.inl ⟨p, List.mem_cons_of_mem _ hp, hy⟩
    · refine Or.inr ⟨fun p hp => ?_, h2⟩
      rcases List.mem_cons.1 hp with rfl | hp
      · exact hn
      · exact h1 p hp

include hb hw in
/-- Rows 6 and 7 read rows 0 and 1 of `P` whatever ranges are written. -/
theorem read_old (h : Carried v old base P) (n : ℕ) (y : S8x72x5632.Idx) (h6 : 6 ≤ (y 1).val) (h8 : (y 1).val < 8) :
    v.read (Elt Ideal) (v.writes (Elt Ideal) old (hs (F := Ideal) xn w base n)) y = rows P y := by
  rcases hs_old v old xn w base P h n y h6 h8 with hc | ⟨h1, h2⟩
  · exact View.read_writes_apply_of_pieces v old (rows P) _ (hs_agree xn w base P hb hw n) y hc
  · exact (View.read_writes_apply_of_forall_not_mem v old y _ h1).trans h2

include hw in
/-- The range last written, read from row 8 on. -/
theorem read_new (k : ℕ) (r : Fin 64) (j : Fin 256) (y : S8x72x5632.Idx) (h1 : (y 1).val = 8 + r) (h2 : y 2 = col k j) :
    v.read (Elt Ideal) (v.writes (Elt Ideal) old (hs (F := Ideal) xn w base (k + 1))) y = rows P y := by
  have e : y = (R13 8 k (Nat.le_refl 8)).emb (ix3 (y 0) r j) :=
    ext3 _ _ (Fin.ext (by show (y 0).val = 0 + 1 * (y 0).val; omega))
      (Fin.ext (by rw [h1]; show 8 + r.val = 8 + 1 * r.val; omega))
      (Fin.ext (by rw [h2]; show lo k + j.val = lo k + 1 * j.val; omega))
  rw [e]
  exact (View.read_writes_cons_emb v old _ _ _ _).trans (payload xn w P hw k _)

/-- The rows of a range, as they are read. -/
theorem rows_at (r0 k : ℕ) (h8 : r0 ≤ 8) (h6 : 6 ≤ r0) (n : Fin 8) (r : Fin 64) (j : Fin 256) :
    rows P ((R13 r0 k h8).toLoadRect.idx (ix3 n r j)) = P n (r0 - 6 + r) (col k j) := by
  have e0 : (R13 r0 k h8).toLoadRect.idx (ix3 n r j) 0 = n := Fin.ext (by show 0 + 1 * n.val = n.val; omega)
  have e1 : ((R13 r0 k h8).toLoadRect.idx (ix3 n r j) 1).val - 6 = r0 - 6 + r := by show r0 + 1 * r.val - 6 = r0 - 6 + r.val; omega
  have e2 : (R13 r0 k h8).toLoadRect.idx (ix3 n r j) 2 = col k j := Fin.ext (by show lo k + 1 * j.val = lo k + j.val; omega)
  exact congr3 P e0 e1 e2

include hw in
/-- A load of the range last written, from row 8 on. -/
theorem load8 (k : ℕ) (n : Fin 8) (r : Fin 64) (j : Fin 256) (h : 8 ≤ 8) :
    v.readCov (Val := Elt Ideal) (hs (F := Ideal) xn w base (k + 1)) (R13 8 k h).toLoadRect (ix3 n r j) = P n (r + 2) (col k j) := by
  refine (read_new v _ xn w base P hw k r j ((R13 8 k h).toLoadRect.idx (ix3 n r j)) ?_ (Fin.ext ?_)).trans
    ((rows_at P 8 k h (by omega) n r j).trans (congrArg (fun z => P n z (col k j)) (by omega)))
  · show 8 + 1 * r.val = 8 + r.val; omega
  · show lo k + 1 * j.val = lo k + j.val; omega

include hb hw in
/-- A load of the range last written, from row 6 or 7 on. -/
theorem load67 (h : Carried v old base P) (r0 k : ℕ) (h6 : 6 ≤ r0) (h8 : r0 ≤ 8) (n : Fin 8) (r : Fin 64) (j : Fin 256) :
    v.readAt (Elt Ideal) (R13 r0 k h8).toLoadRect (v.writes (Elt Ideal) old (hs (F := Ideal) xn w base (k + 1))) (ix3 n r j)
      = P n (r0 - 6 + r) (col k j) := by
  have e1 : ((R13 r0 k h8).toLoadRect.idx (ix3 n r j) 1).val = r0 + r := by show r0 + 1 * r.val = r0 + r.val; omega
  have e2 : (R13 r0 k h8).toLoadRect.idx (ix3 n r j) 2 = col k j := Fin.ext (by show lo k + 1 * j.val = lo k + j.val; omega)
  refine Eq.trans ?_ (rows_at P r0 k h8 h6 n r j)
  by_cases hc : r0 + r.val < 8
  · exact read_old v old xn w base P hb hw h (k + 1) _ (by rw [e1]; omega) (by rw [e1]; exact hc)
  · exact read_new v old xn w base P hw k ⟨r0 + r - 8, by omega⟩ j _ (by rw [e1]; show r0 + r.val = 8 + (r0 + r.val - 8); omega) e2

/-- The piece of range `k` is among the pieces of the first `n`. -/
theorem mem_hs (k : ℕ) : ∀ n, k < n →
    (⟨R13 8 k (Nat.le_refl 8), k0_pay6 (F := Ideal) xn (w k)⟩ : View.Piece (Elt Ideal) S8x72x5632 .f32) ∈ hs (F := Ideal) xn w base n
  | 0, h => absurd h (Nat.not_lt_zero _)
  | n + 1, h => by
    rcases Nat.lt_succ_iff_lt_or_eq.1 h with h | rfl
    · exact List.mem_cons_of_mem _ (mem_hs k n h)
    · exact List.mem_cons_self

include hb hw in
/-- Once all ranges are written, every row from the eighth on reads its row of `P`. -/
theorem read_all (y : S8x72x5632.Idx) (h8 : 8 ≤ (y 1).val) :
    v.read (Elt Ideal) (v.writes (Elt Ideal) old (hs (F := Ideal) xn w base 22)) y = rows P y := by
  refine View.read_writes_apply_of_pieces v old (rows P) _ (hs_agree xn w base P hb hw 22) y ?_
  have y1 : (y 1).val < 72 := (y 1).isLt
  have y2 : (y 2).val < 5632 := (y 2).isLt
  have y0 : (y 0).val < 8 := (y 0).isLt
  obtain ⟨k, hk, h1, h2⟩ : ∃ k, k < 22 ∧ lo k ≤ (y 2).val ∧ (y 2).val < lo k + 256 := by
    by_cases h : (y 2).val < 2816
    · refine ⟨2 * ((y 2).val / 256), by omega, ?_, ?_⟩ <;> · unfold lo; omega
    · refine ⟨2 * (((y 2).val - 2816) / 256) + 1, by omega, ?_, ?_⟩ <;> · unfold lo; omega
  refine ⟨_, mem_hs xn w base k 22 hk, (LoadRect.mem_set _).2 fun a => ?_⟩
  match a with
  | ⟨0, _⟩ => exact ⟨(y 0).val, y0, (by show (y 0).val = 0 + 1 * (y 0).val; omega)⟩
  | ⟨1, _⟩ => exact ⟨(y 1).val - 8, (by show (y 1).val - 8 < 64; omega), (by show (y 1).val = 8 + 1 * ((y 1).val - 8); omega)⟩
  | ⟨2, _⟩ => exact ⟨(y 2).val - lo k, (by show (y 2).val - lo k < 256; omega), (by show (y 2).val = lo k + 1 * ((y 2).val - lo k); omega)⟩

include hb hw in
/-- The last two rows of the carried buffer are rows 64 and 65 of `P`. -/
theorem tail_at (n : Fin 8) (r : Fin 2) (c : Fin 5632) :
    v.readCov (Val := Elt Ideal) (hs (F := Ideal) xn w base 22)
        (Rect.unit (s := S8x72x5632) ![0, 70, 0] S8x2x5632.size inb_S8x72x5632_S8x2x5632_0_70_0).toLoadRect (ix3 n r c)
      = P n (64 + r) c := by
  let q := (Rect.unit (s := S8x72x5632) ![0, 70, 0] S8x2x5632.size inb_S8x72x5632_S8x2x5632_0_70_0).toLoadRect
  have e0 : q.idx (ix3 n r c) 0 = n := Fin.ext (by show 0 + 1 * n.val = n.val; omega)
  have e1 : (q.idx (ix3 n r c) 1).val - 6 = 64 + r := by show 70 + 1 * r.val - 6 = 64 + r.val; omega
  have e2 : q.idx (ix3 n r c) 2 = c := Fin.ext (by show 0 + 1 * c.val = c.val; omega)
  refine (read_all v _ xn w base P hb hw (q.idx (ix3 n r c)) (by show 8 ≤ 70 + 1 * r.val; omega)).trans ?_
  exact congr3 P e0 e1 e2

variable (cw : ℕ → Vec Ideal S3x256 .f32) (C : Fin 3 → Fin 5632 → EReal)
  (hcw : ∀ k (a : Fin 3) (j : Fin 256), cw k (ix2 a j) = C a (col k j))

include hb hw hcw in
/-- The convolution of a range, at an entry. -/
theorem cv_at (h : Carried v old base P) (k : ℕ) (n : Fin 8) (r : Fin 64) (j : Fin 256) :
    cv (F := Ideal) v old (hs (F := Ideal) xn w base (k + 1)) k (cw k) (ix2 (fl n r) j) = conv (P n) C r (col k j) := by
  unfold cv conv
  rw [pay7_at, hcw, hcw, hcw, load8 v xn w base P hw, load67 v old xn w base P hb hw h 7 k (by omega) (by omega),
    load67 v old xn w base P hb hw h 6 k (by omega) (by omega)]
  congr 3
  · congr 1; omega
  · congr 1; omega

/-- The activation of a row and column, as an entry of the activations' array. -/
def acty (y : S512x2816.Idx) : EReal := act (P (st (y 0))) C (ro (y 0)) (y 1)

include hb hw hcw in
/-- Every piece of the activations agrees with `act`. -/
theorem acs_agree (h : Carried v old base P) : ∀ n, n ≤ 11 → ∀ p ∈ acs (F := Ideal) v old (hs (F := Ideal) xn w base) cw n,
    ∀ x : p.1.shape.Idx, p.2 x = acty P C (p.1.emb x)
  | 0, _ => fun p hp => absurd hp List.not_mem_nil
  | n + 1, hn => fun p hp => by
    rcases List.mem_cons.1 hp with rfl | hp
    · intro x
      have hx : x = ix2 (fl (st (x 0)) (ro (x 0))) (x 1) := ext2 _ _ (fl_st (x 0)).symm rfl
      have x1 : (x 1).val < 256 := (x 1).isLt
      refine (congrArg (glu (F := Ideal) _ _) hx).trans ((glu_at _ _ _ (x 1)).trans ?_)
      rw [cv_at v old xn w base P hb hw cw C hcw h (2 * n) (st (x 0)) (ro (x 0)) (x 1),
        cv_at v old xn w base P hb hw cw C hcw h (2 * n + 1) (st (x 0)) (ro (x 0)) (x 1)]
      have hn' : n % 11 = n := Nat.mod_eq_of_lt hn
      have e0 : (R14 n).emb x 0 = x 0 := Fin.ext (by show 0 + 1 * (x 0).val = (x 0).val; omega)
      have e1 : (R14 n).emb x 1 = (⟨256 * n + (x 1).val, by omega⟩ : Fin 2816) := Fin.ext (by
        show 256 * (n % 11) + 1 * (x 1).val = 256 * n + (x 1).val; omega)
      have c1 : col (2 * n) (x 1) = ⟨256 * n + (x 1).val, by omega⟩ := Fin.ext (by
        show lo (2 * n) + (x 1).val = 256 * n + (x 1).val; unfold lo; omega)
      have c2 : col (2 * n + 1) (x 1) = ⟨2816 + (256 * n + (x 1).val), by omega⟩ := Fin.ext (by
        show lo (2 * n + 1) + (x 1).val = 2816 + (256 * n + (x 1).val); unfold lo; omega)
      have e : acty P C ((R14 n).emb x) = act (P (st (x 0))) C (ro (x 0)) ⟨256 * n + (x 1).val, by omega⟩ :=
        congrArg₂ (fun a b => act (P (st a)) C (ro a) b) e0 e1
      refine Eq.trans ?_ e.symm
      exact congrArg₂ (fun a b => conv (P (st (x 0))) C (ro (x 0)) a * Ideal.logistic (conv (P (st (x 0))) C (ro (x 0)) a) * conv (P (st (x 0))) C (ro (x 0)) b) c1 c2
    · exact acs_agree h n (by omega) p hp

/-- The piece of chunk `k` is among the pieces of the first `n`. -/
theorem mem_acs (H : ℕ → List (View.Piece (Elt Ideal) S8x72x5632 .f32)) (k : ℕ) : ∀ n, k < n →
    ∃ p ∈ acs (F := Ideal) v old H cw n, p.1 = R14 k
  | 0, h => absurd h (Nat.not_lt_zero _)
  | n + 1, h => by
    rcases Nat.lt_succ_iff_lt_or_eq.1 h with h | rfl
    · obtain ⟨p, hp, e⟩ := mem_acs H k n h
      exact ⟨p, List.mem_cons_of_mem _ hp, e⟩
    · exact ⟨_, List.mem_cons_self, rfl⟩

include hb hw hcw in
/-- The activations, read whole. -/
theorem acs_at (h : Carried v old base P) (u : View sig .tc .vmem S512x2816 .bf16) (n : Fin 8) (r : Fin 64) (j : Fin 2816) :
    u.readCov (Val := Elt Ideal) (acs (F := Ideal) v old (hs (F := Ideal) xn w base) cw 11)
        (Rect.unit ![0, 0] S512x2816.size inb_S512x2816_S512x2816_0_0).toLoadRect (ix2 (fl n r) j)
      = act (P n) C r j := by
  have e : (Rect.unit (s := S512x2816) ![0, 0] S512x2816.size inb_S512x2816_S512x2816_0_0).toLoadRect.idx (ix2 (fl n r) j) = ix2 (fl n r) j :=
    ext2 _ _ (Fin.ext (by show 0 + 1 * (fl n r).val = (fl n r).val; omega)) (Fin.ext (by show 0 + 1 * j.val = j.val; omega))
  refine (congrArg (u.read (Elt Ideal) _) e).trans ?_
  have ea : acty P C (ix2 (fl n r) j) = act (P n) C r j := congrArg₂ (fun a (b : Fin 64) => act (P a) C b j) (st_fl n r _) (ro_fl n r _)
  refine Eq.trans ?_ ea
  refine (View.read_writes_apply_of_pieces (Val := Elt Ideal) u _ (acty P C) (acs (F := Ideal) v old (hs (F := Ideal) xn w base) cw 11)
    (acs_agree v old xn w base P hb hw cw C hcw h 11 (Nat.le_refl _)) (ix2 (fl n r) j) ?_)
  obtain ⟨p, hp, hk⟩ := mem_acs v old cw (hs (F := Ideal) xn w base) (j.val / 256) 11 (by omega)
  refine ⟨p, hp, ?_⟩
  rw [hk]
  refine (LoadRect.mem_set _).2 fun a => ?_
  match a with
  | ⟨0, _⟩ => exact ⟨(fl n r).val, (fl n r).isLt, (by show (fl n r).val = 0 + 1 * (fl n r).val; omega)⟩
  | ⟨1, _⟩ => exact ⟨j.val % 256, (by show j.val % 256 < 256; omega), (by
      show j.val = 256 * (j.val / 256 % 11) + 1 * (j.val % 256); omega)⟩

end Cert.SmpIdeal.Body
-- ==== Proof.SmpMath.lean ====
module

public import proofs.«01_k».proof.Proof.SmpRead

/-! The second half of the layer at an entry, and one tile of it. -/

set_option maxRecDepth 16384
set_option backward.proofsInPublic true

@[expose] public section
noncomputable section

namespace Cert.FfnS
open Idealize.ShloMosaic Cert.SmpIdeal Cert.SmpIdeal.Gen Cert.SmpIdeal.Body
open Cert.MixIdeal.Body (col act conv)

/-- The arguments: the residual, the attention's two halves, the convolution's history and the weights. -/
structure Arrs where
  X : S8x64x1024.Idx → EReal
  OA : S8x64x512.Idx → EReal
  OB : S8x64x512.Idx → EReal
  Hi : S8x2x5632.Idx → EReal
  Wo : S1024x1024.Idx → EReal
  G : S1024.Idx → EReal
  Wu : S1024x5632.Idx → EReal
  Cw : S3x5632.Idx → EReal
  Wd : S2816x1024.Idx → EReal

/-- Position `t` of the sequence. -/
def pos (t : ℕ) : Fin 64 := ⟨t % 64, Nat.mod_lt _ (by decide)⟩

variable (A : Arrs) (b : Fin 8)

/-- The residual after the output projection of the two halves. -/
def gx1 (t : ℕ) (d : Fin 1024) : EReal :=
  A.X (ix3 b (pos t) d) + (∑ k : Fin 512, A.OA (ix3 b (pos t) k) * A.Wo (ix2 ⟨k, by omega⟩ d))
    + ∑ k : Fin 512, A.OB (ix3 b (pos t) k) * A.Wo (ix2 ⟨512 + k, by omega⟩ d)

/-- The residual over the root of its mean square, times the gain. -/
def gxn (t : ℕ) (d : Fin 1024) : EReal :=
  gx1 A b t d * Ideal.rsqrt (Ideal.div (∑ k : Fin 1024, gx1 A b t k * gx1 A b t k) (Ideal.ofBits .f32 0x44800000#32)
    + Ideal.ofBits .f32 0x358637BD#32) * A.G (ix1 d)

/-- The upward product. -/
def gup (t : ℕ) (c : Fin 5632) : EReal := ∑ k : Fin 1024, gxn A b t k * A.Wu (ix2 k c)

/-- The convolution's input: two rows of history, then the upward product. -/
def gxp (n : ℕ) (c : Fin 5632) : EReal :=
  if h : n < 2 then A.Hi (ix3 b ⟨n, h⟩ c) else gup A b (n - 2) c

/-- The taps. -/
def taps (a : Fin 3) (c : Fin 5632) : EReal := A.Cw (ix2 a c)

/-- The first result: the residual plus the downward product of the activations. -/
def gy (t : ℕ) (d : Fin 1024) : EReal :=
  gx1 A b t d + ∑ j : Fin 2816, act (gxp A b) (taps A) t j * A.Wd (ix2 j d)

variable (v3 v5 : Vec Ideal S8x64x512 .bf16) (v7 : Vec Ideal S8x64x1024 .f32) (v9 v13 : Vec Ideal S512x1024 .bf16)
  (v17 : Vec Ideal S1x1024 .f32) (w : ℕ → Vec Ideal S1024x256 .bf16)
  (h3 : ∀ (n : Fin 8) (r : Fin 64) (k : Fin 512), v3 (ix3 n r k) = A.OA (ix3 n (pos r) k))
  (h5 : ∀ (n : Fin 8) (r : Fin 64) (k : Fin 512), v5 (ix3 n r k) = A.OB (ix3 n (pos r) k))
  (h7 : ∀ (n : Fin 8) (r : Fin 64) (d : Fin 1024), v7 (ix3 n r d) = A.X (ix3 n (pos r) d))
  (h9 : ∀ (k : Fin 512) (d : Fin 1024), v9 (ix2 k d) = A.Wo (ix2 ⟨k, by omega⟩ d))
  (h13 : ∀ (k : Fin 512) (d : Fin 1024), v13 (ix2 k d) = A.Wo (ix2 ⟨512 + k, by omega⟩ d))
  (h17 : ∀ d : Fin 1024, v17 (ix2 0 d) = A.G (ix1 d))
  (hw : ∀ (k : ℕ) (i : Fin 1024) (q : Fin 256), w k (ix2 i q) = A.Wu (ix2 i (col k q)))

include h3 h5 h7 h9 h13 in
/-- The residual of a row. -/
theorem body_x1 (r : Fin 64) (d : Fin 1024) :
    k0_pay4 (F := Ideal) v3 v5 v7 v9 v13 (ix2 (fl b r) d) = gx1 A b (r) d := by
  rw [pay4_at, h7]
  simp only [h3, h5, h9, h13]
  rfl

include h3 h5 h7 h9 h13 h17 in
/-- The normalised residual of a row. -/
theorem body_xn (r : Fin 64) (d : Fin 1024) :
    k0_pay5 (F := Ideal) v3 v5 v7 v9 v13 v17 (ix2 (fl b r) d) = gxn A b (r) d := by
  have e := body_x1 A b v3 v5 v7 v9 v13 h3 h5 h7 h9 h13 r
  rw [pay5_at, h17]
  simp only [e]
  rfl

include h3 h5 h7 h9 h13 h17 hw in
/-- The upward product is the convolution's input. -/
theorem body_up (k : ℕ) (r : Fin 64) (q : Fin 256) :
    k0_pay6 (F := Ideal) (k0_pay5 (F := Ideal) v3 v5 v7 v9 v13 v17) (w k) (ix3 b r q) = gxp A b (r + 2) (col k q) := by
  have e := body_xn A b v3 v5 v7 v9 v13 v17 h3 h5 h7 h9 h13 h17 r
  rw [pay6_at]
  simp only [e, hw]
  have e2 : gxp A b (r + 2) (col k q) = gup A b r (col k q) := by
    unfold gxp
    rw [dif_neg (by omega)]
    rfl
  exact e2.symm

variable (v : View sig .tc .vmem S8x72x5632 .f32) (old : v.ty.Contents (Elt Ideal)) (u : View sig .tc .vmem S512x2816 .bf16)
  (base : List (View.Piece (Elt Ideal) S8x72x5632 .f32)) (cw : ℕ → Vec Ideal S3x256 .f32) (wd : Vec Ideal S2816x1024 .bf16)
  (hb : ∀ p ∈ base, ∀ x : p.1.shape.Idx, p.2 x = rows (gxp A) (p.1.emb x))
  (hcw : ∀ k (a : Fin 3) (q : Fin 256), cw k (ix2 a q) = taps A a (col k q))
  (hwd : ∀ (k : Fin 2816) (d : Fin 1024), wd (ix2 k d) = A.Wd (ix2 k d))

include h3 h5 h7 h9 h13 h17 hw hb hcw hwd in
/-- What the body writes into the first result. -/
theorem body_y (h : Carried v old base (gxp A)) (r : Fin 64) (d : Fin 1024) :
    k0_pay1 (F := Ideal) (k0_pay4 (F := Ideal) v3 v5 v7 v9 v13)
        (u.readCov (Val := Elt Ideal) (acs (F := Ideal) v old (hs (F := Ideal) (k0_pay5 (F := Ideal) v3 v5 v7 v9 v13 v17) w base) cw 11)
          (Rect.unit ![0, 0] S512x2816.size inb_S512x2816_S512x2816_0_0).toLoadRect) wd (ix3 b r d)
      = gy A b (r) d := by
  have hu := fun k n => body_up A n v3 v5 v7 v9 v13 v17 w h3 h5 h7 h9 h13 h17 hw k
  have e := acs_at v old (k0_pay5 (F := Ideal) v3 v5 v7 v9 v13 v17) w base (gxp A) hb hu cw (taps A) hcw h u b r
  rw [pay1_at, body_x1 A b v3 v5 v7 v9 v13 h3 h5 h7 h9 h13]
  refine congrArg₂ (fun x y : EReal => x + y) rfl (Finset.sum_congr rfl fun k _ => ?_)
  exact congrArg₂ (fun x y : EReal => x * y) (e k) (hwd k d)

include h3 h5 h7 h9 h13 h17 hw hb in
/-- The last two rows of the carried buffer. -/
theorem body_tail (r : Fin 2) (c : Fin 5632) :
    v.readCov (Val := Elt Ideal) (hs (F := Ideal) (k0_pay5 (F := Ideal) v3 v5 v7 v9 v13 v17) w base 22)
        (Rect.unit (s := S8x72x5632) ![0, 70, 0] S8x2x5632.size inb_S8x72x5632_S8x2x5632_0_70_0).toLoadRect (ix3 b r c)
      = gxp A b (64 + r) c :=
  tail_at v (k0_pay5 (F := Ideal) v3 v5 v7 v9 v13 v17) w base (gxp A) hb
    (fun k n => body_up A n v3 v5 v7 v9 v13 v17 w h3 h5 h7 h9 h13 h17 hw k) b r c

end Cert.FfnS
-- ==== Proof.SmpStep.lean ====
module

public import proofs.«01_k».proof.Proof.SmpMath
public import Idealize.ShloMosaic.Lib.WholeRead

/-! What one run of the body leaves in the results and in the carried buffer. -/

set_option maxRecDepth 16384
set_option backward.proofsInPublic true

@[expose] public section
noncomputable section

namespace Cert.FfnS
open Idealize.ShloMosaic Idealize.ShloMosaic.TcCoe Idealize.SL.Sem
open Cert.SmpIdeal Cert.SmpIdeal.Gen Cert.SmpIdeal.Body
open Cert.MixIdeal.Body (ext2 col lo)
open Cert.Attn (ext3)

/-! ## Loads of the inputs -/

/-- A load of an input, at an index. -/
theorem ld3 (a : Memref sig .tc .vmem S8x64x512 .bf16) (h : a.IsWhole) (x : Vec Ideal S8x64x512 .bf16) (n : Fin 8) (r : Fin 64) (d : Fin 512) :
    View.readAt (Elt Ideal) a.view (Rect.unit (s := S8x64x512) ![0, 0, 0] S8x64x512.size inb_S8x64x512_S8x64x512_0_0_0).toLoadRect (h.unread x) (ix3 n r d)
      = x (ix3 n r d) :=
  (h.readAt_unread x _ _).trans (congrArg x (ext3 _ _ (Fin.ext (by show 0 + 1 * n.val = n.val; omega)) (Fin.ext (by show 0 + 1 * r.val = r.val; omega))
    (Fin.ext (by show 0 + 1 * d.val = d.val; omega))))

/-- A load of an input, at an index. -/
theorem ld2 (a : Memref sig .tc .vmem S8x64x1024 .f32) (h : a.IsWhole) (x : Vec Ideal S8x64x1024 .f32) (n : Fin 8) (r : Fin 64) (d : Fin 1024) :
    View.readAt (Elt Ideal) a.view (Rect.unit (s := S8x64x1024) ![0, 0, 0] S8x64x1024.size inb_S8x64x1024_S8x64x1024_0_0_0).toLoadRect (h.unread x) (ix3 n r d)
      = x (ix3 n r d) :=
  (h.readAt_unread x _ _).trans (congrArg x (ext3 _ _ (Fin.ext (by show 0 + 1 * n.val = n.val; omega)) (Fin.ext (by show 0 + 1 * r.val = r.val; omega))
    (Fin.ext (by show 0 + 1 * d.val = d.val; omega))))

/-- A load of an input, at an index. -/
theorem ld5 (a : Memref sig .tc .vmem S8x2x5632 .f32) (h : a.IsWhole) (x : Vec Ideal S8x2x5632 .f32) (n : Fin 8) (r : Fin 2) (d : Fin 5632) :
    View.readAt (Elt Ideal) a.view (Rect.unit (s := S8x2x5632) ![0, 0, 0] S8x2x5632.size inb_S8x2x5632_S8x2x5632_0_0_0).toLoadRect (h.unread x) (ix3 n r d)
      = x (ix3 n r d) :=
  (h.readAt_unread x _ _).trans (congrArg x (ext3 _ _ (Fin.ext (by show 0 + 1 * n.val = n.val; omega)) (Fin.ext (by show 0 + 1 * r.val = r.val; omega))
    (Fin.ext (by show 0 + 1 * d.val = d.val; omega))))

/-- A load of an input, at an index. -/
theorem ld6a (a : Memref sig .tc .vmem S1024x1024 .bf16) (h : a.IsWhole) (x : Vec Ideal S1024x1024 .bf16) (r : Fin 512) (d : Fin 1024) :
    View.readAt (Elt Ideal) a.view (Rect.unit (s := S1024x1024) ![0, 0] S512x1024.size inb_S1024x1024_S512x1024_0_0).toLoadRect (h.unread x) (ix2 r d)
      = x (ix2 ⟨r, by omega⟩ d) :=
  (h.readAt_unread x _ _).trans (congrArg x (ext2 _ _ (Fin.ext (by show 0 + 1 * r.val = r.val; omega))
    (Fin.ext (by show 0 + 1 * d.val = d.val; omega))))

/-- A load of an input, at an index. -/
theorem ld6b (a : Memref sig .tc .vmem S1024x1024 .bf16) (h : a.IsWhole) (x : Vec Ideal S1024x1024 .bf16) (r : Fin 512) (d : Fin 1024) :
    View.readAt (Elt Ideal) a.view (Rect.unit (s := S1024x1024) ![512, 0] S512x1024.size inb_S1024x1024_S512x1024_512_0).toLoadRect (h.unread x) (ix2 r d)
      = x (ix2 ⟨512 + r, by omega⟩ d) :=
  (h.readAt_unread x _ _).trans (congrArg x (ext2 _ _ (Fin.ext (by show 512 + 1 * r.val = 512 + r.val; omega))
    (Fin.ext (by show 0 + 1 * d.val = d.val; omega))))

/-- A load of an input, at an index. -/
theorem ld7 (a : Memref sig .tc .vmem S1x1024 .f32) (h : a.IsWhole) (x : Vec Ideal S1x1024 .f32) (r : Fin 1) (d : Fin 1024) :
    View.readAt (Elt Ideal) a.view (Rect.unit (s := S1x1024) ![0, 0] S1x1024.size inb_S1x1024_S1x1024_0_0).toLoadRect (h.unread x) (ix2 r d)
      = x (ix2 r d) :=
  (h.readAt_unread x _ _).trans (congrArg x (ext2 _ _ (Fin.ext (by show 0 + 1 * r.val = r.val; omega))
    (Fin.ext (by show 0 + 1 * d.val = d.val; omega))))

/-- A load of an input, at an index. -/
theorem ld10 (a : Memref sig .tc .vmem S2816x1024 .bf16) (h : a.IsWhole) (x : Vec Ideal S2816x1024 .bf16) (r : Fin 2816) (d : Fin 1024) :
    View.readAt (Elt Ideal) a.view (Rect.unit (s := S2816x1024) ![0, 0] S2816x1024.size inb_S2816x1024_S2816x1024_0_0).toLoadRect (h.unread x) (ix2 r d)
      = x (ix2 r d) :=
  (h.readAt_unread x _ _).trans (congrArg x (ext2 _ _ (Fin.ext (by show 0 + 1 * r.val = r.val; omega))
    (Fin.ext (by show 0 + 1 * d.val = d.val; omega))))

/-- A load of a range of columns of an input, at an index. -/
theorem ld8 (a : Memref sig .tc .vmem S1024x5632 .bf16) (h : a.IsWhole) (x : Vec Ideal S1024x5632 .bf16) (k : ℕ) (r : Fin 1024) (q : Fin 256) :
    View.readAt (Elt Ideal) a.view (R8 k).toLoadRect (h.unread x) (ix2 r q) = x (ix2 r (col k q)) :=
  (h.readAt_unread x _ _).trans (congrArg x (ext2 _ _ (Fin.ext (by show 0 + 1 * r.val = r.val; omega))
    (Fin.ext (by show lo k + 1 * q.val = lo k + q.val; omega))))

/-- A load of a range of columns of an input, at an index. -/
theorem ld9 (a : Memref sig .tc .vmem S3x5632 .f32) (h : a.IsWhole) (x : Vec Ideal S3x5632 .f32) (k : ℕ) (r : Fin 3) (q : Fin 256) :
    View.readAt (Elt Ideal) a.view (R9 k).toLoadRect (h.unread x) (ix2 r q) = x (ix2 r (col k q)) :=
  (h.readAt_unread x _ _).trans (congrArg x (ext2 _ _ (Fin.ext (by show 0 + 1 * r.val = r.val; omega))
    (Fin.ext (by show lo k + 1 * q.val = lo k + q.val; omega))))

/-! ## The run -/

/-- The blocks of the inputs are the arguments. -/
structure Blocks (A : Arrs) (x2 : Vec Ideal S8x64x1024 .f32) (x3 : Vec Ideal S8x64x512 .bf16) (x4 : Vec Ideal S8x64x512 .bf16) (x5 : Vec Ideal S8x2x5632 .f32) (x6 : Vec Ideal S1024x1024 .bf16) (x7 : Vec Ideal S1x1024 .f32) (x8 : Vec Ideal S1024x5632 .bf16) (x9 : Vec Ideal S3x5632 .f32) (x10 : Vec Ideal S2816x1024 .bf16)  : Prop where
  h2 : ∀ (n : Fin 8) (r : Fin 64) (d : Fin 1024), x2 (ix3 n r d) = A.X (ix3 n (pos r) d)
  h3 : ∀ (n : Fin 8) (r : Fin 64) (d : Fin 512), x3 (ix3 n r d) = A.OA (ix3 n (pos r) d)
  h4 : ∀ (n : Fin 8) (r : Fin 64) (d : Fin 512), x4 (ix3 n r d) = A.OB (ix3 n (pos r) d)
  h5 : ∀ (n : Fin 8) (r : Fin 2) (d : Fin 5632), x5 (ix3 n r d) = A.Hi (ix3 n r d)
  h6 : ∀ r d : Fin 1024, x6 (ix2 r d) = A.Wo (ix2 r d)
  h7 : ∀ d : Fin 1024, x7 (ix2 0 d) = A.G (ix1 d)
  h8 : ∀ (r : Fin 1024) (d : Fin 5632), x8 (ix2 r d) = A.Wu (ix2 r d)
  h9 : ∀ (r : Fin 3) (d : Fin 5632), x9 (ix2 r d) = A.Cw (ix2 r d)
  h10 : ∀ (r : Fin 2816) (d : Fin 1024), x10 (ix2 r d) = A.Wd (ix2 r d)

/-- The rectangle of rows 6 and 7 of the carried buffer. -/
abbrev R6 : Rect S8x72x5632 := Rect.unit ![0, 6, 0] S8x2x5632.size inb_S8x72x5632_S8x2x5632_0_6_0

variable (A : Arrs) (c : Dev nD) (i : grid0.Coords) (arg2 : Memref sig .tc .vmem S8x64x1024 .f32) (harg2 : arg2.IsWhole) (arg3 : Memref sig .tc .vmem S8x64x512 .bf16) (harg3 : arg3.IsWhole) (arg4 : Memref sig .tc .vmem S8x64x512 .bf16) (harg4 : arg4.IsWhole) (arg5 : Memref sig .tc .vmem S8x2x5632 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x5632 .bf16) (harg8 : arg8.IsWhole) (arg9 : Memref sig .tc .vmem S3x5632 .f32) (harg9 : arg9.IsWhole) (arg10 : Memref sig .tc .vmem S2816x1024 .bf16) (harg10 : arg10.IsWhole) (arg11 : Memref sig .tc .vmem S8x64x1024 .f32) (harg11 : arg11.IsWhole) (arg12 : Memref sig .tc .vmem S8x2x5632 .f32) (harg12 : arg12.IsWhole) (arg13 : Memref sig .tc .vmem S8x72x5632 .f32) (harg13 : arg13.IsWhole) (arg14 : Memref sig .tc .vmem S512x2816 .bf16) (harg14 : arg14.IsWhole) (hc : cond0_0 i) (x2 : Vec Ideal S8x64x1024 .f32) (x3 : Vec Ideal S8x64x512 .bf16) (x4 : Vec Ideal S8x64x512 .bf16) (x5 : Vec Ideal S8x2x5632 .f32) (x6 : Vec Ideal S1024x1024 .bf16) (x7 : Vec Ideal S1x1024 .f32) (x8 : Vec Ideal S1024x5632 .bf16) (x9 : Vec Ideal S3x5632 .f32) (x10 : Vec Ideal S2816x1024 .bf16)
  (hB : Blocks A x2 x3 x4 x5 x6 x7 x8 x9 x10)

/-- Rows 6 and 7 of the carried buffer are written by the history's copy. -/
theorem carried_hist (v : View sig .tc .vmem S8x72x5632 .f32) (old : v.ty.Contents (Elt Ideal)) (p2 : Vec Ideal S8x2x5632 .f32) :
    Carried v old [⟨R6, p2⟩] (gxp A) := fun y h6 h8 => by
  refine Or.inl ⟨_, List.mem_singleton.2 rfl, ?_⟩
  have e : R6.emb (ix3 (y 0) (⟨(y 1).val - 6, by omega⟩ : Fin 2) (y 2)) = y :=
    ext3 _ _ (Fin.ext (by show 0 + 1 * (y 0).val = (y 0).val; omega)) (Fin.ext (by show 6 + 1 * ((y 1).val - 6) = (y 1).val; omega))
      (Fin.ext (by show 0 + 1 * (y 2).val = (y 2).val; omega))
  rw [← e]
  exact (Rect.map_emb_univ _).le (Finset.mem_map_of_mem _ (Finset.mem_univ _))

include hB in
/-- The history's copy holds the rows before the first one. -/
theorem hist_agree (a : Memref sig .tc .vmem S8x2x5632 .f32) (h : a.IsWhole) :
    ∀ p ∈ ([⟨R6, k0_pay3 (F := Ideal) (View.readAt (Elt Ideal) a.view (Rect.unit (s := S8x2x5632) ![0, 0, 0] S8x2x5632.size inb_S8x2x5632_S8x2x5632_0_0_0).toLoadRect (h.unread x5))⟩] : List (View.Piece (Elt Ideal) S8x72x5632 .f32)),
      ∀ x : p.1.shape.Idx, p.2 x = rows (gxp A) (p.1.emb x) := by
  intro p hp
  obtain rfl := List.mem_singleton.1 hp
  intro x
  have e : x = ix3 (x 0 : Fin 8) (x 1 : Fin 2) (x 2 : Fin 5632) := ext3 _ _ rfl rfl rfl
  refine (congrArg _ e).trans ((pay3_at _ _ _ _).trans ((ld5 a h x5 _ _ _).trans ((hB.h5 _ _ _).trans ?_)))
  have h2 : (x 1).val < 2 := (x 1).isLt
  have e1 : rows (gxp A) (R6.emb x) = gxp A (x 0) (x 1).val (x 2) :=
    congr3 (gxp A) (Fin.ext (by show 0 + 1 * (x 0).val = (x 0).val; omega)) (by show 6 + 1 * (x 1).val - 6 = (x 1).val; omega)
      (Fin.ext (by show 0 + 1 * (x 2).val = (x 2).val; omega))
  refine Eq.trans ?_ e1.symm
  unfold gxp
  rw [dif_pos h2]
  rfl

include hB in
/-- What the body leaves in the first result. -/
theorem step_y (y : S8x64x1024.Idx) : out0_A_9 (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 y = gy A (y 0) (y 1).val (y 2) := by
  unfold out0_A_9
  rw [run_y]
  have e : (Rect.unit (s := S8x64x1024) ![0, 0, 0] S8x64x1024.size inb_S8x64x1024_S8x64x1024_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_9 _ _ _ _ _).trans ?_)
  exact body_y A (y 0) _ _ _ _ _ _ _ (fun n r k => (ld3 arg3 harg3 x3 n r k).trans (hB.h3 n r k)) (fun n r k => (ld3 arg4 harg4 x4 n r k).trans (hB.h4 n r k))
    (fun n r k => (ld2 arg2 harg2 x2 n r k).trans (hB.h2 n r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    _ _ _ _ _ _ (hist_agree A x2 x3 x4 x5 x6 x7 x8 x9 x10 hB arg5 harg5)
    (fun k a q => (ld9 arg9 harg9 x9 k a q).trans (hB.h9 a _)) (fun k d => (ld10 arg10 harg10 x10 k d).trans (hB.h10 k d)) (carried_hist A _ _ _) (y 1) (y 2)

include hB in
/-- What the body leaves in the second result. -/
theorem step_h (y : S8x2x5632.Idx) : out0_A_10 (F := Ideal) c i arg2 harg2 arg3 harg3 arg4 harg4 arg5 harg5 arg6 harg6 arg7 harg7 arg8 harg8 arg9 harg9 arg10 harg10 arg11 harg11 arg12 harg12 arg13 harg13 arg14 harg14 hc x2 x3 x4 x5 x6 x7 x8 x9 x10 y = gxp A (y 0) (64 + (y 1).val) (y 2) := by
  unfold out0_A_10
  rw [run_h]
  have e : (Rect.unit (s := S8x2x5632) ![0, 0, 0] S8x2x5632.size inb_S8x2x5632_S8x2x5632_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_10 _ _ _ _ _).trans ?_)
  exact body_tail A (y 0) _ _ _ _ _ _ _ (fun n r k => (ld3 arg3 harg3 x3 n r k).trans (hB.h3 n r k)) (fun n r k => (ld3 arg4 harg4 x4 n r k).trans (hB.h4 n r k))
    (fun n r k => (ld2 arg2 harg2 x2 n r k).trans (hB.h2 n r k)) (fun r k => (ld6a arg6 harg6 x6 r k).trans (hB.h6 _ k))
    (fun r k => (ld6b arg6 harg6 x6 r k).trans (hB.h6 _ k)) (fun k => (ld7 arg7 harg7 x7 0 k).trans (hB.h7 k))
    (fun k r q => (ld8 arg8 harg8 x8 k r q).trans (hB.h8 r _))
    arg13.view _ (hist_agree A x2 x3 x4 x5 x6 x7 x8 x9 x10 hB arg5 harg5) (y 1) (y 2)

end Cert.FfnS
-- ==== Proof.SmpFinal.lean ====
module

public import proofs.«01_k».proof.Proof.SmpStep
public import Idealize.ShloMosaic.Lib.Pipeline.ValueKit

/-! The blocks the one grid point reads, where it writes, and what the launch leaves. -/

set_option maxRecDepth 16384
set_option backward.proofsInPublic true

@[expose] public section
noncomputable section

namespace Cert.FfnS
open Idealize.ShloMosaic Idealize.ShloMosaic.TcCoe Idealize.SL.Sem Idealize.ShloMosaic.Tactic
open Cert.SmpIdeal Cert.SmpIdeal.Gen Cert.SmpIdeal.Body
open Cert.Attn (ext3)

/-- Which block of each array grid point `t` works on: the whole array. -/
theorem idx : ∀ t : Fin cfg0.N,
    win0_0.index t = ![0, 0, 0] ∧ win0_1.index t = ![0, 0, 0] ∧ win0_2.index t = ![0, 0, 0] ∧ win0_3.index t = ![0, 0, 0]
      ∧ win0_4.index t = ![0, 0] ∧ win0_5.index t = ![0, 0] ∧ win0_6.index t = ![0, 0]
      ∧ win0_7.index t = ![0, 0] ∧ win0_8.index t = ![0, 0]
      ∧ win0_9.index t = ![0, 0, 0] ∧ win0_10.index t = ![0, 0, 0] :=
  (by decide +kernel : ∀ t : Fin grid0.N, _)

variable (m : (ℓ : Loc nD τ sig) → Buf (Elt Ideal) ℓ)

/-- The arguments of the launch. -/
def arrs (c : Dev nD) : Arrs where
  X := m ((c : Thread nD τ).loc main_arg0)
  OA := m ((c : Thread nD τ).loc main_arg1)
  OB := m ((c : Thread nD τ).loc main_arg2)
  Hi := m ((c : Thread nD τ).loc main_arg3)
  Wo := m ((c : Thread nD τ).loc main_arg4)
  G := m ((c : Thread nD τ).loc main_arg5)
  Wu := m ((c : Thread nD τ).loc main_arg6)
  Cw := m ((c : Thread nD τ).loc main_arg7)
  Wd := m ((c : Thread nD τ).loc main_arg8)

theorem V_v0 (c : Dev nD) : V m c main_v0 = truncf (F := Ideal) (φ := .f32) .bf16 (m ((c : Thread nD τ).loc main_arg4)) bitsLt_bf16_f32 := by
  unfold V; after_results; try rfl
theorem V_v1 (c : Dev nD) : V m c main_v1 = broadcastInDim S1x1024 ![1] bcast_S1024_S1x1024_1 (m ((c : Thread nD τ).loc main_arg5)) := by
  unfold V; after_results; try rfl
theorem V_v2 (c : Dev nD) : V m c main_v2 = truncf (F := Ideal) (φ := .f32) .bf16 (m ((c : Thread nD τ).loc main_arg6)) bitsLt_bf16_f32 := by
  unfold V; after_results; try rfl
theorem V_v3 (c : Dev nD) : V m c main_v3 = truncf (F := Ideal) (φ := .f32) .bf16 (m ((c : Thread nD τ).loc main_arg8)) bitsLt_bf16_f32 := by
  unfold V; after_results; try rfl

/-- A position of a stream is itself. -/
theorem pos_fin (t : Fin 64) : pos t.val = t := Fin.ext (Nat.mod_eq_of_lt t.isLt)

/-- The residual stream. -/
theorem iblk0 (c : Dev nD) (t : Fin cfg0.N) (n : Fin 8) (r : Fin 64) (d : Fin 1024) :
    iblk m c 0 t (ix3 n r d) = (arrs m c).X (ix3 n (pos (r)) d) := by
  rw [pos_fin]
  show V m c main_arg0 _ = _
  rw [V_main_arg0]
  blk_ext [idx t, arrs]

/-- The first half of the heads. -/
theorem iblk1 (c : Dev nD) (t : Fin cfg0.N) (n : Fin 8) (r : Fin 64) (d : Fin 512) :
    iblk m c 1 t (ix3 n r d) = (arrs m c).OA (ix3 n (pos (r)) d) := by
  rw [pos_fin]
  show V m c main_arg1 _ = _
  rw [V_main_arg1]
  blk_ext [idx t, arrs]

/-- The second half of the heads. -/
theorem iblk2 (c : Dev nD) (t : Fin cfg0.N) (n : Fin 8) (r : Fin 64) (d : Fin 512) :
    iblk m c 2 t (ix3 n r d) = (arrs m c).OB (ix3 n (pos (r)) d) := by
  rw [pos_fin]
  show V m c main_arg2 _ = _
  rw [V_main_arg2]
  blk_ext [idx t, arrs]

/-- The history of the convolution. -/
theorem iblk3 (c : Dev nD) (t : Fin cfg0.N) (n : Fin 8) (r : Fin 2) (d : Fin 5632) :
    iblk m c 3 t (ix3 n r d) = (arrs m c).Hi (ix3 n r d) := by
  show V m c main_arg3 _ = _
  rw [V_main_arg3]
  blk_ext [idx t, arrs]

/-- The weights of the output projection. -/
theorem iblk4 (c : Dev nD) (t : Fin cfg0.N) (r : Fin 1024) (d : Fin 1024) :
    iblk m c 4 t (ix2 r d) = (arrs m c).Wo (ix2 r d) := by
  show V m c main_v0 _ = _
  rw [V_v0]
  blk_ext [idx t, arrs]

/-- The gain of the normalisation. -/
theorem iblk5 (c : Dev nD) (t : Fin cfg0.N) (d : Fin 1024) :
    iblk m c 5 t (ix2 0 d) = (arrs m c).G (ix1 d) := by
  show V m c main_v1 _ = _
  rw [V_v1]
  show m ((c : Thread nD τ).loc main_arg5) _ = _
  exact congrArg (m ((c : Thread nD τ).loc main_arg5)) (funext fun a => by
    match a with
    | ⟨0, _⟩ => exact Fin.ext (by
        show 0 * 1024 + 1 * d.val = d.val
        omega))

/-- The weights of the up projection. -/
theorem iblk6 (c : Dev nD) (t : Fin cfg0.N) (r : Fin 1024) (d : Fin 5632) :
    iblk m c 6 t (ix2 r d) = (arrs m c).Wu (ix2 r d) := by
  show V m c main_v2 _ = _
  rw [V_v2]
  blk_ext [idx t, arrs]

/-- The taps of the convolution. -/
theorem iblk7 (c : Dev nD) (t : Fin cfg0.N) (r : Fin 3) (d : Fin 5632) :
    iblk m c 7 t (ix2 r d) = (arrs m c).Cw (ix2 r d) := by
  show V m c main_arg7 _ = _
  rw [V_main_arg7]
  blk_ext [idx t, arrs]

/-- The weights of the down projection. -/
theorem iblk8 (c : Dev nD) (t : Fin cfg0.N) (r : Fin 2816) (d : Fin 1024) :
    iblk m c 8 t (ix2 r d) = (arrs m c).Wd (ix2 r d) := by
  show V m c main_v3 _ = _
  rw [V_v3]
  blk_ext [idx t, arrs]

/-- The block of rows, in the array of them. -/
theorem emb9 (t : Fin cfg0.N) (n : Fin 8) (r : Fin 64) (d : Fin 1024) :
    ((cfg0.win 9).blk t).view.emb (ix3 n r d) = ix3 n r d := by
  blk_ext [idx t]

/-- The new history, in the array of them. -/
theorem emb10 (t : Fin cfg0.N) (n : Fin 8) (r : Fin 2) (d : Fin 5632) :
    ((cfg0.win 10).blk t).view.emb (ix3 n r d) = ix3 n r d := by
  blk_ext [idx t]

/-- The first result, from the arguments. -/
def resY (A : Arrs) : S8x64x1024.Idx → EReal := fun y => gy A (y 0) (y 1).val (y 2)

/-- The second result, from the arguments. -/
def resH (A : Arrs) : S8x2x5632.Idx → EReal := fun y => gxp A (y 0) (64 + (y 1).val) (y 2)

/-- The blocks of the one point are the arguments. -/
theorem blocks (c : Dev nD) (t : Fin cfg0.N) :
    Blocks (arrs m c) (iblk m c 0 t) (iblk m c 1 t) (iblk m c 2 t) (iblk m c 3 t) (iblk m c 4 t) (iblk m c 5 t)
      (iblk m c 6 t) (iblk m c 7 t) (iblk m c 8 t) where
  h2 := iblk0 m c t
  h3 := iblk1 m c t
  h4 := iblk2 m c t
  h5 := iblk3 m c t
  h6 := iblk4 m c t
  h7 := iblk5 m c t
  h8 := iblk6 m c t
  h9 := iblk7 m c t
  h10 := iblk8 m c t

/-- The first result of the one point. -/
theorem point9 (c : Dev nD) (t : Fin cfg0.N) (y : S8x64x1024.Idx) : (dats m 0 c).after 9 t y = resY (arrs m c) y := by
  rw [after0_9]
  simp only [outsAt0]
  exact step_y (arrs m c) c (grid0.coords t) _ _ _ _ _ _ _ _ _ _ _ _ _ _ _ _ _ _ _ _ _ _ _ _ _ _ (hcond0_0 t) _ _ _ _ _ _ _ _ _ (blocks m c t) y

/-- The launch leaves the first result. -/
theorem final9 (c : Dev nD) : (dats m 0 c).arrAt 9 cfg0.N = resY (arrs m c) := by
  refine (dats m 0 c).arrAt_eq_of_covers 9 _ (by decide +kernel) fun t _ y => ?_
  blk_simp
  have hy : y = ix3 (y 0) (y 1) (y 2) := ext3 _ _ rfl rfl rfl
  refine (congrArg (fun z => (dats m 0 c).after 9 t z) hy).trans ?_
  exact (point9 m c t (ix3 (y 0) (y 1) (y 2))).trans (congrArg _ (((congrArg _ hy).trans (emb9 t (y 0) (y 1) (y 2))).symm))

/-- The second result of the one point. -/
theorem point10 (c : Dev nD) (t : Fin cfg0.N) (y : S8x2x5632.Idx) : (dats m 0 c).after 10 t y = resH (arrs m c) y := by
  rw [after0_10]
  simp only [outsAt0]
  exact step_h (arrs m c) c (grid0.coords t) _ _ _ _ _ _ _ _ _ _ _ _ _ _ _ _ _ _ _ _ _ _ _ _ _ _ (hcond0_0 t) _ _ _ _ _ _ _ _ _ (blocks m c t) y

/-- The launch leaves the second result. -/
theorem final10 (c : Dev nD) : (dats m 0 c).arrAt 10 cfg0.N = resH (arrs m c) := by
  refine (dats m 0 c).arrAt_eq_of_covers 10 _ (by decide +kernel) fun t _ y => ?_
  blk_simp
  have hy : y = ix3 (y 0) (y 1) (y 2) := ext3 _ _ rfl rfl rfl
  refine (congrArg (fun z => (dats m 0 c).after 10 t z) hy).trans ?_
  exact (point10 m c t (ix3 (y 0) (y 1) (y 2))).trans (congrArg _ (((congrArg _ hy).trans (emb10 t (y 0) (y 1) (y 2))).symm))

end Cert.FfnS
-- ==== Proof.SmpRef.lean ====
module

public import proofs.«01_k».proof.Proof.SmpFinal
public import proofs.«01_k».proof.Proof.Gen.SmpReferenceIdeal.Read

/-! The reference's two results at an entry. -/

set_option maxRecDepth 16384
set_option backward.proofsInPublic true

@[expose] public section
noncomputable section

namespace Cert.FfnS
open Idealize.ShloMosaic Cert.SmpReferenceIdeal Cert.SmpReferenceIdeal.Read
open Cert.MixIdeal.Body (ext2 act conv)
open Cert.Attn (ext3)

variable (A : Arrs) (b : Fin 8)

/-- The bit pattern of one. -/
theorem oneBits : Ideal.ofBits .f32 0x3F800000#32 = 1 := by
  simp [Ideal.ofBits, Ideal.ieee]
  rw [← EReal.coe_mul]
  norm_num

/-- The heads' first half, joined. -/
theorem r2_left (t : Fin 64) (k : Fin 512) :
    val_main_v2 (F := Ideal) A.OA A.OB (ix3 b t (Fin.castAdd 512 k)) = A.OA (ix3 b t k) := by
  unfold val_main_v2
  refine (concatenate_pair_apply_left (2 : Fin S8x64x1024.rank) (val_main_v0 (F := Ideal) A.OA) (val_main_v1 (F := Ideal) A.OB) _ _ rfl (ix3 b t k) (fun a => ?_)).trans rfl
  match a with | ⟨0, _⟩ => rfl | ⟨1, _⟩ => rfl | ⟨2, _⟩ => rfl

/-- The heads' second half, joined. -/
theorem r2_right (t : Fin 64) (k : Fin 512) :
    val_main_v2 (F := Ideal) A.OA A.OB (ix3 b t (Fin.natAdd 512 k)) = A.OB (ix3 b t k) := by
  unfold val_main_v2
  refine (concatenate_pair_apply_right (2 : Fin S8x64x1024.rank) (val_main_v0 (F := Ideal) A.OA) (val_main_v1 (F := Ideal) A.OB) _ _ rfl rfl (ix3 b t k) (fun a ha => ?_) ?_).trans rfl
  · match a, ha with
    | ⟨0, _⟩, _ => rfl
    | ⟨1, _⟩, _ => rfl
    | ⟨2, _⟩, ha => exact absurd rfl ha
  · show k.val + 512 = 512 + k.val
    omega

/-- The residual. -/
theorem r4 (t : Fin 64) (d : Fin 1024) : val_main_v4 (F := Ideal) A.X A.OA A.OB A.Wo (ix3 b t d) = gx1 A b t d := by
  unfold gx1
  rw [pos_fin, val_main_v4_apply, val_main_v3_apply, add_assoc]
  refine congrArg (fun z : EReal => A.X (ix3 b t d) + z) ?_
  refine (Fin.sum_univ_add (M := EReal) (a := 512) (b := 512) _).trans ?_
  refine congrArg₂ (fun x y : EReal => x + y) (Finset.sum_congr rfl fun k _ => ?_) (Finset.sum_congr rfl fun k _ => ?_)
  · refine congrArg₂ (fun x y : EReal => x * y) ((congrArg _ ?_).trans (r2_left A b t k)) (congrArg A.Wo ?_)
    · exact ext3 _ _ rfl rfl rfl
    · exact ext2 _ _ rfl rfl
  · refine congrArg₂ (fun x y : EReal => x * y) ((congrArg _ ?_).trans (r2_right A b t k)) (congrArg A.Wo ?_)
    · exact ext3 _ _ rfl rfl rfl
    · exact ext2 _ _ rfl rfl

/-- The sum of the residual's squares. -/
theorem r6 (t : Fin 64) : val_main_v6 (F := Ideal) A.X A.OA A.OB A.Wo (ix2 b t) = ∑ k : Fin 1024, gx1 A b t k * gx1 A b t k := by
  rw [val_main_v6_apply]
  refine Eq.trans (congrArg₂ (fun x y : EReal => x + y) (Ideal.ofBits_zero_f32) (Finset.sum_congr rfl fun k _ => ?_)) (zero_add _)
  rw [val_main_v5_apply]
  have e : val_main_v4 (F := Ideal) A.X A.OA A.OB A.Wo (idx_main_v6 (ix2 b t) k) = gx1 A b t k :=
    (congrArg _ (ext3 (idx_main_v6 (ix2 b t) k) (ix3 b t k) rfl rfl rfl)).trans (r4 A b t k)
  rw [e]
  rfl

/-- The normalised residual. -/
theorem r17 (t : Fin 64) (d : Fin 1024) : val_main_v17 (F := Ideal) A.X A.OA A.OB A.Wo A.G (ix3 b t d) = gxn A b t d := by
  unfold gxn
  rw [val_main_v17_apply, val_main_v14_apply, r4, val_main_v13_apply, val_main_v12_apply, val_main_v11_apply, val_main_v9_apply,
    val_main_v7_apply, val_main_v16_apply, val_main_v15_apply]
  have e : val_main_v6 (F := Ideal) A.X A.OA A.OB A.Wo (idx_main_v7 (idx_main_v13 (ix3 b t d))) = ∑ k : Fin 1024, gx1 A b t k * gx1 A b t k :=
    (congrArg _ (ext2 (idx_main_v7 (idx_main_v13 (ix3 b t d))) (ix2 b t) rfl rfl)).trans (r6 A b t)
  rw [e, val_main_v8_apply, val_main_v10_apply]
  refine congrArg₂ (fun x y : EReal => x * y) rfl (congrArg A.G (funext fun a => ?_))
  match a with | ⟨0, _⟩ => rfl

/-- The upward product. -/
theorem r18 (t : Fin 64) (c : Fin 5632) : val_main_v18 (F := Ideal) A.X A.OA A.OB A.Wo A.G A.Wu (ix3 b t c) = gup A b t c := by
  rw [val_main_v18_apply]
  refine Finset.sum_congr rfl fun k _ => ?_
  refine congrArg₂ (fun x y : EReal => x * y) ((congrArg _ ?_).trans (r17 A b t k)) (congrArg A.Wu ?_)
  · exact ext3 _ _ rfl rfl rfl
  · exact ext2 _ _ rfl rfl

/-- The convolution's input. -/
theorem r19 (n : Fin 66) (c : Fin 5632) : val_main_v19 (F := Ideal) A.X A.OA A.OB A.Hi A.Wo A.G A.Wu (ix3 b n c) = gxp A b n c := by
  unfold val_main_v19 gxp
  by_cases h : n.val < 2
  · rw [dif_pos h]
    refine concatenate_pair_apply_left (1 : Fin S8x66x5632.rank) A.Hi _ _ _ rfl (ix3 b (⟨n.val, h⟩ : Fin 2) c) (fun a => ?_)
    match a with | ⟨0, _⟩ => rfl | ⟨1, _⟩ => rfl | ⟨2, _⟩ => rfl
  · rw [dif_neg h]
    refine (concatenate_pair_apply_right (1 : Fin S8x66x5632.rank) A.Hi (val_main_v18 (F := Ideal) A.X A.OA A.OB A.Wo A.G A.Wu) _ _ rfl rfl (ix3 b ⟨n.val - 2, by omega⟩ c) (fun a ha => ?_) ?_).trans (r18 A b ⟨n.val - 2, by omega⟩ c)
    · match a, ha with
      | ⟨0, _⟩, _ => rfl
      | ⟨1, _⟩, ha => exact absurd rfl ha
      | ⟨2, _⟩, _ => rfl
    · show n.val - 2 + 2 = n.val
      omega

/-- The convolution. -/
theorem r39 (t : Fin 64) (c : Fin 5632) :
    val_main_v39 (F := Ideal) A.X A.OA A.OB A.Hi A.Wo A.G A.Wu A.Cw (ix3 b t c) = conv (gxp A b) (taps A) t c := by
  rw [val_main_v39_apply, val_main_v32_apply, val_main_v25_apply, val_main_v31_apply, val_main_v38_apply]
  have p0 : val_main_v22 (F := Ideal) A.X A.OA A.OB A.Hi A.Wo A.G A.Wu (ix3 b t c) = gxp A b (t + 0) c := by
    rw [val_main_v22_apply]
    exact (congrArg _ (ext3 (idx_main_v22 (ix3 b t c)) (ix3 b (⟨t.val + 0, by omega⟩ : Fin 66) c) rfl (Fin.ext (by show t.val = t.val + 0; omega)) rfl)).trans (r19 A b ⟨t.val + 0, by omega⟩ c)
  have q0 : val_main_v24 (F := Ideal) A.Cw (ix3 b t c) = taps A 0 c := by
    rw [val_main_v24_apply, val_main_v23_apply, val_main_v21_apply, val_main_v20_apply]
    exact congrArg A.Cw (ext2 (idx_main_v20 (idx_main_v21 (idx_main_v23 (idx_main_v24 (ix3 b t c))))) (ix2 (0 : Fin 3) c) rfl (Fin.ext (Nat.mod_eq_of_lt c.isLt)))
  have p1 : val_main_v28 (F := Ideal) A.X A.OA A.OB A.Hi A.Wo A.G A.Wu (ix3 b t c) = gxp A b (t + 1) c := by
    rw [val_main_v28_apply]
    exact (congrArg _ (ext3 (idx_main_v28 (ix3 b t c)) (ix3 b (⟨t.val + 1, by omega⟩ : Fin 66) c) rfl (Fin.ext (by show 1 + t.val = t.val + 1; omega)) rfl)).trans (r19 A b ⟨t.val + 1, by omega⟩ c)
  have q1 : val_main_v30 (F := Ideal) A.Cw (ix3 b t c) = taps A 1 c := by
    rw [val_main_v30_apply, val_main_v29_apply, val_main_v27_apply, val_main_v26_apply]
    exact congrArg A.Cw (ext2 (idx_main_v26 (idx_main_v27 (idx_main_v29 (idx_main_v30 (ix3 b t c))))) (ix2 (1 : Fin 3) c) rfl (Fin.ext (Nat.mod_eq_of_lt c.isLt)))
  have p2 : val_main_v35 (F := Ideal) A.X A.OA A.OB A.Hi A.Wo A.G A.Wu (ix3 b t c) = gxp A b (t + 2) c := by
    rw [val_main_v35_apply]
    exact (congrArg _ (ext3 (idx_main_v35 (ix3 b t c)) (ix3 b (⟨t.val + 2, by omega⟩ : Fin 66) c) rfl (Fin.ext (by show 2 + t.val = t.val + 2; omega)) rfl)).trans (r19 A b ⟨t.val + 2, by omega⟩ c)
  have q2 : val_main_v37 (F := Ideal) A.Cw (ix3 b t c) = taps A 2 c := by
    rw [val_main_v37_apply, val_main_v36_apply, val_main_v34_apply, val_main_v33_apply]
    exact congrArg A.Cw (ext2 (idx_main_v33 (idx_main_v34 (idx_main_v36 (idx_main_v37 (ix3 b t c))))) (ix2 (2 : Fin 3) c) rfl (Fin.ext (Nat.mod_eq_of_lt c.isLt)))
  rw [p0, p1, p2, q0, q1, q2]
  show (taps A 0 c * gxp A b (t + 0) c + taps A 1 c * gxp A b (t + 1) c) + taps A 2 c * gxp A b (t + 2) c = conv (gxp A b) (taps A) t c
  unfold conv
  rw [add_comm, add_comm (taps A 0 c * _), ← add_assoc]
  rfl

/-- The gated activation. -/
theorem r43 (t : Fin 64) (j : Fin 2816) :
    val_main_v43 (F := Ideal) A.X A.OA A.OB A.Hi A.Wo A.G A.Wu A.Cw (ix3 b t j) = act (gxp A b) (taps A) t j := by
  have g : val_main_v40 (F := Ideal) A.X A.OA A.OB A.Hi A.Wo A.G A.Wu A.Cw (ix3 b t j) = conv (gxp A b) (taps A) t ⟨j, by omega⟩ := by
    rw [val_main_v40_apply]
    exact (congrArg _ (ext3 (idx_main_v40 (ix3 b t j)) (ix3 b t (⟨j, by omega⟩ : Fin 5632)) rfl rfl rfl)).trans (r39 A b t ⟨j, by omega⟩)
  have v : val_main_v42 (F := Ideal) A.X A.OA A.OB A.Hi A.Wo A.G A.Wu A.Cw (ix3 b t j) = conv (gxp A b) (taps A) t ⟨2816 + j, by omega⟩ := by
    rw [val_main_v42_apply]
    exact (congrArg _ (ext3 (idx_main_v42 (ix3 b t j)) (ix3 b t (⟨2816 + j, by omega⟩ : Fin 5632)) rfl rfl rfl)).trans (r39 A b t ⟨2816 + j, by omega⟩)
  rw [val_main_v43_apply, val_main_v41_apply, val_main_call0_v5_apply, val_main_call0_v3_apply, val_main_call0_v1_apply,
    val_main_call0_v0_apply, g, v, val_main_call0_v4_apply, val_main_call0_v2_apply, val_main_call0_cst_apply, val_main_call0_cst_0_apply]
  have l (x : EReal) : Ideal.logistic x = FloatOps.hostDivf (F := Ideal) (φ := .f32) (FloatOps.ofBits .f32 0x3F800000#32)
      (FloatOps.addf (FloatOps.ofBits .f32 0x3F800000#32) (FloatOps.hostUnary .exp (FloatOps.hostNegf x))) := by
    rw [Ideal.ofBits_def, oneBits]
    rfl
  unfold act
  rw [l]
  rfl

/-- The first result. -/
theorem r45 (t : Fin 64) (d : Fin 1024) :
    val_main_v45 (F := Ideal) A.X A.OA A.OB A.Hi A.Wo A.G A.Wu A.Cw A.Wd (ix3 b t d) = gy A b t d := by
  unfold gy
  rw [val_main_v45_apply, r4, val_main_v44_apply]
  refine congrArg (fun z : EReal => gx1 A b t d + z) (Finset.sum_congr rfl fun k _ => ?_)
  refine congrArg₂ (fun x y : EReal => x * y) ((congrArg _ ?_).trans (r43 A b t k)) (congrArg A.Wd ?_)
  · exact ext3 _ _ rfl rfl rfl
  · exact ext2 _ _ rfl rfl

/-- The second result. -/
theorem r46 (r : Fin 2) (c : Fin 5632) :
    val_main_v46 (F := Ideal) A.X A.OA A.OB A.Hi A.Wo A.G A.Wu (ix3 b r c) = gxp A b (64 + r) c := by
  rw [val_main_v46_apply]
  exact (congrArg _ (ext3 (idx_main_v46 (ix3 b r c)) (ix3 b (⟨64 + r, by omega⟩ : Fin 66) c) rfl rfl rfl)).trans (r19 A b ⟨64 + r, by omega⟩ c)

/-- The first result, whole. -/
theorem ref_y : val_main_v45 (F := Ideal) A.X A.OA A.OB A.Hi A.Wo A.G A.Wu A.Cw A.Wd = fun y => gy A (y 0) (y 1).val (y 2) :=
  funext fun y => (congrArg _ (ext3 y (ix3 (y 0) (y 1) (y 2)) rfl rfl rfl)).trans (r45 A (y 0) (y 1) (y 2))

/-- The second result, whole. -/
theorem ref_h : val_main_v46 (F := Ideal) A.X A.OA A.OB A.Hi A.Wo A.G A.Wu = fun y => gxp A (y 0) (64 + (y 1).val) (y 2) :=
  funext fun y => (congrArg _ (ext3 y (ix3 (y 0) (y 1) (y 2)) rfl rfl rfl)).trans (r46 A (y 0) (y 1) (y 2))

end Cert.FfnS
-- ==== Proof.SmpInRun.lean ====
module

public import proofs.«01_k».proof.Proof.Gen.SmpInIdeal.Frame
public import proofs.«01_k».proof.Proof.Gen.SmpInIdeal.Value
public import proofs.«01_k».proof.Proof.InRef
public import proofs.«01_k».proof.Proof.SmpPay
public import Idealize.ShloMosaic.Lib.WholeRead

/-! What the one run of the body writes into the keys, the values, the gates and the new history. -/

set_option maxRecDepth 16384
set_option backward.proofsInPublic true

@[expose] public section
noncomputable section

namespace Cert.SmpInIdeal.Body
open Idealize.ShloMosaic Idealize.ShloMosaic.TcCoe Idealize.SL.Sem
open Cert.SmpInIdeal Cert.SmpInIdeal.Gen
open Cert.InIdeal.Body (RW ext2 prod nrm gate logsig)
open Cert.SmpIdeal.Body (fl st_fl ro_fl)
open Cert.Attn (ext3 slt_ofNat select_ofBool)

section
variable {F : FTy → Type} [FloatOps F] (c : Dev nD) (i : grid0.Coords) (arg2 : Memref sig .tc .vmem S8x64x1024 .f32) (harg2 : arg2.IsWhole) (arg3 : Memref sig .tc .vmem S8x2x512 .f32) (harg3 : arg3.IsWhole) (arg4 : Memref sig .tc .vmem S8x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S8x8x64x128 .bf16) (harg13 : arg13.IsWhole) (arg14 : Memref sig .tc .vmem S8x8x64x128 .bf16) (harg14 : arg14.IsWhole) (arg15 : Memref sig .tc .vmem S8x8x64x128 .bf16) (harg15 : arg15.IsWhole) (arg16 : Memref sig .tc .vmem S8x64x512 .f32) (harg16 : arg16.IsWhole) (arg17 : Memref sig .tc .vmem S8x64x512 .f32) (harg17 : arg17.IsWhole) (arg18 : Memref sig .tc .vmem S8x64x8 .f32) (harg18 : arg18.IsWhole) (arg19 : Memref sig .tc .vmem S8x64x512 .bf16) (harg19 : arg19.IsWhole) (arg20 : Memref sig .tc .vmem S8x2x512 .f32) (harg20 : arg20.IsWhole) (arg21 : Memref sig .tc .vmem S8x72x512 .f32) (harg21 : arg21.IsWhole) (arg22 : Memref sig .tc .vmem S8x1x128 .f32) (harg22 : arg22.IsWhole) (hc0 : cond0_0 i) (x0 : Vec F S8x64x1024 .f32) (x1 : Vec F S8x2x512 .f32) (x2 : Vec F S8x1x128 .f32) (x3 : Vec F S1x1024 .f32) (x4 : Vec F S1024x3072 .bf16) (x5 : Vec F S1024x128 .bf16) (x6 : Vec F S1x128 .f32) (x7 : Vec F S1x512 .f32) (x8 : Vec F S1x512 .f32) (x9 : Vec F S3x512 .f32) (x10 : Vec F S512x512 .bf16)

/-- What the run writes into the keys. -/
theorem run_k :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10).2.2.2.1 = [⟨Rect.unit ![0, 0, 0] S8x64x512.size inb_S8x64x512_S8x64x512_0_0_0, k0_pay8 (k0_pay3 (View.readAt (Elt F) arg2.view (Rect.unit (s := S8x64x1024) ![0, 0, 0] S8x64x1024.size inb_S8x64x1024_S8x64x1024_0_0_0).toLoadRect (harg2.unread x0)) (View.readAt (Elt F) arg5.view (Rect.unit (s := S1x1024) ![0, 0] S1x1024.size inb_S1x1024_S1x1024_0_0).toLoadRect (harg5.unread x3))) (k0_pay4 (View.readAt (Elt F) arg12.view (Rect.unit (s := S512x512) ![0, 0] S512x512.size inb_S512x512_S512x512_0_0).toLoadRect (harg12.unread x10))) (View.readAt (Elt F) arg6.view (RW 1).toLoadRect (harg6.unread x4)) (View.readAt (Elt F) arg10.view (Rect.unit (s := S1x512) ![0, 0] S1x512.size inb_S1x512_S1x512_0_0).toLoadRect (harg10.unread x8))⟩] := by
  with_unfolding_all rfl

/-- What the run writes into the values. -/
theorem run_v :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.1 = [⟨Rect.unit ![0, 0, 0] S8x64x512.size inb_S8x64x512_S8x64x512_0_0_0, k0_pay9 (k0_pay3 (View.readAt (Elt F) arg2.view (Rect.unit (s := S8x64x1024) ![0, 0, 0] S8x64x1024.size inb_S8x64x1024_S8x64x1024_0_0_0).toLoadRect (harg2.unread x0)) (View.readAt (Elt F) arg5.view (Rect.unit (s := S1x1024) ![0, 0] S1x1024.size inb_S1x1024_S1x1024_0_0).toLoadRect (harg5.unread x3))) (View.readAt (Elt F) arg6.view (RW 2).toLoadRect (harg6.unread x4))⟩] := by
  with_unfolding_all rfl

/-- What the run writes into the logarithms of the forget gates. -/
theorem run_lf :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.1 = [⟨Rect.unit ![0, 0, 0] S8x64x8.size inb_S8x64x8_S8x64x8_0_0_0, k0_pay15 k0_pay11 (k0_pay12 (k0_pay3 (View.readAt (Elt F) arg2.view (Rect.unit (s := S8x64x1024) ![0, 0, 0] S8x64x1024.size inb_S8x64x1024_S8x64x1024_0_0_0).toLoadRect (harg2.unread x0)) (View.readAt (Elt F) arg5.view (Rect.unit (s := S1x1024) ![0, 0] S1x1024.size inb_S1x1024_S1x1024_0_0).toLoadRect (harg5.unread x3))) (View.readAt (Elt F) arg7.view (Rect.unit (s := S1024x128) ![0, 0] S1024x128.size inb_S1024x128_S1024x128_0_0).toLoadRect (harg7.unread x5)) (View.readAt (Elt F) arg8.view (Rect.unit (s := S1x128) ![0, 0] S1x128.size inb_S1x128_S1x128_0_0).toLoadRect (harg8.unread x6))) (k0_pay13 (k0_pay3 (View.readAt (Elt F) arg2.view (Rect.unit (s := S8x64x1024) ![0, 0, 0] S8x64x1024.size inb_S8x64x1024_S8x64x1024_0_0_0).toLoadRect (harg2.unread x0)) (View.readAt (Elt F) arg5.view (Rect.unit (s := S1x1024) ![0, 0] S1x1024.size inb_S1x1024_S1x1024_0_0).toLoadRect (harg5.unread x3))) (View.readAt (Elt F) arg7.view (Rect.unit (s := S1024x128) ![0, 0] S1024x128.size inb_S1024x128_S1024x128_0_0).toLoadRect (harg7.unread x5)) (View.readAt (Elt F) arg8.view (Rect.unit (s := S1x128) ![0, 0] S1x128.size inb_S1x128_S1x128_0_0).toLoadRect (harg8.unread x6)))⟩] := by
  with_unfolding_all rfl

/-- What the run writes into the new history. -/
theorem run_h :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10).2.2.2.2.2.2.2.1 = [⟨Rect.unit ![0, 0, 0] S8x2x512.size inb_S8x2x512_S8x2x512_0_0_0, arg21.view.readCov ((⟨Rect.unit (s := S8x72x512) ![0, 8, 0] S8x64x512.size inb_S8x72x512_S8x64x512_0_8_0, k0_pay161 (k0_pay160 (k0_pay3 (View.readAt (Elt F) arg2.view (Rect.unit (s := S8x64x1024) ![0, 0, 0] S8x64x1024.size inb_S8x64x1024_S8x64x1024_0_0_0).toLoadRect (harg2.unread x0)) (View.readAt (Elt F) arg5.view (Rect.unit (s := S1x1024) ![0, 0] S1x1024.size inb_S1x1024_S1x1024_0_0).toLoadRect (harg5.unread x3))) (View.readAt (Elt F) arg6.view (RW 4).toLoadRect (harg6.unread x4)) (View.readAt (Elt F) arg6.view (RW 5).toLoadRect (harg6.unread x4)))⟩ :: [⟨Rect.unit (s := S8x72x512) ![0, 6, 0] S8x2x512.size inb_S8x72x512_S8x2x512_0_6_0, k0_pay1 (View.readAt (Elt F) arg3.view (Rect.unit (s := S8x2x512) ![0, 0, 0] S8x2x512.size inb_S8x2x512_S8x2x512_0_0_0).toLoadRect (harg3.unread x1))⟩]) : List (View.Piece (Elt F) S8x72x512 .f32)) (Rect.unit (s := S8x72x512) ![0, 70, 0] S8x2x512.size inb_S8x72x512_S8x2x512_0_70_0).toLoadRect⟩] := by
  with_unfolding_all rfl

end

/-! ## The values at an entry -/

/-- The normalised rows. -/
theorem pay3_at (x : Vec Ideal S8x64x1024 .f32) (g : Vec Ideal S1x1024 .f32) (n : Fin 8) (r : Fin 64) (d : Fin 1024) :
    k0_pay3 (F := Ideal) x g (ix2 (fl n r) d) = x (ix3 n r d) * Ideal.rsqrt (Ideal.div
      (∑ k : Fin 1024, x (ix3 n r k) * x (ix3 n r k)) (Ideal.ofBits .f32 0x44800000#32) + Ideal.ofBits .f32 0x358637BD#32) * g (ix2 0 d) := by
  pointwise [k0_pay3]
  simp only [st_fl, ro_fl]

/-- The normalised keys. -/
theorem pay8_at (xn : FVec Ideal S512x1024 .bf16) (hm : Vec Ideal S512x512 .bf16)
    (w : Vec Ideal S1024x512 .bf16) (gk : Vec Ideal S1x512 .f32) (n : Fin 8) (r : Fin 64) (j : Fin 512) :
    k0_pay8 (F := Ideal) xn (k0_pay4 (F := Ideal) hm) w gk (ix3 n r j) = nrm (prod xn w (fl n r)) hm gk j := by
  unfold nrm prod
  pointwise [k0_pay8, k0_pay6, k0_pay4]
  rfl

/-- The values. -/
theorem pay9_at (xn : FVec Ideal S512x1024 .bf16) (w : Vec Ideal S1024x512 .bf16) (n : Fin 8) (r : Fin 64) (j : Fin 512) :
    k0_pay9 (F := Ideal) xn w (ix3 n r j) = prod xn w (fl n r) j := by
  unfold prod
  pointwise [k0_pay9, k0_pay7]
  rfl

/-- The logarithms of the forget gates. -/
theorem pay15_at (xn : FVec Ideal S512x1024 .bf16) (wf : Vec Ideal S1024x128 .bf16) (bf : Vec Ideal S1x128 .f32) (n : Fin 8) (r : Fin 64) (h : Fin 8) :
    k0_pay15 (F := Ideal) k0_pay11 (k0_pay12 (F := Ideal) xn wf bf) (k0_pay13 (F := Ideal) xn wf bf) (ix3 n r h) = logsig (gate xn wf bf (fl n r) ⟨h, by omega⟩) := by
  unfold logsig gate
  pointwise [k0_pay15, k0_pay14, k0_pay11, k0_pay12, k0_pay13, k0_pay10]
  rw [show (8#32 : BitVec 32) = BitVec.ofNat 32 8 from rfl, slt_ofNat h.val 8 (by omega) (by omega), select_ofBool, if_pos h.isLt]
  rfl

/-- The product that the convolution takes. -/
theorem pay161_at (xn : FVec Ideal S512x1024 .bf16) (w u : Vec Ideal S1024x512 .bf16) (n : Fin 8) (r : Fin 64) (j : Fin 512) :
    k0_pay161 (F := Ideal) (k0_pay160 (F := Ideal) xn w u) (ix3 n r j) = prod xn w (fl n r) j * prod xn u (fl n r) j := by
  unfold prod
  pointwise [k0_pay161, k0_pay160]
  rfl

end Cert.SmpInIdeal.Body
-- ==== Proof.SmpInFinal.lean ====
module

public import proofs.«01_k».proof.Proof.SmpInRun
public import proofs.«01_k».proof.Proof.InBlocks
public import Idealize.ShloMosaic.Lib.Pipeline.ValueKit
public import Idealize.ShloMosaic.Lib.StableHlo.RunRead

/-! The four results of the one grid point, from the arguments. -/

set_option maxRecDepth 16384
set_option backward.proofsInPublic true

@[expose] public section
noncomputable section

namespace Cert.EvenInS
open Idealize.ShloMosaic Idealize.ShloMosaic.TcCoe Idealize.SL.Sem Idealize.ShloMosaic.Tactic
open Cert.SmpInIdeal Cert.SmpInIdeal.Gen Cert.SmpInIdeal.Body
open Cert.InIdeal.Body (RW ext2 prod nrm gate logsig)
open Cert.EvenIn (hnorm nrm_eq lane hl fcol mc quot quot_at)
open Cert.SmpIdeal.Body (fl)
open Cert.Attn (ext3 select_ofBool)

/-! ## The results, from the arguments -/

/-- The arguments that the four results need. -/
structure Arrs where
  X : S8x64x1024.Idx → EReal
  Hi : S8x2x512.Idx → EReal
  G : S1024.Idx → EReal
  W : S1024x3080.Idx → EReal
  Bf : S8.Idx → EReal
  Gk : S64.Idx → EReal

/-- The residual over the root of its mean square, times the gain. -/
def gxn (A : Arrs) (b : Fin 8) (t : Fin 64) (d : Fin 1024) : EReal :=
  A.X (ix3 b t d) * Ideal.rsqrt (Ideal.div (∑ k : Fin 1024, A.X (ix3 b t k) * A.X (ix3 b t k)) (Ideal.ofBits .f32 0x44800000#32)
    + Ideal.ofBits .f32 0x358637BD#32) * A.G (ix1 d)

/-- The projection. -/
def pr (A : Arrs) (b : Fin 8) (t : Fin 64) (c : Fin 3080) : EReal := ∑ k : Fin 1024, gxn A b t k * A.W (ix2 k c)

/-- A block of it. -/
def pm (A : Arrs) (b : Fin 8) (k : ℕ) (t : Fin 64) (j : Fin 512) : EReal := pr A b t (mc k j)

/-- The logarithm of the forget gate. -/
def lf (A : Arrs) (b : Fin 8) (t : Fin 64) (h : Fin 8) : EReal := logsig (pr A b t (fcol h) + A.Bf (ix1 h))

/-- The keys' gain. -/
def gaink (A : Arrs) (l : Fin 64) : EReal := A.Gk (ix1 l)

/-- The keys, -/
def resK (A : Arrs) : S8x64x512.Idx → EReal := fun y => hnorm (pm A (y 0) 1 (y 1)) (gaink A) (y 2)
/-- the values, -/
def resV (A : Arrs) : S8x64x512.Idx → EReal := fun y => pm A (y 0) 2 (y 1) (y 2)
/-- the logarithms of the forget gates, -/
def resF (A : Arrs) : S8x64x8.Idx → EReal := fun y => lf A (y 0) (y 1) (y 2)
/-- The last two positions. -/
abbrev tl (r : Fin 2) : Fin 64 := ⟨62 + r.val, Nat.lt_of_lt_of_le (Nat.add_lt_add_left r.isLt 62) (by decide)⟩
/-- and the convolution's new history. -/
def resH (A : Arrs) : S8x2x512.Idx → EReal := fun y => pm A (y 0) 4 (tl (y 1)) (y 2) * pm A (y 0) 5 (tl (y 1)) (y 2)

/-! ## Loads of the inputs -/

/-- A load of a whole input, at an index. -/
theorem ldX (a : Memref sig .tc .vmem S8x64x1024 .f32) (h : a.IsWhole) (x : Vec Ideal S8x64x1024 .f32) (n : Fin 8) (r : Fin 64) (d : Fin 1024) :
    View.readAt (Elt Ideal) a.view (Rect.unit (s := S8x64x1024) ![0, 0, 0] S8x64x1024.size inb_S8x64x1024_S8x64x1024_0_0_0).toLoadRect (h.unread x) (ix3 n r d) = x (ix3 n r d) :=
  (h.readAt_unread x _ _).trans (congrArg x (ext3 _ _ (Fin.ext (by show 0 + 1 * n.val = n.val; omega)) (Fin.ext (by show 0 + 1 * r.val = r.val; omega)) (Fin.ext (by show 0 + 1 * d.val = d.val; omega))))

/-- A load of a whole input, at an index. -/
theorem ldG (a : Memref sig .tc .vmem S1x1024 .f32) (h : a.IsWhole) (x : Vec Ideal S1x1024 .f32) (r : Fin 1) (d : Fin 1024) :
    View.readAt (Elt Ideal) a.view (Rect.unit (s := S1x1024) ![0, 0] S1x1024.size inb_S1x1024_S1x1024_0_0).toLoadRect (h.unread x) (ix2 r d) = x (ix2 r d) :=
  (h.readAt_unread x _ _).trans (congrArg x (ext2 _ _ (Fin.ext (by show 0 + 1 * r.val = r.val; omega)) (Fin.ext (by show 0 + 1 * d.val = d.val; omega))))

/-- A load of a whole input, at an index. -/
theorem ldF (a : Memref sig .tc .vmem S1024x128 .bf16) (h : a.IsWhole) (x : Vec Ideal S1024x128 .bf16) (r : Fin 1024) (d : Fin 128) :
    View.readAt (Elt Ideal) a.view (Rect.unit (s := S1024x128) ![0, 0] S1024x128.size inb_S1024x128_S1024x128_0_0).toLoadRect (h.unread x) (ix2 r d) = x (ix2 r d) :=
  (h.readAt_unread x _ _).trans (congrArg x (ext2 _ _ (Fin.ext (by show 0 + 1 * r.val = r.val; omega)) (Fin.ext (by show 0 + 1 * d.val = d.val; omega))))

/-- A load of a whole input, at an index. -/
theorem ldB (a : Memref sig .tc .vmem S1x128 .f32) (h : a.IsWhole) (x : Vec Ideal S1x128 .f32) (r : Fin 1) (d : Fin 128) :
    View.readAt (Elt Ideal) a.view (Rect.unit (s := S1x128) ![0, 0] S1x128.size inb_S1x128_S1x128_0_0).toLoadRect (h.unread x) (ix2 r d) = x (ix2 r d) :=
  (h.readAt_unread x _ _).trans (congrArg x (ext2 _ _ (Fin.ext (by show 0 + 1 * r.val = r.val; omega)) (Fin.ext (by show 0 + 1 * d.val = d.val; omega))))

/-- A load of a whole input, at an index. -/
theorem ldg (a : Memref sig .tc .vmem S1x512 .f32) (h : a.IsWhole) (x : Vec Ideal S1x512 .f32) (r : Fin 1) (d : Fin 512) :
    View.readAt (Elt Ideal) a.view (Rect.unit (s := S1x512) ![0, 0] S1x512.size inb_S1x512_S1x512_0_0).toLoadRect (h.unread x) (ix2 r d) = x (ix2 r d) :=
  (h.readAt_unread x _ _).trans (congrArg x (ext2 _ _ (Fin.ext (by show 0 + 1 * r.val = r.val; omega)) (Fin.ext (by show 0 + 1 * d.val = d.val; omega))))

/-- A load of a whole input, at an index. -/
theorem ldM (a : Memref sig .tc .vmem S512x512 .bf16) (h : a.IsWhole) (x : Vec Ideal S512x512 .bf16) (r : Fin 512) (d : Fin 512) :
    View.readAt (Elt Ideal) a.view (Rect.unit (s := S512x512) ![0, 0] S512x512.size inb_S512x512_S512x512_0_0).toLoadRect (h.unread x) (ix2 r d) = x (ix2 r d) :=
  (h.readAt_unread x _ _).trans (congrArg x (ext2 _ _ (Fin.ext (by show 0 + 1 * r.val = r.val; omega)) (Fin.ext (by show 0 + 1 * d.val = d.val; omega))))

/-- A load of a block of columns of the weights, at an index. -/
theorem ldW (a : Memref sig .tc .vmem S1024x3072 .bf16) (h : a.IsWhole) (x : Vec Ideal S1024x3072 .bf16) (k : ℕ) (r : Fin 1024) (q : Fin 512) :
    View.readAt (Elt Ideal) a.view (RW k).toLoadRect (h.unread x) (ix2 r q) = x (ix2 r ⟨512 * (k % 6) + q, by omega⟩) :=
  (h.readAt_unread x _ _).trans (congrArg x (ext2 _ _ (Fin.ext (by show 0 + 1 * r.val = r.val; omega))
    (Fin.ext (by show 512 * (k % 6) + 1 * q.val = 512 * (k % 6) + q.val; omega))))

/-! ## One run -/

/-- The blocks of the inputs are the arguments. -/
structure Blocks (A : Arrs) (x0 : Vec Ideal S8x64x1024 .f32) (x3 : Vec Ideal S1x1024 .f32) (x4 : Vec Ideal S1024x3072 .bf16) (x5 : Vec Ideal S1024x128 .bf16) (x6 : Vec Ideal S1x128 .f32) (x8 : Vec Ideal S1x512 .f32) (x10 : Vec Ideal S512x512 .bf16) : Prop where
  hx : ∀ (n : Fin 8) (r : Fin 64) (d : Fin 1024), x0 (ix3 n r d) = A.X (ix3 n r d)
  hg : ∀ d : Fin 1024, x3 (ix2 0 d) = A.G (ix1 d)
  hw : ∀ (i : Fin 1024) (d : Fin 3072), x4 (ix2 i d) = A.W (ix2 i ⟨d.val + (if d.val < 1536 then 0 else 8), by split <;> omega⟩)
  hf : ∀ (i : Fin 1024) (h : Fin 8), x5 (ix2 i (hl h)) = A.W (ix2 i (fcol h))
  hb : ∀ h : Fin 8, x6 (ix2 0 (hl h)) = A.Bf (ix1 h)
  hk : ∀ d : Fin 512, x8 (ix2 0 d) = gaink A ⟨d.val % 64, Nat.mod_lt _ (by decide)⟩
  hm : ∀ k d : Fin 512, x10 (ix2 k d) = if k.val / 64 = d.val / 64 then Ideal.ofBits .f32 0x3C800000#32 else 0

/-- A block's columns in the whole projection. -/
theorem hw_col (A : Arrs) (k : ℕ) (i : Fin 1024) (q : Fin 512) :
    A.W (ix2 i ⟨512 * (k % 6) + q + (if 512 * (k % 6) + q.val < 1536 then 0 else 8), by split <;> omega⟩) = A.W (ix2 i (mc k q)) := by
  refine congrArg A.W (ext2 _ _ rfl (Fin.ext ?_))
  show 512 * (k % 6) + q.val + (if 512 * (k % 6) + q.val < 1536 then 0 else 8) = 512 * (k % 6) + q.val + (if k % 6 < 3 then 0 else 8)
  split <;> split <;> omega

section
variable (A : Arrs) (c : Dev nD) (i : grid0.Coords) (arg2 : Memref sig .tc .vmem S8x64x1024 .f32) (harg2 : arg2.IsWhole) (arg3 : Memref sig .tc .vmem S8x2x512 .f32) (harg3 : arg3.IsWhole) (arg4 : Memref sig .tc .vmem S8x1x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x128 .bf16) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S3x512 .f32) (harg11 : arg11.IsWhole) (arg12 : Memref sig .tc .vmem S512x512 .bf16) (harg12 : arg12.IsWhole) (arg13 : Memref sig .tc .vmem S8x8x64x128 .bf16) (harg13 : arg13.IsWhole) (arg14 : Memref sig .tc .vmem S8x8x64x128 .bf16) (harg14 : arg14.IsWhole) (arg15 : Memref sig .tc .vmem S8x8x64x128 .bf16) (harg15 : arg15.IsWhole) (arg16 : Memref sig .tc .vmem S8x64x512 .f32) (harg16 : arg16.IsWhole) (arg17 : Memref sig .tc .vmem S8x64x512 .f32) (harg17 : arg17.IsWhole) (arg18 : Memref sig .tc .vmem S8x64x8 .f32) (harg18 : arg18.IsWhole) (arg19 : Memref sig .tc .vmem S8x64x512 .bf16) (harg19 : arg19.IsWhole) (arg20 : Memref sig .tc .vmem S8x2x512 .f32) (harg20 : arg20.IsWhole) (arg21 : Memref sig .tc .vmem S8x72x512 .f32) (harg21 : arg21.IsWhole) (arg22 : Memref sig .tc .vmem S8x1x128 .f32) (harg22 : arg22.IsWhole) (hc0 : cond0_0 i) (x0 : Vec Ideal S8x64x1024 .f32) (x1 : Vec Ideal S8x2x512 .f32) (x2 : Vec Ideal S8x1x128 .f32) (x3 : Vec Ideal S1x1024 .f32) (x4 : Vec Ideal S1024x3072 .bf16) (x5 : Vec Ideal S1024x128 .bf16) (x6 : Vec Ideal S1x128 .f32) (x7 : Vec Ideal S1x512 .f32) (x8 : Vec Ideal S1x512 .f32) (x9 : Vec Ideal S3x512 .f32) (x10 : Vec Ideal S512x512 .bf16)
  (hB : Blocks A x0 x3 x4 x5 x6 x8 x10)

include hB

/-- The normalised rows. -/
theorem xn_at (n : Fin 8) (r : Fin 64) (d : Fin 1024) :
    (k0_pay3 (F := Ideal) (View.readAt (Elt Ideal) arg2.view (Rect.unit (s := S8x64x1024) ![0, 0, 0] S8x64x1024.size inb_S8x64x1024_S8x64x1024_0_0_0).toLoadRect (harg2.unread x0)) (View.readAt (Elt Ideal) arg5.view (Rect.unit (s := S1x1024) ![0, 0] S1x1024.size inb_S1x1024_S1x1024_0_0).toLoadRect (harg5.unread x3))) (ix2 (fl n r) d) = gxn A n r d := by
  refine (pay3_at _ _ n r d).trans ?_
  have e (k : Fin 1024) := (ldX arg2 harg2 x0 n r k).trans (hB.hx n r k)
  exact congrArg₂ (fun a b : EReal => a * b) (congrArg₂ (fun a b : EReal => a * b) (e d)
    (congrArg (fun s : EReal => Ideal.rsqrt (Ideal.div s (Ideal.ofBits .f32 0x44800000#32) + Ideal.ofBits .f32 0x358637BD#32))
      (Finset.sum_congr rfl fun k _ => congrArg₂ (fun a b : EReal => a * b) (e k) (e k))))
    ((ldG arg5 harg5 x3 0 d).trans (hB.hg d))

/-- A block of the projection. -/
theorem prod_at (k : ℕ) (n : Fin 8) (r : Fin 64) (j : Fin 512) :
    prod (k0_pay3 (F := Ideal) (View.readAt (Elt Ideal) arg2.view (Rect.unit (s := S8x64x1024) ![0, 0, 0] S8x64x1024.size inb_S8x64x1024_S8x64x1024_0_0_0).toLoadRect (harg2.unread x0)) (View.readAt (Elt Ideal) arg5.view (Rect.unit (s := S1x1024) ![0, 0] S1x1024.size inb_S1x1024_S1x1024_0_0).toLoadRect (harg5.unread x3))) (View.readAt (Elt Ideal) arg6.view (RW k).toLoadRect (harg6.unread x4)) (fl n r) j = pm A n k r j := by
  unfold prod pm pr
  refine Finset.sum_congr rfl fun q _ => congrArg₂ (fun a b : EReal => a * b) ?_ ?_
  · exact xn_at A arg2 harg2 arg5 harg5 x0 x3 x4 x5 x6 x8 x10 hB n r q
  · exact (ldW arg6 harg6 x4 k q j).trans ((hB.hw q _).trans (hw_col A k q j))

/-- The run leaves the keys. -/
theorem step_k (y : S8x64x512.Idx) : out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 y = resK A y := by
  unfold out0_A_14
  rw [run_k]
  have e : (Rect.unit (s := S8x64x512) ![0, 0, 0] S8x64x512.size inb_S8x64x512_S8x64x512_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_14 _ _ _ _ _).trans ?_)
  refine (pay8_at _ _ _ _ (y 0) (y 1) (y 2)).trans ?_
  refine (nrm_eq _ _ _ (gaink A) (fun k j => (ldM arg12 harg12 x10 k j).trans (hB.hm k j)) (fun j => (ldg arg10 harg10 x8 0 j).trans (hB.hk j)) (y 2)).trans ?_
  exact congrArg (fun p => hnorm p (gaink A) (y 2)) (funext fun j => prod_at A arg2 harg2 arg5 harg5 arg6 harg6 x0 x3 x4 x5 x6 x8 x10 hB 1 (y 0) (y 1) j)

/-- The run leaves the values. -/
theorem step_v (y : S8x64x512.Idx) : out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 y = resV A y := by
  unfold out0_A_15
  rw [run_v]
  have e : (Rect.unit (s := S8x64x512) ![0, 0, 0] S8x64x512.size inb_S8x64x512_S8x64x512_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_15 _ _ _ _ _).trans ?_)
  refine (pay9_at _ _ (y 0) (y 1) (y 2)).trans ?_
  exact prod_at A arg2 harg2 arg5 harg5 arg6 harg6 x0 x3 x4 x5 x6 x8 x10 hB 2 (y 0) (y 1) (y 2)

/-- The run leaves the logarithms of the forget gates. -/
theorem step_lf (y : S8x64x8.Idx) : out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 y = resF A y := by
  unfold out0_A_16
  rw [run_lf]
  have e : (Rect.unit (s := S8x64x8) ![0, 0, 0] S8x64x8.size inb_S8x64x8_S8x64x8_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_16 _ _ _ _ _).trans ?_)
  refine (pay15_at _ _ _ (y 0) (y 1) (y 2)).trans (congrArg logsig ?_)
  unfold gate
  refine congrArg₂ (fun a b : EReal => a + b) ?_ ?_
  · refine Finset.sum_congr rfl fun q _ => congrArg₂ (fun a b : EReal => a * b) ?_ ?_
    · exact xn_at A arg2 harg2 arg5 harg5 x0 x3 x4 x5 x6 x8 x10 hB (y 0) (y 1) q
    · exact (ldF arg7 harg7 x5 q (hl (y 2))).trans (hB.hf q (y 2))
  · exact (ldB arg8 harg8 x6 0 (hl (y 2))).trans (hB.hb (y 2))

/-- The run leaves the new history. -/
theorem step_h (y : S8x2x512.Idx) : out0_A_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 y = resH A y := by
  unfold out0_A_18
  rw [run_h]
  have e : (Rect.unit (s := S8x2x512) ![0, 0, 0] S8x2x512.size inb_S8x2x512_S8x2x512_0_0_0).emb (ix3 (y 0) (y 1) (y 2)) = y :=
    ext3 _ _ (Fin.ext (by show 0 + 1 * (y 0).val = (y 0).val; omega)) (Fin.ext (by show 0 + 1 * (y 1).val = (y 1).val; omega))
      (Fin.ext (by show 0 + 1 * (y 2).val = (y 2).val; omega))
  refine (congrArg _ e.symm).trans ((View.read_writes_cons_emb VO0_18 _ _ _ _ _).trans ?_)
  have e2 : (Rect.unit (s := S8x72x512) ![0, 70, 0] S8x2x512.size inb_S8x72x512_S8x2x512_0_70_0).emb (ix3 (y 0) (y 1) (y 2))
      = (Rect.unit (s := S8x72x512) ![0, 8, 0] S8x64x512.size inb_S8x72x512_S8x64x512_0_8_0).emb (ix3 (y 0) (tl (y 1)) (y 2)) :=
    ext3 _ _ rfl (Fin.ext (by show 70 + 1 * (y 1).val = 8 + 1 * (62 + (y 1).val); omega)) rfl
  refine (congrArg (arg21.view.read (Elt Ideal) (arg21.view.writes (Elt Ideal) arg21.view.junk _)) e2).trans ?_
  refine (View.read_writes_cons_emb arg21.view _ _ _ _ _).trans ?_
  refine (pay161_at _ _ _ (y 0) (tl (y 1)) (y 2)).trans ?_
  exact congrArg₂ (fun a b : EReal => a * b) (prod_at A arg2 harg2 arg5 harg5 arg6 harg6 x0 x3 x4 x5 x6 x8 x10 hB 4 (y 0) (tl (y 1)) (y 2)) (prod_at A arg2 harg2 arg5 harg5 arg6 harg6 x0 x3 x4 x5 x6 x8 x10 hB 5 (y 0) (tl (y 1)) (y 2))

end

/-! ## The blocks -/

/-- Which block of each array grid point `t` works on: the whole array. -/
theorem idx : ∀ t : Fin cfg0.N,
    win0_0.index t = ![0, 0, 0] ∧ win0_3.index t = ![0, 0] ∧ win0_4.index t = ![0, 0] ∧ win0_5.index t = ![0, 0] ∧ win0_6.index t = ![0, 0] ∧ win0_8.index t = ![0, 0] ∧ win0_10.index t = ![0, 0] ∧ win0_14.index t = ![0, 0, 0] ∧ win0_15.index t = ![0, 0, 0] ∧ win0_16.index t = ![0, 0, 0] ∧ win0_18.index t = ![0, 0, 0] :=
  (by decide +kernel : ∀ t : Fin grid0.N, _)

variable (m : (ℓ : Loc nD τ sig) → Buf (Elt Ideal) ℓ)

/-- The arguments of the launch. -/
def arrs (c : Dev nD) : Arrs where
  X := m ((c : Thread nD τ).loc main_arg0)
  Hi := m ((c : Thread nD τ).loc main_arg1)
  G := m ((c : Thread nD τ).loc main_arg3)
  W := m ((c : Thread nD τ).loc main_arg4)
  Bf := m ((c : Thread nD τ).loc main_arg5)
  Gk := m ((c : Thread nD τ).loc main_arg7)

theorem V_v8 (c : Dev nD) : V m c main_v8 = truncf (F := Ideal) (φ := .f32) .bf16 (select (cmpi .eq (broadcastInDim S512x512 ![0, 1] bcast_S512x1_S512x512_0_1 (broadcastInDim S512x1 ![0] bcast_S512_S512x1_0 quot)) (broadcastInDim S512x512 ![0, 1] bcast_S1x512_S512x512_0_1 (broadcastInDim S1x512 ![1] bcast_S512_S1x512_1 quot))) (broadcastInDim S512x512 ![] bcast_S_S512x512 (constant (F := Ideal) S_ .f32 0x3C800000#32)) (broadcastInDim S512x512 ![] bcast_S_S512x512 (constant (F := Ideal) S_ .f32 0x00000000#32))) bitsLt_bf16_f32 := by
  unfold V; after_results; try rfl

theorem V_v12 (c : Dev nD) : V m c main_v12 = truncf (F := Ideal) (φ := .f32) .bf16 (concatenate S1024x3072 1 [⟨S1024x1536, extractStridedSlice S1024x1536 ![0, 0] (m ((c : Thread nD τ).loc main_arg4)) slices_S1024x3080_S1024x1536_0_0⟩, ⟨S1024x1536, extractStridedSlice S1024x1536 ![0, 1544] (m ((c : Thread nD τ).loc main_arg4)) slices_S1024x3080_S1024x1536_0_1544⟩] concatenates_S1024x1536_S1024x1536_S1024x3072_d1) bitsLt_bf16_f32 := by
  unfold V; after_reads_simp; try rfl

theorem V_v15 (c : Dev nD) : V m c main_v15 = truncf (F := Ideal) (φ := .f32) .bf16 (pad S1024x128 ![0, 0] ![0, 120] ![0, 0] (extractStridedSlice S1024x8 ![0, 1536] (m ((c : Thread nD τ).loc main_arg4)) slices_S1024x3080_S1024x8_0_1536) (sitofp (F := Ideal) .f32 (constantI S_ 32 0#32)) pads_S1024x8_S1024x128_000_01200 h_S_) bitsLt_bf16_f32 := by
  unfold V; after_reads_simp; try rfl

theorem V_v16 (c : Dev nD) : V m c main_v16 = broadcastInDim S1x1024 ![1] bcast_S1024_S1x1024_1 (m ((c : Thread nD τ).loc main_arg3)) := by
  unfold V; after_results; try rfl

theorem V_v18 (c : Dev nD) : V m c main_v18 = broadcastInDim S1x128 ![1] bcast_S128_S1x128_1 (pad S128 ![0] ![120] ![0] (m ((c : Thread nD τ).loc main_arg5)) (sitofp (F := Ideal) .f32 (constantI S_ 32 0#32)) pads_S8_S128_01200 h_S_) := by
  unfold V; after_results; try rfl

theorem V_v26 (c : Dev nD) : V m c main_v26 = broadcastInDim S1x512 ![1] bcast_S512_S1x512_1 (shapeCast S512 (broadcastInDim S8x64 ![0, 1] bcast_S1x64_S8x64_0_1 (shapeCast S1x64 (m ((c : Thread nD τ).loc main_arg7)) shapeCasts_S64_S1x64)) shapeCasts_S8x64_S512) := by
  unfold V; after_results; try rfl

/-- The residual stream. -/
theorem iblk0 (c : Dev nD) (t : Fin cfg0.N) (n : Fin 8) (r : Fin 64) (d : Fin 1024) :
    iblk m c 0 t (ix3 n r d) = (arrs m c).X (ix3 n r d) := by
  show V m c main_arg0 _ = _
  rw [V_main_arg0]
  blk_ext [idx t, arrs]

/-- The gain of the normalisation. -/
theorem iblk3 (c : Dev nD) (t : Fin cfg0.N) (d : Fin 1024) :
    iblk m c 3 t (ix2 0 d) = (arrs m c).G (ix1 d) := by
  have e : ((cfg0.win 3).blk t).view.emb (ix2 0 d) = ix2 0 d := by blk_ext [idx t]
  show V m c main_v16 (((cfg0.win 3).blk t).view.emb (ix2 0 d)) = _
  rw [V_v16, e]
  unfold arrs
  pointwise

/-- The projection's weights, the forget gate's left out. -/
theorem iblk4 (c : Dev nD) (t : Fin cfg0.N) (i : Fin 1024) (d : Fin 3072) :
    iblk m c 4 t (ix2 i d) = (arrs m c).W (ix2 i ⟨d.val + (if d.val < 1536 then 0 else 8), by split <;> omega⟩) := by
  have e : ((cfg0.win 4).blk t).view.emb (ix2 i d) = ix2 i d := by blk_ext [idx t]
  show V m c main_v12 (((cfg0.win 4).blk t).view.emb (ix2 i d)) = _
  rw [V_v12, e]
  unfold arrs
  pointwise
  split
  · rename_i h
    exact congrArg (m ((c : Thread nD τ).loc main_arg4)) (ext2 _ _ rfl (Fin.ext (by
      show d.val = d.val + 0
      omega)))
  · rename_i h
    exact congrArg (m ((c : Thread nD τ).loc main_arg4)) (ext2 _ _ rfl (Fin.ext (by
      show 1544 + (d.val - 1536) = d.val + 8
      omega)))

/-- The forget gate's weights. -/
theorem iblk5 (c : Dev nD) (t : Fin cfg0.N) (i : Fin 1024) (h : Fin 8) :
    iblk m c 5 t (ix2 i (hl h)) = (arrs m c).W (ix2 i (fcol h)) := by
  have e : ((cfg0.win 5).blk t).view.emb (ix2 i (hl h)) = ix2 i (hl h) := by blk_ext [idx t]
  show V m c main_v15 (((cfg0.win 5).blk t).view.emb (ix2 i (hl h))) = _
  rw [V_v15, e]
  unfold arrs
  pointwise

/-- The forget gate's offset. -/
theorem iblk6 (c : Dev nD) (t : Fin cfg0.N) (h : Fin 8) :
    iblk m c 6 t (ix2 0 (hl h)) = (arrs m c).Bf (ix1 h) := by
  have e : ((cfg0.win 6).blk t).view.emb (ix2 0 (hl h)) = ix2 0 (hl h) := by blk_ext [idx t]
  show V m c main_v18 (((cfg0.win 6).blk t).view.emb (ix2 0 (hl h))) = _
  rw [V_v18, e]
  unfold arrs
  pointwise
  exact dif_pos fun a => by
    match a with
    | ⟨0, _⟩ => exact h.isLt

/-- The keys' gain, for every head. -/
theorem iblk8 (c : Dev nD) (t : Fin cfg0.N) (d : Fin 512) :
    iblk m c 8 t (ix2 0 d) = gaink (arrs m c) ⟨d.val % 64, Nat.mod_lt _ (by decide)⟩ := by
  have e : ((cfg0.win 8).blk t).view.emb (ix2 0 d) = ix2 0 d := by blk_ext [idx t]
  show V m c main_v26 (((cfg0.win 8).blk t).view.emb (ix2 0 d)) = _
  rw [V_v26, e]
  unfold gaink arrs
  pointwise

/-- The matrix that averages each head. -/
theorem iblk10 (c : Dev nD) (t : Fin cfg0.N) (k d : Fin 512) :
    iblk m c 10 t (ix2 k d) = if k.val / 64 = d.val / 64 then Ideal.ofBits .f32 0x3C800000#32 else 0 := by
  have e : ((cfg0.win 10).blk t).view.emb (ix2 k d) = ix2 k d := by blk_ext [idx t]
  show V m c main_v8 (((cfg0.win 10).blk t).view.emb (ix2 k d)) = _
  rw [V_v8, e]
  pointwise
  have ek : IntOp.cmpi CmpIPredicate.eq (quot (ix1 k)) (quot (ix1 d)) = BitVec.ofBool (decide (k.val / 64 = d.val / 64)) := by
    rw [quot_at, quot_at]
    show BitVec.ofBool (decide (BitVec.ofNat 32 (k.val / 64) = BitVec.ofNat 32 (d.val / 64))) = _
    congr 2
    refine propext ⟨fun h => ?_, fun h => by rw [h]⟩
    have h' := congrArg BitVec.toNat h
    rw [BitVec.toNat_ofNat, BitVec.toNat_ofNat, Nat.mod_eq_of_lt (by omega), Nat.mod_eq_of_lt (by omega)] at h'
    exact h'
  rw [ek, select_ofBool]

/-- The blocks of the one point are the arguments. -/
theorem blocks (c : Dev nD) (t : Fin cfg0.N) :
    Blocks (arrs m c) (iblk m c 0 t) (iblk m c 3 t) (iblk m c 4 t) (iblk m c 5 t) (iblk m c 6 t) (iblk m c 8 t) (iblk m c 10 t) where
  hx := iblk0 m c t
  hg := iblk3 m c t
  hw := iblk4 m c t
  hf := iblk5 m c t
  hb := iblk6 m c t
  hk := iblk8 m c t
  hm := iblk10 m c t

/-! ## What the launch leaves -/

/-- The keys, in their array, -/
theorem emb14 (t : Fin cfg0.N) (n : Fin 8) (r : Fin 64) (d : Fin 512) :
    ((cfg0.win 14).blk t).view.emb (ix3 n r d) = ix3 n r d := by
  blk_ext [idx t]

/-- at the one point, -/
theorem point14 (c : Dev nD) (t : Fin cfg0.N) (y : S8x64x512.Idx) : (dats m 0 c).after 14 t y = resK (arrs m c) y := by
  rw [after0_14]
  simp only [outsAt0]
  exact step_k (arrs m c) c (grid0.coords t) _ _ _ _ _ _ _ _ _ _ _ _ _ _ _ _ _ _ _ _ _ _ _ _ _ _ _ _ _ _ _ _ _ _ _ _ _ _ _ _ _ _ (hcond0_0 t) _ _ _ _ _ _ _ _ _ _ _ (blocks m c t) y

/-- and in the end. -/
theorem final14 (c : Dev nD) : (dats m 0 c).arrAt 14 cfg0.N = resK (arrs m c) := by
  refine (dats m 0 c).arrAt_eq_of_covers 14 _ (by decide +kernel) fun t _ y => ?_
  blk_simp
  have hy : y = ix3 (y 0) (y 1) (y 2) := ext3 _ _ rfl rfl rfl
  refine (congrArg (fun z => (dats m 0 c).after 14 t z) hy).trans ?_
  exact (point14 m c t (ix3 (y 0) (y 1) (y 2))).trans (congrArg _ (((congrArg _ hy).trans (emb14 t (y 0) (y 1) (y 2))).symm))

/-- The values, in their array, -/
theorem emb15 (t : Fin cfg0.N) (n : Fin 8) (r : Fin 64) (d : Fin 512) :
    ((cfg0.win 15).blk t).view.emb (ix3 n r d) = ix3 n r d := by
  blk_ext [idx t]

/-- at the one point, -/
theorem point15 (c : Dev nD) (t : Fin cfg0.N) (y : S8x64x512.Idx) : (dats m 0 c).after 15 t y = resV (arrs m c) y := by
  rw [after0_15]
  simp only [outsAt0]
  exact step_v (arrs m c) c (grid0.coords t) _ _ _ _ _ _ _ _ _ _ _ _ _ _ _ _ _ _ _ _ _ _ _ _ _ _ _ _ _ _ _ _ _ _ _ _ _ _ _ _ _ _ (hcond0_0 t) _ _ _ _ _ _ _ _ _ _ _ (blocks m c t) y

/-- and in the end. -/
theorem final15 (c : Dev nD) : (dats m 0 c).arrAt 15 cfg0.N = resV (arrs m c) := by
  refine (dats m 0 c).arrAt_eq_of_covers 15 _ (by decide +kernel) fun t _ y => ?_
  blk_simp
  have hy : y = ix3 (y 0) (y 1) (y 2) := ext3 _ _ rfl rfl rfl
  refine (congrArg (fun z => (dats m 0 c).after 15 t z) hy).trans ?_
  exact (point15 m c t (ix3 (y 0) (y 1) (y 2))).trans (congrArg _ (((congrArg _ hy).trans (emb15 t (y 0) (y 1) (y 2))).symm))

/-- The logarithms of the forget gates, in their array, -/
theorem emb16 (t : Fin cfg0.N) (n : Fin 8) (r : Fin 64) (d : Fin 8) :
    ((cfg0.win 16).blk t).view.emb (ix3 n r d) = ix3 n r d := by
  blk_ext [idx t]

/-- at the one point, -/
theorem point16 (c : Dev nD) (t : Fin cfg0.N) (y : S8x64x8.Idx) : (dats m 0 c).after 16 t y = resF (arrs m c) y := by
  rw [after0_16]
  simp only [outsAt0]
  exact step_lf (arrs m c) c (grid0.coords t) _ _ _ _ _ _ _ _ _ _ _ _ _ _ _ _ _ _ _ _ _ _ _ _ _ _ _ _ _ _ _ _ _ _ _ _ _ _ _ _ _ _ (hcond0_0 t) _ _ _ _ _ _ _ _ _ _ _ (blocks m c t) y

/-- and in the end. -/
theorem final16 (c : Dev nD) : (dats m 0 c).arrAt 16 cfg0.N = resF (arrs m c) := by
  refine (dats m 0 c).arrAt_eq_of_covers 16 _ (by decide +kernel) fun t _ y => ?_
  blk_simp
  have hy : y = ix3 (y 0) (y 1) (y 2) := ext3 _ _ rfl rfl rfl
  refine (congrArg (fun z => (dats m 0 c).after 16 t z) hy).trans ?_
  exact (point16 m c t (ix3 (y 0) (y 1) (y 2))).trans (congrArg _ (((congrArg _ hy).trans (emb16 t (y 0) (y 1) (y 2))).symm))

/-- The new history, in their array, -/
theorem emb18 (t : Fin cfg0.N) (n : Fin 8) (r : Fin 2) (d : Fin 512) :
    ((cfg0.win 18).blk t).view.emb (ix3 n r d) = ix3 n r d := by
  blk_ext [idx t]

/-- at the one point, -/
theorem point18 (c : Dev nD) (t : Fin cfg0.N) (y : S8x2x512.Idx) : (dats m 0 c).after 18 t y = resH (arrs m c) y := by
  rw [after0_18]
  simp only [outsAt0]
  exact step_h (arrs m c) c (grid0.coords t) _ _ _ _ _ _ _ _ _ _ _ _ _ _ _ _ _ _ _ _ _ _ _ _ _ _ _ _ _ _ _ _ _ _ _ _ _ _ _ _ _ _ (hcond0_0 t) _ _ _ _ _ _ _ _ _ _ _ (blocks m c t) y

/-- and in the end. -/
theorem final18 (c : Dev nD) : (dats m 0 c).arrAt 18 cfg0.N = resH (arrs m c) := by
  refine (dats m 0 c).arrAt_eq_of_covers 18 _ (by decide +kernel) fun t _ y => ?_
  blk_simp
  have hy : y = ix3 (y 0) (y 1) (y 2) := ext3 _ _ rfl rfl rfl
  refine (congrArg (fun z => (dats m 0 c).after 18 t z) hy).trans ?_
  exact (point18 m c t (ix3 (y 0) (y 1) (y 2))).trans (congrArg _ (((congrArg _ hy).trans (emb18 t (y 0) (y 1) (y 2))).symm))

end Cert.EvenInS
-- ==== Proof.SmpInRef.lean ====
module

public import proofs.«01_k».proof.Proof.SmpInFinal
public import proofs.«01_k».proof.Proof.InRef
public import proofs.«01_k».proof.Proof.Gen.SmpInReferenceIdeal.Read

/-! The reference's four results at an entry. -/

set_option maxRecDepth 16384
set_option backward.proofsInPublic true

@[expose] public section
noncomputable section

namespace Cert.EvenInS
open Idealize.ShloMosaic Cert.SmpInReferenceIdeal Cert.SmpInReferenceIdeal.Read
open Cert.InIdeal.Body (ext2 logsig)
open Cert.EvenIn (hnorm mc mc_lo mc_hi hc hnorm_hc fcol une_self softplus)
open Cert.Attn (ext3 ext4)

variable (A : Arrs) (b : Fin 8)

/-- The sum of the residual's squares. -/
theorem r1 (t : Fin 64) : val_main_v1 (F := Ideal) A.X (ix2 b t) = ∑ k : Fin 1024, A.X (ix3 b t k) * A.X (ix3 b t k) := by
  rw [val_main_v1_apply]
  refine Eq.trans (congrArg₂ (fun x y : EReal => x + y) (Ideal.ofBits_zero_f32) (Finset.sum_congr rfl fun k _ => ?_)) (zero_add _)
  rw [val_main_v0_apply, ext3 (idx_main_v1 (ix2 b t) k) (ix3 b t k) rfl rfl rfl]
  rfl

/-- The normalised residual. -/
theorem r12 (t : Fin 64) (d : Fin 1024) : val_main_v12 (F := Ideal) A.X A.G (ix3 b t d) = gxn A b t d := by
  unfold gxn
  rw [val_main_v12_apply, val_main_v9_apply, val_main_v8_apply, val_main_v7_apply, val_main_v6_apply, val_main_v4_apply,
    val_main_v2_apply, val_main_v11_apply, val_main_v10_apply]
  have e : val_main_v1 (F := Ideal) A.X (idx_main_v2 (idx_main_v8 (ix3 b t d))) = ∑ k : Fin 1024, A.X (ix3 b t k) * A.X (ix3 b t k) :=
    (congrArg _ (ext2 (idx_main_v2 (idx_main_v8 (ix3 b t d))) (ix2 b t) rfl rfl)).trans (r1 A b t)
  rw [e, val_main_v3_apply, val_main_v5_apply]
  refine congrArg₂ (fun x y : EReal => x * y) rfl (congrArg A.G (funext fun a => ?_))
  match a with | ⟨0, _⟩ => rfl

/-- The projection. -/
theorem r13 (t : Fin 64) (c : Fin 3080) : val_main_v13 (F := Ideal) A.X A.G A.W (ix3 b t c) = pr A b t c := by
  rw [val_main_v13_apply]
  refine Finset.sum_congr rfl fun k _ => ?_
  refine congrArg₂ (fun x y : EReal => x * y) ((congrArg _ ?_).trans (r12 A b t k)) (congrArg A.W ?_)
  · exact ext3 _ _ rfl rfl rfl
  · exact ext2 _ _ rfl rfl

/-- The keys, by heads. -/
theorem r15 (t : Fin 64) (h : Fin 8) (l : Fin 64) : val_main_v15 (F := Ideal) A.X A.G A.W (ix4 b t h l) = pm A b 1 t (hc h l) := by
  unfold pm
  rw [val_main_v15_apply, val_main_v14_apply, ← r13]
  refine congrArg (val_main_v13 (F := Ideal) A.X A.G A.W) (ext3 (idx_main_v14 (idx_main_v15 (ix4 b t h l))) (ix3 b t (mc 1 (hc h l))) (Fin.ext ?_) (Fin.ext ?_) (Fin.ext ?_))
  · show (((b.val * 64 + t.val) * 8 + h.val) * 64 + l.val) / 32768 = b.val
    omega
  · show (((b.val * 64 + t.val) * 8 + h.val) * 64 + l.val) / 512 % 64 = t.val
    omega
  · refine Eq.trans ?_ (mc_lo 1 (by decide) (hc h l)).symm
    show 512 + (((b.val * 64 + t.val) * 8 + h.val) * 64 + l.val) % 512 = 512 * 1 + (64 * h.val + l.val)
    omega

/-- The sum of a head's squares in the keys. -/
theorem r17 (t : Fin 64) (h : Fin 8) :
    val_main_v17 (F := Ideal) A.X A.G A.W (ix3 b t h) = ∑ l : Fin 64, pm A b 1 t (hc h l) * pm A b 1 t (hc h l) := by
  rw [val_main_v17_apply]
  refine Eq.trans (congrArg₂ (fun x y : EReal => x + y) (Ideal.ofBits_zero_f32) (Finset.sum_congr rfl fun l _ => ?_)) (zero_add _)
  rw [val_main_v16_apply, ext4 (idx_main_v17 (ix3 b t h) l) (ix4 b t h l) rfl rfl rfl rfl, r15]
  rfl

/-- The keys, normalised by heads. -/
theorem r28 (t : Fin 64) (h : Fin 8) (l : Fin 64) :
    val_main_v28 (F := Ideal) A.X A.G A.W A.Gk (ix4 b t h l) = hnorm (pm A b 1 t) (gaink A) (hc h l) := by
  rw [hnorm_hc, val_main_v28_apply, val_main_v25_apply, val_main_v24_apply, val_main_v23_apply, val_main_v22_apply, val_main_v20_apply,
    val_main_v18_apply, val_main_v27_apply, val_main_v26_apply, r15,
    ext3 (idx_main_v18 (idx_main_v24 (ix4 b t h l))) (ix3 b t h) rfl rfl rfl, r17, val_main_v19_apply, val_main_v21_apply]
  refine congrArg₂ (fun x y : EReal => x * y) rfl (congrArg A.Gk (funext fun a => ?_))
  match a with | ⟨0, _⟩ => rfl

/-- The forget gate, before the logistic. -/
theorem r32 (t : Fin 64) (h : Fin 8) : val_main_v32 (F := Ideal) A.X A.G A.W A.Bf (ix3 b t h) = pr A b t (fcol h) + A.Bf (ix1 h) := by
  rw [val_main_v32_apply, val_main_v29_apply, val_main_v31_apply, val_main_v30_apply,
    ext3 (idx_main_v29 (ix3 b t h)) (ix3 b t (fcol h)) rfl rfl (Fin.ext (by show 1536 + h.val = 1536 + h.val; rfl)), r13]
  refine congrArg (fun x : EReal => pr A b t (fcol h) + x) (congrArg A.Bf (funext fun a => ?_))
  match a with | ⟨0, _⟩ => rfl

/-- The logarithm of the forget gate. -/
theorem r33 (t : Fin 64) (h : Fin 8) : val_main_v33 (F := Ideal) A.X A.G A.W A.Bf (ix3 b t h) = lf A b t h := by
  unfold lf
  rw [val_main_v33_apply, val_main_call0_v1_apply, val_main_call0_call0_v4_apply, une_self]
  refine (congrArg (fun x : EReal => -x) (?_ : _ = val_main_call0_call0_v11 (F := Ideal) A.X A.G A.W A.Bf (ix3 b t h))).trans ?_
  · rfl
  rw [val_main_call0_call0_v11_apply, val_main_call0_call0_v10_apply, val_main_call0_call0_v9_apply, val_main_call0_call0_v8_apply,
    val_main_call0_call0_v7_apply, val_main_call0_call0_v3_apply, val_main_call0_call0_v1_apply, val_main_call0_v0_apply, r32,
    val_main_call0_call0_v0_apply, val_main_call0_call0_v2_apply, val_main_call0_call0_cst_apply,
    Ideal.ofBits_def, Ideal.ofBits_zero_f32]
  exact softplus _

/-- The convolution's product. -/
theorem r36 (t : Fin 64) (j : Fin 512) : val_main_v36 (F := Ideal) A.X A.G A.W (ix3 b t j) = pm A b 4 t j * pm A b 5 t j := by
  unfold pm
  rw [val_main_v36_apply, val_main_v34_apply, val_main_v35_apply, ← r13, ← r13]
  refine congrArg₂ (fun x y : EReal => x * y) (congrArg _ (ext3 _ _ rfl rfl (Fin.ext ?_))) (congrArg _ (ext3 _ _ rfl rfl (Fin.ext ?_)))
  · refine Eq.trans ?_ (mc_hi 4 (by decide) (by decide) j).symm
    show 2056 + j.val = 512 * 4 + j.val + 8
    omega
  · refine Eq.trans ?_ (mc_hi 5 (by decide) (by decide) j).symm
    show 2568 + j.val = 512 * 5 + j.val + 8
    omega

/-- The reference's keys, -/
theorem ref_k (y : S8x64x512.Idx) : val_main_v38 (F := Ideal) A.X A.G A.W A.Gk y = resK A y := by
  have h0 : (y 0).val < 8 := (y 0).isLt
  have h1 : (y 1).val < 64 := (y 1).isLt
  have h2 : (y 2).val < 512 := (y 2).isLt
  rw [val_main_v38_apply]
  refine (congrArg _ (ext4 _ (ix4 (y 0) (y 1) (⟨(y 2).val / 64, by omega⟩ : Fin 8) (⟨(y 2).val % 64, by omega⟩ : Fin 64)) (Fin.ext ?_) (Fin.ext ?_) (Fin.ext ?_) (Fin.ext ?_))).trans ((r28 A (y 0) (y 1) _ _).trans ?_)
  · show (((y 0).val * 64 + (y 1).val) * 512 + (y 2).val) / 32768 = (y 0).val
    omega
  · show (((y 0).val * 64 + (y 1).val) * 512 + (y 2).val) / 512 % 64 = (y 1).val
    omega
  · show (((y 0).val * 64 + (y 1).val) * 512 + (y 2).val) / 64 % 8 = (y 2).val / 64
    omega
  · show (((y 0).val * 64 + (y 1).val) * 512 + (y 2).val) % 64 = (y 2).val % 64
    omega
  · exact congrArg (hnorm (pm A (y 0) 1 (y 1)) (gaink A)) (Fin.ext (by show 64 * ((y 2).val / 64) + (y 2).val % 64 = (y 2).val; omega))

/-- its values, -/
theorem ref_v (y : S8x64x512.Idx) : val_main_v39 (F := Ideal) A.X A.G A.W y = resV A y := by
  rw [val_main_v39_apply]
  refine (congrArg (val_main_v13 (F := Ideal) A.X A.G A.W) (ext3 (idx_main_v39 y) (ix3 (y 0) (y 1) (mc 2 (y 2))) rfl rfl (Fin.ext ?_))).trans (r13 A (y 0) (y 1) (mc 2 (y 2)))
  refine Eq.trans ?_ (mc_lo 2 (by decide) (y 2)).symm
  show 1024 + (y 2).val = 512 * 2 + (y 2).val
  omega

/-- its logarithms of the forget gates -/
theorem ref_f (y : S8x64x8.Idx) : val_main_v33 (F := Ideal) A.X A.G A.W A.Bf y = resF A y :=
  (congrArg _ (ext3 y (ix3 (y 0) (y 1) (y 2)) rfl rfl rfl)).trans (r33 A (y 0) (y 1) (y 2))

/-- and its new history. -/
theorem ref_h (y : S8x2x512.Idx) : val_main_v40 (F := Ideal) A.X A.Hi A.G A.W y = resH A y := by
  rw [val_main_v40_apply]
  unfold val_main_v37
  refine (concatenate_pair_apply_right (1 : Fin S8x66x512.rank) A.Hi (val_main_v36 (F := Ideal) A.X A.G A.W) _ _ rfl rfl (ix3 (y 0) (tl (y 1)) (y 2)) (fun a ha => ?_) ?_).trans (r36 A (y 0) (tl (y 1)) (y 2))
  · match a, ha with
    | ⟨0, _⟩, _ => rfl
    | ⟨1, _⟩, ha => exact absurd rfl ha
    | ⟨2, _⟩, _ => rfl
  · show 62 + (y 1).val + 2 = 64 + (y 1).val
    omega

end Cert.EvenInS
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_laid_out
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InReferenceIdeal
public import proofs.«01_k».proof.Proof.Gen.InReferenceIdeal.Run
public import proofs.«01_k».proof.Proof.Gen.InReferenceIdeal.Read
public import proofs.«01_k».proof.Proof.Gen.Smp
public import proofs.«01_k».proof.Proof.Gen.Smp.Skeleton
public import proofs.«01_k».proof.Proof.Gen.Smp.Launch
public import proofs.«01_k».proof.Proof.Gen.Smp.Points
public import proofs.«01_k».proof.Proof.Gen.Smp.Frame
public import proofs.«01_k».proof.Proof.Gen.SmpIdeal
public import proofs.«01_k».proof.Proof.Gen.SmpIdeal.Skeleton
public import proofs.«01_k».proof.Proof.Gen.SmpIdeal.Launch
public import proofs.«01_k».proof.Proof.Gen.SmpIdeal.Points
public import proofs.«01_k».proof.Proof.Gen.SmpIdeal.Frame
public import proofs.«01_k».proof.Proof.Gen.SmpIdeal.Value
public import proofs.«01_k».proof.Proof.Gen.SmpIn
public import proofs.«01_k».proof.Proof.Gen.SmpIn.Skeleton
public import proofs.«01_k».proof.Proof.Gen.SmpIn.Launch
public import proofs.«01_k».proof.Proof.Gen.SmpIn.Points
public import proofs.«01_k».proof.Proof.Gen.SmpIn.Frame
public import proofs.«01_k».proof.Proof.Gen.SmpInIdeal
public import proofs.«01_k».proof.Proof.Gen.SmpInIdeal.Skeleton
public import proofs.«01_k».proof.Proof.Gen.SmpInIdeal.Launch
public import proofs.«01_k».proof.Proof.Gen.SmpInIdeal.Points
public import proofs.«01_k».proof.Proof.Gen.SmpInIdeal.Frame
public import proofs.«01_k».proof.Proof.Gen.SmpInIdeal.Value
public import proofs.«01_k».proof.Proof.Gen.SmpInReferenceIdeal
public import proofs.«01_k».proof.Proof.Gen.SmpInReferenceIdeal.Run
public import proofs.«01_k».proof.Proof.Gen.SmpInReferenceIdeal.Read
public import proofs.«01_k».proof.Proof.Gen.SmpReferenceIdeal
public import proofs.«01_k».proof.Proof.Gen.SmpReferenceIdeal.Run
public import proofs.«01_k».proof.Proof.Gen.SmpReferenceIdeal.Read
public import proofs.«01_k».proof.Proof.Final
public import proofs.«01_k».proof.Proof.MixBits
public import proofs.«01_k».proof.Proof.MixFrame
public import proofs.«01_k».proof.Proof.MixRef
public import proofs.«01_k».proof.Proof.InBits
public import proofs.«01_k».proof.Proof.InFrame
public import proofs.«01_k».proof.Proof.InRef
public import proofs.«01_k».proof.Proof.SmpRef
public import proofs.«01_k».proof.Proof.SmpInRef
public import Idealize.ShloMosaic.Adequacy
public import Idealize.ShloMosaic.Init

@[expose] public section

noncomputable section

namespace Cert.Proof

open Idealize.ShloMosaic Idealize.SL.Sem Cert.Kernel

/-- The kernel and the reference, run on the same laid-out arguments, leave the same result. -/
theorem value : Cert.algebraic_KernelIdeal_ReferenceIdeal_pre_laid_out (hKernelIdeal := Cert.KernelIdeal.Gen.facts)
    (hReferenceIdeal := Cert.ReferenceIdeal.Gen.facts) (hPre_laid_out := Cert.Pre_laid_out.Gen.facts) := by
  intro m g m' g' hp hargs
  have hX := fun c => Cert.Attn.laid _ _ _ (hp c)
  refine ⟨fun c => Cert.ReferenceIdeal.Read.val_main_v39 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m g)
    exact ⟨(h c).1.trans (Cert.Attn.final m c (hX c)), (h c).2⟩
  · refine (θ_run Cert.ReferenceIdeal.defs _ _).mono (fun r h c => ?_) (Cert.ReferenceIdeal.Value.run (F := Ideal) m' g')
    refine ⟨(h c).1.trans ((Cert.ReferenceIdeal.Read.val_main_v39_eq m' c).trans ?_), (h c).2⟩
    rw [(hargs c).1, (hargs c).2.1, (hargs c).2.2]

/-- The frame of the reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The second call: the idealized kernel and the reference give the same two arrays. -/
theorem value_mix : Cert.algebraic_MixIdeal_MixReferenceIdeal (hMixIdeal := Cert.MixIdeal.Gen.facts)
    (hMixReferenceIdeal := Cert.MixReferenceIdeal.Gen.facts) := by
  intro m g m' g' _ hargs
  refine ⟨fun c => Cert.Ffn.resY (Cert.Ffn.arrs m c), fun c => Cert.Ffn.resH (Cert.Ffn.arrs m c), ?_, ?_⟩
  · refine (θ_run Cert.MixIdeal.defs _ _).mono (fun r h c => ?_) (θ_run_and (Cert.Ffn.run_main m g) (Cert.Ffn.frame m g))
    exact ⟨((h.1 c).1 9).trans (Cert.Ffn.final9 m c), ((h.1 c).1 10).trans (Cert.Ffn.final10 m c), h.2.1 c⟩
  · refine (θ_run Cert.MixReferenceIdeal.defs _ _).mono (fun r h c => ?_) (Cert.MixReferenceIdeal.Value.run (F := Ideal) m' g')
    refine ⟨(h c).1.trans ((Cert.MixReferenceIdeal.Read.val_main_v45_eq m' c).trans ?_),
      (h c).2.1.trans ((Cert.MixReferenceIdeal.Read.val_main_v46_eq (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5)) (m' ((c.tc : Thread Cert.MixReferenceIdeal.nD Cert.MixReferenceIdeal.τ).loc Cert.MixReferenceIdeal.main_arg6))).trans ?_), (h c).2.2⟩
    · obtain ⟨h0, h1, h2, h3, h4, h5, h6, h7, h8⟩ := hargs c
      rw [h0, h1, h2, h3, h4, h5, h6, h7, h8]
      exact Cert.Ffn.ref_y (Cert.Ffn.arrs m c)
    · obtain ⟨h0, h1, h2, h3, h4, h5, h6, h7, h8⟩ := hargs c
      rw [h0, h1, h2, h3, h4, h5, h6]
      exact Cert.Ffn.ref_h (Cert.Ffn.arrs m c)

/-- The frame of the second call's reference. -/
theorem frame_mix_reference : Cert.quiescent_MixReferenceIdeal (hMixReferenceIdeal := Cert.MixReferenceIdeal.Gen.facts) := fun m ρ _ =>
  (θ_run Cert.MixReferenceIdeal.defs _ _).mono (fun r h => ⟨fun c => (h c).2.2, sem_eq_zero_of_no_sems (by decide) r.2⟩)
    (Cert.MixReferenceIdeal.Value.run (F := Ideal) m ρ)

set_option maxHeartbeats 4000000 in
/-- The third call: the idealized kernel and the reference give the same eight arrays. -/
theorem value_in : Cert.algebraic_InIdeal_InReferenceIdeal (hInIdeal := Cert.InIdeal.Gen.facts)
    (hInReferenceIdeal := Cert.InReferenceIdeal.Gen.facts) := by
  intro m g m' g' _ hargs
  refine ⟨fun c => Cert.EvenIn.resQ (Cert.EvenIn.arrs m c), fun c => Cert.EvenIn.resK (Cert.EvenIn.arrs m c), fun c => Cert.EvenIn.resV (Cert.EvenIn.arrs m c), fun c => Cert.EvenIn.resKn (Cert.EvenIn.arrs m c), fun c => Cert.EvenIn.resVn (Cert.EvenIn.arrs m c), fun c => Cert.EvenIn.resLf (Cert.EvenIn.arrs m c), fun c => Cert.EvenIn.resOb (Cert.EvenIn.arrs m c), fun c => Cert.EvenIn.resH (Cert.EvenIn.arrs m c), ?_, ?_⟩
  · refine (θ_run Cert.InIdeal.defs _ _).mono (fun r h c => ?_) (θ_run_and (Cert.EvenIn.run_main m g) (Cert.EvenIn.frame m g))
    exact ⟨((h.1 c).1 11).trans (Cert.EvenIn.final11 m c), ((h.1 c).1 12).trans (Cert.EvenIn.final12 m c), ((h.1 c).1 13).trans (Cert.EvenIn.final13 m c), ((h.1 c).1 14).trans (Cert.EvenIn.final14 m c), ((h.1 c).1 15).trans (Cert.EvenIn.final15 m c), ((h.1 c).1 16).trans (Cert.EvenIn.final16 m c), ((h.1 c).1 17).trans (Cert.EvenIn.final17 m c), ((h.1 c).1 18).trans (Cert.EvenIn.final18 m c), h.2.1 c⟩
  · refine (θ_run Cert.InReferenceIdeal.defs _ _).mono (fun r h c => ?_) (Cert.InReferenceIdeal.Value.run (F := Ideal) m' g')
    obtain ⟨h0, h1, h2, h3, h4, h5, h6, h7⟩ := hargs c
    have e0 : StableHlo.launchContents m' c (Proc.devRef .tc Cert.InReferenceIdeal.main_arg0) = (Cert.EvenIn.arrs m c).X := h0
    have e1 : StableHlo.launchContents m' c (Proc.devRef .tc Cert.InReferenceIdeal.main_arg1) = (Cert.EvenIn.arrs m c).Hi := h1
    have e2 : StableHlo.launchContents m' c (Proc.devRef .tc Cert.InReferenceIdeal.main_arg2) = (Cert.EvenIn.arrs m c).G := h2
    have e3 : StableHlo.launchContents m' c (Proc.devRef .tc Cert.InReferenceIdeal.main_arg3) = (Cert.EvenIn.arrs m c).W := h3
    have e4 : StableHlo.launchContents m' c (Proc.devRef .tc Cert.InReferenceIdeal.main_arg4) = (Cert.EvenIn.arrs m c).Bf := h4
    have e5 : StableHlo.launchContents m' c (Proc.devRef .tc Cert.InReferenceIdeal.main_arg5) = (Cert.EvenIn.arrs m c).Gq := h5
    have e6 : StableHlo.launchContents m' c (Proc.devRef .tc Cert.InReferenceIdeal.main_arg6) = (Cert.EvenIn.arrs m c).Gk := h6
    have e7 : StableHlo.launchContents m' c (Proc.devRef .tc Cert.InReferenceIdeal.main_arg7) = (Cert.EvenIn.arrs m c).Cw := h7
    refine ⟨((h c).1.trans ((Cert.InReferenceIdeal.Read.val_main_v157_eq (StableHlo.launchContents m' c)).trans ?_)),
      ((h c).2.1.trans ((Cert.InReferenceIdeal.Read.val_main_v160_eq (StableHlo.launchContents m' c)).trans ?_)),
      ((h c).2.2.1.trans ((Cert.InReferenceIdeal.Read.val_main_v163_eq (StableHlo.launchContents m' c)).trans ?_)),
      ((h c).2.2.2.1.trans ((Cert.InReferenceIdeal.Read.val_main_v164_eq (StableHlo.launchContents m' c)).trans ?_)),
      ((h c).2.2.2.2.1.trans ((Cert.InReferenceIdeal.Read.val_main_v165_eq (StableHlo.launchContents m' c)).trans ?_)),
      ((h c).2.2.2.2.2.1.trans ((Cert.InReferenceIdeal.Read.val_main_v50_eq (StableHlo.launchContents m' c)).trans ?_)),
      ((h c).2.2.2.2.2.2.1.trans ((Cert.InReferenceIdeal.Read.val_main_v166_eq (StableHlo.launchContents m' c)).trans ?_)),
      ((h c).2.2.2.2.2.2.2.1.trans ((Cert.InReferenceIdeal.Read.val_main_v167_eq (StableHlo.launchContents m' c)).trans ?_)),
      (h c).2.2.2.2.2.2.2.2⟩
    · rw [e0, e2, e3, e4, e5]
      exact Cert.EvenIn.ref_oq (Cert.EvenIn.arrs m c)
    · rw [e0, e2, e3, e4, e6]
      exact Cert.EvenIn.ref_ok (Cert.EvenIn.arrs m c)
    · rw [e0, e2, e3]
      exact Cert.EvenIn.ref_ov (Cert.EvenIn.arrs m c)
    · rw [e0, e2, e3, e6]
      exact Cert.EvenIn.ref_kn (Cert.EvenIn.arrs m c)
    · rw [e0, e2, e3]
      exact Cert.EvenIn.ref_vn (Cert.EvenIn.arrs m c)
    · rw [e0, e2, e3, e4]
      exact Cert.EvenIn.ref_lf (Cert.EvenIn.arrs m c)
    · rw [e0, e1, e2, e3, e7]
      exact Cert.EvenIn.ref_ob (Cert.EvenIn.arrs m c)
    · rw [e0, e1, e2, e3]
      exact Cert.EvenIn.ref_h (Cert.EvenIn.arrs m c)

/-- The frame of the third call's reference. -/
theorem frame_in_reference : Cert.quiescent_InReferenceIdeal (hInReferenceIdeal := Cert.InReferenceIdeal.Gen.facts) := fun m ρ _ =>
  (θ_run Cert.InReferenceIdeal.defs _ _).mono (fun r h => ⟨fun c => (h c).2.2.2.2.2.2.2.2, sem_eq_zero_of_no_sems (by decide) r.2⟩)
    (Cert.InReferenceIdeal.Value.run (F := Ideal) m ρ)

/-- The fourth call: the idealized kernel and the reference give the same two arrays. -/
theorem value_smp : Cert.algebraic_SmpIdeal_SmpReferenceIdeal (hSmpIdeal := Cert.SmpIdeal.Gen.facts)
    (hSmpReferenceIdeal := Cert.SmpReferenceIdeal.Gen.facts) := by
  intro m g m' g' _ hargs
  refine ⟨fun c => Cert.FfnS.resY (Cert.FfnS.arrs m c), fun c => Cert.FfnS.resH (Cert.FfnS.arrs m c), ?_, ?_⟩
  · exact (θ_run Cert.SmpIdeal.defs _ _).mono (fun r h c => ⟨(h c).1.trans (Cert.FfnS.final9 m c),
      (h c).2.1.trans (Cert.FfnS.final10 m c), (h c).2.2⟩) (Cert.SmpIdeal.Value.run_blocks (F := Ideal) m g)
  · refine (θ_run Cert.SmpReferenceIdeal.defs _ _).mono (fun r h c => ?_) (Cert.SmpReferenceIdeal.Value.run (F := Ideal) m' g')
    refine ⟨(h c).1.trans ((Cert.SmpReferenceIdeal.Read.val_main_v45_eq m' c).trans ?_),
      (h c).2.1.trans ((Cert.SmpReferenceIdeal.Read.val_main_v46_eq (m' ((c.tc : Thread Cert.SmpReferenceIdeal.nD Cert.SmpReferenceIdeal.τ).loc Cert.SmpReferenceIdeal.main_arg0)) (m' ((c.tc : Thread Cert.SmpReferenceIdeal.nD Cert.SmpReferenceIdeal.τ).loc Cert.SmpReferenceIdeal.main_arg1)) (m' ((c.tc : Thread Cert.SmpReferenceIdeal.nD Cert.SmpReferenceIdeal.τ).loc Cert.SmpReferenceIdeal.main_arg2)) (m' ((c.tc : Thread Cert.SmpReferenceIdeal.nD Cert.SmpReferenceIdeal.τ).loc Cert.SmpReferenceIdeal.main_arg3)) (m' ((c.tc : Thread Cert.SmpReferenceIdeal.nD Cert.SmpReferenceIdeal.τ).loc Cert.SmpReferenceIdeal.main_arg4)) (m' ((c.tc : Thread Cert.SmpReferenceIdeal.nD Cert.SmpReferenceIdeal.τ).loc Cert.SmpReferenceIdeal.main_arg5)) (m' ((c.tc : Thread Cert.SmpReferenceIdeal.nD Cert.SmpReferenceIdeal.τ).loc Cert.SmpReferenceIdeal.main_arg6))).trans ?_), (h c).2.2⟩
    · obtain ⟨h0, h1, h2, h3, h4, h5, h6, h7, h8⟩ := hargs c
      rw [h0, h1, h2, h3, h4, h5, h6, h7, h8]
      exact Cert.FfnS.ref_y (Cert.FfnS.arrs m c)
    · obtain ⟨h0, h1, h2, h3, h4, h5, h6, h7, h8⟩ := hargs c
      rw [h0, h1, h2, h3, h4, h5, h6]
      exact Cert.FfnS.ref_h (Cert.FfnS.arrs m c)

/-- The frame of the fourth call's reference. -/
theorem frame_smp_reference : Cert.quiescent_SmpReferenceIdeal (hSmpReferenceIdeal := Cert.SmpReferenceIdeal.Gen.facts) := fun m ρ _ =>
  (θ_run Cert.SmpReferenceIdeal.defs _ _).mono (fun r h => ⟨fun c => (h c).2.2, sem_eq_zero_of_no_sems (by decide) r.2⟩)
    (Cert.SmpReferenceIdeal.Value.run (F := Ideal) m ρ)

/-- The fifth call: the idealized kernel and the reference give the same four arrays. -/
theorem value_smp_in : Cert.algebraic_SmpInIdeal_SmpInReferenceIdeal (hSmpInIdeal := Cert.SmpInIdeal.Gen.facts)
    (hSmpInReferenceIdeal := Cert.SmpInReferenceIdeal.Gen.facts) := by
  intro m g m' g' _ hargs
  refine ⟨fun c => Cert.EvenInS.resK (Cert.EvenInS.arrs m c), fun c => Cert.EvenInS.resV (Cert.EvenInS.arrs m c),
    fun c => Cert.EvenInS.resF (Cert.EvenInS.arrs m c), fun c => Cert.EvenInS.resH (Cert.EvenInS.arrs m c), ?_, ?_⟩
  · exact (θ_run Cert.SmpInIdeal.defs _ _).mono (fun r h c => ⟨(h c).2.2.2.1.trans (Cert.EvenInS.final14 m c),
      (h c).2.2.2.2.1.trans (Cert.EvenInS.final15 m c), (h c).2.2.2.2.2.1.trans (Cert.EvenInS.final16 m c),
      (h c).2.2.2.2.2.2.2.1.trans (Cert.EvenInS.final18 m c), (h c).2.2.2.2.2.2.2.2⟩) (Cert.SmpInIdeal.Value.run_blocks (F := Ideal) m g)
  · refine (θ_run Cert.SmpInReferenceIdeal.defs _ _).mono (fun r h c => ?_) (Cert.SmpInReferenceIdeal.Value.run (F := Ideal) m' g')
    obtain ⟨h0, h1, h2, h3, h4, h5, h6, h7, h8⟩ := hargs c
    refine ⟨(h c).1.trans ((Cert.SmpInReferenceIdeal.Read.val_main_v38_eq _ _ _ _).trans ?_),
      (h c).2.1.trans ((Cert.SmpInReferenceIdeal.Read.val_main_v39_eq _ _ _).trans ?_),
      (h c).2.2.1.trans ((Cert.SmpInReferenceIdeal.Read.val_main_v33_eq m' c).trans ?_),
      (h c).2.2.2.1.trans ((Cert.SmpInReferenceIdeal.Read.val_main_v40_eq _ _ _ _).trans ?_), (h c).2.2.2.2⟩
    · rw [h0, h3, h4, h7]
      exact funext (Cert.EvenInS.ref_k (Cert.EvenInS.arrs m c))
    · rw [h0, h3, h4]
      exact funext (Cert.EvenInS.ref_v (Cert.EvenInS.arrs m c))
    · rw [h0, h3, h4, h5]
      exact funext (Cert.EvenInS.ref_f (Cert.EvenInS.arrs m c))
    · rw [h0, h1, h3, h4]
      exact funext (Cert.EvenInS.ref_h (Cert.EvenInS.arrs m c))

/-- The frame of the fifth call's reference. -/
theorem frame_smp_in_reference : Cert.quiescent_SmpInReferenceIdeal (hSmpInReferenceIdeal := Cert.SmpInReferenceIdeal.Gen.facts) := fun m ρ _ =>
  (θ_run Cert.SmpInReferenceIdeal.defs _ _).mono (fun r h => ⟨fun c => (h c).2.2.2.2, sem_eq_zero_of_no_sems (by decide) r.2⟩)
    (Cert.SmpInReferenceIdeal.Value.run (F := Ideal) m ρ)

/-- Every claim. -/
theorem claim : Cert.Claim := ⟨Cert.Kernel.Gen.facts, Cert.KernelIdeal.Gen.facts, Cert.ReferenceIdeal.Gen.facts, Cert.Mix.Gen.facts,
  Cert.MixIdeal.Gen.facts, Cert.MixReferenceIdeal.Gen.facts,
  Cert.In.Gen.facts, Cert.InIdeal.Gen.facts, Cert.InReferenceIdeal.Gen.facts,
  Cert.Smp.Gen.facts, Cert.SmpIdeal.Gen.facts, Cert.SmpReferenceIdeal.Gen.facts,
  Cert.SmpIn.Gen.facts, Cert.SmpInIdeal.Gen.facts, Cert.SmpInReferenceIdeal.Gen.facts, Cert.Pre_laid_out.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Mix.Body.frame m ρ,
  fun m ρ _ => Cert.Ffn.frame m ρ,
  frame_mix_reference,
  fun m ρ _ => Cert.In.Body.frame m ρ,
  fun m ρ _ => Cert.EvenIn.frame m ρ,
  frame_in_reference,
  fun m ρ _ => Cert.Smp.Gen.frame m ρ,
  fun m ρ _ => Cert.SmpIdeal.Gen.frame m ρ,
  frame_smp_reference,
  fun m ρ _ => Cert.SmpIn.Gen.frame m ρ,
  fun m ρ _ => Cert.SmpInIdeal.Gen.frame m ρ,
  frame_smp_in_reference,
  IdealRules.named_const.statement Cert.KernelIdeal.κ "mask" .f32 0xF149F2CA#32 ⊥ rfl,
  value,
  trivial,
  value_mix,
  trivial,
  value_in,
  trivial,
  value_smp,
  trivial,
  value_smp_in⟩

end Cert.Proof

end
